-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_lses [hPre_finite_lses : Cert.Pre_finite_lses.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_lses.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_lses [hPre_finite_lses : Cert.Pre_finite_lses.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_lses.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_logits [hPre_finite_logits : Cert.Pre_finite_logits.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_logits.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_logits [hPre_finite_logits : Cert.Pre_finite_logits.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_logits.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Kernel3Ideal_pre_finite_lses [hKernel3Ideal : Cert.Kernel3Ideal.Facts] [hPre_finite_lses : Cert.Pre_finite_lses.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_lses m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Reference3Ideal_pre_finite_lses [hReference3Ideal : Cert.Reference3Ideal.Facts] [hPre_finite_lses : Cert.Pre_finite_lses.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_lses m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite_logits [hKernel4Ideal : Cert.Kernel4Ideal.Facts] [hPre_finite_logits : Cert.Pre_finite_logits.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_logits m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite_logits [hReference4Ideal : Cert.Reference4Ideal.Facts] [hPre_finite_logits : Cert.Pre_finite_logits.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_logits m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_v20) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_finite_lses [hKernel3Ideal : Cert.Kernel3Ideal.Facts] [hReference3Ideal : Cert.Reference3Ideal.Facts] [hPre_finite_lses : Cert.Pre_finite_lses.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_lses m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v89) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def preserves_Kernel4_Kernel4Ideal : Prop :=
  True

def algebraic_Kernel4Ideal_Reference4Ideal_pre_finite_logits [hKernel4Ideal : Cert.Kernel4Ideal.Facts] [hReference4Ideal : Cert.Reference4Ideal.Facts] [hPre_finite_logits : Cert.Pre_finite_logits.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_logits m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v30) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_lses : Cert.Pre_finite_lses.Facts) (hPre_finite_logits : Cert.Pre_finite_logits.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_lses (hKernel3Ideal := hKernel3Ideal) (hPre_finite_lses := hPre_finite_lses)
    ∧ quiescent_Reference3Ideal (hReference3Ideal := hReference3Ideal)
    ∧ quiescent_Reference3Ideal_pre_finite_lses (hReference3Ideal := hReference3Ideal) (hPre_finite_lses := hPre_finite_lses)
    ∧ quiescent_Kernel4 (hKernel4 := hKernel4)
    ∧ quiescent_Kernel4Ideal (hKernel4Ideal := hKernel4Ideal)
    ∧ quiescent_Kernel4Ideal_pre_finite_logits (hKernel4Ideal := hKernel4Ideal) (hPre_finite_logits := hPre_finite_logits)
    ∧ quiescent_Reference4Ideal (hReference4Ideal := hReference4Ideal)
    ∧ quiescent_Reference4Ideal_pre_finite_logits (hReference4Ideal := hReference4Ideal) (hPre_finite_logits := hPre_finite_logits)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_lses (hKernel3Ideal := hKernel3Ideal) (hReference3Ideal := hReference3Ideal) (hPre_finite_lses := hPre_finite_lses)
    ∧ preserves_Kernel4_Kernel4Ideal
    ∧ algebraic_Kernel4Ideal_Reference4Ideal_pre_finite_logits (hKernel4Ideal := hKernel4Ideal) (hReference4Ideal := hReference4Ideal) (hPre_finite_logits := hPre_finite_logits)
-- ==== Pre_finite_logits.lean ====
abbrev S8x8192x7168 : Shape := ⟨3, ![8, 8192, 7168]⟩
abbrev S8x256x1024 : Shape := ⟨3, ![8, 256, 1024]⟩
abbrev S1x1024x1024 : Shape := ⟨3, ![1, 1024, 1024]⟩
abbrev S8x8192x512 : Shape := ⟨3, ![8, 8192, 512]⟩
abbrev S8x8192x4x128 : Shape := ⟨4, ![8, 8192, 4, 128]⟩
abbrev S1024x1024 : Shape := ⟨2, ![1024, 1024]⟩
abbrev S8x256x512 : Shape := ⟨3, ![8, 256, 512]⟩
abbrev S8x256x4x128 : Shape := ⟨4, ![8, 256, 4, 128]⟩
abbrev S8x4x8192x256 : Shape := ⟨4, ![8, 4, 8192, 256]⟩
abbrev S_ : Shape := ⟨0, ![]⟩

class Facts : Prop where
  slices_S8x8192x7168_S8x8192x512_0_0_3584 : S8x8192x7168.Slices ![0, 0, 3584] S8x8192x512
  bitsLt_bf16_f32 : FTy.bits .bf16 < FTy.bits .f32
  shapeCasts_S8x8192x512_S8x8192x4x128 : S8x8192x512.ShapeCasts S8x8192x4x128
  shapeCasts_S1x1024x1024_S1024x1024 : S1x1024x1024.ShapeCasts S1024x1024
  slices_S8x256x1024_S8x256x512_0_0_0 : S8x256x1024.Slices ![0, 0, 0] S8x256x512
  slices_S8x256x1024_S8x256x512_0_0_512 : S8x256x1024.Slices ![0, 0, 512] S8x256x512
  shapeCasts_S8x256x512_S8x256x4x128 : S8x256x512.ShapeCasts S8x256x4x128
  bcast_S_S8x4x8192x256 : S_.BroadcastsInDim S8x4x8192x256 (![] : Fin 0 → Fin S8x4x8192x256.rank)
  reducesTo_S8x4x8192x256_S_d0_1_2_3 : S8x4x8192x256.ReducesTo [0, 1, 2, 3] S_
  h_S_ : 0 < S_.numel
  dot_S8x256x1024_S1024x1024_S8x256x1024_2_0_01_1_n_n_wf : DotDims.WF S8x256x1024 S1024x1024 S8x256x1024 [2] [0] [0, 1] [1] [] []
  dot_S8x8192x4x128_S8x256x4x128_S8x4x8192x256_3_3_1_1_02_02_wf : DotDims.WF S8x8192x4x128 S8x256x4x128 S8x4x8192x256 [3] [3] [1] [1] [0, 2] [0, 2]

variable [Facts]

def dot_S8x256x1024_S1024x1024_S8x256x1024_2_0_01_1_n_n : DotDims S8x256x1024 S1024x1024 S8x256x1024 where
  lhsContracting := [2]
  rhsContracting := [0]
  lhsNonContracting := [0, 1]
  rhsNonContracting := [1]
  lhsBatch := []
  rhsBatch := []
  wf := dot_S8x256x1024_S1024x1024_S8x256x1024_2_0_01_1_n_n_wf
def dot_S8x8192x4x128_S8x256x4x128_S8x4x8192x256_3_3_1_1_02_02 : DotDims S8x8192x4x128 S8x256x4x128 S8x4x8192x256 where
  lhsContracting := [3]
  rhsContracting := [3]
  lhsNonContracting := [1]
  rhsNonContracting := [1]
  lhsBatch := [0, 2]
  rhsBatch := [0, 2]
  wf := dot_S8x8192x4x128_S8x256x4x128_S8x4x8192x256_3_3_1_1_02_02_wf
def fn {F : FTy → Type} [FloatOps F] (main_arg0 : FVec F S8x8192x7168 .bf16) (main_arg1 : FVec F S8x256x1024 .f32) (main_arg2 : FVec F S1x1024x1024 .f32) : IVec S_ 1 :=
  let main_v0 : FVec F S8x8192x512 .bf16 := (extractStridedSlice S8x8192x512 ![0, 0, 3584] · slices_S8x8192x7168_S8x8192x512_0_0_3584) main_arg0
  let main_v1 : FVec F S8x8192x512 .f32 := (extf .f32 · bitsLt_bf16_f32) main_v0
  let main_v2 : FVec F S8x8192x4x128 .f32 := shapeCast S8x8192x4x128 main_v1 shapeCasts_S8x8192x512_S8x8192x4x128
  let main_v3 : FVec F S1024x1024 .f32 := shapeCast S1024x1024 main_arg2 shapeCasts_S1x1024x1024_S1024x1024
  let main_v4 : FVec F S8x256x1024 .f32 := (fun l r => Host.dotGeneral dot_S8x256x1024_S1024x1024_S8x256x1024_2_0_01_1_n_n none l r) main_arg1 main_v3
  let main_v5 : FVec F S8x256x512 .f32 := (extractStridedSlice S8x256x512 ![0, 0, 0] · slices_S8x256x1024_S8x256x512_0_0_0) main_v4
  let main_v6 : FVec F S8x256x512 .f32 := (extractStridedSlice S8x256x512 ![0, 0, 512] · slices_S8x256x1024_S8x256x512_0_0_512) main_v4
  let main_v7 : FVec F S8x256x4x128 .f32 := shapeCast S8x256x4x128 main_v5 shapeCasts_S8x256x512_S8x256x4x128
  let main_v8 : FVec F S8x4x8192x256 .f32 := (fun l r => Host.dotGeneral dot_S8x8192x4x128_S8x256x4x128_S8x4x8192x256_3_3_1_1_02_02 none l r) main_v2 main_v7
  let main_cst : FVec F S_ .f32 := constant S_ .f32 0x3DB504F3#32
  let main_v9 : FVec F S8x4x8192x256 .f32 := broadcastInDim S8x4x8192x256 ![] bcast_S_S8x4x8192x256 main_cst
  let main_v10 : FVec F S8x4x8192x256 .f32 := mulf main_v8 main_v9
  let main_v11 : FVec F S8x4x8192x256 .f32 := Host.absf main_v10
  let main_cst_0 : FVec F S_ .f32 := constant S_ .f32 0x7F800000#32
  let main_v12 : FVec F S8x4x8192x256 .f32 := broadcastInDim S8x4x8192x256 ![] bcast_S_S8x4x8192x256 main_cst_0
  let main_v13 : IVec S8x4x8192x256 1 := cmpf .olt main_v11 main_v12
  let main_c : IVec S_ 1 := constantI S_ 1 1#1
  let main_v14 : IVec S_ 1 := (fun x v => Host.reduce IntOp.andi x v reducesTo_S8x4x8192x256_S_d0_1_2_3 h_S_) main_v13 main_c
  main_v14
-- ==== Pre_finite_lses.lean ====
abbrev S8x8192x1024 : Shape := ⟨3, ![8, 8192, 1024]⟩
abbrev S65536x512 : Shape := ⟨2, ![65536, 512]⟩
abbrev S65536x128 : Shape := ⟨2, ![65536, 128]⟩
abbrev S65536x7168 : Shape := ⟨2, ![65536, 7168]⟩
abbrev S1x3072 : Shape := ⟨2, ![1, 3072]⟩
abbrev S1x3x512x1024 : Shape := ⟨4, ![1, 3, 512, 1024]⟩
abbrev S1x1024x1024 : Shape := ⟨3, ![1, 1024, 1024]⟩
abbrev S1x1024 : Shape := ⟨2, ![1, 1024]⟩
abbrev S65536x4 : Shape := ⟨2, ![65536, 4]⟩
abbrev S1x65536x4 : Shape := ⟨3, ![1, 65536, 4]⟩
abbrev S3x65536x4 : Shape := ⟨3, ![3, 65536, 4]⟩
abbrev S_ : Shape := ⟨0, ![]⟩

class Facts : Prop where
  slices_S65536x128_S65536x4_0_0 : S65536x128.Slices ![0, 0] S65536x4
  bcast_S65536x4_S1x65536x4_1_2 : S65536x4.BroadcastsInDim S1x65536x4 (![1, 2] : Fin 2 → Fin S1x65536x4.rank)
  concatenates_S1x65536x4_S1x65536x4_S1x65536x4_S3x65536x4_d0 : Shape.Concatenates [S1x65536x4, S1x65536x4, S1x65536x4] S3x65536x4 0
  bcast_S_S3x65536x4 : S_.BroadcastsInDim S3x65536x4 (![] : Fin 0 → Fin S3x65536x4.rank)
  reducesTo_S3x65536x4_S_d0_1_2 : S3x65536x4.ReducesTo [0, 1, 2] S_
  h_S_ : 0 < S_.numel

variable [Facts]

def fn {F : FTy → Type} [FloatOps F] (main_arg0 : FVec F S8x8192x1024 .f32) (main_arg1 : FVec F S65536x512 .bf16) (main_arg2 : FVec F S65536x512 .bf16) (main_arg3 : FVec F S65536x512 .bf16) (main_arg4 : FVec F S65536x128 .f32) (main_arg5 : FVec F S65536x128 .f32) (main_arg6 : FVec F S65536x128 .f32) (main_arg7 : FVec F S65536x512 .bf16) (main_arg8 : FVec F S65536x512 .bf16) (main_arg9 : FVec F S65536x7168 .bf16) (main_arg10 : FVec F S1x3072 .f32) (main_arg11 : FVec F S1x3x512x1024 .f32) (main_arg12 : FVec F S1x1024x1024 .f32) (main_arg13 : FVec F S1x1024 .f32) (main_arg14 : FVec F S1x1024 .f32) : IVec S_ 1 :=
  let main_v0 : FVec F S65536x4 .f32 := (extractStridedSlice S65536x4 ![0, 0] · slices_S65536x128_S65536x4_0_0) main_arg4
  let main_v1 : FVec F S65536x4 .f32 := (extractStridedSlice S65536x4 ![0, 0] · slices_S65536x128_S65536x4_0_0) main_arg5
  let main_v2 : FVec F S65536x4 .f32 := (extractStridedSlice S65536x4 ![0, 0] · slices_S65536x128_S65536x4_0_0) main_arg6
  let main_v3 : FVec F S1x65536x4 .f32 := broadcastInDim S1x65536x4 ![1, 2] bcast_S65536x4_S1x65536x4_1_2 main_v0
  let main_v4 : FVec F S1x65536x4 .f32 := broadcastInDim S1x65536x4 ![1, 2] bcast_S65536x4_S1x65536x4_1_2 main_v1
  let main_v5 : FVec F S1x65536x4 .f32 := broadcastInDim S1x65536x4 ![1, 2] bcast_S65536x4_S1x65536x4_1_2 main_v2
  let main_v6 : FVec F S3x65536x4 .f32 := concatenate S3x65536x4 0 [⟨S1x65536x4, main_v3⟩, ⟨S1x65536x4, main_v4⟩, ⟨S1x65536x4, main_v5⟩] concatenates_S1x65536x4_S1x65536x4_S1x65536x4_S3x65536x4_d0
  let main_v7 : FVec F S3x65536x4 .f32 := Host.absf main_v6
  let main_cst : FVec F S_ .f32 := constant S_ .f32 0x7F800000#32
  let main_v8 : FVec F S3x65536x4 .f32 := broadcastInDim S3x65536x4 ![] bcast_S_S3x65536x4 main_cst
  let main_v9 : IVec S3x65536x4 1 := cmpf .olt main_v7 main_v8
  let main_c : IVec S_ 1 := constantI S_ 1 1#1
  let main_v10 : IVec S_ 1 := (fun x v => Host.reduce IntOp.andi x v reducesTo_S3x65536x4_S_d0_1_2 h_S_) main_v9 main_c
  main_v10
-- ==== Kernel.lean ====
abbrev S8x8192x7168 : Shape := ⟨3, ![8, 8192, 7168]⟩
abbrev S2x512 : Shape := ⟨2, ![2, 512]⟩
abbrev S1x512 : Shape := ⟨2, ![1, 512]⟩
abbrev S512 : Shape := ⟨1, ![512]⟩
abbrev S8x8192x512 : Shape := ⟨3, ![8, 8192, 512]⟩
abbrev S1x512x512 : Shape := ⟨3, ![1, 512, 512]⟩
abbrev S4x128x128 : Shape := ⟨3, ![4, 128, 128]⟩
abbrev S64x64 : Shape := ⟨2, ![64, 64]⟩
abbrev S1x64x512 : Shape := ⟨3, ![1, 64, 512]⟩
abbrev S64x512 : Shape := ⟨2, ![64, 512]⟩
abbrev S64x128 : Shape := ⟨2, ![64, 128]⟩
abbrev S1x128x128 : Shape := ⟨3, ![1, 128, 128]⟩
abbrev S128x128 : Shape := ⟨2, ![128, 128]⟩
abbrev S1x128 : Shape := ⟨2, ![1, 128]⟩
abbrev S64 : Shape := ⟨1, ![64]⟩
abbrev S64x1 : Shape := ⟨2, ![64, 1]⟩

abbrev nBuf : Space → Nat
  | .hbm => 6
  | .vmem => 13
  | .smem => 0
  | _ => 0

abbrev bufTy : (tb : Table) → Fin (tcTables nBuf tb) → BufTy
  | .hbm, ⟨0, _⟩ => ⟨S8x8192x7168, .bf16⟩
  | .hbm, ⟨1, _⟩ => ⟨S2x512, .f32⟩
  | .hbm, ⟨2, _⟩ => ⟨S1x512, .f32⟩
  | .hbm, ⟨3, _⟩ => ⟨S512, .f32⟩
  | .hbm, ⟨4, _⟩ => ⟨S1x512, .f32⟩
  | .hbm, ⟨5, _⟩ => ⟨S8x8192x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S2x512, .f32⟩
  | .local _ .vmem, ⟨9, _⟩ => ⟨S1x512, .f32⟩
  | .local _ .vmem, ⟨10, _⟩ => ⟨S1x512x512, .bf16⟩
  | .local _ .vmem, ⟨11, _⟩ => ⟨S1x512x512, .bf16⟩
  | .local _ .vmem, ⟨12, _⟩ => ⟨S4x128x128, .f32⟩
  | _, _ => ⟨S8x8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_2 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_3 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8x8192x7168 : Shape := ⟨3, ![8, 8192, 7168]⟩
abbrev S2x512 : Shape := ⟨2, ![2, 512]⟩
abbrev S1x512 : Shape := ⟨2, ![1, 512]⟩
abbrev S8x8192x2048 : Shape := ⟨3, ![8, 8192, 2048]⟩
abbrev S8x8192x512 : Shape := ⟨3, ![8, 8192, 512]⟩
abbrev S_ : Shape := ⟨0, ![]⟩
abbrev S512 : Shape := ⟨1, ![512]⟩
abbrev S4x1x1x128 : Shape := ⟨4, ![4, 1, 1, 128]⟩
abbrev S8x128x64x4x128 : Shape := ⟨5, ![8, 128, 64, 4, 128]⟩
abbrev S8x4x128x64x128 : Shape := ⟨5, ![8, 4, 128, 64, 128]⟩
abbrev S1x4x1x1x128 : Shape := ⟨5, ![1, 4, 1, 1, 128]⟩
abbrev S8x4x128x1x128 : Shape := ⟨5, ![8, 4, 128, 1, 128]⟩
abbrev S64x64 : Shape := ⟨2, ![64, 64]⟩
abbrev S8x4x128x64x64 : Shape := ⟨5, ![8, 4, 128, 64, 64]⟩
abbrev S8x4x128x128x128 : Shape := ⟨5, ![8, 4, 128, 128, 128]⟩
abbrev S8x4x128x128 : Shape := ⟨4, ![8, 4, 128, 128]⟩
abbrev S128x8x4x128 : Shape := ⟨4, ![128, 8, 4, 128]⟩
abbrev S128x8x4x128x128 : Shape := ⟨5, ![128, 8, 4, 128, 128]⟩
abbrev S1x8x4x128 : Shape := ⟨4, ![1, 8, 4, 128]⟩
abbrev S8x4x128 : Shape := ⟨3, ![8, 4, 128]⟩
abbrev S1x8x4x128x128 : Shape := ⟨5, ![1, 8, 4, 128, 128]⟩
abbrev S8x4x128x1 : Shape := ⟨4, ![8, 4, 128, 1]⟩
abbrev S8x4x128x64 : Shape := ⟨4, ![8, 4, 128, 64]⟩
abbrev S8x4x128x64x1 : Shape := ⟨5, ![8, 4, 128, 64, 1]⟩
abbrev S1x1x512 : Shape := ⟨3, ![1, 1, 512]⟩

abbrev nBuf : Space → Nat
  | .hbm => 166
  | .vmem => 0
  | .smem => 0
  | _ => 0

abbrev hbmTy0_0 (i : Nat) : BufTy := match i % 128 with
  | 0 => ⟨S8x8192x7168, .bf16⟩
  | 1 => ⟨S2x512, .f32⟩
  | 2 => ⟨S1x512, .f32⟩
  | 3 => ⟨S8x8192x2048, .bf16⟩
  | 4 => ⟨S8x8192x2048, .f32⟩
  | 5 => ⟨S8x8192x512, .f32⟩
  | 6 => ⟨S8x8192x512, .f32⟩
  | 7 => ⟨S8x8192x512, .f32⟩
  | 8 => ⟨S8x8192x512, .f32⟩
  | 9 => ⟨S_, .f32⟩
  | 10 => ⟨S512, .f32⟩
  | 11 => ⟨S_, .f32⟩
  | 12 => ⟨S512, .f32⟩
  | 13 => ⟨S512, .f32⟩
  | 14 => ⟨S1x512, .f32⟩
  | 15 => ⟨S2x512, .f32⟩
  | 16 => ⟨S2x512, .f32⟩
  | 17 => ⟨S2x512, .f32⟩
  | 18 => ⟨S_, .f32⟩
  | 19 => ⟨S512, .f32⟩
  | 20 => ⟨S1x512, .f32⟩
  | 21 => ⟨S2x512, .f32⟩
  | 22 => ⟨S2x512, .f32⟩
  | 23 => ⟨S_, .f32⟩
  | 24 => ⟨S_, .f32⟩
  | 25 => ⟨S2x512, .f32⟩
  | 26 => ⟨S1x512, .f32⟩
  | 27 => ⟨S512, .f32⟩
  | 28 => ⟨S512, .f32⟩
  | 29 => ⟨S4x1x1x128, .f32⟩
  | 30 => ⟨S_, .f32⟩
  | 31 => ⟨S4x1x1x128, .f32⟩
  | 32 => ⟨S4x1x1x128, .f32⟩
  | 33 => ⟨S8x128x64x4x128, .f32⟩
  | 34 => ⟨S8x4x128x64x128, .f32⟩
  | 35 => ⟨S8x4x128x64x128, .f32⟩
  | 36 => ⟨S8x4x128x64x128, .f32⟩
  | 37 => ⟨S_, .f32⟩
  | 38 => ⟨S8x4x128x64x128, .f32⟩
  | 39 => ⟨S8x4x128x64x128, .f32⟩
  | 40 => ⟨S_, .f32⟩
  | 41 => ⟨S8x4x128x64x128, .f32⟩
  | 42 => ⟨S8x4x128x64x128, .f32⟩
  | 43 => ⟨S1x4x1x1x128, .f32⟩
  | 44 => ⟨S8x4x128x64x128, .f32⟩
  | 45 => ⟨S8x4x128x64x128, .f32⟩
  | 46 => ⟨S1x4x1x1x128, .f32⟩
  | 47 => ⟨S8x4x128x64x128, .f32⟩
  | 48 => ⟨S8x4x128x64x128, .f32⟩
  | 49 => ⟨S8x4x128x64x128, .f32⟩
  | 50 => ⟨S_, .f32⟩
  | 51 => ⟨S8x4x128x64x128, .f32⟩
  | 52 => ⟨S8x4x128x64x128, .f32⟩
  | 53 => ⟨S8x128x64x4x128, .f32⟩
  | 54 => ⟨S8x4x128x64x128, .f32⟩
  | 55 => ⟨S8x128x64x4x128, .f32⟩
  | 56 => ⟨S8x4x128x64x128, .f32⟩
  | 57 => ⟨S_, .f32⟩
  | 58 => ⟨S_, .f32⟩
  | 59 => ⟨S8x4x128x64x128, .f32⟩
  | 60 => ⟨S8x4x128x1x128, .f32⟩
  | 61 => ⟨S8x4x128x1x128, .f32⟩
  | 62 => ⟨S_, .i1⟩
  | 63 => ⟨S64x64, .i1⟩
  | 64 => ⟨S64x64, .i32⟩
  | 65 => ⟨S_, .i32⟩
  | 66 => ⟨S64x64, .i32⟩
  | 67 => ⟨S64x64, .i32⟩
  | 68 => ⟨S64x64, .i32⟩
  | 69 => ⟨S64x64, .i1⟩
  | 70 => ⟨S_, .i1⟩
  | 71 => ⟨S64x64, .i1⟩
  | 72 => ⟨S64x64, .i1⟩
  | 73 => ⟨S8x4x128x64x128, .f32⟩
  | 74 => ⟨S8x4x128x64x128, .f32⟩
  | 75 => ⟨S8x4x128x64x128, .f32⟩
  | 76 => ⟨S8x4x128x64x128, .f32⟩
  | 77 => ⟨S8x4x128x64x128, .f32⟩
  | 78 => ⟨S8x4x128x64x128, .f32⟩
  | 79 => ⟨S8x4x128x64x128, .f32⟩
  | 80 => ⟨S8x4x128x64x128, .f32⟩
  | 81 => ⟨S8x4x128x64x64, .f32⟩
  | 82 => ⟨S_, .f32⟩
  | 83 => ⟨S_, .f32⟩
  | 84 => ⟨S8x4x128x64x64, .i1⟩
  | 85 => ⟨S8x4x128x64x64, .f32⟩
  | 86 => ⟨S8x4x128x64x64, .f32⟩
  | 87 => ⟨S8x4x128x64x128, .f32⟩
  | 88 => ⟨S8x4x128x64x128, .f32⟩
  | 89 => ⟨S8x4x128x64x128, .f32⟩
  | 90 => ⟨S8x4x128x64x128, .f32⟩
  | 91 => ⟨S8x4x128x64x128, .f32⟩
  | 92 => ⟨S8x4x128x128x128, .f32⟩
  | 93 => ⟨S8x4x128x128, .f32⟩
  | 94 => ⟨S8x4x128x128, .f32⟩
  | 95 => ⟨S_, .f32⟩
  | 96 => ⟨S8x4x128x128, .f32⟩
  | 97 => ⟨S128x8x4x128, .f32⟩
  | 98 => ⟨S128x8x4x128x128, .f32⟩
  | 99 => ⟨S_, .f32⟩
  | 100 => ⟨S128x8x4x128x128, .f32⟩
  | 101 => ⟨S_, .i32⟩
  | 102 => ⟨S128x8x4x128, .f32⟩
  | 103 => ⟨S128x8x4x128x128, .f32⟩
  | 104 => ⟨S_, .i32⟩
  | 105 => ⟨S8x4x128x128, .f32⟩
  | 106 => ⟨S128x8x4x128x128, .f32⟩
  | 107 => ⟨S_, .i32⟩
  | 108 => ⟨S_, .i1⟩
  | 109 => ⟨S_, .i32⟩
  | 110 => ⟨S_, .i32⟩
  | 111 => ⟨S_, .i32⟩
  | 112 => ⟨S1x8x4x128, .f32⟩
  | 113 => ⟨S8x4x128, .f32⟩
  | 114 => ⟨S_, .i32⟩
  | 115 => ⟨S_, .i32⟩
  | 116 => ⟨S_, .i32⟩
  | 117 => ⟨S_, .i32⟩
  | 118 => ⟨S1x8x4x128x128, .f32⟩
  | 119 => ⟨S8x4x128x128, .f32⟩
  | 120 => ⟨S8x4x128x1, .f32⟩
  | 121 => ⟨S8x4x128x128, .f32⟩
  | 122 => ⟨S8x4x128x128, .f32⟩
  | 123 => ⟨S8x4x128x128, .f32⟩
  | 124 => ⟨S1x8x4x128x128, .f32⟩
  | 125 => ⟨S_, .i32⟩
  | 126 => ⟨S_, .i32⟩
  | 127 => ⟨S_, .i32⟩
  | _ => ⟨S8x8192x7168, .bf16⟩

abbrev hbmTy0_1 (i : Nat) : BufTy := match i % 128 with
  | 0 => ⟨S_, .i32⟩
  | 1 => ⟨S128x8x4x128x128, .f32⟩
  | 2 => ⟨S_, .i32⟩
  | 3 => ⟨S_, .i32⟩
  | 4 => ⟨S8x4x128x128x128, .f32⟩
  | 5 => ⟨S8x4x128x64x128, .f32⟩
  | 6 => ⟨S8x4x128x64x128, .f32⟩
  | 7 => ⟨S8x4x128x64x128, .f32⟩
  | 8 => ⟨S8x4x128x64x128, .f32⟩
  | 9 => ⟨S8x4x128x64x128, .f32⟩
  | 10 => ⟨S_, .f32⟩
  | 11 => ⟨S8x4x128x64, .f32⟩
  | 12 => ⟨S8x4x128x64x1, .f32⟩
  | 13 => ⟨S_, .f32⟩
  | 14 => ⟨S8x4x128x64x1, .f32⟩
  | 15 => ⟨S8x4x128x64x1, .f32⟩
  | 16 => ⟨S_, .f32⟩
  | 17 => ⟨S8x4x128x64x1, .f32⟩
  | 18 => ⟨S8x4x128x64x1, .f32⟩
  | 19 => ⟨S8x4x128x64x1, .f32⟩
  | 20 => ⟨S8x4x128x64x128, .f32⟩
  | 21 => ⟨S8x4x128x64x128, .f32⟩
  | 22 => ⟨S8x128x64x4x128, .f32⟩
  | 23 => ⟨S8x8192x512, .f32⟩
  | 24 => ⟨S1x1x512, .f32⟩
  | 25 => ⟨S8x8192x512, .f32⟩
  | 26 => ⟨S8x8192x512, .f32⟩
  | 27 => ⟨S8x8192x512, .f32⟩
  | 28 => ⟨S8x8192x512, .f32⟩
  | 29 => ⟨S_, .f32⟩
  | 30 => ⟨S8x8192x512, .f32⟩
  | 31 => ⟨S8x8192x512, .f32⟩
  | 32 => ⟨S_, .f32⟩
  | 33 => ⟨S8x8192x512, .f32⟩
  | 34 => ⟨S8x8192x512, .f32⟩
  | 35 => ⟨S8x8192x512, .f32⟩
  | 36 => ⟨S8x8192x512, .f32⟩
  | 37 => ⟨S8x8192x512, .bf16⟩
  | _ => ⟨S8x8192x7168, .bf16⟩

abbrev hbmTy (i : Nat) : BufTy := match i / 128 with
  | 0 => hbmTy0_0 i
  | 1 => hbmTy0_1 i
  | _ => ⟨S8x8192x7168, .bf16⟩

abbrev bufTy : (tb : Table) → Fin (tcTables nBuf tb) → BufTy
  | .hbm, ⟨i, _⟩ => hbmTy i
  | _, _ => ⟨S8x8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_call0_cst : Ref sig .tc := ⟨.hbm, 23, rfl⟩
abbrev main_call0_call0_v0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_call1_call0_cst : Ref sig .tc := ⟨.hbm, 57, rfl⟩
abbrev main_call1_call0_v0 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_c : Ref sig .tc := ⟨.hbm, 62, rfl⟩
abbrev main_v48 : Ref sig .tc := ⟨.hbm, 63, rfl⟩
abbrev main_call2_v0 : Ref sig .tc := ⟨.hbm, 64, rfl⟩
abbrev main_call2_c : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_c_0 : Ref sig .tc := ⟨.hbm, 70, rfl⟩
abbrev main_call2_v5 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_6 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_7 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_8 : Ref sig .tc := ⟨.hbm, 99, rfl⟩
abbrev main_v71 : Ref sig .tc := ⟨.hbm, 100, rfl⟩
abbrev main_c_9 : Ref sig .tc := ⟨.hbm, 101, rfl⟩
abbrev main_v72_0 : Ref sig .tc := ⟨.hbm, 102, rfl⟩
abbrev main_v72_1 : Ref sig .tc := ⟨.hbm, 103, rfl⟩
abbrev main_v72_2 : Ref sig .tc := ⟨.hbm, 104, rfl⟩
abbrev main_v72_3 : Ref sig .tc := ⟨.hbm, 105, rfl⟩
abbrev main_v72_4 : Ref sig .tc := ⟨.hbm, 106, rfl⟩
abbrev main_while0c_c_17 : Ref sig .tc := ⟨.hbm, 107, rfl⟩
abbrev main_while0c_v96 : Ref sig .tc := ⟨.hbm, 108, rfl⟩
abbrev main_while0b_call4_c : Ref sig .tc := ⟨.hbm, 109, rfl⟩
abbrev main_while0b_call4_c_0 : Ref sig .tc := ⟨.hbm, 110, rfl⟩
abbrev main_while0b_call4_c_1 : Ref sig .tc := ⟨.hbm, 111, rfl⟩
abbrev main_while0b_call4_v0 : Ref sig .tc := ⟨.hbm, 112, rfl⟩
abbrev main_while0b_v96 : Ref sig .tc := ⟨.hbm, 113, rfl⟩
abbrev main_while0b_call5_c : Ref sig .tc := ⟨.hbm, 114, rfl⟩
abbrev main_while0b_call5_c_0 : Ref sig .tc := ⟨.hbm, 115, rfl⟩
abbrev main_while0b_call5_c_1 : Ref sig .tc := ⟨.hbm, 116, rfl⟩
abbrev main_while0b_call5_c_2 : Ref sig .tc := ⟨.hbm, 117, rfl⟩
abbrev main_while0b_call5_v0 : Ref sig .tc := ⟨.hbm, 118, rfl⟩
abbrev main_while0b_v97 : Ref sig .tc := ⟨.hbm, 119, rfl⟩
abbrev main_while0b_v98 : Ref sig .tc := ⟨.hbm, 120, rfl⟩
abbrev main_while0b_v99 : Ref sig .tc := ⟨.hbm, 121, rfl⟩
abbrev main_while0b_v100 : Ref sig .tc := ⟨.hbm, 122, rfl⟩
abbrev main_while0b_v101 : Ref sig .tc := ⟨.hbm, 123, rfl⟩
abbrev main_while0b_call6_v0 : Ref sig .tc := ⟨.hbm, 124, rfl⟩
abbrev main_while0b_call6_c : Ref sig .tc := ⟨.hbm, 125, rfl⟩
abbrev main_while0b_call6_c_0 : Ref sig .tc := ⟨.hbm, 126, rfl⟩
abbrev main_while0b_call6_c_1 : Ref sig .tc := ⟨.hbm, 127, rfl⟩
abbrev main_while0b_call6_c_2 : Ref sig .tc := ⟨.hbm, 128, rfl⟩
abbrev main_while0b_v102 : Ref sig .tc := ⟨.hbm, 129, rfl⟩
abbrev main_while0b_c_17 : Ref sig .tc := ⟨.hbm, 130, rfl⟩
abbrev main_while0b_v103 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_cst_10 : Ref sig .tc := ⟨.hbm, 138, rfl⟩
abbrev main_v79 : Ref sig .tc := ⟨.hbm, 139, rfl⟩
abbrev main_v80 : Ref sig .tc := ⟨.hbm, 140, rfl⟩
abbrev main_cst_11 : Ref sig .tc := ⟨.hbm, 141, rfl⟩
abbrev main_v81 : Ref sig .tc := ⟨.hbm, 142, rfl⟩
abbrev main_v82 : Ref sig .tc := ⟨.hbm, 143, rfl⟩
abbrev main_cst_12 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_call7_v0 : Ref sig .tc := ⟨.hbm, 155, rfl⟩
abbrev main_call7_v1 : Ref sig .tc := ⟨.hbm, 156, rfl⟩
abbrev main_call7_cst : Ref sig .tc := ⟨.hbm, 157, rfl⟩
abbrev main_call7_v2 : Ref sig .tc := ⟨.hbm, 158, rfl⟩
abbrev main_call7_v3 : Ref sig .tc := ⟨.hbm, 159, rfl⟩
abbrev main_call7_cst_0 : Ref sig .tc := ⟨.hbm, 160, rfl⟩
abbrev main_call7_v4 : Ref sig .tc := ⟨.hbm, 161, rfl⟩
abbrev main_call7_v5 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S8x8192x1024 : Shape := ⟨3, ![8, 8192, 1024]⟩
abbrev S1x1024x10240 : Shape := ⟨3, ![1, 1024, 10240]⟩
abbrev S65536x1024 : Shape := ⟨2, ![65536, 1024]⟩
abbrev S1024x10240 : Shape := ⟨2, ![1024, 10240]⟩
abbrev S65536x7168 : Shape := ⟨2, ![65536, 7168]⟩
abbrev S16384x6144 : Shape := ⟨2, ![16384, 6144]⟩
abbrev S4096x24576 : Shape := ⟨2, ![4096, 24576]⟩
abbrev S2048x1024 : Shape := ⟨2, ![2048, 1024]⟩
abbrev S1024x512 : Shape := ⟨2, ![1024, 512]⟩
abbrev S2048x512 : Shape := ⟨2, ![2048, 512]⟩
abbrev S512x2048 : Shape := ⟨2, ![512, 2048]⟩
abbrev S128x8192 : Shape := ⟨2, ![128, 8192]⟩
abbrev S256x256 : Shape := ⟨2, ![256, 256]⟩
abbrev S256x512 : Shape := ⟨2, ![256, 512]⟩
abbrev S64x512 : Shape := ⟨2, ![64, 512]⟩
abbrev S16x512 : Shape := ⟨2, ![16, 512]⟩

abbrev nBuf : Space → Nat
  | .hbm => 8
  | .vmem => 12
  | .smem => 0
  | _ => 0

abbrev bufTy : (tb : Table) → Fin (tcTables nBuf tb) → BufTy
  | .hbm, ⟨0, _⟩ => ⟨S8x8192x1024, .f32⟩
  | .hbm, ⟨1, _⟩ => ⟨S1x1024x10240, .f32⟩
  | .hbm, ⟨2, _⟩ => ⟨S65536x1024, .f32⟩
  | .hbm, ⟨3, _⟩ => ⟨S1024x10240, .f32⟩
  | .hbm, ⟨4, _⟩ => ⟨S1024x10240, .bf16⟩
  | .hbm, ⟨5, _⟩ => ⟨S65536x7168, .bf16⟩
  | .hbm, ⟨6, _⟩ => ⟨S16384x6144, .bf16⟩
  | .hbm, ⟨7, _⟩ => ⟨S4096x24576, .bf16⟩
  | .local _ .vmem, ⟨0, _⟩ => ⟨S2048x1024, .f32⟩
  | .local _ .vmem, ⟨1, _⟩ => ⟨S2048x1024, .f32⟩
  | .local _ .vmem, ⟨2, _⟩ => ⟨S1024x512, .bf16⟩
  | .local _ .vmem, ⟨3, _⟩ => ⟨S1024x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S128x8192, .bf16⟩
  | .local _ .vmem, ⟨9, _⟩ => ⟨S128x8192, .bf16⟩
  | .local _ .vmem, ⟨10, _⟩ => ⟨S2048x1024, .bf16⟩
  | .local _ .vmem, ⟨11, _⟩ => ⟨S2048x512, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 20], ![false, false]⟩

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let c2_i32 : BitVec 32 := 2#32
  let v4 : BitVec 1 := Scalar.cmpi .eq arg1 c2_i32
  let v5 : BitVec 1 := Scalar.ori v3 v4
  let c4_i32 : BitVec 32 := 4#32
  let v6 : BitVec 1 := Scalar.cmpi .eq arg1 c4_i32
  let v7 : BitVec 1 := Scalar.ori v5 v6
  let c5_i32 : BitVec 32 := 5#32
  let v8 : BitVec 1 := Scalar.cmpi .eq arg1 c5_i32
  let v9 : BitVec 1 := Scalar.ori v7 v8
  let c7_i32 : BitVec 32 := 7#32
  let v10 : BitVec 1 := Scalar.cmpi .eq arg1 c7_i32
  let v11 : BitVec 1 := Scalar.ori v9 v10
  let c8_i32 : BitVec 32 := 8#32
  let v12 : BitVec 1 := Scalar.cmpi .eq arg1 c8_i32
  let v13 : BitVec 1 := Scalar.ori v11 v12
  let v_true : BitVec 1 := 1#1
  let v14 : BitVec 1 := Scalar.xori v13 v_true
  let v15 : BitVec 32 := Scalar.extui v14
  let c0_i32_1 : BitVec 32 := 0#32
  let v16 : BitVec 1 := Scalar.cmpi .ne v15 c0_i32_1
  v16

def k0_cond3 (i : grid0.Coords) : BitVec 1 :=
  let arg1 : BitVec 32 := BitVec.ofNat 32 (i 1).val
  let c1_i32_2 : BitVec 32 := 1#32
  let v19 : BitVec 1 := Scalar.cmpi .eq arg1 c1_i32_2
  let c4_i32_3 : BitVec 32 := 4#32
  let v20 : BitVec 1 := Scalar.cmpi .eq arg1 c4_i32_3
  let v21 : BitVec 1 := Scalar.ori v19 v20
  let c7_i32_4 : BitVec 32 := 7#32
  let v22 : BitVec 1 := Scalar.cmpi .eq arg1 c7_i32_4
  let v23 : BitVec 1 := Scalar.ori v21 v22
  let v24 : BitVec 32 := Scalar.extui v23
  let c0_i32_5 : BitVec 32 := 0#32
  let v25 : BitVec 1 := Scalar.cmpi .ne v24 c0_i32_5
  v25

def k0_cond4 (i : grid0.Coords) : BitVec 1 :=
  let arg1 : BitVec 32 := BitVec.ofNat 32 (i 1).val
  let c2_i32_6 : BitVec 32 := 2#32
  let v26 : BitVec 1 := Scalar.cmpi .eq arg1 c2_i32_6
  let c5_i32_7 : BitVec 32 := 5#32
  let v27 : BitVec 1 := Scalar.cmpi .eq arg1 c5_i32_7
  let v28 : BitVec 1 := Scalar.ori v26 v27
  let c8_i32_8 : BitVec 32 := 8#32
  let v29 : BitVec 1 := Scalar.cmpi .eq arg1 c8_i32_8
  let v30 : BitVec 1 := Scalar.ori v28 v29
  let v31 : BitVec 32 := Scalar.extui v30
  let c0_i32_9 : BitVec 32 := 0#32
  let v32 : BitVec 1 := Scalar.cmpi .ne v31 c0_i32_9
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sgt arg1 c1_i32
  let v1 : BitVec 32 := Scalar.extui v0
  let c0_i32 : BitVec 32 := 0#32
  let v2 : BitVec 32 := Scalar.addi c0_i32 v1
  let c2_i32 : BitVec 32 := 2#32
  let v3 : BitVec 1 := Scalar.cmpi .sgt arg1 c2_i32
  let v4 : BitVec 32 := Scalar.extui v3
  let v5 : BitVec 32 := Scalar.addi v2 v4
  let c4_i32 : BitVec 32 := 4#32
  let v6 : BitVec 1 := Scalar.cmpi .sgt arg1 c4_i32
  let v7 : BitVec 32 := Scalar.extui v6
  let v8 : BitVec 32 := Scalar.addi v5 v7
  let c5_i32 : BitVec 32 := 5#32
  let v9 : BitVec 1 := Scalar.cmpi .sgt arg1 c5_i32
  let v10 : BitVec 32 := Scalar.extui v9
  let v11 : BitVec 32 := Scalar.addi v8 v10
  let c7_i32 : BitVec 32 := 7#32
  let v12 : BitVec 1 := Scalar.cmpi .sgt arg1 c7_i32
  let v13 : BitVec 32 := Scalar.extui v12
  let v14 : BitVec 32 := Scalar.addi v11 v13
  let c8_i32 : BitVec 32 := 8#32
  let v15 : BitVec 1 := Scalar.cmpi .sgt arg1 c8_i32
  let v16 : BitVec 32 := Scalar.extui v15
  let v17 : BitVec 32 := Scalar.addi v14 v16
  let v18 : BitVec 32 := Scalar.subi arg1 v17
  let c1_i32_0 : BitVec 32 := 1#32
  let v19 : BitVec 1 := Scalar.cmpi .eq arg1 c1_i32_0
  let c2_i32_1 : BitVec 32 := 2#32
  let v20 : BitVec 1 := Scalar.cmpi .eq arg1 c2_i32_1
  let v21 : BitVec 1 := Scalar.ori v19 v20
  let c4_i32_2 : BitVec 32 := 4#32
  let v22 : BitVec 1 := Scalar.cmpi .eq arg1 c4_i32_2
  let v23 : BitVec 1 := Scalar.ori v21 v22
  let c5_i32_3 : BitVec 32 := 5#32
  let v24 : BitVec 1 := Scalar.cmpi .eq arg1 c5_i32_3
  let v25 : BitVec 1 := Scalar.ori v23 v24
  let c7_i32_4 : BitVec 32 := 7#32
  let v26 : BitVec 1 := Scalar.cmpi .eq arg1 c7_i32_4
  let v27 : BitVec 1 := Scalar.ori v25 v26
  let c8_i32_5 : BitVec 32 := 8#32
  let v28 : BitVec 1 := Scalar.cmpi .eq arg1 c8_i32_5
  let v29 : BitVec 1 := Scalar.ori v27 v28
  let v30 : BitVec 32 := Scalar.extui v29
  let v31 : BitVec 32 := Scalar.subi v18 v30
  let c0_i32_6 : BitVec 32 := 0#32
  ![arg0.toNat, v31.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg1 c4_i32
  let v1 : BitVec 32 := Scalar.extui v0
  let c7_i32 : BitVec 32 := 7#32
  let v2 : BitVec 1 := Scalar.cmpi .sge arg1 c7_i32
  let v3 : BitVec 32 := Scalar.extui v2
  let v4 : BitVec 32 := Scalar.addi v1 v3
  let c0_i32 : BitVec 32 := 0#32
  ![arg0.toNat, v4.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 1 := Scalar.cmpi .sge arg1 c5_i32
  let v1 : BitVec 32 := Scalar.extui v0
  let c8_i32 : BitVec 32 := 8#32
  let v2 : BitVec 1 := Scalar.cmpi .sge arg1 c8_i32
  let v3 : BitVec 32 := Scalar.extui v2
  let v4 : BitVec 32 := Scalar.addi v1 v3
  let c0_i32 : BitVec 32 := 0#32
  ![arg0.toNat, v4.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8x8192x1024 : Shape := ⟨3, ![8, 8192, 1024]⟩
abbrev S1x1024x10240 : Shape := ⟨3, ![1, 1024, 10240]⟩
abbrev S1024x10240 : Shape := ⟨2, ![1024, 10240]⟩
abbrev S8x8192x10240 : Shape := ⟨3, ![8, 8192, 10240]⟩
abbrev S8x8192x4608 : Shape := ⟨3, ![8, 8192, 4608]⟩
abbrev S8x8192x3x3x512 : Shape := ⟨5, ![8, 8192, 3, 3, 512]⟩
abbrev S8x8192x5632 : Shape := ⟨3, ![8, 8192, 5632]⟩
abbrev S8x8192x3x1x512 : Shape := ⟨5, ![8, 8192, 3, 1, 512]⟩
abbrev S8x8192x3x512 : Shape := ⟨4, ![8, 8192, 3, 512]⟩
abbrev S8x8192x1536 : Shape := ⟨3, ![8, 8192, 1536]⟩
abbrev S8x8192x7168 : Shape := ⟨3, ![8, 8192, 7168]⟩
abbrev S65536x7168 : Shape := ⟨2, ![65536, 7168]⟩
abbrev S16384x4x3x512 : Shape := ⟨4, ![16384, 4, 3, 512]⟩
abbrev S16384x3x4x512 : Shape := ⟨4, ![16384, 3, 4, 512]⟩
abbrev S16384x6144 : Shape := ⟨2, ![16384, 6144]⟩
abbrev S4096x16x3x512 : Shape := ⟨4, ![4096, 16, 3, 512]⟩
abbrev S4096x3x16x512 : Shape := ⟨4, ![4096, 3, 16, 512]⟩
abbrev S4096x24576 : Shape := ⟨2, ![4096, 24576]⟩

abbrev nBuf : Space → Nat
  | .hbm => 23
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1x1024x10240, .f32⟩
  | .hbm, ⟨2, _⟩ => ⟨S1024x10240, .f32⟩
  | .hbm, ⟨3, _⟩ => ⟨S8x8192x10240, .f32⟩
  | .hbm, ⟨4, _⟩ => ⟨S8x8192x10240, .bf16⟩
  | .hbm, ⟨5, _⟩ => ⟨S8x8192x4608, .bf16⟩
  | .hbm, ⟨6, _⟩ => ⟨S8x8192x3x3x512, .bf16⟩
  | .hbm, ⟨7, _⟩ => ⟨S8x8192x5632, .bf16⟩
  | .hbm, ⟨8, _⟩ => ⟨S8x8192x3x1x512, .bf16⟩
  | .hbm, ⟨9, _⟩ => ⟨S8x8192x3x512, .bf16⟩
  | .hbm, ⟨10, _⟩ => ⟨S8x8192x1536, .bf16⟩
  | .hbm, ⟨11, _⟩ => ⟨S8x8192x7168, .bf16⟩
  | .hbm, ⟨12, _⟩ => ⟨S65536x7168, .bf16⟩
  | .hbm, ⟨13, _⟩ => ⟨S8x8192x3x1x512, .bf16⟩
  | .hbm, ⟨14, _⟩ => ⟨S8x8192x3x512, .bf16⟩
  | .hbm, ⟨15, _⟩ => ⟨S16384x4x3x512, .bf16⟩
  | .hbm, ⟨16, _⟩ => ⟨S16384x3x4x512, .bf16⟩
  | .hbm, ⟨17, _⟩ => ⟨S16384x6144, .bf16⟩
  | .hbm, ⟨18, _⟩ => ⟨S8x8192x3x1x512, .bf16⟩
  | .hbm, ⟨19, _⟩ => ⟨S8x8192x3x512, .bf16⟩
  | .hbm, ⟨20, _⟩ => ⟨S4096x16x3x512, .bf16⟩
  | .hbm, ⟨21, _⟩ => ⟨S4096x3x16x512, .bf16⟩
  | .hbm, ⟨22, _⟩ => ⟨S4096x24576, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩

abbrev nD : Nat := 1
abbrev τ : Topo := Topo.v7x

variable {F : FTy → Type} [FloatOps F]
-- ==== Kernel3.lean ====
abbrev S8x8192x1024 : Shape := ⟨3, ![8, 8192, 1024]⟩
abbrev S65536x512 : Shape := ⟨2, ![65536, 512]⟩
abbrev S65536x128 : Shape := ⟨2, ![65536, 128]⟩
abbrev S65536x7168 : Shape := ⟨2, ![65536, 7168]⟩
abbrev S1x3072 : Shape := ⟨2, ![1, 3072]⟩
abbrev S1x3x512x1024 : Shape := ⟨4, ![1, 3, 512, 1024]⟩
abbrev S1x1024x1024 : Shape := ⟨3, ![1, 1024, 1024]⟩
abbrev S1x1024 : Shape := ⟨2, ![1, 1024]⟩
abbrev S65536x1024 : Shape := ⟨2, ![65536, 1024]⟩
abbrev S3072 : Shape := ⟨1, ![3072]⟩
abbrev S3x512x1024 : Shape := ⟨3, ![3, 512, 1024]⟩
abbrev S1024x1024 : Shape := ⟨2, ![1024, 1024]⟩
abbrev S1024 : Shape := ⟨1, ![1024]⟩
abbrev S3x1024 : Shape := ⟨2, ![3, 1024]⟩
abbrev S512x1024 : Shape := ⟨2, ![512, 1024]⟩
abbrev S512x512 : Shape := ⟨2, ![512, 512]⟩
abbrev S512x128 : Shape := ⟨2, ![512, 128]⟩
abbrev S512x1 : Shape := ⟨2, ![512, 1]⟩
abbrev S1x512x1024 : Shape := ⟨3, ![1, 512, 1024]⟩
abbrev S512 : Shape := ⟨1, ![512]⟩

abbrev nBuf : Space → Nat
  | .hbm => 27
  | .vmem => 31
  | .smem => 0
  | _ => 0

abbrev bufTy : (tb : Table) → Fin (tcTables nBuf tb) → BufTy
  | .hbm, ⟨0, _⟩ => ⟨S8x8192x1024, .f32⟩
  | .hbm, ⟨1, _⟩ => ⟨S65536x512, .bf16⟩
  | .hbm, ⟨2, _⟩ => ⟨S65536x512, .bf16⟩
  | .hbm, ⟨3, _⟩ => ⟨S65536x512, .bf16⟩
  | .hbm, ⟨4, _⟩ => ⟨S65536x128, .f32⟩
  | .hbm, ⟨5, _⟩ => ⟨S65536x128, .f32⟩
  | .hbm, ⟨6, _⟩ => ⟨S65536x128, .f32⟩
  | .hbm, ⟨7, _⟩ => ⟨S65536x512, .bf16⟩
  | .hbm, ⟨8, _⟩ => ⟨S65536x512, .bf16⟩
  | .hbm, ⟨9, _⟩ => ⟨S65536x7168, .bf16⟩
  | .hbm, ⟨10, _⟩ => ⟨S1x3072, .f32⟩
  | .hbm, ⟨11, _⟩ => ⟨S1x3x512x1024, .f32⟩
  | .hbm, ⟨12, _⟩ => ⟨S1x1024x1024, .f32⟩
  | .hbm, ⟨13, _⟩ => ⟨S1x1024, .f32⟩
  | .hbm, ⟨14, _⟩ => ⟨S1x1024, .f32⟩
  | .hbm, ⟨15, _⟩ => ⟨S65536x1024, .f32⟩
  | .hbm, ⟨16, _⟩ => ⟨S3072, .f32⟩
  | .hbm, ⟨17, _⟩ => ⟨S3x512x1024, .f32⟩
  | .hbm, ⟨18, _⟩ => ⟨S3x512x1024, .bf16⟩
  | .hbm, ⟨19, _⟩ => ⟨S1024x1024, .f32⟩
  | .hbm, ⟨20, _⟩ => ⟨S1024x1024, .bf16⟩
  | .hbm, ⟨21, _⟩ => ⟨S1024, .f32⟩
  | .hbm, ⟨22, _⟩ => ⟨S1024, .f32⟩
  | .hbm, ⟨23, _⟩ => ⟨S3x1024, .f32⟩
  | .hbm, ⟨24, _⟩ => ⟨S1x1024, .f32⟩
  | .hbm, ⟨25, _⟩ => ⟨S1x1024, .f32⟩
  | .hbm, ⟨26, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S3x1024, .f32⟩
  | .local _ .vmem, ⟨25, _⟩ => ⟨S3x512x1024, .bf16⟩
  | .local _ .vmem, ⟨26, _⟩ => ⟨S1024x1024, .bf16⟩
  | .local _ .vmem, ⟨27, _⟩ => ⟨S1x1024, .f32⟩
  | .local _ .vmem, ⟨28, _⟩ => ⟨S1x1024, .f32⟩
  | .local _ .vmem, ⟨29, _⟩ => ⟨S512x1024, .f32⟩
  | .local _ .vmem, ⟨30, _⟩ => ⟨S512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg17_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem17_0 : DmaSem sig := 29
abbrev cc0_sem17_1 : DmaSem sig := 30

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_10 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_11 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S3x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference3Ideal.lean ====
abbrev S8x8192x1024 : Shape := ⟨3, ![8, 8192, 1024]⟩
abbrev S65536x512 : Shape := ⟨2, ![65536, 512]⟩
abbrev S65536x128 : Shape := ⟨2, ![65536, 128]⟩
abbrev S65536x7168 : Shape := ⟨2, ![65536, 7168]⟩
abbrev S1x3072 : Shape := ⟨2, ![1, 3072]⟩
abbrev S1x3x512x1024 : Shape := ⟨4, ![1, 3, 512, 1024]⟩
abbrev S1x1024x1024 : Shape := ⟨3, ![1, 1024, 1024]⟩
abbrev S1x1024 : Shape := ⟨2, ![1, 1024]⟩
abbrev S8x8192x4x128 : Shape := ⟨4, ![8, 8192, 4, 128]⟩
abbrev S1x8x8192x4x128 : Shape := ⟨5, ![1, 8, 8192, 4, 128]⟩
abbrev S3x8x8192x4x128 : Shape := ⟨5, ![3, 8, 8192, 4, 128]⟩
abbrev S8x8192x128 : Shape := ⟨3, ![8, 8192, 128]⟩
abbrev S8x8192x4 : Shape := ⟨3, ![8, 8192, 4]⟩
abbrev S1x8x8192x4 : Shape := ⟨4, ![1, 8, 8192, 4]⟩
abbrev S3x8x8192x4 : Shape := ⟨4, ![3, 8, 8192, 4]⟩
abbrev S_ : Shape := ⟨0, ![]⟩
abbrev S8x8192x512 : Shape := ⟨3, ![8, 8192, 512]⟩
abbrev S8x8192x1x512 : Shape := ⟨4, ![8, 8192, 1, 512]⟩
abbrev S8x8192x3x512 : Shape := ⟨4, ![8, 8192, 3, 512]⟩
abbrev S8x8192x7168 : Shape := ⟨3, ![8, 8192, 7168]⟩
abbrev S8x8192x3072 : Shape := ⟨3, ![8, 8192, 3072]⟩
abbrev S3072 : Shape := ⟨1, ![3072]⟩
abbrev S1x1x3072 : Shape := ⟨3, ![1, 1, 3072]⟩
abbrev S8x8192x3x1024 : Shape := ⟨4, ![8, 8192, 3, 1024]⟩
abbrev S3x512x1024 : Shape := ⟨3, ![3, 512, 1024]⟩
abbrev S3x1024x8x8192 : Shape := ⟨4, ![3, 1024, 8, 8192]⟩
abbrev S1024x1024 : Shape := ⟨2, ![1024, 1024]⟩
abbrev S8x8192 : Shape := ⟨2, ![8, 8192]⟩
abbrev S8x8192x1 : Shape := ⟨3, ![8, 8192, 1]⟩
abbrev S1024 : Shape := ⟨1, ![1024]⟩
abbrev S1x1x1024 : Shape := ⟨3, ![1, 1, 1024]⟩
abbrev S65536x1024 : Shape := ⟨2, ![65536, 1024]⟩

abbrev nBuf : Space → Nat
  | .hbm => 117
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S65536x512, .bf16⟩
  | .hbm, ⟨2, _⟩ => ⟨S65536x512, .bf16⟩
  | .hbm, ⟨3, _⟩ => ⟨S65536x512, .bf16⟩
  | .hbm, ⟨4, _⟩ => ⟨S65536x128, .f32⟩
  | .hbm, ⟨5, _⟩ => ⟨S65536x128, .f32⟩
  | .hbm, ⟨6, _⟩ => ⟨S65536x128, .f32⟩
  | .hbm, ⟨7, _⟩ => ⟨S65536x512, .bf16⟩
  | .hbm, ⟨8, _⟩ => ⟨S65536x512, .bf16⟩
  | .hbm, ⟨9, _⟩ => ⟨S65536x7168, .bf16⟩
  | .hbm, ⟨10, _⟩ => ⟨S1x3072, .f32⟩
  | .hbm, ⟨11, _⟩ => ⟨S1x3x512x1024, .f32⟩
  | .hbm, ⟨12, _⟩ => ⟨S1x1024x1024, .f32⟩
  | .hbm, ⟨13, _⟩ => ⟨S1x1024, .f32⟩
  | .hbm, ⟨14, _⟩ => ⟨S1x1024, .f32⟩
  | .hbm, ⟨15, _⟩ => ⟨S8x8192x4x128, .bf16⟩
  | .hbm, ⟨16, _⟩ => ⟨S8x8192x4x128, .bf16⟩
  | .hbm, ⟨17, _⟩ => ⟨S8x8192x4x128, .bf16⟩
  | .hbm, ⟨18, _⟩ => ⟨S1x8x8192x4x128, .bf16⟩
  | .hbm, ⟨19, _⟩ => ⟨S1x8x8192x4x128, .bf16⟩
  | .hbm, ⟨20, _⟩ => ⟨S1x8x8192x4x128, .bf16⟩
  | .hbm, ⟨21, _⟩ => ⟨S3x8x8192x4x128, .bf16⟩
  | .hbm, ⟨22, _⟩ => ⟨S8x8192x128, .f32⟩
  | .hbm, ⟨23, _⟩ => ⟨S8x8192x4, .f32⟩
  | .hbm, ⟨24, _⟩ => ⟨S8x8192x128, .f32⟩
  | .hbm, ⟨25, _⟩ => ⟨S8x8192x4, .f32⟩
  | .hbm, ⟨26, _⟩ => ⟨S8x8192x128, .f32⟩
  | .hbm, ⟨27, _⟩ => ⟨S8x8192x4, .f32⟩
  | .hbm, ⟨28, _⟩ => ⟨S1x8x8192x4, .f32⟩
  | .hbm, ⟨29, _⟩ => ⟨S1x8x8192x4, .f32⟩
  | .hbm, ⟨30, _⟩ => ⟨S1x8x8192x4, .f32⟩
  | .hbm, ⟨31, _⟩ => ⟨S3x8x8192x4, .f32⟩
  | .hbm, ⟨32, _⟩ => ⟨S_, .f32⟩
  | .hbm, ⟨33, _⟩ => ⟨S8x8192x4, .f32⟩
  | .hbm, ⟨34, _⟩ => ⟨S_, .f32⟩
  | .hbm, ⟨35, _⟩ => ⟨S8x8192x4, .f32⟩
  | .hbm, ⟨36, _⟩ => ⟨S8x8192x4, .f32⟩
  | .hbm, ⟨37, _⟩ => ⟨S1x8x8192x4, .f32⟩
  | .hbm, ⟨38, _⟩ => ⟨S3x8x8192x4, .f32⟩
  | .hbm, ⟨39, _⟩ => ⟨S3x8x8192x4, .f32⟩
  | .hbm, ⟨40, _⟩ => ⟨S3x8x8192x4, .f32⟩
  | .hbm, ⟨41, _⟩ => ⟨S_, .f32⟩
  | .hbm, ⟨42, _⟩ => ⟨S8x8192x4, .f32⟩
  | .hbm, ⟨43, _⟩ => ⟨S1x8x8192x4, .f32⟩
  | .hbm, ⟨44, _⟩ => ⟨S3x8x8192x4, .f32⟩
  | .hbm, ⟨45, _⟩ => ⟨S3x8x8192x4, .f32⟩
  | .hbm, ⟨46, _⟩ => ⟨S3x8x8192x4x128, .f32⟩
  | .hbm, ⟨47, _⟩ => ⟨S8x8192x4x128, .f32⟩
  | .hbm, ⟨48, _⟩ => ⟨S8x8192x512, .f32⟩
  | .hbm, ⟨49, _⟩ => ⟨S65536x512, .f32⟩
  | .hbm, ⟨50, _⟩ => ⟨S8x8192x512, .f32⟩
  | .hbm, ⟨51, _⟩ => ⟨S65536x512, .f32⟩
  | .hbm, ⟨52, _⟩ => ⟨S8x8192x512, .f32⟩
  | .hbm, ⟨53, _⟩ => ⟨S8x8192x1x512, .f32⟩
  | .hbm, ⟨54, _⟩ => ⟨S8x8192x1x512, .f32⟩
  | .hbm, ⟨55, _⟩ => ⟨S8x8192x1x512, .f32⟩
  | .hbm, ⟨56, _⟩ => ⟨S8x8192x3x512, .f32⟩
  | .hbm, ⟨57, _⟩ => ⟨S8x8192x7168, .bf16⟩
  | .hbm, ⟨58, _⟩ => ⟨S8x8192x3072, .bf16⟩
  | .hbm, ⟨59, _⟩ => ⟨S8x8192x3072, .f32⟩
  | .hbm, ⟨60, _⟩ => ⟨S3072, .f32⟩
  | .hbm, ⟨61, _⟩ => ⟨S1x1x3072, .f32⟩
  | .hbm, ⟨62, _⟩ => ⟨S8x8192x3072, .f32⟩
  | .hbm, ⟨63, _⟩ => ⟨S8x8192x3072, .f32⟩
  | .hbm, ⟨64, _⟩ => ⟨S8x8192x3x1024, .f32⟩
  | .hbm, ⟨65, _⟩ => ⟨S8x8192x3x1024, .f32⟩
  | .hbm, ⟨66, _⟩ => ⟨S8x8192x3x1024, .f32⟩
  | .hbm, ⟨67, _⟩ => ⟨S_, .f32⟩
  | .hbm, ⟨68, _⟩ => ⟨S8x8192x3x1024, .f32⟩
  | .hbm, ⟨69, _⟩ => ⟨S8x8192x3x1024, .f32⟩
  | .hbm, ⟨70, _⟩ => ⟨S_, .f32⟩
  | .hbm, ⟨71, _⟩ => ⟨S8x8192x3x1024, .f32⟩
  | .hbm, ⟨72, _⟩ => ⟨S8x8192x3x1024, .f32⟩
  | .hbm, ⟨73, _⟩ => ⟨S3x512x1024, .f32⟩
  | .hbm, ⟨74, _⟩ => ⟨S3x1024x8x8192, .f32⟩
  | .hbm, ⟨75, _⟩ => ⟨S8x8192x3x1024, .f32⟩
  | .hbm, ⟨76, _⟩ => ⟨S8x8192x3x1024, .f32⟩
  | .hbm, ⟨77, _⟩ => ⟨S_, .f32⟩
  | .hbm, ⟨78, _⟩ => ⟨S8x8192x1024, .f32⟩
  | .hbm, ⟨79, _⟩ => ⟨S1024x1024, .f32⟩
  | .hbm, ⟨80, _⟩ => ⟨S8x8192x1024, .f32⟩
  | .hbm, ⟨81, _⟩ => ⟨S_, .f32⟩
  | .hbm, ⟨82, _⟩ => ⟨S8x8192x1024, .f32⟩
  | .hbm, ⟨83, _⟩ => ⟨S8x8192x1024, .f32⟩
  | .hbm, ⟨84, _⟩ => ⟨S8x8192x1024, .f32⟩
  | .hbm, ⟨85, _⟩ => ⟨S_, .f32⟩
  | .hbm, ⟨86, _⟩ => ⟨S8x8192, .f32⟩
  | .hbm, ⟨87, _⟩ => ⟨S8x8192x1, .f32⟩
  | .hbm, ⟨88, _⟩ => ⟨S_, .f32⟩
  | .hbm, ⟨89, _⟩ => ⟨S8x8192x1, .f32⟩
  | .hbm, ⟨90, _⟩ => ⟨S8x8192x1, .f32⟩
  | .hbm, ⟨91, _⟩ => ⟨S8x8192x1024, .f32⟩
  | .hbm, ⟨92, _⟩ => ⟨S8x8192x1024, .f32⟩
  | .hbm, ⟨93, _⟩ => ⟨S8x8192x1024, .f32⟩
  | .hbm, ⟨94, _⟩ => ⟨S_, .f32⟩
  | .hbm, ⟨95, _⟩ => ⟨S8x8192, .f32⟩
  | .hbm, ⟨96, _⟩ => ⟨S8x8192x1, .f32⟩
  | .hbm, ⟨97, _⟩ => ⟨S_, .f32⟩
  | .hbm, ⟨98, _⟩ => ⟨S8x8192x1, .f32⟩
  | .hbm, ⟨99, _⟩ => ⟨S8x8192x1, .f32⟩
  | .hbm, ⟨100, _⟩ => ⟨S8x8192x1024, .f32⟩
  | .hbm, ⟨101, _⟩ => ⟨S8x8192x1024, .f32⟩
  | .hbm, ⟨102, _⟩ => ⟨S_, .f32⟩
  | .hbm, ⟨103, _⟩ => ⟨S8x8192x1, .f32⟩
  | .hbm, ⟨104, _⟩ => ⟨S8x8192x1, .f32⟩
  | .hbm, ⟨105, _⟩ => ⟨S8x8192x1, .f32⟩
  | .hbm, ⟨106, _⟩ => ⟨S8x8192x1024, .f32⟩
  | .hbm, ⟨107, _⟩ => ⟨S8x8192x1024, .f32⟩
  | .hbm, ⟨108, _⟩ => ⟨S1024, .f32⟩
  | .hbm, ⟨109, _⟩ => ⟨S1x1x1024, .f32⟩
  | .hbm, ⟨110, _⟩ => ⟨S8x8192x1024, .f32⟩
  | .hbm, ⟨111, _⟩ => ⟨S8x8192x1024, .f32⟩
  | .hbm, ⟨112, _⟩ => ⟨S1024, .f32⟩
  | .hbm, ⟨113, _⟩ => ⟨S1x1x1024, .f32⟩
  | .hbm, ⟨114, _⟩ => ⟨S8x8192x1024, .f32⟩
  | .hbm, ⟨115, _⟩ => ⟨S8x8192x1024, .f32⟩
  | .hbm, ⟨116, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_cst_0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_1 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_2 : Ref sig .tc := ⟨.hbm, 67, rfl⟩
abbrev main_v49 : Ref sig .tc := ⟨.hbm, 68, rfl⟩
abbrev main_v50 : Ref sig .tc := ⟨.hbm, 69, rfl⟩
abbrev main_cst_3 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_4 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_5 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_6 : Ref sig .tc := ⟨.hbm, 85, rfl⟩
abbrev main_v63 : Ref sig .tc := ⟨.hbm, 86, rfl⟩
abbrev main_v64 : Ref sig .tc := ⟨.hbm, 87, rfl⟩
abbrev main_cst_7 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_8 : Ref sig .tc := ⟨.hbm, 94, rfl⟩
abbrev main_v70 : Ref sig .tc := ⟨.hbm, 95, rfl⟩
abbrev main_v71 : Ref sig .tc := ⟨.hbm, 96, rfl⟩
abbrev main_cst_9 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_10 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩

abbrev nD : Nat := 1
abbrev τ : Topo := Topo.v7x

variable {F : FTy → Type} [FloatOps F]
-- ==== Kernel4.lean ====
abbrev S8x8192x7168 : Shape := ⟨3, ![8, 8192, 7168]⟩
abbrev S8x256x1024 : Shape := ⟨3, ![8, 256, 1024]⟩
abbrev S1x1024x1024 : Shape := ⟨3, ![1, 1024, 1024]⟩
abbrev S1024x1024 : Shape := ⟨2, ![1024, 1024]⟩
abbrev S8x8192x512 : Shape := ⟨3, ![8, 8192, 512]⟩
abbrev S1x1024x512 : Shape := ⟨3, ![1, 1024, 512]⟩
abbrev S1x256x1024 : Shape := ⟨3, ![1, 256, 1024]⟩
abbrev S256x1024 : Shape := ⟨2, ![256, 1024]⟩
abbrev S1x1024x128 : Shape := ⟨3, ![1, 1024, 128]⟩
abbrev S1024x128 : Shape := ⟨2, ![1024, 128]⟩
abbrev S256x128 : Shape := ⟨2, ![256, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S8x8192x7168, .bf16⟩
  | .hbm, ⟨1, _⟩ => ⟨S8x256x1024, .f32⟩
  | .hbm, ⟨2, _⟩ => ⟨S1x1024x1024, .f32⟩
  | .hbm, ⟨3, _⟩ => ⟨S1024x1024, .f32⟩
  | .hbm, ⟨4, _⟩ => ⟨S1024x1024, .bf16⟩
  | .hbm, ⟨5, _⟩ => ⟨S8x8192x512, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x256x1024, .f32⟩
  | .local _ .vmem, ⟨3, _⟩ => ⟨S1x256x1024, .f32⟩
  | .local _ .vmem, ⟨4, _⟩ => ⟨S1024x1024, .bf16⟩
  | .local _ .vmem, ⟨5, _⟩ => ⟨S1x1024x512, .bf16⟩
  | .local _ .vmem, ⟨6, _⟩ => ⟨S1x1024x512, .bf16⟩
  | .local _ .vmem, ⟨7, _⟩ => ⟨S256x1024, .bf16⟩
  | _, _ => ⟨S8x8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8x8192x7168 : Shape := ⟨3, ![8, 8192, 7168]⟩
abbrev S8x256x1024 : Shape := ⟨3, ![8, 256, 1024]⟩
abbrev S1x1024x1024 : Shape := ⟨3, ![1, 1024, 1024]⟩
abbrev S1024x1024 : Shape := ⟨2, ![1024, 1024]⟩
abbrev S8x256x512 : Shape := ⟨3, ![8, 256, 512]⟩
abbrev S8x256x4x128 : Shape := ⟨4, ![8, 256, 4, 128]⟩
abbrev S8x8192x512 : Shape := ⟨3, ![8, 8192, 512]⟩
abbrev S8x8192x4x128 : Shape := ⟨4, ![8, 8192, 4, 128]⟩
abbrev S8x4x8192x256 : Shape := ⟨4, ![8, 4, 8192, 256]⟩
abbrev S_ : Shape := ⟨0, ![]⟩
abbrev S8x4x8192 : Shape := ⟨3, ![8, 4, 8192]⟩
abbrev S8x4x8192x1 : Shape := ⟨4, ![8, 4, 8192, 1]⟩
abbrev S8x4x128x8192 : Shape := ⟨4, ![8, 4, 128, 8192]⟩

abbrev nBuf : Space → Nat
  | .hbm => 38
  | .vmem => 0
  | .smem => 0
  | _ => 0

abbrev bufTy : (tb : Table) → Fin (tcTables nBuf tb) → BufTy
  | .hbm, ⟨0, _⟩ => ⟨S8x8192x7168, .bf16⟩
  | .hbm, ⟨1, _⟩ => ⟨S8x256x1024, .f32⟩
  | .hbm, ⟨2, _⟩ => ⟨S1x1024x1024, .f32⟩
  | .hbm, ⟨3, _⟩ => ⟨S1024x1024, .f32⟩
  | .hbm, ⟨4, _⟩ => ⟨S8x256x1024, .f32⟩
  | .hbm, ⟨5, _⟩ => ⟨S8x256x512, .f32⟩
  | .hbm, ⟨6, _⟩ => ⟨S8x256x512, .f32⟩
  | .hbm, ⟨7, _⟩ => ⟨S8x256x4x128, .f32⟩
  | .hbm, ⟨8, _⟩ => ⟨S8x8192x512, .bf16⟩
  | .hbm, ⟨9, _⟩ => ⟨S8x8192x512, .f32⟩
  | .hbm, ⟨10, _⟩ => ⟨S8x8192x4x128, .f32⟩
  | .hbm, ⟨11, _⟩ => ⟨S1024x1024, .f32⟩
  | .hbm, ⟨12, _⟩ => ⟨S8x256x1024, .f32⟩
  | .hbm, ⟨13, _⟩ => ⟨S8x256x512, .f32⟩
  | .hbm, ⟨14, _⟩ => ⟨S8x256x512, .f32⟩
  | .hbm, ⟨15, _⟩ => ⟨S8x256x4x128, .f32⟩
  | .hbm, ⟨16, _⟩ => ⟨S8x4x8192x256, .f32⟩
  | .hbm, ⟨17, _⟩ => ⟨S_, .f32⟩
  | .hbm, ⟨18, _⟩ => ⟨S8x4x8192x256, .f32⟩
  | .hbm, ⟨19, _⟩ => ⟨S8x4x8192x256, .f32⟩
  | .hbm, ⟨20, _⟩ => ⟨S_, .f32⟩
  | .hbm, ⟨21, _⟩ => ⟨S8x4x8192, .f32⟩
  | .hbm, ⟨22, _⟩ => ⟨S_, .f32⟩
  | .hbm, ⟨23, _⟩ => ⟨S8x4x8192, .f32⟩
  | .hbm, ⟨24, _⟩ => ⟨S8x4x8192, .f32⟩
  | .hbm, ⟨25, _⟩ => ⟨S8x4x8192x1, .f32⟩
  | .hbm, ⟨26, _⟩ => ⟨S8x4x8192x256, .f32⟩
  | .hbm, ⟨27, _⟩ => ⟨S8x4x8192x256, .f32⟩
  | .hbm, ⟨28, _⟩ => ⟨S8x4x8192x256, .f32⟩
  | .hbm, ⟨29, _⟩ => ⟨S_, .f32⟩
  | .hbm, ⟨30, _⟩ => ⟨S8x4x8192, .f32⟩
  | .hbm, ⟨31, _⟩ => ⟨S8x4x8192x1, .f32⟩
  | .hbm, ⟨32, _⟩ => ⟨S8x4x8192x256, .f32⟩
  | .hbm, ⟨33, _⟩ => ⟨S8x4x8192x256, .f32⟩
  | .hbm, ⟨34, _⟩ => ⟨S8x4x128x8192, .f32⟩
  | .hbm, ⟨35, _⟩ => ⟨S8x8192x4x128, .f32⟩
  | .hbm, ⟨36, _⟩ => ⟨S8x8192x512, .f32⟩
  | .hbm, ⟨37, _⟩ => ⟨S8x8192x512, .bf16⟩
  | _, _ => ⟨S8x8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩

abbrev nD : Nat := 1
abbrev τ : Topo := Topo.v7x

variable {F : FTy → Type} [FloatOps F]
-- ==== Proof.Point.lean ====
module

public import proofs.«01_k».proof.Proof.Gen.KernelIdeal.Value

@[expose] public section

set_option maxRecDepth 65536

noncomputable section

namespace Cert.KernelIdeal.Point

open Idealize.ShloMosaic Idealize.SL.Sem Cert.KernelIdeal Cert.KernelIdeal.Gen

variable {F : FTy → Type} [FloatOps F]

/-! ## One chunk of 64 rows -/

/-- The keys scaled to the chunk's end. -/
abbrev kEnd (lb : Vec F S2x512 .f32) (f : Vec F S1x64x512 .bf16) : FVec F S64x512 .bf16 :=
  k0_pay16 (k0_pay7 lb f) (k0_pay8 lb f) (k0_pay10 lb f)

/-- The decay over the whole chunk. -/
abbrev dec (lb : Vec F S2x512 .f32) (f : Vec F S1x64x512 .bf16) : FVec F S1x512 .f32 := k0_pay17 (k0_pay10 lb f)

/-- Head 0's state after a chunk. -/
def st0 (lb : Vec F S2x512 .f32) (f i : Vec F S1x64x512 .bf16) (s : Vec F S1x128x128 .f32) : FVec F S1x128x128 .f32 :=
  k0_pay31 (k0_pay12 i) (kEnd lb f) (dec lb f) (k0_pay22 s)

/-- Head 0's rows of the chunk before the norm. -/
def oh0 (lb : Vec F S2x512 .f32) (f i q : Vec F S1x64x512 .bf16) (s : Vec F S1x128x128 .f32) : FVec F S64x128 .f32 :=
  k0_pay27 k0_pay4 (k0_pay12 i) (k0_pay15 (k0_pay8 lb f) (k0_pay11 q)) (k0_pay18 (k0_pay7 lb f) (k0_pay8 lb f) (k0_pay9 lb f) (k0_pay11 q)) (k0_pay22 s) k0_pay26

/-- Head 1's state after a chunk. -/
def st1 (lb : Vec F S2x512 .f32) (f i : Vec F S1x64x512 .bf16) (s : Vec F S1x128x128 .f32) : FVec F S1x128x128 .f32 :=
  k0_pay32 (k0_pay12 i) (kEnd lb f) (dec lb f) (k0_pay23 s)

/-- Head 1's rows of the chunk before the norm. -/
def oh1 (lb : Vec F S2x512 .f32) (f i q : Vec F S1x64x512 .bf16) (s : Vec F S1x128x128 .f32) : FVec F S64x128 .f32 :=
  k0_pay28 k0_pay4 (k0_pay12 i) (k0_pay15 (k0_pay8 lb f) (k0_pay11 q)) (k0_pay19 (k0_pay7 lb f) (k0_pay8 lb f) (k0_pay9 lb f) (k0_pay11 q)) (k0_pay23 s)

/-- Head 2's state after a chunk. -/
def st2 (lb : Vec F S2x512 .f32) (f i : Vec F S1x64x512 .bf16) (s : Vec F S1x128x128 .f32) : FVec F S1x128x128 .f32 :=
  k0_pay33 (k0_pay12 i) (kEnd lb f) (dec lb f) (k0_pay24 s)

/-- Head 2's rows of the chunk before the norm. -/
def oh2 (lb : Vec F S2x512 .f32) (f i q : Vec F S1x64x512 .bf16) (s : Vec F S1x128x128 .f32) : FVec F S64x128 .f32 :=
  k0_pay29 k0_pay4 (k0_pay12 i) (k0_pay15 (k0_pay8 lb f) (k0_pay11 q)) (k0_pay20 (k0_pay7 lb f) (k0_pay8 lb f) (k0_pay9 lb f) (k0_pay11 q)) (k0_pay24 s)

/-- Head 3's state after a chunk. -/
def st3 (lb : Vec F S2x512 .f32) (f i : Vec F S1x64x512 .bf16) (s : Vec F S1x128x128 .f32) : FVec F S1x128x128 .f32 :=
  k0_pay34 (k0_pay12 i) (kEnd lb f) (dec lb f) (k0_pay25 s)

/-- Head 3's rows of the chunk before the norm. -/
def oh3 (lb : Vec F S2x512 .f32) (f i q : Vec F S1x64x512 .bf16) (s : Vec F S1x128x128 .f32) : FVec F S64x128 .f32 :=
  k0_pay30 k0_pay4 (k0_pay12 i) (k0_pay15 (k0_pay8 lb f) (k0_pay11 q)) (k0_pay21 (k0_pay7 lb f) (k0_pay8 lb f) (k0_pay9 lb f) (k0_pay11 q)) (k0_pay25 s)

/-- The chunk's rows of the result. -/
def outC (lb : Vec F S2x512 .f32) (nw : Vec F S1x512 .f32) (f i q g : Vec F S1x64x512 .bf16) (s0 s1 s2 s3 : Vec F S1x128x128 .f32) : FVec F S1x64x512 .bf16 :=
  k0_pay38 (k0_pay37 (oh1 lb f i q s1) (oh2 lb f i q s2) (oh3 lb f i q s3) (k0_pay35 (oh0 lb f i q s0)) (k0_pay36 (oh1 lb f i q s1)) g nw)

abbrev H0 : Rect S4x128x128 := Rect.unit ![0, 0, 0] S1x128x128.size inb_S4x128x128_S1x128x128_0_0_0
abbrev H1 : Rect S4x128x128 := Rect.unit ![1, 0, 0] S1x128x128.size inb_S4x128x128_S1x128x128_1_0_0
abbrev H2 : Rect S4x128x128 := Rect.unit ![2, 0, 0] S1x128x128.size inb_S4x128x128_S1x128x128_2_0_0
abbrev H3 : Rect S4x128x128 := Rect.unit ![3, 0, 0] S1x128x128.size inb_S4x128x128_S1x128x128_3_0_0
abbrev R0 : Rect S1x512x512 := Rect.unit ![0, 0, 0] S1x64x512.size inb_S1x512x512_S1x64x512_0_0_0
abbrev R1 : Rect S1x512x512 := Rect.unit ![0, 64, 0] S1x64x512.size inb_S1x512x512_S1x64x512_0_64_0
abbrev R2 : Rect S1x512x512 := Rect.unit ![0, 128, 0] S1x64x512.size inb_S1x512x512_S1x64x512_0_128_0
abbrev R3 : Rect S1x512x512 := Rect.unit ![0, 192, 0] S1x64x512.size inb_S1x512x512_S1x64x512_0_192_0
abbrev R4 : Rect S1x512x512 := Rect.unit ![0, 256, 0] S1x64x512.size inb_S1x512x512_S1x64x512_0_256_0
abbrev R5 : Rect S1x512x512 := Rect.unit ![0, 320, 0] S1x64x512.size inb_S1x512x512_S1x64x512_0_320_0
abbrev R6 : Rect S1x512x512 := Rect.unit ![0, 384, 0] S1x64x512.size inb_S1x512x512_S1x64x512_0_384_0
abbrev R7 : Rect S1x512x512 := Rect.unit ![0, 448, 0] S1x64x512.size inb_S1x512x512_S1x64x512_0_448_0
abbrev RL : Rect S2x512 := Rect.unit ![0, 0] S2x512.size inb_S2x512_S2x512_0_0
abbrev RN : Rect S1x512 := Rect.unit ![0, 0] S1x512.size inb_S1x512_S1x512_0_0

/-- The four pieces one chunk stores into the state. -/
abbrev pcs (lb : Vec F S2x512 .f32) (f i : Vec F S1x64x512 .bf16) (s0 s1 s2 s3 : Vec F S1x128x128 .f32) : List (View.Piece (Elt F) S4x128x128 .f32) :=
  [⟨H3, st3 lb f i s3⟩, ⟨H2, st2 lb f i s2⟩, ⟨H1, st1 lb f i s1⟩, ⟨H0, st0 lb f i s0⟩]

/-- The state's first store: zero everywhere. -/
def zp : List (View.Piece (Elt F) S4x128x128 .f32) := [⟨Rect.unit ![0, 0, 0] S4x128x128.size inb_S4x128x128_S4x128x128_0_0_0, k0_pay2 (F := F)⟩]

variable (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S2x512 .f32) (harg6 : arg6.IsWhole) (arg7 : Memref sig .tc .vmem S1x512 .f32) (harg7 : arg7.IsWhole) (arg8 : Memref sig .tc .vmem S1x512x512 .bf16) (harg8 : arg8.IsWhole) (arg9 : Memref sig .tc .vmem S4x128x128 .f32) (harg9 : arg9.IsWhole)
  (x0 : Vec F S1x512x512 .bf16) (x1 : Vec F S1x512x512 .bf16) (x2 : Vec F S1x512x512 .bf16) (x3 : Vec F S1x512x512 .bf16) (x4 : Vec F S2x512 .f32) (x5 : Vec F S1x512 .f32) (xs0 : Vec F S4x128x128 .f32)

theorem pcsA0  : (kernelRun0_A.sl.HS0_5 c arg2 harg2 arg3 harg3 arg6 harg6 arg9 x0 x1 x4) = pcs (View.readAt (Elt F) arg6.view RL.toLoadRect (harg6.unread x4)) (View.readAt (Elt F) arg2.view R0.toLoadRect (harg2.unread x0)) (View.readAt (Elt F) arg3.view R0.toLoadRect (harg3.unread x1)) (arg9.view.readCov (zp (F := F)) H0.toLoadRect) (arg9.view.readCov (zp (F := F)) H1.toLoadRect) (arg9.view.readCov (zp (F := F)) H2.toLoadRect) (arg9.view.readCov (zp (F := F)) H3.toLoadRect) ++ (zp (F := F)) := rfl

theorem pcsA1  : (kernelRun0_A.sl.HS0_9 c arg2 harg2 arg3 harg3 arg6 harg6 arg9 x0 x1 x4) = pcs (View.readAt (Elt F) arg6.view RL.toLoadRect (harg6.unread x4)) (View.readAt (Elt F) arg2.view R1.toLoadRect (harg2.unread x0)) (View.readAt (Elt F) arg3.view R1.toLoadRect (harg3.unread x1)) (arg9.view.readCov (kernelRun0_A.sl.HS0_5 c arg2 harg2 arg3 harg3 arg6 harg6 arg9 x0 x1 x4) H0.toLoadRect) (arg9.view.readCov (kernelRun0_A.sl.HS0_5 c arg2 harg2 arg3 harg3 arg6 harg6 arg9 x0 x1 x4) H1.toLoadRect) (arg9.view.readCov (kernelRun0_A.sl.HS0_5 c arg2 harg2 arg3 harg3 arg6 harg6 arg9 x0 x1 x4) H2.toLoadRect) (arg9.view.readCov (kernelRun0_A.sl.HS0_5 c arg2 harg2 arg3 harg3 arg6 harg6 arg9 x0 x1 x4) H3.toLoadRect) ++ (kernelRun0_A.sl.HS0_5 c arg2 harg2 arg3 harg3 arg6 harg6 arg9 x0 x1 x4) := rfl

theorem pcsA2  : (kernelRun0_A.sl.HS0_13 c arg2 harg2 arg3 harg3 arg6 harg6 arg9 x0 x1 x4) = pcs (View.readAt (Elt F) arg6.view RL.toLoadRect (harg6.unread x4)) (View.readAt (Elt F) arg2.view R2.toLoadRect (harg2.unread x0)) (View.readAt (Elt F) arg3.view R2.toLoadRect (harg3.unread x1)) (arg9.view.readCov (kernelRun0_A.sl.HS0_9 c arg2 harg2 arg3 harg3 arg6 harg6 arg9 x0 x1 x4) H0.toLoadRect) (arg9.view.readCov (kernelRun0_A.sl.HS0_9 c arg2 harg2 arg3 harg3 arg6 harg6 arg9 x0 x1 x4) H1.toLoadRect) (arg9.view.readCov (kernelRun0_A.sl.HS0_9 c arg2 harg2 arg3 harg3 arg6 harg6 arg9 x0 x1 x4) H2.toLoadRect) (arg9.view.readCov (kernelRun0_A.sl.HS0_9 c arg2 harg2 arg3 harg3 arg6 harg6 arg9 x0 x1 x4) H3.toLoadRect) ++ (kernelRun0_A.sl.HS0_9 c arg2 harg2 arg3 harg3 arg6 harg6 arg9 x0 x1 x4) := rfl

theorem pcsA3  : (kernelRun0_A.sl.HS0_17 c arg2 harg2 arg3 harg3 arg6 harg6 arg9 x0 x1 x4) = pcs (View.readAt (Elt F) arg6.view RL.toLoadRect (harg6.unread x4)) (View.readAt (Elt F) arg2.view R3.toLoadRect (harg2.unread x0)) (View.readAt (Elt F) arg3.view R3.toLoadRect (harg3.unread x1)) (arg9.view.readCov (kernelRun0_A.sl.HS0_13 c arg2 harg2 arg3 harg3 arg6 harg6 arg9 x0 x1 x4) H0.toLoadRect) (arg9.view.readCov (kernelRun0_A.sl.HS0_13 c arg2 harg2 arg3 harg3 arg6 harg6 arg9 x0 x1 x4) H1.toLoadRect) (arg9.view.readCov (kernelRun0_A.sl.HS0_13 c arg2 harg2 arg3 harg3 arg6 harg6 arg9 x0 x1 x4) H2.toLoadRect) (arg9.view.readCov (kernelRun0_A.sl.HS0_13 c arg2 harg2 arg3 harg3 arg6 harg6 arg9 x0 x1 x4) H3.toLoadRect) ++ (kernelRun0_A.sl.HS0_13 c arg2 harg2 arg3 harg3 arg6 harg6 arg9 x0 x1 x4) := rfl

theorem pcsA4  : (kernelRun0_A.sl.HS0_21 c arg2 harg2 arg3 harg3 arg6 harg6 arg9 x0 x1 x4) = pcs (View.readAt (Elt F) arg6.view RL.toLoadRect (harg6.unread x4)) (View.readAt (Elt F) arg2.view R4.toLoadRect (harg2.unread x0)) (View.readAt (Elt F) arg3.view R4.toLoadRect (harg3.unread x1)) (arg9.view.readCov (kernelRun0_A.sl.HS0_17 c arg2 harg2 arg3 harg3 arg6 harg6 arg9 x0 x1 x4) H0.toLoadRect) (arg9.view.readCov (kernelRun0_A.sl.HS0_17 c arg2 harg2 arg3 harg3 arg6 harg6 arg9 x0 x1 x4) H1.toLoadRect) (arg9.view.readCov (kernelRun0_A.sl.HS0_17 c arg2 harg2 arg3 harg3 arg6 harg6 arg9 x0 x1 x4) H2.toLoadRect) (arg9.view.readCov (kernelRun0_A.sl.HS0_17 c arg2 harg2 arg3 harg3 arg6 harg6 arg9 x0 x1 x4) H3.toLoadRect) ++ (kernelRun0_A.sl.HS0_17 c arg2 harg2 arg3 harg3 arg6 harg6 arg9 x0 x1 x4) := rfl

theorem pcsA5  : (kernelRun0_A.sl.HS0_25 c arg2 harg2 arg3 harg3 arg6 harg6 arg9 x0 x1 x4) = pcs (View.readAt (Elt F) arg6.view RL.toLoadRect (harg6.unread x4)) (View.readAt (Elt F) arg2.view R5.toLoadRect (harg2.unread x0)) (View.readAt (Elt F) arg3.view R5.toLoadRect (harg3.unread x1)) (arg9.view.readCov (kernelRun0_A.sl.HS0_21 c arg2 harg2 arg3 harg3 arg6 harg6 arg9 x0 x1 x4) H0.toLoadRect) (arg9.view.readCov (kernelRun0_A.sl.HS0_21 c arg2 harg2 arg3 harg3 arg6 harg6 arg9 x0 x1 x4) H1.toLoadRect) (arg9.view.readCov (kernelRun0_A.sl.HS0_21 c arg2 harg2 arg3 harg3 arg6 harg6 arg9 x0 x1 x4) H2.toLoadRect) (arg9.view.readCov (kernelRun0_A.sl.HS0_21 c arg2 harg2 arg3 harg3 arg6 harg6 arg9 x0 x1 x4) H3.toLoadRect) ++ (kernelRun0_A.sl.HS0_21 c arg2 harg2 arg3 harg3 arg6 harg6 arg9 x0 x1 x4) := rfl

theorem pcsA6  : (kernelRun0_A.sl.HS0_29 c arg2 harg2 arg3 harg3 arg6 harg6 arg9 x0 x1 x4) = pcs (View.readAt (Elt F) arg6.view RL.toLoadRect (harg6.unread x4)) (View.readAt (Elt F) arg2.view R6.toLoadRect (harg2.unread x0)) (View.readAt (Elt F) arg3.view R6.toLoadRect (harg3.unread x1)) (arg9.view.readCov (kernelRun0_A.sl.HS0_25 c arg2 harg2 arg3 harg3 arg6 harg6 arg9 x0 x1 x4) H0.toLoadRect) (arg9.view.readCov (kernelRun0_A.sl.HS0_25 c arg2 harg2 arg3 harg3 arg6 harg6 arg9 x0 x1 x4) H1.toLoadRect) (arg9.view.readCov (kernelRun0_A.sl.HS0_25 c arg2 harg2 arg3 harg3 arg6 harg6 arg9 x0 x1 x4) H2.toLoadRect) (arg9.view.readCov (kernelRun0_A.sl.HS0_25 c arg2 harg2 arg3 harg3 arg6 harg6 arg9 x0 x1 x4) H3.toLoadRect) ++ (kernelRun0_A.sl.HS0_25 c arg2 harg2 arg3 harg3 arg6 harg6 arg9 x0 x1 x4) := rfl

theorem pcsA7 (hc0 : cond0_0 i) : (kernelRun0_A c i arg2 harg2 arg3 harg3 arg4 harg4 arg5 harg5 arg6 harg6 arg7 harg7 arg8 harg8 arg9 harg9 hc0 x0 x1 x2 x3 x4 x5).2.1 = pcs (View.readAt (Elt F) arg6.view RL.toLoadRect (harg6.unread x4)) (View.readAt (Elt F) arg2.view R7.toLoadRect (harg2.unread x0)) (View.readAt (Elt F) arg3.view R7.toLoadRect (harg3.unread x1)) (arg9.view.readCov (kernelRun0_A.sl.HS0_29 c arg2 harg2 arg3 harg3 arg6 harg6 arg9 x0 x1 x4) H0.toLoadRect) (arg9.view.readCov (kernelRun0_A.sl.HS0_29 c arg2 harg2 arg3 harg3 arg6 harg6 arg9 x0 x1 x4) H1.toLoadRect) (arg9.view.readCov (kernelRun0_A.sl.HS0_29 c arg2 harg2 arg3 harg3 arg6 harg6 arg9 x0 x1 x4) H2.toLoadRect) (arg9.view.readCov (kernelRun0_A.sl.HS0_29 c arg2 harg2 arg3 harg3 arg6 harg6 arg9 x0 x1 x4) H3.toLoadRect) ++ (kernelRun0_A.sl.HS0_29 c arg2 harg2 arg3 harg3 arg6 harg6 arg9 x0 x1 x4) := rfl

theorem outsA (hc0 : cond0_0 i) : (kernelRun0_A c i arg2 harg2 arg3 harg3 arg4 harg4 arg5 harg5 arg6 harg6 arg7 harg7 arg8 harg8 arg9 harg9 hc0 x0 x1 x2 x3 x4 x5).1 = [⟨R7, outC (View.readAt (Elt F) arg6.view RL.toLoadRect (harg6.unread x4)) (View.readAt (Elt F) arg7.view RN.toLoadRect (harg7.unread x5)) (View.readAt (Elt F) arg2.view R7.toLoadRect (harg2.unread x0)) (View.readAt (Elt F) arg3.view R7.toLoadRect (harg3.unread x1)) (View.readAt (Elt F) arg4.view R7.toLoadRect (harg4.unread x2)) (View.readAt (Elt F) arg5.view R7.toLoadRect (harg5.unread x3)) (arg9.view.readCov (kernelRun0_A.sl.HS0_29 c arg2 harg2 arg3 harg3 arg6 harg6 arg9 x0 x1 x4) H0.toLoadRect) (arg9.view.readCov (kernelRun0_A.sl.HS0_29 c arg2 harg2 arg3 harg3 arg6 harg6 arg9 x0 x1 x4) H1.toLoadRect) (arg9.view.readCov (kernelRun0_A.sl.HS0_29 c arg2 harg2 arg3 harg3 arg6 harg6 arg9 x0 x1 x4) H2.toLoadRect) (arg9.view.readCov (kernelRun0_A.sl.HS0_29 c arg2 harg2 arg3 harg3 arg6 harg6 arg9 x0 x1 x4) H3.toLoadRect)⟩,
  ⟨R6, outC (View.readAt (Elt F) arg6.view RL.toLoadRect (harg6.unread x4)) (View.readAt (Elt F) arg7.view RN.toLoadRect (harg7.unread x5)) (View.readAt (Elt F) arg2.view R6.toLoadRect (harg2.unread x0)) (View.readAt (Elt F) arg3.view R6.toLoadRect (harg3.unread x1)) (View.readAt (Elt F) arg4.view R6.toLoadRect (harg4.unread x2)) (View.readAt (Elt F) arg5.view R6.toLoadRect (harg5.unread x3)) (arg9.view.readCov (kernelRun0_A.sl.HS0_25 c arg2 harg2 arg3 harg3 arg6 harg6 arg9 x0 x1 x4) H0.toLoadRect) (arg9.view.readCov (kernelRun0_A.sl.HS0_25 c arg2 harg2 arg3 harg3 arg6 harg6 arg9 x0 x1 x4) H1.toLoadRect) (arg9.view.readCov (kernelRun0_A.sl.HS0_25 c arg2 harg2 arg3 harg3 arg6 harg6 arg9 x0 x1 x4) H2.toLoadRect) (arg9.view.readCov (kernelRun0_A.sl.HS0_25 c arg2 harg2 arg3 harg3 arg6 harg6 arg9 x0 x1 x4) H3.toLoadRect)⟩,
  ⟨R5, outC (View.readAt (Elt F) arg6.view RL.toLoadRect (harg6.unread x4)) (View.readAt (Elt F) arg7.view RN.toLoadRect (harg7.unread x5)) (View.readAt (Elt F) arg2.view R5.toLoadRect (harg2.unread x0)) (View.readAt (Elt F) arg3.view R5.toLoadRect (harg3.unread x1)) (View.readAt (Elt F) arg4.view R5.toLoadRect (harg4.unread x2)) (View.readAt (Elt F) arg5.view R5.toLoadRect (harg5.unread x3)) (arg9.view.readCov (kernelRun0_A.sl.HS0_21 c arg2 harg2 arg3 harg3 arg6 harg6 arg9 x0 x1 x4) H0.toLoadRect) (arg9.view.readCov (kernelRun0_A.sl.HS0_21 c arg2 harg2 arg3 harg3 arg6 harg6 arg9 x0 x1 x4) H1.toLoadRect) (arg9.view.readCov (kernelRun0_A.sl.HS0_21 c arg2 harg2 arg3 harg3 arg6 harg6 arg9 x0 x1 x4) H2.toLoadRect) (arg9.view.readCov (kernelRun0_A.sl.HS0_21 c arg2 harg2 arg3 harg3 arg6 harg6 arg9 x0 x1 x4) H3.toLoadRect)⟩,
  ⟨R4, outC (View.readAt (Elt F) arg6.view RL.toLoadRect (harg6.unread x4)) (View.readAt (Elt F) arg7.view RN.toLoadRect (harg7.unread x5)) (View.readAt (Elt F) arg2.view R4.toLoadRect (harg2.unread x0)) (View.readAt (Elt F) arg3.view R4.toLoadRect (harg3.unread x1)) (View.readAt (Elt F) arg4.view R4.toLoadRect (harg4.unread x2)) (View.readAt (Elt F) arg5.view R4.toLoadRect (harg5.unread x3)) (arg9.view.readCov (kernelRun0_A.sl.HS0_17 c arg2 harg2 arg3 harg3 arg6 harg6 arg9 x0 x1 x4) H0.toLoadRect) (arg9.view.readCov (kernelRun0_A.sl.HS0_17 c arg2 harg2 arg3 harg3 arg6 harg6 arg9 x0 x1 x4) H1.toLoadRect) (arg9.view.readCov (kernelRun0_A.sl.HS0_17 c arg2 harg2 arg3 harg3 arg6 harg6 arg9 x0 x1 x4) H2.toLoadRect) (arg9.view.readCov (kernelRun0_A.sl.HS0_17 c arg2 harg2 arg3 harg3 arg6 harg6 arg9 x0 x1 x4) H3.toLoadRect)⟩,
  ⟨R3, outC (View.readAt (Elt F) arg6.view RL.toLoadRect (harg6.unread x4)) (View.readAt (Elt F) arg7.view RN.toLoadRect (harg7.unread x5)) (View.readAt (Elt F) arg2.view R3.toLoadRect (harg2.unread x0)) (View.readAt (Elt F) arg3.view R3.toLoadRect (harg3.unread x1)) (View.readAt (Elt F) arg4.view R3.toLoadRect (harg4.unread x2)) (View.readAt (Elt F) arg5.view R3.toLoadRect (harg5.unread x3)) (arg9.view.readCov (kernelRun0_A.sl.HS0_13 c arg2 harg2 arg3 harg3 arg6 harg6 arg9 x0 x1 x4) H0.toLoadRect) (arg9.view.readCov (kernelRun0_A.sl.HS0_13 c arg2 harg2 arg3 harg3 arg6 harg6 arg9 x0 x1 x4) H1.toLoadRect) (arg9.view.readCov (kernelRun0_A.sl.HS0_13 c arg2 harg2 arg3 harg3 arg6 harg6 arg9 x0 x1 x4) H2.toLoadRect) (arg9.view.readCov (kernelRun0_A.sl.HS0_13 c arg2 harg2 arg3 harg3 arg6 harg6 arg9 x0 x1 x4) H3.toLoadRect)⟩,
  ⟨R2, outC (View.readAt (Elt F) arg6.view RL.toLoadRect (harg6.unread x4)) (View.readAt (Elt F) arg7.view RN.toLoadRect (harg7.unread x5)) (View.readAt (Elt F) arg2.view R2.toLoadRect (harg2.unread x0)) (View.readAt (Elt F) arg3.view R2.toLoadRect (harg3.unread x1)) (View.readAt (Elt F) arg4.view R2.toLoadRect (harg4.unread x2)) (View.readAt (Elt F) arg5.view R2.toLoadRect (harg5.unread x3)) (arg9.view.readCov (kernelRun0_A.sl.HS0_9 c arg2 harg2 arg3 harg3 arg6 harg6 arg9 x0 x1 x4) H0.toLoadRect) (arg9.view.readCov (kernelRun0_A.sl.HS0_9 c arg2 harg2 arg3 harg3 arg6 harg6 arg9 x0 x1 x4) H1.toLoadRect) (arg9.view.readCov (kernelRun0_A.sl.HS0_9 c arg2 harg2 arg3 harg3 arg6 harg6 arg9 x0 x1 x4) H2.toLoadRect) (arg9.view.readCov (kernelRun0_A.sl.HS0_9 c arg2 harg2 arg3 harg3 arg6 harg6 arg9 x0 x1 x4) H3.toLoadRect)⟩,
  ⟨R1, outC (View.readAt (Elt F) arg6.view RL.toLoadRect (harg6.unread x4)) (View.readAt (Elt F) arg7.view RN.toLoadRect (harg7.unread x5)) (View.readAt (Elt F) arg2.view R1.toLoadRect (harg2.unread x0)) (View.readAt (Elt F) arg3.view R1.toLoadRect (harg3.unread x1)) (View.readAt (Elt F) arg4.view R1.toLoadRect (harg4.unread x2)) (View.readAt (Elt F) arg5.view R1.toLoadRect (harg5.unread x3)) (arg9.view.readCov (kernelRun0_A.sl.HS0_5 c arg2 harg2 arg3 harg3 arg6 harg6 arg9 x0 x1 x4) H0.toLoadRect) (arg9.view.readCov (kernelRun0_A.sl.HS0_5 c arg2 harg2 arg3 harg3 arg6 harg6 arg9 x0 x1 x4) H1.toLoadRect) (arg9.view.readCov (kernelRun0_A.sl.HS0_5 c arg2 harg2 arg3 harg3 arg6 harg6 arg9 x0 x1 x4) H2.toLoadRect) (arg9.view.readCov (kernelRun0_A.sl.HS0_5 c arg2 harg2 arg3 harg3 arg6 harg6 arg9 x0 x1 x4) H3.toLoadRect)⟩,
  ⟨R0, outC (View.readAt (Elt F) arg6.view RL.toLoadRect (harg6.unread x4)) (View.readAt (Elt F) arg7.view RN.toLoadRect (harg7.unread x5)) (View.readAt (Elt F) arg2.view R0.toLoadRect (harg2.unread x0)) (View.readAt (Elt F) arg3.view R0.toLoadRect (harg3.unread x1)) (View.readAt (Elt F) arg4.view R0.toLoadRect (harg4.unread x2)) (View.readAt (Elt F) arg5.view R0.toLoadRect (harg5.unread x3)) (arg9.view.readCov (zp (F := F)) H0.toLoadRect) (arg9.view.readCov (zp (F := F)) H1.toLoadRect) (arg9.view.readCov (zp (F := F)) H2.toLoadRect) (arg9.view.readCov (zp (F := F)) H3.toLoadRect)⟩] := rfl

theorem pcsB0  : (kernelRun0_B.sl.HS0_4 c arg2 harg2 arg3 harg3 arg6 harg6 arg9 harg9 x0 x1 x4 xs0) = pcs (View.readAt (Elt F) arg6.view RL.toLoadRect (harg6.unread x4)) (View.readAt (Elt F) arg2.view R0.toLoadRect (harg2.unread x0)) (View.readAt (Elt F) arg3.view R0.toLoadRect (harg3.unread x1)) (View.readAt (Elt F) arg9.view H0.toLoadRect (harg9.unread xs0)) (View.readAt (Elt F) arg9.view H1.toLoadRect (harg9.unread xs0)) (View.readAt (Elt F) arg9.view H2.toLoadRect (harg9.unread xs0)) (View.readAt (Elt F) arg9.view H3.toLoadRect (harg9.unread xs0)) ++ [] := rfl

theorem pcsB1  : (kernelRun0_B.sl.HS0_8 c arg2 harg2 arg3 harg3 arg6 harg6 arg9 harg9 x0 x1 x4 xs0) = pcs (View.readAt (Elt F) arg6.view RL.toLoadRect (harg6.unread x4)) (View.readAt (Elt F) arg2.view R1.toLoadRect (harg2.unread x0)) (View.readAt (Elt F) arg3.view R1.toLoadRect (harg3.unread x1)) (arg9.view.readCov (kernelRun0_B.sl.HS0_4 c arg2 harg2 arg3 harg3 arg6 harg6 arg9 harg9 x0 x1 x4 xs0) H0.toLoadRect) (arg9.view.readCov (kernelRun0_B.sl.HS0_4 c arg2 harg2 arg3 harg3 arg6 harg6 arg9 harg9 x0 x1 x4 xs0) H1.toLoadRect) (arg9.view.readCov (kernelRun0_B.sl.HS0_4 c arg2 harg2 arg3 harg3 arg6 harg6 arg9 harg9 x0 x1 x4 xs0) H2.toLoadRect) (arg9.view.readCov (kernelRun0_B.sl.HS0_4 c arg2 harg2 arg3 harg3 arg6 harg6 arg9 harg9 x0 x1 x4 xs0) H3.toLoadRect) ++ (kernelRun0_B.sl.HS0_4 c arg2 harg2 arg3 harg3 arg6 harg6 arg9 harg9 x0 x1 x4 xs0) := rfl

theorem pcsB2  : (kernelRun0_B.sl.HS0_12 c arg2 harg2 arg3 harg3 arg6 harg6 arg9 harg9 x0 x1 x4 xs0) = pcs (View.readAt (Elt F) arg6.view RL.toLoadRect (harg6.unread x4)) (View.readAt (Elt F) arg2.view R2.toLoadRect (harg2.unread x0)) (View.readAt (Elt F) arg3.view R2.toLoadRect (harg3.unread x1)) (arg9.view.readCov (kernelRun0_B.sl.HS0_8 c arg2 harg2 arg3 harg3 arg6 harg6 arg9 harg9 x0 x1 x4 xs0) H0.toLoadRect) (arg9.view.readCov (kernelRun0_B.sl.HS0_8 c arg2 harg2 arg3 harg3 arg6 harg6 arg9 harg9 x0 x1 x4 xs0) H1.toLoadRect) (arg9.view.readCov (kernelRun0_B.sl.HS0_8 c arg2 harg2 arg3 harg3 arg6 harg6 arg9 harg9 x0 x1 x4 xs0) H2.toLoadRect) (arg9.view.readCov (kernelRun0_B.sl.HS0_8 c arg2 harg2 arg3 harg3 arg6 harg6 arg9 harg9 x0 x1 x4 xs0) H3.toLoadRect) ++ (kernelRun0_B.sl.HS0_8 c arg2 harg2 arg3 harg3 arg6 harg6 arg9 harg9 x0 x1 x4 xs0) := rfl

theorem pcsB3  : (kernelRun0_B.sl.HS0_16 c arg2 harg2 arg3 harg3 arg6 harg6 arg9 harg9 x0 x1 x4 xs0) = pcs (View.readAt (Elt F) arg6.view RL.toLoadRect (harg6.unread x4)) (View.readAt (Elt F) arg2.view R3.toLoadRect (harg2.unread x0)) (View.readAt (Elt F) arg3.view R3.toLoadRect (harg3.unread x1)) (arg9.view.readCov (kernelRun0_B.sl.HS0_12 c arg2 harg2 arg3 harg3 arg6 harg6 arg9 harg9 x0 x1 x4 xs0) H0.toLoadRect) (arg9.view.readCov (kernelRun0_B.sl.HS0_12 c arg2 harg2 arg3 harg3 arg6 harg6 arg9 harg9 x0 x1 x4 xs0) H1.toLoadRect) (arg9.view.readCov (kernelRun0_B.sl.HS0_12 c arg2 harg2 arg3 harg3 arg6 harg6 arg9 harg9 x0 x1 x4 xs0) H2.toLoadRect) (arg9.view.readCov (kernelRun0_B.sl.HS0_12 c arg2 harg2 arg3 harg3 arg6 harg6 arg9 harg9 x0 x1 x4 xs0) H3.toLoadRect) ++ (kernelRun0_B.sl.HS0_12 c arg2 harg2 arg3 harg3 arg6 harg6 arg9 harg9 x0 x1 x4 xs0) := rfl

theorem pcsB4  : (kernelRun0_B.sl.HS0_20 c arg2 harg2 arg3 harg3 arg6 harg6 arg9 harg9 x0 x1 x4 xs0) = pcs (View.readAt (Elt F) arg6.view RL.toLoadRect (harg6.unread x4)) (View.readAt (Elt F) arg2.view R4.toLoadRect (harg2.unread x0)) (View.readAt (Elt F) arg3.view R4.toLoadRect (harg3.unread x1)) (arg9.view.readCov (kernelRun0_B.sl.HS0_16 c arg2 harg2 arg3 harg3 arg6 harg6 arg9 harg9 x0 x1 x4 xs0) H0.toLoadRect) (arg9.view.readCov (kernelRun0_B.sl.HS0_16 c arg2 harg2 arg3 harg3 arg6 harg6 arg9 harg9 x0 x1 x4 xs0) H1.toLoadRect) (arg9.view.readCov (kernelRun0_B.sl.HS0_16 c arg2 harg2 arg3 harg3 arg6 harg6 arg9 harg9 x0 x1 x4 xs0) H2.toLoadRect) (arg9.view.readCov (kernelRun0_B.sl.HS0_16 c arg2 harg2 arg3 harg3 arg6 harg6 arg9 harg9 x0 x1 x4 xs0) H3.toLoadRect) ++ (kernelRun0_B.sl.HS0_16 c arg2 harg2 arg3 harg3 arg6 harg6 arg9 harg9 x0 x1 x4 xs0) := rfl

theorem pcsB5  : (kernelRun0_B.sl.HS0_24 c arg2 harg2 arg3 harg3 arg6 harg6 arg9 harg9 x0 x1 x4 xs0) = pcs (View.readAt (Elt F) arg6.view RL.toLoadRect (harg6.unread x4)) (View.readAt (Elt F) arg2.view R5.toLoadRect (harg2.unread x0)) (View.readAt (Elt F) arg3.view R5.toLoadRect (harg3.unread x1)) (arg9.view.readCov (kernelRun0_B.sl.HS0_20 c arg2 harg2 arg3 harg3 arg6 harg6 arg9 harg9 x0 x1 x4 xs0) H0.toLoadRect) (arg9.view.readCov (kernelRun0_B.sl.HS0_20 c arg2 harg2 arg3 harg3 arg6 harg6 arg9 harg9 x0 x1 x4 xs0) H1.toLoadRect) (arg9.view.readCov (kernelRun0_B.sl.HS0_20 c arg2 harg2 arg3 harg3 arg6 harg6 arg9 harg9 x0 x1 x4 xs0) H2.toLoadRect) (arg9.view.readCov (kernelRun0_B.sl.HS0_20 c arg2 harg2 arg3 harg3 arg6 harg6 arg9 harg9 x0 x1 x4 xs0) H3.toLoadRect) ++ (kernelRun0_B.sl.HS0_20 c arg2 harg2 arg3 harg3 arg6 harg6 arg9 harg9 x0 x1 x4 xs0) := rfl

theorem pcsB6  : (kernelRun0_B.sl.HS0_28 c arg2 harg2 arg3 harg3 arg6 harg6 arg9 harg9 x0 x1 x4 xs0) = pcs (View.readAt (Elt F) arg6.view RL.toLoadRect (harg6.unread x4)) (View.readAt (Elt F) arg2.view R6.toLoadRect (harg2.unread x0)) (View.readAt (Elt F) arg3.view R6.toLoadRect (harg3.unread x1)) (arg9.view.readCov (kernelRun0_B.sl.HS0_24 c arg2 harg2 arg3 harg3 arg6 harg6 arg9 harg9 x0 x1 x4 xs0) H0.toLoadRect) (arg9.view.readCov (kernelRun0_B.sl.HS0_24 c arg2 harg2 arg3 harg3 arg6 harg6 arg9 harg9 x0 x1 x4 xs0) H1.toLoadRect) (arg9.view.readCov (kernelRun0_B.sl.HS0_24 c arg2 harg2 arg3 harg3 arg6 harg6 arg9 harg9 x0 x1 x4 xs0) H2.toLoadRect) (arg9.view.readCov (kernelRun0_B.sl.HS0_24 c arg2 harg2 arg3 harg3 arg6 harg6 arg9 harg9 x0 x1 x4 xs0) H3.toLoadRect) ++ (kernelRun0_B.sl.HS0_24 c arg2 harg2 arg3 harg3 arg6 harg6 arg9 harg9 x0 x1 x4 xs0) := rfl

theorem pcsB7 (hc0 : ¬cond0_0 i) : (kernelRun0_B c i arg2 harg2 arg3 harg3 arg4 harg4 arg5 harg5 arg6 harg6 arg7 harg7 arg8 harg8 arg9 harg9 hc0 x0 x1 x2 x3 x4 x5 xs0).2.1 = pcs (View.readAt (Elt F) arg6.view RL.toLoadRect (harg6.unread x4)) (View.readAt (Elt F) arg2.view R7.toLoadRect (harg2.unread x0)) (View.readAt (Elt F) arg3.view R7.toLoadRect (harg3.unread x1)) (arg9.view.readCov (kernelRun0_B.sl.HS0_28 c arg2 harg2 arg3 harg3 arg6 harg6 arg9 harg9 x0 x1 x4 xs0) H0.toLoadRect) (arg9.view.readCov (kernelRun0_B.sl.HS0_28 c arg2 harg2 arg3 harg3 arg6 harg6 arg9 harg9 x0 x1 x4 xs0) H1.toLoadRect) (arg9.view.readCov (kernelRun0_B.sl.HS0_28 c arg2 harg2 arg3 harg3 arg6 harg6 arg9 harg9 x0 x1 x4 xs0) H2.toLoadRect) (arg9.view.readCov (kernelRun0_B.sl.HS0_28 c arg2 harg2 arg3 harg3 arg6 harg6 arg9 harg9 x0 x1 x4 xs0) H3.toLoadRect) ++ (kernelRun0_B.sl.HS0_28 c arg2 harg2 arg3 harg3 arg6 harg6 arg9 harg9 x0 x1 x4 xs0) := rfl

theorem outsB (hc0 : ¬cond0_0 i) : (kernelRun0_B c i arg2 harg2 arg3 harg3 arg4 harg4 arg5 harg5 arg6 harg6 arg7 harg7 arg8 harg8 arg9 harg9 hc0 x0 x1 x2 x3 x4 x5 xs0).1 = [⟨R7, outC (View.readAt (Elt F) arg6.view RL.toLoadRect (harg6.unread x4)) (View.readAt (Elt F) arg7.view RN.toLoadRect (harg7.unread x5)) (View.readAt (Elt F) arg2.view R7.toLoadRect (harg2.unread x0)) (View.readAt (Elt F) arg3.view R7.toLoadRect (harg3.unread x1)) (View.readAt (Elt F) arg4.view R7.toLoadRect (harg4.unread x2)) (View.readAt (Elt F) arg5.view R7.toLoadRect (harg5.unread x3)) (arg9.view.readCov (kernelRun0_B.sl.HS0_28 c arg2 harg2 arg3 harg3 arg6 harg6 arg9 harg9 x0 x1 x4 xs0) H0.toLoadRect) (arg9.view.readCov (kernelRun0_B.sl.HS0_28 c arg2 harg2 arg3 harg3 arg6 harg6 arg9 harg9 x0 x1 x4 xs0) H1.toLoadRect) (arg9.view.readCov (kernelRun0_B.sl.HS0_28 c arg2 harg2 arg3 harg3 arg6 harg6 arg9 harg9 x0 x1 x4 xs0) H2.toLoadRect) (arg9.view.readCov (kernelRun0_B.sl.HS0_28 c arg2 harg2 arg3 harg3 arg6 harg6 arg9 harg9 x0 x1 x4 xs0) H3.toLoadRect)⟩,
  ⟨R6, outC (View.readAt (Elt F) arg6.view RL.toLoadRect (harg6.unread x4)) (View.readAt (Elt F) arg7.view RN.toLoadRect (harg7.unread x5)) (View.readAt (Elt F) arg2.view R6.toLoadRect (harg2.unread x0)) (View.readAt (Elt F) arg3.view R6.toLoadRect (harg3.unread x1)) (View.readAt (Elt F) arg4.view R6.toLoadRect (harg4.unread x2)) (View.readAt (Elt F) arg5.view R6.toLoadRect (harg5.unread x3)) (arg9.view.readCov (kernelRun0_B.sl.HS0_24 c arg2 harg2 arg3 harg3 arg6 harg6 arg9 harg9 x0 x1 x4 xs0) H0.toLoadRect) (arg9.view.readCov (kernelRun0_B.sl.HS0_24 c arg2 harg2 arg3 harg3 arg6 harg6 arg9 harg9 x0 x1 x4 xs0) H1.toLoadRect) (arg9.view.readCov (kernelRun0_B.sl.HS0_24 c arg2 harg2 arg3 harg3 arg6 harg6 arg9 harg9 x0 x1 x4 xs0) H2.toLoadRect) (arg9.view.readCov (kernelRun0_B.sl.HS0_24 c arg2 harg2 arg3 harg3 arg6 harg6 arg9 harg9 x0 x1 x4 xs0) H3.toLoadRect)⟩,
  ⟨R5, outC (View.readAt (Elt F) arg6.view RL.toLoadRect (harg6.unread x4)) (View.readAt (Elt F) arg7.view RN.toLoadRect (harg7.unread x5)) (View.readAt (Elt F) arg2.view R5.toLoadRect (harg2.unread x0)) (View.readAt (Elt F) arg3.view R5.toLoadRect (harg3.unread x1)) (View.readAt (Elt F) arg4.view R5.toLoadRect (harg4.unread x2)) (View.readAt (Elt F) arg5.view R5.toLoadRect (harg5.unread x3)) (arg9.view.readCov (kernelRun0_B.sl.HS0_20 c arg2 harg2 arg3 harg3 arg6 harg6 arg9 harg9 x0 x1 x4 xs0) H0.toLoadRect) (arg9.view.readCov (kernelRun0_B.sl.HS0_20 c arg2 harg2 arg3 harg3 arg6 harg6 arg9 harg9 x0 x1 x4 xs0) H1.toLoadRect) (arg9.view.readCov (kernelRun0_B.sl.HS0_20 c arg2 harg2 arg3 harg3 arg6 harg6 arg9 harg9 x0 x1 x4 xs0) H2.toLoadRect) (arg9.view.readCov (kernelRun0_B.sl.HS0_20 c arg2 harg2 arg3 harg3 arg6 harg6 arg9 harg9 x0 x1 x4 xs0) H3.toLoadRect)⟩,
  ⟨R4, outC (View.readAt (Elt F) arg6.view RL.toLoadRect (harg6.unread x4)) (View.readAt (Elt F) arg7.view RN.toLoadRect (harg7.unread x5)) (View.readAt (Elt F) arg2.view R4.toLoadRect (harg2.unread x0)) (View.readAt (Elt F) arg3.view R4.toLoadRect (harg3.unread x1)) (View.readAt (Elt F) arg4.view R4.toLoadRect (harg4.unread x2)) (View.readAt (Elt F) arg5.view R4.toLoadRect (harg5.unread x3)) (arg9.view.readCov (kernelRun0_B.sl.HS0_16 c arg2 harg2 arg3 harg3 arg6 harg6 arg9 harg9 x0 x1 x4 xs0) H0.toLoadRect) (arg9.view.readCov (kernelRun0_B.sl.HS0_16 c arg2 harg2 arg3 harg3 arg6 harg6 arg9 harg9 x0 x1 x4 xs0) H1.toLoadRect) (arg9.view.readCov (kernelRun0_B.sl.HS0_16 c arg2 harg2 arg3 harg3 arg6 harg6 arg9 harg9 x0 x1 x4 xs0) H2.toLoadRect) (arg9.view.readCov (kernelRun0_B.sl.HS0_16 c arg2 harg2 arg3 harg3 arg6 harg6 arg9 harg9 x0 x1 x4 xs0) H3.toLoadRect)⟩,
  ⟨R3, outC (View.readAt (Elt F) arg6.view RL.toLoadRect (harg6.unread x4)) (View.readAt (Elt F) arg7.view RN.toLoadRect (harg7.unread x5)) (View.readAt (Elt F) arg2.view R3.toLoadRect (harg2.unread x0)) (View.readAt (Elt F) arg3.view R3.toLoadRect (harg3.unread x1)) (View.readAt (Elt F) arg4.view R3.toLoadRect (harg4.unread x2)) (View.readAt (Elt F) arg5.view R3.toLoadRect (harg5.unread x3)) (arg9.view.readCov (kernelRun0_B.sl.HS0_12 c arg2 harg2 arg3 harg3 arg6 harg6 arg9 harg9 x0 x1 x4 xs0) H0.toLoadRect) (arg9.view.readCov (kernelRun0_B.sl.HS0_12 c arg2 harg2 arg3 harg3 arg6 harg6 arg9 harg9 x0 x1 x4 xs0) H1.toLoadRect) (arg9.view.readCov (kernelRun0_B.sl.HS0_12 c arg2 harg2 arg3 harg3 arg6 harg6 arg9 harg9 x0 x1 x4 xs0) H2.toLoadRect) (arg9.view.readCov (kernelRun0_B.sl.HS0_12 c arg2 harg2 arg3 harg3 arg6 harg6 arg9 harg9 x0 x1 x4 xs0) H3.toLoadRect)⟩,
  ⟨R2, outC (View.readAt (Elt F) arg6.view RL.toLoadRect (harg6.unread x4)) (View.readAt (Elt F) arg7.view RN.toLoadRect (harg7.unread x5)) (View.readAt (Elt F) arg2.view R2.toLoadRect (harg2.unread x0)) (View.readAt (Elt F) arg3.view R2.toLoadRect (harg3.unread x1)) (View.readAt (Elt F) arg4.view R2.toLoadRect (harg4.unread x2)) (View.readAt (Elt F) arg5.view R2.toLoadRect (harg5.unread x3)) (arg9.view.readCov (kernelRun0_B.sl.HS0_8 c arg2 harg2 arg3 harg3 arg6 harg6 arg9 harg9 x0 x1 x4 xs0) H0.toLoadRect) (arg9.view.readCov (kernelRun0_B.sl.HS0_8 c arg2 harg2 arg3 harg3 arg6 harg6 arg9 harg9 x0 x1 x4 xs0) H1.toLoadRect) (arg9.view.readCov (kernelRun0_B.sl.HS0_8 c arg2 harg2 arg3 harg3 arg6 harg6 arg9 harg9 x0 x1 x4 xs0) H2.toLoadRect) (arg9.view.readCov (kernelRun0_B.sl.HS0_8 c arg2 harg2 arg3 harg3 arg6 harg6 arg9 harg9 x0 x1 x4 xs0) H3.toLoadRect)⟩,
  ⟨R1, outC (View.readAt (Elt F) arg6.view RL.toLoadRect (harg6.unread x4)) (View.readAt (Elt F) arg7.view RN.toLoadRect (harg7.unread x5)) (View.readAt (Elt F) arg2.view R1.toLoadRect (harg2.unread x0)) (View.readAt (Elt F) arg3.view R1.toLoadRect (harg3.unread x1)) (View.readAt (Elt F) arg4.view R1.toLoadRect (harg4.unread x2)) (View.readAt (Elt F) arg5.view R1.toLoadRect (harg5.unread x3)) (arg9.view.readCov (kernelRun0_B.sl.HS0_4 c arg2 harg2 arg3 harg3 arg6 harg6 arg9 harg9 x0 x1 x4 xs0) H0.toLoadRect) (arg9.view.readCov (kernelRun0_B.sl.HS0_4 c arg2 harg2 arg3 harg3 arg6 harg6 arg9 harg9 x0 x1 x4 xs0) H1.toLoadRect) (arg9.view.readCov (kernelRun0_B.sl.HS0_4 c arg2 harg2 arg3 harg3 arg6 harg6 arg9 harg9 x0 x1 x4 xs0) H2.toLoadRect) (arg9.view.readCov (kernelRun0_B.sl.HS0_4 c arg2 harg2 arg3 harg3 arg6 harg6 arg9 harg9 x0 x1 x4 xs0) H3.toLoadRect)⟩,
  ⟨R0, outC (View.readAt (Elt F) arg6.view RL.toLoadRect (harg6.unread x4)) (View.readAt (Elt F) arg7.view RN.toLoadRect (harg7.unread x5)) (View.readAt (Elt F) arg2.view R0.toLoadRect (harg2.unread x0)) (View.readAt (Elt F) arg3.view R0.toLoadRect (harg3.unread x1)) (View.readAt (Elt F) arg4.view R0.toLoadRect (harg4.unread x2)) (View.readAt (Elt F) arg5.view R0.toLoadRect (harg5.unread x3)) (View.readAt (Elt F) arg9.view H0.toLoadRect (harg9.unread xs0)) (View.readAt (Elt F) arg9.view H1.toLoadRect (harg9.unread xs0)) (View.readAt (Elt F) arg9.view H2.toLoadRect (harg9.unread xs0)) (View.readAt (Elt F) arg9.view H3.toLoadRect (harg9.unread xs0))⟩] := rfl

end Cert.KernelIdeal.Point

end
-- ==== Proof.Chain.lean ====
module

public import proofs.«01_k».proof.Proof.Point
public import Idealize.ShloMosaic.Lib.ValueIdx

@[expose] public section

set_option maxRecDepth 65536

noncomputable section

namespace Cert.KernelIdeal.Point

open Idealize.ShloMosaic Idealize.SL.Sem Cert.KernelIdeal Cert.KernelIdeal.Gen

variable {F : FTy → Type} [FloatOps F]

/-- At an index the first stores cover, later entries of the list do not matter. -/
theorem canon_append_left {Val : EltTy → Type} [∀ e, Nonempty (Val e)] {s : Shape} {e : EltTy} (L' : List (View.Piece Val s e)) :
    ∀ (L : List (View.Piece Val s e)) (y : s.Idx), (∃ p ∈ L, y ∈ p.1.set) → View.canon (L ++ L') y = View.canon L y
  | [], _, h => by obtain ⟨_, hm, _⟩ := h; exact absurd hm List.not_mem_nil
  | p :: L, y, h => by
    by_cases hy : y ∈ p.1.set
    · obtain ⟨r, w⟩ := p
      obtain ⟨x, rfl⟩ := r.exists_idx_of_mem hy
      rw [List.cons_append, show r.idx x = r.emb x from rfl, View.canon_cons_emb, View.canon_cons_emb]
    · rw [List.cons_append, View.canon_cons_of_not_mem _ _ hy, View.canon_cons_of_not_mem _ _ hy]
      refine canon_append_left L' L y ?_
      obtain ⟨q, hq, hyq⟩ := h
      rcases List.mem_cons.mp hq with rfl | hq'
      · exact absurd hyq hy
      · exact ⟨q, hq', hyq⟩

/-- The state after a chunk, from the state before it. -/
def next (lb : Vec F S2x512 .f32) (f i : Vec F S1x64x512 .bf16) (X : Vec F S4x128x128 .f32) : Vec F S4x128x128 .f32 :=
  View.canon (pcs lb f i (View.ld X H0) (View.ld X H1) (View.ld X H2) (View.ld X H3))

theorem canon_pcs (lb : Vec F S2x512 .f32) (f i : Vec F S1x64x512 .bf16) (s0 s1 s2 s3 : Vec F S1x128x128 .f32) (L : List (View.Piece (Elt F) S4x128x128 .f32)) :
    View.canon (pcs lb f i s0 s1 s2 s3 ++ L) = View.canon (pcs lb f i s0 s1 s2 s3) :=
  funext fun y => canon_append_left L _ y (View.cover_of_tiledL (pcs lb f i s0 s1 s2 s3) S1x128x128.size (by sl_kernel_rfl) y)

/-- The rows of the result of one chunk, from the state before it. -/
def outX (lb : Vec F S2x512 .f32) (nw : Vec F S1x512 .f32) (f i q g : Vec F S1x64x512 .bf16) (X : Vec F S4x128x128 .f32) : Vec F S1x64x512 .bf16 :=
  outC lb nw f i q g (View.ld X H0) (View.ld X H1) (View.ld X H2) (View.ld X H3)

/-- The states before the chunks of one block. -/
abbrev X0 (xs : Vec F S4x128x128 .f32) : Vec F S4x128x128 .f32 := xs
def X1 (lb : Vec F S2x512 .f32) (f i : Vec F S1x512x512 .bf16) (xs : Vec F S4x128x128 .f32) : Vec F S4x128x128 .f32 :=
  next lb (View.ld f R0) (View.ld i R0) (xs)
def X2 (lb : Vec F S2x512 .f32) (f i : Vec F S1x512x512 .bf16) (xs : Vec F S4x128x128 .f32) : Vec F S4x128x128 .f32 :=
  next lb (View.ld f R1) (View.ld i R1) (X1 lb f i xs)
def X3 (lb : Vec F S2x512 .f32) (f i : Vec F S1x512x512 .bf16) (xs : Vec F S4x128x128 .f32) : Vec F S4x128x128 .f32 :=
  next lb (View.ld f R2) (View.ld i R2) (X2 lb f i xs)
def X4 (lb : Vec F S2x512 .f32) (f i : Vec F S1x512x512 .bf16) (xs : Vec F S4x128x128 .f32) : Vec F S4x128x128 .f32 :=
  next lb (View.ld f R3) (View.ld i R3) (X3 lb f i xs)
def X5 (lb : Vec F S2x512 .f32) (f i : Vec F S1x512x512 .bf16) (xs : Vec F S4x128x128 .f32) : Vec F S4x128x128 .f32 :=
  next lb (View.ld f R4) (View.ld i R4) (X4 lb f i xs)
def X6 (lb : Vec F S2x512 .f32) (f i : Vec F S1x512x512 .bf16) (xs : Vec F S4x128x128 .f32) : Vec F S4x128x128 .f32 :=
  next lb (View.ld f R5) (View.ld i R5) (X5 lb f i xs)
def X7 (lb : Vec F S2x512 .f32) (f i : Vec F S1x512x512 .bf16) (xs : Vec F S4x128x128 .f32) : Vec F S4x128x128 .f32 :=
  next lb (View.ld f R6) (View.ld i R6) (X6 lb f i xs)
def X8 (lb : Vec F S2x512 .f32) (f i : Vec F S1x512x512 .bf16) (xs : Vec F S4x128x128 .f32) : Vec F S4x128x128 .f32 :=
  next lb (View.ld f R7) (View.ld i R7) (X7 lb f i xs)

variable (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S2x512 .f32) (harg6 : arg6.IsWhole) (arg7 : Memref sig .tc .vmem S1x512 .f32) (harg7 : arg7.IsWhole) (arg8 : Memref sig .tc .vmem S1x512x512 .bf16) (harg8 : arg8.IsWhole) (arg9 : Memref sig .tc .vmem S4x128x128 .f32) (harg9 : arg9.IsWhole)
  (x0 : Vec F S1x512x512 .bf16) (x1 : Vec F S1x512x512 .bf16) (x2 : Vec F S1x512x512 .bf16) (x3 : Vec F S1x512x512 .bf16) (x4 : Vec F S2x512 .f32) (x5 : Vec F S1x512 .f32) (xs0 : Vec F S4x128x128 .f32)

theorem rd {s : Shape} {e : EltTy} (arg : Memref sig .tc .vmem s e) (h : arg.IsWhole) (x : Vec F s e) (r : Rect s) :
    View.readAt (Elt F) arg.view r.toLoadRect (h.unread x) = View.ld x r := by
  rw [View.readAt_eq_ld, h.read_unread]

theorem rc {s : Shape} {e : EltTy} (arg : Memref sig .tc .vmem s e) (L : List (View.Piece (Elt F) s e)) (r : Rect s) :
    arg.view.readCov L r.toLoadRect = View.ld (View.canon L) r :=
  View.readCov_eq_canon' _ _ _

theorem cz : View.canon (zp (F := F)) = k0_pay2 (F := F) :=
  View.canon_unit_zero (by funext a; fin_cases a <;> rfl) _ _

theorem ldL (x : Vec F S2x512 .f32) : View.ld x RL = x := View.ld_unit_zero (by funext a; fin_cases a <;> rfl) _ _
theorem ldN (x : Vec F S1x512 .f32) : View.ld x RN = x := View.ld_unit_zero (by funext a; fin_cases a <;> rfl) _ _

theorem cnA0  : View.canon (kernelRun0_A.sl.HS0_5 c arg2 harg2 arg3 harg3 arg6 harg6 arg9 x0 x1 x4) = (X1 x4 x0 x1 (k0_pay2 (F := F))) := by
  rw [pcsA0, canon_pcs]; simp only [rd, rc, ldL, cz]; rfl

theorem cnA1  : View.canon (kernelRun0_A.sl.HS0_9 c arg2 harg2 arg3 harg3 arg6 harg6 arg9 x0 x1 x4) = (X2 x4 x0 x1 (k0_pay2 (F := F))) := by
  rw [pcsA1, canon_pcs]; simp only [rd, rc, ldL, cnA0]; rfl

theorem cnA2  : View.canon (kernelRun0_A.sl.HS0_13 c arg2 harg2 arg3 harg3 arg6 harg6 arg9 x0 x1 x4) = (X3 x4 x0 x1 (k0_pay2 (F := F))) := by
  rw [pcsA2, canon_pcs]; simp only [rd, rc, ldL, cnA1]; rfl

theorem cnA3  : View.canon (kernelRun0_A.sl.HS0_17 c arg2 harg2 arg3 harg3 arg6 harg6 arg9 x0 x1 x4) = (X4 x4 x0 x1 (k0_pay2 (F := F))) := by
  rw [pcsA3, canon_pcs]; simp only [rd, rc, ldL, cnA2]; rfl

theorem cnA4  : View.canon (kernelRun0_A.sl.HS0_21 c arg2 harg2 arg3 harg3 arg6 harg6 arg9 x0 x1 x4) = (X5 x4 x0 x1 (k0_pay2 (F := F))) := by
  rw [pcsA4, canon_pcs]; simp only [rd, rc, ldL, cnA3]; rfl

theorem cnA5  : View.canon (kernelRun0_A.sl.HS0_25 c arg2 harg2 arg3 harg3 arg6 harg6 arg9 x0 x1 x4) = (X6 x4 x0 x1 (k0_pay2 (F := F))) := by
  rw [pcsA5, canon_pcs]; simp only [rd, rc, ldL, cnA4]; rfl

theorem cnA6  : View.canon (kernelRun0_A.sl.HS0_29 c arg2 harg2 arg3 harg3 arg6 harg6 arg9 x0 x1 x4) = (X7 x4 x0 x1 (k0_pay2 (F := F))) := by
  rw [pcsA6, canon_pcs]; simp only [rd, rc, ldL, cnA5]; rfl

theorem cnA7 (hc0 : cond0_0 i) : View.canon (kernelRun0_A c i arg2 harg2 arg3 harg3 arg4 harg4 arg5 harg5 arg6 harg6 arg7 harg7 arg8 harg8 arg9 harg9 hc0 x0 x1 x2 x3 x4 x5).2.1 = (X8 x4 x0 x1 (k0_pay2 (F := F))) := by
  rw [pcsA7, canon_pcs]; simp only [rd, rc, ldL, cnA6]; rfl

theorem ouA (hc0 : cond0_0 i) : (kernelRun0_A c i arg2 harg2 arg3 harg3 arg4 harg4 arg5 harg5 arg6 harg6 arg7 harg7 arg8 harg8 arg9 harg9 hc0 x0 x1 x2 x3 x4 x5).1 = [⟨R7, outX x4 x5 (View.ld x0 R7) (View.ld x1 R7) (View.ld x2 R7) (View.ld x3 R7) (X7 x4 x0 x1 (k0_pay2 (F := F)))⟩,
  ⟨R6, outX x4 x5 (View.ld x0 R6) (View.ld x1 R6) (View.ld x2 R6) (View.ld x3 R6) (X6 x4 x0 x1 (k0_pay2 (F := F)))⟩,
  ⟨R5, outX x4 x5 (View.ld x0 R5) (View.ld x1 R5) (View.ld x2 R5) (View.ld x3 R5) (X5 x4 x0 x1 (k0_pay2 (F := F)))⟩,
  ⟨R4, outX x4 x5 (View.ld x0 R4) (View.ld x1 R4) (View.ld x2 R4) (View.ld x3 R4) (X4 x4 x0 x1 (k0_pay2 (F := F)))⟩,
  ⟨R3, outX x4 x5 (View.ld x0 R3) (View.ld x1 R3) (View.ld x2 R3) (View.ld x3 R3) (X3 x4 x0 x1 (k0_pay2 (F := F)))⟩,
  ⟨R2, outX x4 x5 (View.ld x0 R2) (View.ld x1 R2) (View.ld x2 R2) (View.ld x3 R2) (X2 x4 x0 x1 (k0_pay2 (F := F)))⟩,
  ⟨R1, outX x4 x5 (View.ld x0 R1) (View.ld x1 R1) (View.ld x2 R1) (View.ld x3 R1) (X1 x4 x0 x1 (k0_pay2 (F := F)))⟩,
  ⟨R0, outX x4 x5 (View.ld x0 R0) (View.ld x1 R0) (View.ld x2 R0) (View.ld x3 R0) (k0_pay2 (F := F))⟩] := by
  rw [outsA]; simp only [rd, rc, ldL, ldN, cnA0, cnA1, cnA2, cnA3, cnA4, cnA5, cnA6, cz]; rfl

theorem cnB0  : View.canon (kernelRun0_B.sl.HS0_4 c arg2 harg2 arg3 harg3 arg6 harg6 arg9 harg9 x0 x1 x4 xs0) = (X1 x4 x0 x1 xs0) := by
  rw [pcsB0, canon_pcs]; simp only [rd, rc, ldL]; rfl

theorem cnB1  : View.canon (kernelRun0_B.sl.HS0_8 c arg2 harg2 arg3 harg3 arg6 harg6 arg9 harg9 x0 x1 x4 xs0) = (X2 x4 x0 x1 xs0) := by
  rw [pcsB1, canon_pcs]; simp only [rd, rc, ldL, cnB0]; rfl

theorem cnB2  : View.canon (kernelRun0_B.sl.HS0_12 c arg2 harg2 arg3 harg3 arg6 harg6 arg9 harg9 x0 x1 x4 xs0) = (X3 x4 x0 x1 xs0) := by
  rw [pcsB2, canon_pcs]; simp only [rd, rc, ldL, cnB1]; rfl

theorem cnB3  : View.canon (kernelRun0_B.sl.HS0_16 c arg2 harg2 arg3 harg3 arg6 harg6 arg9 harg9 x0 x1 x4 xs0) = (X4 x4 x0 x1 xs0) := by
  rw [pcsB3, canon_pcs]; simp only [rd, rc, ldL, cnB2]; rfl

theorem cnB4  : View.canon (kernelRun0_B.sl.HS0_20 c arg2 harg2 arg3 harg3 arg6 harg6 arg9 harg9 x0 x1 x4 xs0) = (X5 x4 x0 x1 xs0) := by
  rw [pcsB4, canon_pcs]; simp only [rd, rc, ldL, cnB3]; rfl

theorem cnB5  : View.canon (kernelRun0_B.sl.HS0_24 c arg2 harg2 arg3 harg3 arg6 harg6 arg9 harg9 x0 x1 x4 xs0) = (X6 x4 x0 x1 xs0) := by
  rw [pcsB5, canon_pcs]; simp only [rd, rc, ldL, cnB4]; rfl

theorem cnB6  : View.canon (kernelRun0_B.sl.HS0_28 c arg2 harg2 arg3 harg3 arg6 harg6 arg9 harg9 x0 x1 x4 xs0) = (X7 x4 x0 x1 xs0) := by
  rw [pcsB6, canon_pcs]; simp only [rd, rc, ldL, cnB5]; rfl

theorem cnB7 (hc0 : ¬cond0_0 i) : View.canon (kernelRun0_B c i arg2 harg2 arg3 harg3 arg4 harg4 arg5 harg5 arg6 harg6 arg7 harg7 arg8 harg8 arg9 harg9 hc0 x0 x1 x2 x3 x4 x5 xs0).2.1 = (X8 x4 x0 x1 xs0) := by
  rw [pcsB7, canon_pcs]; simp only [rd, rc, ldL, cnB6]; rfl

theorem ouB (hc0 : ¬cond0_0 i) : (kernelRun0_B c i arg2 harg2 arg3 harg3 arg4 harg4 arg5 harg5 arg6 harg6 arg7 harg7 arg8 harg8 arg9 harg9 hc0 x0 x1 x2 x3 x4 x5 xs0).1 = [⟨R7, outX x4 x5 (View.ld x0 R7) (View.ld x1 R7) (View.ld x2 R7) (View.ld x3 R7) (X7 x4 x0 x1 xs0)⟩,
  ⟨R6, outX x4 x5 (View.ld x0 R6) (View.ld x1 R6) (View.ld x2 R6) (View.ld x3 R6) (X6 x4 x0 x1 xs0)⟩,
  ⟨R5, outX x4 x5 (View.ld x0 R5) (View.ld x1 R5) (View.ld x2 R5) (View.ld x3 R5) (X5 x4 x0 x1 xs0)⟩,
  ⟨R4, outX x4 x5 (View.ld x0 R4) (View.ld x1 R4) (View.ld x2 R4) (View.ld x3 R4) (X4 x4 x0 x1 xs0)⟩,
  ⟨R3, outX x4 x5 (View.ld x0 R3) (View.ld x1 R3) (View.ld x2 R3) (View.ld x3 R3) (X3 x4 x0 x1 xs0)⟩,
  ⟨R2, outX x4 x5 (View.ld x0 R2) (View.ld x1 R2) (View.ld x2 R2) (View.ld x3 R2) (X2 x4 x0 x1 xs0)⟩,
  ⟨R1, outX x4 x5 (View.ld x0 R1) (View.ld x1 R1) (View.ld x2 R1) (View.ld x3 R1) (X1 x4 x0 x1 xs0)⟩,
  ⟨R0, outX x4 x5 (View.ld x0 R0) (View.ld x1 R0) (View.ld x2 R0) (View.ld x3 R0) xs0⟩] := by
  rw [outsB]; simp only [rd, rc, ldL, ldN, cnB0, cnB1, cnB2, cnB3, cnB4, cnB5, cnB6]; rfl

end Cert.KernelIdeal.Point

end
-- ==== Proof.Sweep.lean ====
module

public import proofs.«01_k».proof.Proof.Chain
public import Idealize.ShloMosaic.Lib.Pipeline.ReadBack

@[expose] public section

set_option maxRecDepth 65536
set_option maxErrors 6

noncomputable section

namespace Cert.KernelIdeal.Point

open Idealize.ShloMosaic Idealize.ShloMosaic.TcCoe Idealize.ShloMosaic.ValueIdx Idealize.SL.Sem Cert.KernelIdeal Cert.KernelIdeal.Gen Cert.KernelIdeal.Value

variable {F : FTy → Type} [FloatOps F]

/-- Rows `64 n … 64 n + 63` of batch `b`, column block `k`. -/
def chunk (A : Vec F S8x8192x7168 .bf16) (k : Fin 14) (b : Fin 8) (n : ℕ) : Vec F S1x64x512 .bf16 := fun y =>
  A (ix3 b ⟨(64 * n + (y 1).val) % 8192, Nat.mod_lt _ (by decide)⟩
    ⟨512 * k.val + (y 2).val, by have := k.isLt; have h : (y 2).val < 512 := (y 2).isLt; omega⟩)

/-- The state before chunk `n` of batch `b`. -/
def SS (A : Vec F S8x8192x7168 .bf16) (lb : Vec F S2x512 .f32) (b : Fin 8) : ℕ → Vec F S4x128x128 .f32
  | 0 => k0_pay2
  | n + 1 => next lb (chunk A 3 b n) (chunk A 4 b n) (SS A lb b n)

variable (m : (ℓ : Loc nD τ sig) → Buf (Elt F) ℓ) (c : Dev nD)

/-- The arguments. -/
abbrev AA (m : (ℓ : Loc nD τ sig) → Buf (Elt F) ℓ) (c : Dev nD) : Vec F S8x8192x7168 .bf16 := m ((c : Thread nD τ).loc main_arg0)
abbrev LBv (m : (ℓ : Loc nD τ sig) → Buf (Elt F) ℓ) (c : Dev nD) : Vec F S2x512 .f32 := m ((c : Thread nD τ).loc main_arg1)
abbrev NWv (m : (ℓ : Loc nD τ sig) → Buf (Elt F) ℓ) (c : Dev nD) : Vec F S1x512 .f32 := m ((c : Thread nD τ).loc main_arg2)

abbrev bOf (t : Fin cfg0.N) : Fin 8 := ⟨t.val / 16, by have h : t.val < 128 := lt_of_lt_of_eq t.isLt N_0; omega⟩

theorem idxw0 : ∀ t : Fin cfg0.N, win0_0.index t (0 : Fin 3) = t.val / 16 ∧ win0_0.index t (1 : Fin 3) = t.val % 16 ∧ win0_0.index t (2 : Fin 3) = 3 :=
  (by decide +kernel : ∀ t : Fin grid0.N, _)

theorem blk0 (t : Fin cfg0.N) (y : S1x512x512.Idx) :
    (iblk m c 0 t : Vec F S1x512x512 .bf16) y = AA m c (ix3 (bOf t)
      ⟨512 * (t.val % 16) + (y 1).val, by have h : (y 1).val < 512 := (y 1).isLt; omega⟩
      ⟨512 * 3 + (y 2).val, by have h : (y 2).val < 512 := (y 2).isLt; omega⟩) := by
  obtain ⟨e0, e1, e2⟩ := idxw0 t
  unfold iblk
  rw [View.read_apply]
  show V m c main_arg0 _ = m (c.tc.loc main_arg0) _
  rw [V_main_arg0]
  congr 1
  funext a
  apply Fin.ext
  have h0 : (y 0).val < 1 := (y 0).isLt
  match a with
  | ⟨0, _⟩ => show win0_0.index t 0 * 1 + 1 * (y 0).val = t.val / 16; rw [e0]; omega
  | ⟨1, _⟩ => show win0_0.index t 1 * 512 + 1 * (y 1).val = 512 * (t.val % 16) + (y 1).val; rw [e1]; omega
  | ⟨2, _⟩ => show win0_0.index t 2 * 512 + 1 * (y 2).val = 512 * 3 + (y 2).val; rw [e2]; omega

theorem ch0_0 (t : Fin cfg0.N) : View.ld (iblk m c 0 t : Vec F S1x512x512 .bf16) R0 = chunk (AA m c) 3 (bOf t) (8 * (t.val % 16) + 0) := by
  funext y
  have h1 : (y 1).val < 64 := (y 1).isLt
  show (iblk m c 0 t : Vec F S1x512x512 .bf16) (R0.idx y) = _
  rw [blk0]
  unfold chunk
  congr 1
  funext a
  apply Fin.ext
  match a with
  | ⟨0, _⟩ => rfl
  | ⟨1, _⟩ => show 512 * (t.val % 16) + (0 + 1 * (y 1).val) = (64 * (8 * (t.val % 16) + 0) + (y 1).val) % 8192; omega
  | ⟨2, _⟩ => show 512 * 3 + (0 + 1 * (y 2).val) = 512 * 3 + (y 2).val; omega

theorem ch0_1 (t : Fin cfg0.N) : View.ld (iblk m c 0 t : Vec F S1x512x512 .bf16) R1 = chunk (AA m c) 3 (bOf t) (8 * (t.val % 16) + 1) := by
  funext y
  have h1 : (y 1).val < 64 := (y 1).isLt
  show (iblk m c 0 t : Vec F S1x512x512 .bf16) (R1.idx y) = _
  rw [blk0]
  unfold chunk
  congr 1
  funext a
  apply Fin.ext
  match a with
  | ⟨0, _⟩ => rfl
  | ⟨1, _⟩ => show 512 * (t.val % 16) + (64 + 1 * (y 1).val) = (64 * (8 * (t.val % 16) + 1) + (y 1).val) % 8192; omega
  | ⟨2, _⟩ => show 512 * 3 + (0 + 1 * (y 2).val) = 512 * 3 + (y 2).val; omega

theorem ch0_2 (t : Fin cfg0.N) : View.ld (iblk m c 0 t : Vec F S1x512x512 .bf16) R2 = chunk (AA m c) 3 (bOf t) (8 * (t.val % 16) + 2) := by
  funext y
  have h1 : (y 1).val < 64 := (y 1).isLt
  show (iblk m c 0 t : Vec F S1x512x512 .bf16) (R2.idx y) = _
  rw [blk0]
  unfold chunk
  congr 1
  funext a
  apply Fin.ext
  match a with
  | ⟨0, _⟩ => rfl
  | ⟨1, _⟩ => show 512 * (t.val % 16) + (128 + 1 * (y 1).val) = (64 * (8 * (t.val % 16) + 2) + (y 1).val) % 8192; omega
  | ⟨2, _⟩ => show 512 * 3 + (0 + 1 * (y 2).val) = 512 * 3 + (y 2).val; omega

theorem ch0_3 (t : Fin cfg0.N) : View.ld (iblk m c 0 t : Vec F S1x512x512 .bf16) R3 = chunk (AA m c) 3 (bOf t) (8 * (t.val % 16) + 3) := by
  funext y
  have h1 : (y 1).val < 64 := (y 1).isLt
  show (iblk m c 0 t : Vec F S1x512x512 .bf16) (R3.idx y) = _
  rw [blk0]
  unfold chunk
  congr 1
  funext a
  apply Fin.ext
  match a with
  | ⟨0, _⟩ => rfl
  | ⟨1, _⟩ => show 512 * (t.val % 16) + (192 + 1 * (y 1).val) = (64 * (8 * (t.val % 16) + 3) + (y 1).val) % 8192; omega
  | ⟨2, _⟩ => show 512 * 3 + (0 + 1 * (y 2).val) = 512 * 3 + (y 2).val; omega

theorem ch0_4 (t : Fin cfg0.N) : View.ld (iblk m c 0 t : Vec F S1x512x512 .bf16) R4 = chunk (AA m c) 3 (bOf t) (8 * (t.val % 16) + 4) := by
  funext y
  have h1 : (y 1).val < 64 := (y 1).isLt
  show (iblk m c 0 t : Vec F S1x512x512 .bf16) (R4.idx y) = _
  rw [blk0]
  unfold chunk
  congr 1
  funext a
  apply Fin.ext
  match a with
  | ⟨0, _⟩ => rfl
  | ⟨1, _⟩ => show 512 * (t.val % 16) + (256 + 1 * (y 1).val) = (64 * (8 * (t.val % 16) + 4) + (y 1).val) % 8192; omega
  | ⟨2, _⟩ => show 512 * 3 + (0 + 1 * (y 2).val) = 512 * 3 + (y 2).val; omega

theorem ch0_5 (t : Fin cfg0.N) : View.ld (iblk m c 0 t : Vec F S1x512x512 .bf16) R5 = chunk (AA m c) 3 (bOf t) (8 * (t.val % 16) + 5) := by
  funext y
  have h1 : (y 1).val < 64 := (y 1).isLt
  show (iblk m c 0 t : Vec F S1x512x512 .bf16) (R5.idx y) = _
  rw [blk0]
  unfold chunk
  congr 1
  funext a
  apply Fin.ext
  match a with
  | ⟨0, _⟩ => rfl
  | ⟨1, _⟩ => show 512 * (t.val % 16) + (320 + 1 * (y 1).val) = (64 * (8 * (t.val % 16) + 5) + (y 1).val) % 8192; omega
  | ⟨2, _⟩ => show 512 * 3 + (0 + 1 * (y 2).val) = 512 * 3 + (y 2).val; omega

theorem ch0_6 (t : Fin cfg0.N) : View.ld (iblk m c 0 t : Vec F S1x512x512 .bf16) R6 = chunk (AA m c) 3 (bOf t) (8 * (t.val % 16) + 6) := by
  funext y
  have h1 : (y 1).val < 64 := (y 1).isLt
  show (iblk m c 0 t : Vec F S1x512x512 .bf16) (R6.idx y) = _
  rw [blk0]
  unfold chunk
  congr 1
  funext a
  apply Fin.ext
  match a with
  | ⟨0, _⟩ => rfl
  | ⟨1, _⟩ => show 512 * (t.val % 16) + (384 + 1 * (y 1).val) = (64 * (8 * (t.val % 16) + 6) + (y 1).val) % 8192; omega
  | ⟨2, _⟩ => show 512 * 3 + (0 + 1 * (y 2).val) = 512 * 3 + (y 2).val; omega

theorem ch0_7 (t : Fin cfg0.N) : View.ld (iblk m c 0 t : Vec F S1x512x512 .bf16) R7 = chunk (AA m c) 3 (bOf t) (8 * (t.val % 16) + 7) := by
  funext y
  have h1 : (y 1).val < 64 := (y 1).isLt
  show (iblk m c 0 t : Vec F S1x512x512 .bf16) (R7.idx y) = _
  rw [blk0]
  unfold chunk
  congr 1
  funext a
  apply Fin.ext
  match a with
  | ⟨0, _⟩ => rfl
  | ⟨1, _⟩ => show 512 * (t.val % 16) + (448 + 1 * (y 1).val) = (64 * (8 * (t.val % 16) + 7) + (y 1).val) % 8192; omega
  | ⟨2, _⟩ => show 512 * 3 + (0 + 1 * (y 2).val) = 512 * 3 + (y 2).val; omega

theorem idxw1 : ∀ t : Fin cfg0.N, win0_1.index t (0 : Fin 3) = t.val / 16 ∧ win0_1.index t (1 : Fin 3) = t.val % 16 ∧ win0_1.index t (2 : Fin 3) = 4 :=
  (by decide +kernel : ∀ t : Fin grid0.N, _)

theorem blk1 (t : Fin cfg0.N) (y : S1x512x512.Idx) :
    (iblk m c 1 t : Vec F S1x512x512 .bf16) y = AA m c (ix3 (bOf t)
      ⟨512 * (t.val % 16) + (y 1).val, by have h : (y 1).val < 512 := (y 1).isLt; omega⟩
      ⟨512 * 4 + (y 2).val, by have h : (y 2).val < 512 := (y 2).isLt; omega⟩) := by
  obtain ⟨e0, e1, e2⟩ := idxw1 t
  unfold iblk
  rw [View.read_apply]
  show V m c main_arg0 _ = m (c.tc.loc main_arg0) _
  rw [V_main_arg0]
  congr 1
  funext a
  apply Fin.ext
  have h0 : (y 0).val < 1 := (y 0).isLt
  match a with
  | ⟨0, _⟩ => show win0_1.index t 0 * 1 + 1 * (y 0).val = t.val / 16; rw [e0]; omega
  | ⟨1, _⟩ => show win0_1.index t 1 * 512 + 1 * (y 1).val = 512 * (t.val % 16) + (y 1).val; rw [e1]; omega
  | ⟨2, _⟩ => show win0_1.index t 2 * 512 + 1 * (y 2).val = 512 * 4 + (y 2).val; rw [e2]; omega

theorem ch1_0 (t : Fin cfg0.N) : View.ld (iblk m c 1 t : Vec F S1x512x512 .bf16) R0 = chunk (AA m c) 4 (bOf t) (8 * (t.val % 16) + 0) := by
  funext y
  have h1 : (y 1).val < 64 := (y 1).isLt
  show (iblk m c 1 t : Vec F S1x512x512 .bf16) (R0.idx y) = _
  rw [blk1]
  unfold chunk
  congr 1
  funext a
  apply Fin.ext
  match a with
  | ⟨0, _⟩ => rfl
  | ⟨1, _⟩ => show 512 * (t.val % 16) + (0 + 1 * (y 1).val) = (64 * (8 * (t.val % 16) + 0) + (y 1).val) % 8192; omega
  | ⟨2, _⟩ => show 512 * 4 + (0 + 1 * (y 2).val) = 512 * 4 + (y 2).val; omega

theorem ch1_1 (t : Fin cfg0.N) : View.ld (iblk m c 1 t : Vec F S1x512x512 .bf16) R1 = chunk (AA m c) 4 (bOf t) (8 * (t.val % 16) + 1) := by
  funext y
  have h1 : (y 1).val < 64 := (y 1).isLt
  show (iblk m c 1 t : Vec F S1x512x512 .bf16) (R1.idx y) = _
  rw [blk1]
  unfold chunk
  congr 1
  funext a
  apply Fin.ext
  match a with
  | ⟨0, _⟩ => rfl
  | ⟨1, _⟩ => show 512 * (t.val % 16) + (64 + 1 * (y 1).val) = (64 * (8 * (t.val % 16) + 1) + (y 1).val) % 8192; omega
  | ⟨2, _⟩ => show 512 * 4 + (0 + 1 * (y 2).val) = 512 * 4 + (y 2).val; omega

theorem ch1_2 (t : Fin cfg0.N) : View.ld (iblk m c 1 t : Vec F S1x512x512 .bf16) R2 = chunk (AA m c) 4 (bOf t) (8 * (t.val % 16) + 2) := by
  funext y
  have h1 : (y 1).val < 64 := (y 1).isLt
  show (iblk m c 1 t : Vec F S1x512x512 .bf16) (R2.idx y) = _
  rw [blk1]
  unfold chunk
  congr 1
  funext a
  apply Fin.ext
  match a with
  | ⟨0, _⟩ => rfl
  | ⟨1, _⟩ => show 512 * (t.val % 16) + (128 + 1 * (y 1).val) = (64 * (8 * (t.val % 16) + 2) + (y 1).val) % 8192; omega
  | ⟨2, _⟩ => show 512 * 4 + (0 + 1 * (y 2).val) = 512 * 4 + (y 2).val; omega

theorem ch1_3 (t : Fin cfg0.N) : View.ld (iblk m c 1 t : Vec F S1x512x512 .bf16) R3 = chunk (AA m c) 4 (bOf t) (8 * (t.val % 16) + 3) := by
  funext y
  have h1 : (y 1).val < 64 := (y 1).isLt
  show (iblk m c 1 t : Vec F S1x512x512 .bf16) (R3.idx y) = _
  rw [blk1]
  unfold chunk
  congr 1
  funext a
  apply Fin.ext
  match a with
  | ⟨0, _⟩ => rfl
  | ⟨1, _⟩ => show 512 * (t.val % 16) + (192 + 1 * (y 1).val) = (64 * (8 * (t.val % 16) + 3) + (y 1).val) % 8192; omega
  | ⟨2, _⟩ => show 512 * 4 + (0 + 1 * (y 2).val) = 512 * 4 + (y 2).val; omega

theorem ch1_4 (t : Fin cfg0.N) : View.ld (iblk m c 1 t : Vec F S1x512x512 .bf16) R4 = chunk (AA m c) 4 (bOf t) (8 * (t.val % 16) + 4) := by
  funext y
  have h1 : (y 1).val < 64 := (y 1).isLt
  show (iblk m c 1 t : Vec F S1x512x512 .bf16) (R4.idx y) = _
  rw [blk1]
  unfold chunk
  congr 1
  funext a
  apply Fin.ext
  match a with
  | ⟨0, _⟩ => rfl
  | ⟨1, _⟩ => show 512 * (t.val % 16) + (256 + 1 * (y 1).val) = (64 * (8 * (t.val % 16) + 4) + (y 1).val) % 8192; omega
  | ⟨2, _⟩ => show 512 * 4 + (0 + 1 * (y 2).val) = 512 * 4 + (y 2).val; omega

theorem ch1_5 (t : Fin cfg0.N) : View.ld (iblk m c 1 t : Vec F S1x512x512 .bf16) R5 = chunk (AA m c) 4 (bOf t) (8 * (t.val % 16) + 5) := by
  funext y
  have h1 : (y 1).val < 64 := (y 1).isLt
  show (iblk m c 1 t : Vec F S1x512x512 .bf16) (R5.idx y) = _
  rw [blk1]
  unfold chunk
  congr 1
  funext a
  apply Fin.ext
  match a with
  | ⟨0, _⟩ => rfl
  | ⟨1, _⟩ => show 512 * (t.val % 16) + (320 + 1 * (y 1).val) = (64 * (8 * (t.val % 16) + 5) + (y 1).val) % 8192; omega
  | ⟨2, _⟩ => show 512 * 4 + (0 + 1 * (y 2).val) = 512 * 4 + (y 2).val; omega

theorem ch1_6 (t : Fin cfg0.N) : View.ld (iblk m c 1 t : Vec F S1x512x512 .bf16) R6 = chunk (AA m c) 4 (bOf t) (8 * (t.val % 16) + 6) := by
  funext y
  have h1 : (y 1).val < 64 := (y 1).isLt
  show (iblk m c 1 t : Vec F S1x512x512 .bf16) (R6.idx y) = _
  rw [blk1]
  unfold chunk
  congr 1
  funext a
  apply Fin.ext
  match a with
  | ⟨0, _⟩ => rfl
  | ⟨1, _⟩ => show 512 * (t.val % 16) + (384 + 1 * (y 1).val) = (64 * (8 * (t.val % 16) + 6) + (y 1).val) % 8192; omega
  | ⟨2, _⟩ => show 512 * 4 + (0 + 1 * (y 2).val) = 512 * 4 + (y 2).val; omega

theorem ch1_7 (t : Fin cfg0.N) : View.ld (iblk m c 1 t : Vec F S1x512x512 .bf16) R7 = chunk (AA m c) 4 (bOf t) (8 * (t.val % 16) + 7) := by
  funext y
  have h1 : (y 1).val < 64 := (y 1).isLt
  show (iblk m c 1 t : Vec F S1x512x512 .bf16) (R7.idx y) = _
  rw [blk1]
  unfold chunk
  congr 1
  funext a
  apply Fin.ext
  match a with
  | ⟨0, _⟩ => rfl
  | ⟨1, _⟩ => show 512 * (t.val % 16) + (448 + 1 * (y 1).val) = (64 * (8 * (t.val % 16) + 7) + (y 1).val) % 8192; omega
  | ⟨2, _⟩ => show 512 * 4 + (0 + 1 * (y 2).val) = 512 * 4 + (y 2).val; omega

theorem idxw2 : ∀ t : Fin cfg0.N, win0_2.index t (0 : Fin 3) = t.val / 16 ∧ win0_2.index t (1 : Fin 3) = t.val % 16 ∧ win0_2.index t (2 : Fin 3) = 5 :=
  (by decide +kernel : ∀ t : Fin grid0.N, _)

theorem blk2 (t : Fin cfg0.N) (y : S1x512x512.Idx) :
    (iblk m c 2 t : Vec F S1x512x512 .bf16) y = AA m c (ix3 (bOf t)
      ⟨512 * (t.val % 16) + (y 1).val, by have h : (y 1).val < 512 := (y 1).isLt; omega⟩
      ⟨512 * 5 + (y 2).val, by have h : (y 2).val < 512 := (y 2).isLt; omega⟩) := by
  obtain ⟨e0, e1, e2⟩ := idxw2 t
  unfold iblk
  rw [View.read_apply]
  show V m c main_arg0 _ = m (c.tc.loc main_arg0) _
  rw [V_main_arg0]
  congr 1
  funext a
  apply Fin.ext
  have h0 : (y 0).val < 1 := (y 0).isLt
  match a with
  | ⟨0, _⟩ => show win0_2.index t 0 * 1 + 1 * (y 0).val = t.val / 16; rw [e0]; omega
  | ⟨1, _⟩ => show win0_2.index t 1 * 512 + 1 * (y 1).val = 512 * (t.val % 16) + (y 1).val; rw [e1]; omega
  | ⟨2, _⟩ => show win0_2.index t 2 * 512 + 1 * (y 2).val = 512 * 5 + (y 2).val; rw [e2]; omega

theorem ch2_0 (t : Fin cfg0.N) : View.ld (iblk m c 2 t : Vec F S1x512x512 .bf16) R0 = chunk (AA m c) 5 (bOf t) (8 * (t.val % 16) + 0) := by
  funext y
  have h1 : (y 1).val < 64 := (y 1).isLt
  show (iblk m c 2 t : Vec F S1x512x512 .bf16) (R0.idx y) = _
  rw [blk2]
  unfold chunk
  congr 1
  funext a
  apply Fin.ext
  match a with
  | ⟨0, _⟩ => rfl
  | ⟨1, _⟩ => show 512 * (t.val % 16) + (0 + 1 * (y 1).val) = (64 * (8 * (t.val % 16) + 0) + (y 1).val) % 8192; omega
  | ⟨2, _⟩ => show 512 * 5 + (0 + 1 * (y 2).val) = 512 * 5 + (y 2).val; omega

theorem ch2_1 (t : Fin cfg0.N) : View.ld (iblk m c 2 t : Vec F S1x512x512 .bf16) R1 = chunk (AA m c) 5 (bOf t) (8 * (t.val % 16) + 1) := by
  funext y
  have h1 : (y 1).val < 64 := (y 1).isLt
  show (iblk m c 2 t : Vec F S1x512x512 .bf16) (R1.idx y) = _
  rw [blk2]
  unfold chunk
  congr 1
  funext a
  apply Fin.ext
  match a with
  | ⟨0, _⟩ => rfl
  | ⟨1, _⟩ => show 512 * (t.val % 16) + (64 + 1 * (y 1).val) = (64 * (8 * (t.val % 16) + 1) + (y 1).val) % 8192; omega
  | ⟨2, _⟩ => show 512 * 5 + (0 + 1 * (y 2).val) = 512 * 5 + (y 2).val; omega

theorem ch2_2 (t : Fin cfg0.N) : View.ld (iblk m c 2 t : Vec F S1x512x512 .bf16) R2 = chunk (AA m c) 5 (bOf t) (8 * (t.val % 16) + 2) := by
  funext y
  have h1 : (y 1).val < 64 := (y 1).isLt
  show (iblk m c 2 t : Vec F S1x512x512 .bf16) (R2.idx y) = _
  rw [blk2]
  unfold chunk
  congr 1
  funext a
  apply Fin.ext
  match a with
  | ⟨0, _⟩ => rfl
  | ⟨1, _⟩ => show 512 * (t.val % 16) + (128 + 1 * (y 1).val) = (64 * (8 * (t.val % 16) + 2) + (y 1).val) % 8192; omega
  | ⟨2, _⟩ => show 512 * 5 + (0 + 1 * (y 2).val) = 512 * 5 + (y 2).val; omega

theorem ch2_3 (t : Fin cfg0.N) : View.ld (iblk m c 2 t : Vec F S1x512x512 .bf16) R3 = chunk (AA m c) 5 (bOf t) (8 * (t.val % 16) + 3) := by
  funext y
  have h1 : (y 1).val < 64 := (y 1).isLt
  show (iblk m c 2 t : Vec F S1x512x512 .bf16) (R3.idx y) = _
  rw [blk2]
  unfold chunk
  congr 1
  funext a
  apply Fin.ext
  match a with
  | ⟨0, _⟩ => rfl
  | ⟨1, _⟩ => show 512 * (t.val % 16) + (192 + 1 * (y 1).val) = (64 * (8 * (t.val % 16) + 3) + (y 1).val) % 8192; omega
  | ⟨2, _⟩ => show 512 * 5 + (0 + 1 * (y 2).val) = 512 * 5 + (y 2).val; omega

theorem ch2_4 (t : Fin cfg0.N) : View.ld (iblk m c 2 t : Vec F S1x512x512 .bf16) R4 = chunk (AA m c) 5 (bOf t) (8 * (t.val % 16) + 4) := by
  funext y
  have h1 : (y 1).val < 64 := (y 1).isLt
  show (iblk m c 2 t : Vec F S1x512x512 .bf16) (R4.idx y) = _
  rw [blk2]
  unfold chunk
  congr 1
  funext a
  apply Fin.ext
  match a with
  | ⟨0, _⟩ => rfl
  | ⟨1, _⟩ => show 512 * (t.val % 16) + (256 + 1 * (y 1).val) = (64 * (8 * (t.val % 16) + 4) + (y 1).val) % 8192; omega
  | ⟨2, _⟩ => show 512 * 5 + (0 + 1 * (y 2).val) = 512 * 5 + (y 2).val; omega

theorem ch2_5 (t : Fin cfg0.N) : View.ld (iblk m c 2 t : Vec F S1x512x512 .bf16) R5 = chunk (AA m c) 5 (bOf t) (8 * (t.val % 16) + 5) := by
  funext y
  have h1 : (y 1).val < 64 := (y 1).isLt
  show (iblk m c 2 t : Vec F S1x512x512 .bf16) (R5.idx y) = _
  rw [blk2]
  unfold chunk
  congr 1
  funext a
  apply Fin.ext
  match a with
  | ⟨0, _⟩ => rfl
  | ⟨1, _⟩ => show 512 * (t.val % 16) + (320 + 1 * (y 1).val) = (64 * (8 * (t.val % 16) + 5) + (y 1).val) % 8192; omega
  | ⟨2, _⟩ => show 512 * 5 + (0 + 1 * (y 2).val) = 512 * 5 + (y 2).val; omega

theorem ch2_6 (t : Fin cfg0.N) : View.ld (iblk m c 2 t : Vec F S1x512x512 .bf16) R6 = chunk (AA m c) 5 (bOf t) (8 * (t.val % 16) + 6) := by
  funext y
  have h1 : (y 1).val < 64 := (y 1).isLt
  show (iblk m c 2 t : Vec F S1x512x512 .bf16) (R6.idx y) = _
  rw [blk2]
  unfold chunk
  congr 1
  funext a
  apply Fin.ext
  match a with
  | ⟨0, _⟩ => rfl
  | ⟨1, _⟩ => show 512 * (t.val % 16) + (384 + 1 * (y 1).val) = (64 * (8 * (t.val % 16) + 6) + (y 1).val) % 8192; omega
  | ⟨2, _⟩ => show 512 * 5 + (0 + 1 * (y 2).val) = 512 * 5 + (y 2).val; omega

theorem ch2_7 (t : Fin cfg0.N) : View.ld (iblk m c 2 t : Vec F S1x512x512 .bf16) R7 = chunk (AA m c) 5 (bOf t) (8 * (t.val % 16) + 7) := by
  funext y
  have h1 : (y 1).val < 64 := (y 1).isLt
  show (iblk m c 2 t : Vec F S1x512x512 .bf16) (R7.idx y) = _
  rw [blk2]
  unfold chunk
  congr 1
  funext a
  apply Fin.ext
  match a with
  | ⟨0, _⟩ => rfl
  | ⟨1, _⟩ => show 512 * (t.val % 16) + (448 + 1 * (y 1).val) = (64 * (8 * (t.val % 16) + 7) + (y 1).val) % 8192; omega
  | ⟨2, _⟩ => show 512 * 5 + (0 + 1 * (y 2).val) = 512 * 5 + (y 2).val; omega

theorem idxw3 : ∀ t : Fin cfg0.N, win0_3.index t (0 : Fin 3) = t.val / 16 ∧ win0_3.index t (1 : Fin 3) = t.val % 16 ∧ win0_3.index t (2 : Fin 3) = 6 :=
  (by decide +kernel : ∀ t : Fin grid0.N, _)

theorem blk3 (t : Fin cfg0.N) (y : S1x512x512.Idx) :
    (iblk m c 3 t : Vec F S1x512x512 .bf16) y = AA m c (ix3 (bOf t)
      ⟨512 * (t.val % 16) + (y 1).val, by have h : (y 1).val < 512 := (y 1).isLt; omega⟩
      ⟨512 * 6 + (y 2).val, by have h : (y 2).val < 512 := (y 2).isLt; omega⟩) := by
  obtain ⟨e0, e1, e2⟩ := idxw3 t
  unfold iblk
  rw [View.read_apply]
  show V m c main_arg0 _ = m (c.tc.loc main_arg0) _
  rw [V_main_arg0]
  congr 1
  funext a
  apply Fin.ext
  have h0 : (y 0).val < 1 := (y 0).isLt
  match a with
  | ⟨0, _⟩ => show win0_3.index t 0 * 1 + 1 * (y 0).val = t.val / 16; rw [e0]; omega
  | ⟨1, _⟩ => show win0_3.index t 1 * 512 + 1 * (y 1).val = 512 * (t.val % 16) + (y 1).val; rw [e1]; omega
  | ⟨2, _⟩ => show win0_3.index t 2 * 512 + 1 * (y 2).val = 512 * 6 + (y 2).val; rw [e2]; omega

theorem ch3_0 (t : Fin cfg0.N) : View.ld (iblk m c 3 t : Vec F S1x512x512 .bf16) R0 = chunk (AA m c) 6 (bOf t) (8 * (t.val % 16) + 0) := by
  funext y
  have h1 : (y 1).val < 64 := (y 1).isLt
  show (iblk m c 3 t : Vec F S1x512x512 .bf16) (R0.idx y) = _
  rw [blk3]
  unfold chunk
  congr 1
  funext a
  apply Fin.ext
  match a with
  | ⟨0, _⟩ => rfl
  | ⟨1, _⟩ => show 512 * (t.val % 16) + (0 + 1 * (y 1).val) = (64 * (8 * (t.val % 16) + 0) + (y 1).val) % 8192; omega
  | ⟨2, _⟩ => show 512 * 6 + (0 + 1 * (y 2).val) = 512 * 6 + (y 2).val; omega

theorem ch3_1 (t : Fin cfg0.N) : View.ld (iblk m c 3 t : Vec F S1x512x512 .bf16) R1 = chunk (AA m c) 6 (bOf t) (8 * (t.val % 16) + 1) := by
  funext y
  have h1 : (y 1).val < 64 := (y 1).isLt
  show (iblk m c 3 t : Vec F S1x512x512 .bf16) (R1.idx y) = _
  rw [blk3]
  unfold chunk
  congr 1
  funext a
  apply Fin.ext
  match a with
  | ⟨0, _⟩ => rfl
  | ⟨1, _⟩ => show 512 * (t.val % 16) + (64 + 1 * (y 1).val) = (64 * (8 * (t.val % 16) + 1) + (y 1).val) % 8192; omega
  | ⟨2, _⟩ => show 512 * 6 + (0 + 1 * (y 2).val) = 512 * 6 + (y 2).val; omega

theorem ch3_2 (t : Fin cfg0.N) : View.ld (iblk m c 3 t : Vec F S1x512x512 .bf16) R2 = chunk (AA m c) 6 (bOf t) (8 * (t.val % 16) + 2) := by
  funext y
  have h1 : (y 1).val < 64 := (y 1).isLt
  show (iblk m c 3 t : Vec F S1x512x512 .bf16) (R2.idx y) = _
  rw [blk3]
  unfold chunk
  congr 1
  funext a
  apply Fin.ext
  match a with
  | ⟨0, _⟩ => rfl
  | ⟨1, _⟩ => show 512 * (t.val % 16) + (128 + 1 * (y 1).val) = (64 * (8 * (t.val % 16) + 2) + (y 1).val) % 8192; omega
  | ⟨2, _⟩ => show 512 * 6 + (0 + 1 * (y 2).val) = 512 * 6 + (y 2).val; omega

theorem ch3_3 (t : Fin cfg0.N) : View.ld (iblk m c 3 t : Vec F S1x512x512 .bf16) R3 = chunk (AA m c) 6 (bOf t) (8 * (t.val % 16) + 3) := by
  funext y
  have h1 : (y 1).val < 64 := (y 1).isLt
  show (iblk m c 3 t : Vec F S1x512x512 .bf16) (R3.idx y) = _
  rw [blk3]
  unfold chunk
  congr 1
  funext a
  apply Fin.ext
  match a with
  | ⟨0, _⟩ => rfl
  | ⟨1, _⟩ => show 512 * (t.val % 16) + (192 + 1 * (y 1).val) = (64 * (8 * (t.val % 16) + 3) + (y 1).val) % 8192; omega
  | ⟨2, _⟩ => show 512 * 6 + (0 + 1 * (y 2).val) = 512 * 6 + (y 2).val; omega

theorem ch3_4 (t : Fin cfg0.N) : View.ld (iblk m c 3 t : Vec F S1x512x512 .bf16) R4 = chunk (AA m c) 6 (bOf t) (8 * (t.val % 16) + 4) := by
  funext y
  have h1 : (y 1).val < 64 := (y 1).isLt
  show (iblk m c 3 t : Vec F S1x512x512 .bf16) (R4.idx y) = _
  rw [blk3]
  unfold chunk
  congr 1
  funext a
  apply Fin.ext
  match a with
  | ⟨0, _⟩ => rfl
  | ⟨1, _⟩ => show 512 * (t.val % 16) + (256 + 1 * (y 1).val) = (64 * (8 * (t.val % 16) + 4) + (y 1).val) % 8192; omega
  | ⟨2, _⟩ => show 512 * 6 + (0 + 1 * (y 2).val) = 512 * 6 + (y 2).val; omega

theorem ch3_5 (t : Fin cfg0.N) : View.ld (iblk m c 3 t : Vec F S1x512x512 .bf16) R5 = chunk (AA m c) 6 (bOf t) (8 * (t.val % 16) + 5) := by
  funext y
  have h1 : (y 1).val < 64 := (y 1).isLt
  show (iblk m c 3 t : Vec F S1x512x512 .bf16) (R5.idx y) = _
  rw [blk3]
  unfold chunk
  congr 1
  funext a
  apply Fin.ext
  match a with
  | ⟨0, _⟩ => rfl
  | ⟨1, _⟩ => show 512 * (t.val % 16) + (320 + 1 * (y 1).val) = (64 * (8 * (t.val % 16) + 5) + (y 1).val) % 8192; omega
  | ⟨2, _⟩ => show 512 * 6 + (0 + 1 * (y 2).val) = 512 * 6 + (y 2).val; omega

theorem ch3_6 (t : Fin cfg0.N) : View.ld (iblk m c 3 t : Vec F S1x512x512 .bf16) R6 = chunk (AA m c) 6 (bOf t) (8 * (t.val % 16) + 6) := by
  funext y
  have h1 : (y 1).val < 64 := (y 1).isLt
  show (iblk m c 3 t : Vec F S1x512x512 .bf16) (R6.idx y) = _
  rw [blk3]
  unfold chunk
  congr 1
  funext a
  apply Fin.ext
  match a with
  | ⟨0, _⟩ => rfl
  | ⟨1, _⟩ => show 512 * (t.val % 16) + (384 + 1 * (y 1).val) = (64 * (8 * (t.val % 16) + 6) + (y 1).val) % 8192; omega
  | ⟨2, _⟩ => show 512 * 6 + (0 + 1 * (y 2).val) = 512 * 6 + (y 2).val; omega

theorem ch3_7 (t : Fin cfg0.N) : View.ld (iblk m c 3 t : Vec F S1x512x512 .bf16) R7 = chunk (AA m c) 6 (bOf t) (8 * (t.val % 16) + 7) := by
  funext y
  have h1 : (y 1).val < 64 := (y 1).isLt
  show (iblk m c 3 t : Vec F S1x512x512 .bf16) (R7.idx y) = _
  rw [blk3]
  unfold chunk
  congr 1
  funext a
  apply Fin.ext
  match a with
  | ⟨0, _⟩ => rfl
  | ⟨1, _⟩ => show 512 * (t.val % 16) + (448 + 1 * (y 1).val) = (64 * (8 * (t.val % 16) + 7) + (y 1).val) % 8192; omega
  | ⟨2, _⟩ => show 512 * 6 + (0 + 1 * (y 2).val) = 512 * 6 + (y 2).val; omega

theorem blk4 (t : Fin cfg0.N) : (iblk m c 4 t : Vec F S2x512 .f32) = LBv m c := by
  have e : ∀ t : Fin cfg0.N, win0_4.index t (0 : Fin 2) = 0 ∧ win0_4.index t (1 : Fin 2) = 0 := (by decide +kernel : ∀ t : Fin grid0.N, _)
  obtain ⟨e0, e1⟩ := e t
  funext y
  unfold iblk
  rw [View.read_apply]
  show V m c main_arg1 _ = m (c.tc.loc main_arg1) _
  rw [V_main_arg1]
  congr 1
  funext a
  apply Fin.ext
  match a with
  | ⟨0, _⟩ => show win0_4.index t 0 * 2 + 1 * (y 0).val = (y 0).val; rw [e0]; omega
  | ⟨1, _⟩ => show win0_4.index t 1 * 512 + 1 * (y 1).val = (y 1).val; rw [e1]; omega

theorem V1 : (V m c main_v1 : Vec F S1x512 .f32) = shapeCast S1x512 (shapeCast S512 (NWv m c) shapeCasts_S1x512_S512) shapeCasts_S512_S1x512 := by
  unfold_abbrev_sides
  after_results
  rfl

theorem blk5 (t : Fin cfg0.N) : (iblk m c 5 t : Vec F S1x512 .f32) = NWv m c := by
  have e : ∀ t : Fin cfg0.N, win0_5.index t (0 : Fin 2) = 0 ∧ win0_5.index t (1 : Fin 2) = 0 := (by decide +kernel : ∀ t : Fin grid0.N, _)
  obtain ⟨e0, e1⟩ := e t
  funext y
  unfold iblk
  rw [View.read_apply]
  show V m c main_v1 _ = m (c.tc.loc main_arg2) _
  rw [V1, shapeCast_shapeCast]
  congr 1
  funext a
  apply Fin.ext
  match a with
  | ⟨0, _⟩ => show win0_5.index t 0 * 1 + 1 * (y 0).val = (y 0).val; rw [e0]; omega
  | ⟨1, _⟩ => show win0_5.index t 1 * 512 + 1 * (y 1).val = (y 1).val; rw [e1]; omega

/-- Eight chunks from the state before the point's first chunk. -/
theorem chain8 (t : Fin cfg0.N) (xs : Vec F S4x128x128 .f32) (h : xs = SS (AA m c) (LBv m c) (bOf t) (8 * (t.val % 16))) :
    X1 (LBv m c) (iblk m c 0 t) (iblk m c 1 t) xs = SS (AA m c) (LBv m c) (bOf t) (8 * (t.val % 16) + 1) ∧ X2 (LBv m c) (iblk m c 0 t) (iblk m c 1 t) xs = SS (AA m c) (LBv m c) (bOf t) (8 * (t.val % 16) + 2) ∧ X3 (LBv m c) (iblk m c 0 t) (iblk m c 1 t) xs = SS (AA m c) (LBv m c) (bOf t) (8 * (t.val % 16) + 3) ∧ X4 (LBv m c) (iblk m c 0 t) (iblk m c 1 t) xs = SS (AA m c) (LBv m c) (bOf t) (8 * (t.val % 16) + 4) ∧ X5 (LBv m c) (iblk m c 0 t) (iblk m c 1 t) xs = SS (AA m c) (LBv m c) (bOf t) (8 * (t.val % 16) + 5) ∧ X6 (LBv m c) (iblk m c 0 t) (iblk m c 1 t) xs = SS (AA m c) (LBv m c) (bOf t) (8 * (t.val % 16) + 6) ∧ X7 (LBv m c) (iblk m c 0 t) (iblk m c 1 t) xs = SS (AA m c) (LBv m c) (bOf t) (8 * (t.val % 16) + 7) ∧ X8 (LBv m c) (iblk m c 0 t) (iblk m c 1 t) xs = SS (AA m c) (LBv m c) (bOf t) (8 * (t.val % 16) + 8) := by
  subst h
  have e1 : X1 (LBv m c) (iblk m c 0 t) (iblk m c 1 t) (SS (AA m c) (LBv m c) (bOf t) (8 * (t.val % 16))) = SS (AA m c) (LBv m c) (bOf t) (8 * (t.val % 16) + 1) := by
    rw [X1, ch0_0, ch1_0]; rfl
  have e2 : X2 (LBv m c) (iblk m c 0 t) (iblk m c 1 t) (SS (AA m c) (LBv m c) (bOf t) (8 * (t.val % 16))) = SS (AA m c) (LBv m c) (bOf t) (8 * (t.val % 16) + 2) := by
    rw [X2, ch0_1, ch1_1, e1]; rfl
  have e3 : X3 (LBv m c) (iblk m c 0 t) (iblk m c 1 t) (SS (AA m c) (LBv m c) (bOf t) (8 * (t.val % 16))) = SS (AA m c) (LBv m c) (bOf t) (8 * (t.val % 16) + 3) := by
    rw [X3, ch0_2, ch1_2, e2]; rfl
  have e4 : X4 (LBv m c) (iblk m c 0 t) (iblk m c 1 t) (SS (AA m c) (LBv m c) (bOf t) (8 * (t.val % 16))) = SS (AA m c) (LBv m c) (bOf t) (8 * (t.val % 16) + 4) := by
    rw [X4, ch0_3, ch1_3, e3]; rfl
  have e5 : X5 (LBv m c) (iblk m c 0 t) (iblk m c 1 t) (SS (AA m c) (LBv m c) (bOf t) (8 * (t.val % 16))) = SS (AA m c) (LBv m c) (bOf t) (8 * (t.val % 16) + 5) := by
    rw [X5, ch0_4, ch1_4, e4]; rfl
  have e6 : X6 (LBv m c) (iblk m c 0 t) (iblk m c 1 t) (SS (AA m c) (LBv m c) (bOf t) (8 * (t.val % 16))) = SS (AA m c) (LBv m c) (bOf t) (8 * (t.val % 16) + 6) := by
    rw [X6, ch0_5, ch1_5, e5]; rfl
  have e7 : X7 (LBv m c) (iblk m c 0 t) (iblk m c 1 t) (SS (AA m c) (LBv m c) (bOf t) (8 * (t.val % 16))) = SS (AA m c) (LBv m c) (bOf t) (8 * (t.val % 16) + 7) := by
    rw [X7, ch0_6, ch1_6, e6]; rfl
  have e8 : X8 (LBv m c) (iblk m c 0 t) (iblk m c 1 t) (SS (AA m c) (LBv m c) (bOf t) (8 * (t.val % 16))) = SS (AA m c) (LBv m c) (bOf t) (8 * (t.val % 16) + 8) := by
    rw [X8, ch0_7, ch1_7, e7]; rfl
  exact ⟨e1, e2, e3, e4, e5, e6, e7, e8⟩

/-- The scratch after each point. -/
theorem st_eq : ∀ (n : ℕ) (hn : n < cfg0.N), (outsAt0 m c n hn).2 = SS (AA m c) (LBv m c) (bOf ⟨n, hn⟩) (8 * (n % 16) + 8) := by
  intro n
  induction n with
  | zero =>
    intro hn
    have h0 : ((⟨0, hn⟩ : Fin cfg0.N)).val % 16 = 0 := rfl
    have e := outsAt0_A m c ⟨0, hn⟩ h0
    rw [show outsAt0 m c 0 hn = _ from e]
    dsimp only
    unfold sout0_A_0
    rw [View.read_writes_junk_eq_canon, cnA7, blk4]
    exact (chain8 m c ⟨0, hn⟩ _ rfl).2.2.2.2.2.2.2
  | succ n ih =>
    intro hn
    by_cases h0 : (n + 1) % 16 = 0
    · have e := outsAt0_A m c ⟨n + 1, hn⟩ h0
      rw [show outsAt0 m c (n + 1) hn = _ from e]
      dsimp only
      unfold sout0_A_0
      rw [View.read_writes_junk_eq_canon, cnA7, blk4]
      exact (chain8 m c ⟨n + 1, hn⟩ _ (by show _ = SS _ _ _ (8 * ((n + 1) % 16)); rw [h0]; rfl)).2.2.2.2.2.2.2
    · have e := outsAt0_B m c ⟨n + 1, hn⟩ h0
      rw [show outsAt0 m c (n + 1) hn = _ from e]
      dsimp only
      unfold sout0_B_0
      rw [View.read_writes_junk_eq_canon, cnB7, blk4]
      refine (chain8 m c ⟨n + 1, hn⟩ _ ?_).2.2.2.2.2.2.2
      refine (ih (Nat.lt_of_succ_lt hn)).trans ?_
      have hb : bOf ⟨n, Nat.lt_of_succ_lt hn⟩ = bOf ⟨n + 1, hn⟩ := Fin.ext (by show n / 16 = (n + 1) / 16; omega)
      have hs : 8 * (n % 16) + 8 = 8 * ((⟨n + 1, hn⟩ : Fin cfg0.N).val % 16) := by show _ = 8 * ((n + 1) % 16); omega
      rw [hb, hs]

/-- Result rows of chunk `n` of batch `b`. -/
def outS (A : Vec F S8x8192x7168 .bf16) (lb : Vec F S2x512 .f32) (nw : Vec F S1x512 .f32) (b : Fin 8) (n : ℕ) : Vec F S1x64x512 .bf16 :=
  outX lb nw (chunk A 3 b n) (chunk A 4 b n) (chunk A 5 b n) (chunk A 6 b n) (SS A lb b n)

/-- The block a point leaves, by rows. -/
def GB (A : Vec F S8x8192x7168 .bf16) (lb : Vec F S2x512 .f32) (nw : Vec F S1x512 .f32) (b : Fin 8) (s : ℕ) : Vec F S1x512x512 .bf16 := fun y =>
  outS A lb nw b (8 * s + (y 1).val / 64) (ix3 0 ⟨(y 1).val % 64, Nat.mod_lt _ (by decide)⟩ (y 2))

theorem canonG (t : Fin cfg0.N) : View.canon ([⟨R7, outS (AA m c) (LBv m c) (NWv m c) (bOf t) (8 * (t.val % 16) + 7)⟩, ⟨R6, outS (AA m c) (LBv m c) (NWv m c) (bOf t) (8 * (t.val % 16) + 6)⟩, ⟨R5, outS (AA m c) (LBv m c) (NWv m c) (bOf t) (8 * (t.val % 16) + 5)⟩, ⟨R4, outS (AA m c) (LBv m c) (NWv m c) (bOf t) (8 * (t.val % 16) + 4)⟩, ⟨R3, outS (AA m c) (LBv m c) (NWv m c) (bOf t) (8 * (t.val % 16) + 3)⟩, ⟨R2, outS (AA m c) (LBv m c) (NWv m c) (bOf t) (8 * (t.val % 16) + 2)⟩, ⟨R1, outS (AA m c) (LBv m c) (NWv m c) (bOf t) (8 * (t.val % 16) + 1)⟩, ⟨R0, outS (AA m c) (LBv m c) (NWv m c) (bOf t) (8 * (t.val % 16) + 0)⟩] : List (View.Piece (Elt F) S1x512x512 .bf16))
    = GB (AA m c) (LBv m c) (NWv m c) (bOf t) (t.val % 16) := by
  funext y
  refine View.canon_apply_of_pieces _ ([⟨R7, outS (AA m c) (LBv m c) (NWv m c) (bOf t) (8 * (t.val % 16) + 7)⟩, ⟨R6, outS (AA m c) (LBv m c) (NWv m c) (bOf t) (8 * (t.val % 16) + 6)⟩, ⟨R5, outS (AA m c) (LBv m c) (NWv m c) (bOf t) (8 * (t.val % 16) + 5)⟩, ⟨R4, outS (AA m c) (LBv m c) (NWv m c) (bOf t) (8 * (t.val % 16) + 4)⟩, ⟨R3, outS (AA m c) (LBv m c) (NWv m c) (bOf t) (8 * (t.val % 16) + 3)⟩, ⟨R2, outS (AA m c) (LBv m c) (NWv m c) (bOf t) (8 * (t.val % 16) + 2)⟩, ⟨R1, outS (AA m c) (LBv m c) (NWv m c) (bOf t) (8 * (t.val % 16) + 1)⟩, ⟨R0, outS (AA m c) (LBv m c) (NWv m c) (bOf t) (8 * (t.val % 16) + 0)⟩] : List (View.Piece (Elt F) S1x512x512 .bf16)) ?_ y
    (View.cover_of_tiledL ([⟨R7, outS (AA m c) (LBv m c) (NWv m c) (bOf t) (8 * (t.val % 16) + 7)⟩, ⟨R6, outS (AA m c) (LBv m c) (NWv m c) (bOf t) (8 * (t.val % 16) + 6)⟩, ⟨R5, outS (AA m c) (LBv m c) (NWv m c) (bOf t) (8 * (t.val % 16) + 5)⟩, ⟨R4, outS (AA m c) (LBv m c) (NWv m c) (bOf t) (8 * (t.val % 16) + 4)⟩, ⟨R3, outS (AA m c) (LBv m c) (NWv m c) (bOf t) (8 * (t.val % 16) + 3)⟩, ⟨R2, outS (AA m c) (LBv m c) (NWv m c) (bOf t) (8 * (t.val % 16) + 2)⟩, ⟨R1, outS (AA m c) (LBv m c) (NWv m c) (bOf t) (8 * (t.val % 16) + 1)⟩, ⟨R0, outS (AA m c) (LBv m c) (NWv m c) (bOf t) (8 * (t.val % 16) + 0)⟩] : List (View.Piece (Elt F) S1x512x512 .bf16)) S1x64x512.size (by sl_kernel_rfl) y)
  refine View.PiecesOf.mem ?_
  unfold View.PiecesOf View.PiecesOf View.PiecesOf View.PiecesOf View.PiecesOf View.PiecesOf View.PiecesOf View.PiecesOf View.PiecesOf
  refine ⟨?_, ?_, ?_, ?_, ?_, ?_, ?_, ?_, trivial⟩
  · intro x
    have h0 : (x 0).val < 1 := (x 0).isLt
    have h1 : (x 1).val < 64 := (x 1).isLt
    have hj : (R7.emb x 1).val = 448 + 1 * (x 1).val := rfl
    have h2 : (R7.emb x 2).val = 0 + 1 * (x 2).val := rfl
    show outS _ _ _ _ _ x = outS _ _ _ _ (8 * (t.val % 16) + (R7.emb x 1).val / 64) _
    have e : (R7.emb x 1).val / 64 = 7 := by omega
    rw [e]
    congr 1
    funext a
    apply Fin.ext
    match a with
    | ⟨0, _⟩ => show (x 0).val = 0; omega
    | ⟨1, _⟩ => show (x 1).val = (R7.emb x 1).val % 64; omega
    | ⟨2, _⟩ => show (x 2).val = (R7.emb x 2).val; omega
  · intro x
    have h0 : (x 0).val < 1 := (x 0).isLt
    have h1 : (x 1).val < 64 := (x 1).isLt
    have hj : (R6.emb x 1).val = 384 + 1 * (x 1).val := rfl
    have h2 : (R6.emb x 2).val = 0 + 1 * (x 2).val := rfl
    show outS _ _ _ _ _ x = outS _ _ _ _ (8 * (t.val % 16) + (R6.emb x 1).val / 64) _
    have e : (R6.emb x 1).val / 64 = 6 := by omega
    rw [e]
    congr 1
    funext a
    apply Fin.ext
    match a with
    | ⟨0, _⟩ => show (x 0).val = 0; omega
    | ⟨1, _⟩ => show (x 1).val = (R6.emb x 1).val % 64; omega
    | ⟨2, _⟩ => show (x 2).val = (R6.emb x 2).val; omega
  · intro x
    have h0 : (x 0).val < 1 := (x 0).isLt
    have h1 : (x 1).val < 64 := (x 1).isLt
    have hj : (R5.emb x 1).val = 320 + 1 * (x 1).val := rfl
    have h2 : (R5.emb x 2).val = 0 + 1 * (x 2).val := rfl
    show outS _ _ _ _ _ x = outS _ _ _ _ (8 * (t.val % 16) + (R5.emb x 1).val / 64) _
    have e : (R5.emb x 1).val / 64 = 5 := by omega
    rw [e]
    congr 1
    funext a
    apply Fin.ext
    match a with
    | ⟨0, _⟩ => show (x 0).val = 0; omega
    | ⟨1, _⟩ => show (x 1).val = (R5.emb x 1).val % 64; omega
    | ⟨2, _⟩ => show (x 2).val = (R5.emb x 2).val; omega
  · intro x
    have h0 : (x 0).val < 1 := (x 0).isLt
    have h1 : (x 1).val < 64 := (x 1).isLt
    have hj : (R4.emb x 1).val = 256 + 1 * (x 1).val := rfl
    have h2 : (R4.emb x 2).val = 0 + 1 * (x 2).val := rfl
    show outS _ _ _ _ _ x = outS _ _ _ _ (8 * (t.val % 16) + (R4.emb x 1).val / 64) _
    have e : (R4.emb x 1).val / 64 = 4 := by omega
    rw [e]
    congr 1
    funext a
    apply Fin.ext
    match a with
    | ⟨0, _⟩ => show (x 0).val = 0; omega
    | ⟨1, _⟩ => show (x 1).val = (R4.emb x 1).val % 64; omega
    | ⟨2, _⟩ => show (x 2).val = (R4.emb x 2).val; omega
  · intro x
    have h0 : (x 0).val < 1 := (x 0).isLt
    have h1 : (x 1).val < 64 := (x 1).isLt
    have hj : (R3.emb x 1).val = 192 + 1 * (x 1).val := rfl
    have h2 : (R3.emb x 2).val = 0 + 1 * (x 2).val := rfl
    show outS _ _ _ _ _ x = outS _ _ _ _ (8 * (t.val % 16) + (R3.emb x 1).val / 64) _
    have e : (R3.emb x 1).val / 64 = 3 := by omega
    rw [e]
    congr 1
    funext a
    apply Fin.ext
    match a with
    | ⟨0, _⟩ => show (x 0).val = 0; omega
    | ⟨1, _⟩ => show (x 1).val = (R3.emb x 1).val % 64; omega
    | ⟨2, _⟩ => show (x 2).val = (R3.emb x 2).val; omega
  · intro x
    have h0 : (x 0).val < 1 := (x 0).isLt
    have h1 : (x 1).val < 64 := (x 1).isLt
    have hj : (R2.emb x 1).val = 128 + 1 * (x 1).val := rfl
    have h2 : (R2.emb x 2).val = 0 + 1 * (x 2).val := rfl
    show outS _ _ _ _ _ x = outS _ _ _ _ (8 * (t.val % 16) + (R2.emb x 1).val / 64) _
    have e : (R2.emb x 1).val / 64 = 2 := by omega
    rw [e]
    congr 1
    funext a
    apply Fin.ext
    match a with
    | ⟨0, _⟩ => show (x 0).val = 0; omega
    | ⟨1, _⟩ => show (x 1).val = (R2.emb x 1).val % 64; omega
    | ⟨2, _⟩ => show (x 2).val = (R2.emb x 2).val; omega
  · intro x
    have h0 : (x 0).val < 1 := (x 0).isLt
    have h1 : (x 1).val < 64 := (x 1).isLt
    have hj : (R1.emb x 1).val = 64 + 1 * (x 1).val := rfl
    have h2 : (R1.emb x 2).val = 0 + 1 * (x 2).val := rfl
    show outS _ _ _ _ _ x = outS _ _ _ _ (8 * (t.val % 16) + (R1.emb x 1).val / 64) _
    have e : (R1.emb x 1).val / 64 = 1 := by omega
    rw [e]
    congr 1
    funext a
    apply Fin.ext
    match a with
    | ⟨0, _⟩ => show (x 0).val = 0; omega
    | ⟨1, _⟩ => show (x 1).val = (R1.emb x 1).val % 64; omega
    | ⟨2, _⟩ => show (x 2).val = (R1.emb x 2).val; omega
  · intro x
    have h0 : (x 0).val < 1 := (x 0).isLt
    have h1 : (x 1).val < 64 := (x 1).isLt
    have hj : (R0.emb x 1).val = 0 + 1 * (x 1).val := rfl
    have h2 : (R0.emb x 2).val = 0 + 1 * (x 2).val := rfl
    show outS _ _ _ _ _ x = outS _ _ _ _ (8 * (t.val % 16) + (R0.emb x 1).val / 64) _
    have e : (R0.emb x 1).val / 64 = 0 := by omega
    rw [e]
    congr 1
    funext a
    apply Fin.ext
    match a with
    | ⟨0, _⟩ => show (x 0).val = 0; omega
    | ⟨1, _⟩ => show (x 1).val = (R0.emb x 1).val % 64; omega
    | ⟨2, _⟩ => show (x 2).val = (R0.emb x 2).val; omega

/-- The output block after each point. -/
theorem out_eq (t : Fin cfg0.N) : (outsAt0 m c t.val t.isLt).1 = GB (AA m c) (LBv m c) (NWv m c) (bOf t) (t.val % 16) := by
  by_cases h0 : t.val % 16 = 0
  · rw [outsAt0_A m c t h0]
    dsimp only
    unfold out0_A_6
    obtain ⟨e1, e2, e3, e4, e5, e6, e7, e8⟩ := chain8 m c t (k0_pay2 (F := F)) (by rw [h0]; rfl)
    have ez : (k0_pay2 (F := F)) = SS (AA m c) (LBv m c) (bOf t) (8 * (t.val % 16)) := by rw [h0]; rfl
    rw [View.read_writes_junk_eq_canon, ouA, blk4, blk5, e1, e2, e3, e4, e5, e6, e7, ez]
    simp only [ch0_0, ch0_1, ch0_2, ch0_3, ch0_4, ch0_5, ch0_6, ch0_7, ch1_0, ch1_1, ch1_2, ch1_3, ch1_4, ch1_5, ch1_6, ch1_7, ch2_0, ch2_1, ch2_2, ch2_3, ch2_4, ch2_5, ch2_6, ch2_7, ch3_0, ch3_1, ch3_2, ch3_3, ch3_4, ch3_5, ch3_6, ch3_7]
    exact canonG m c t
  · rw [outsAt0_B m c t h0]
    dsimp only
    unfold out0_B_6
    have ez : (outsAt0 m c (t.val - 1) (Nat.lt_of_le_of_lt (Nat.sub_le _ _) t.isLt)).2 = SS (AA m c) (LBv m c) (bOf t) (8 * (t.val % 16)) := by
      rw [st_eq]
      have hb : bOf ⟨t.val - 1, Nat.lt_of_le_of_lt (Nat.sub_le _ _) t.isLt⟩ = bOf t := Fin.ext (by show (t.val - 1) / 16 = t.val / 16; omega)
      have hs : 8 * ((t.val - 1) % 16) + 8 = 8 * (t.val % 16) := by omega
      rw [hb, hs]
    obtain ⟨e1, e2, e3, e4, e5, e6, e7, e8⟩ := chain8 m c t _ ez
    rw [View.read_writes_junk_eq_canon, ouB, blk4, blk5, e1, e2, e3, e4, e5, e6, e7, ez]
    simp only [ch0_0, ch0_1, ch0_2, ch0_3, ch0_4, ch0_5, ch0_6, ch0_7, ch1_0, ch1_1, ch1_2, ch1_3, ch1_4, ch1_5, ch1_6, ch1_7, ch2_0, ch2_1, ch2_2, ch2_3, ch2_4, ch2_5, ch2_6, ch2_7, ch3_0, ch3_1, ch3_2, ch3_3, ch3_4, ch3_5, ch3_6, ch3_7]
    exact canonG m c t

/-- What the result array holds. -/
theorem G6_eq (i : S8x8192x512.Idx) : G6 m c i = outS (AA m c) (LBv m c) (NWv m c) (i 0) ((i 1).val / 64)
    (ix3 0 ⟨(i 1).val % 64, Nat.mod_lt _ (by decide)⟩ (i 2)) := by
  have h0 : (i 0).val < 8 := (i 0).isLt
  have h1 : (i 1).val < 8192 := (i 1).isLt
  have h2 : (i 2).val < 512 := (i 2).isLt
  have hp : pt6Of i = 16 * (i 0).val + (i 1).val / 512 := by
    show 16 * ((i 0).val / 1 - 0) + 1 * ((i 1).val / 512 - 0) + 1 * ((i 2).val / 512 - 0) = _
    omega
  have hN : pt6Of i < cfg0.N := by rw [hp]; exact lt_of_lt_of_eq (by omega) N_0.symm
  unfold G6
  rw [dif_pos hN, ← outsAt0_sweep m c (pt6Of i) hN, out_eq m c ⟨pt6Of i, hN⟩]
  have hb : bOf ⟨pt6Of i, hN⟩ = i 0 := Fin.ext (by show pt6Of i / 16 = (i 0).val; rw [hp]; omega)
  have hs : (8 * ((⟨pt6Of i, hN⟩ : Fin cfg0.N).val % 16) + (i 1).val % 512 / 64) = (i 1).val / 64 := by
    show 8 * (pt6Of i % 16) + _ = _; rw [hp]; omega
  show outS _ _ _ (bOf ⟨pt6Of i, hN⟩) (8 * ((⟨pt6Of i, hN⟩ : Fin cfg0.N).val % 16) + (i 1).val % 512 / 64) _ = _
  rw [hb, hs]
  congr 1
  funext a
  apply Fin.ext
  match a with
  | ⟨0, _⟩ => rfl
  | ⟨1, _⟩ => show (i 1).val % 512 % 64 = (i 1).val % 64; omega
  | ⟨2, _⟩ => show (i 2).val % 512 = (i 2).val; omega

end Cert.KernelIdeal.Point

end
-- ==== Proof.Spec.lean ====
/-
  One chunk of 64 rows of the gated recurrence over the extended reals: the gates' lower bounds, the gates, their summed
  logarithms, the scores inside the chunk, the state's step over a chunk, and the chunk's rows of the result.
-/
module

public import Idealize.ShloMosaic.PureOps.Ideal

@[expose] public section

noncomputable section

open Idealize.ShloMosaic

namespace Cert.Hgrn

/-- The column of the 512 that head `h` keeps at its `d`-th of 128. -/
def col (h : Fin 4) (d : Fin 128) : Fin 512 := ⟨h.val * 128 + d.val, by omega⟩

theorem col_surj (l : Fin 512) : ∃ h d, l = col h d :=
  ⟨⟨l.val / 128, by omega⟩, ⟨l.val % 128, by omega⟩, Fin.ext (by show l.val = l.val / 128 * 128 + l.val % 128; omega)⟩

/-- The larger of the two rows. -/
def top (x : Fin 2 → EReal) : EReal := Finset.univ.fold max (Ideal.ofBits .f32 4286578688#32) x

/-- The gates' lower bound: the first entry of the softmax of the two rows. -/
def low (x : Fin 2 → Fin 512 → EReal) (l : Fin 512) : EReal :=
  Ideal.div (Ideal.exp (x 0 l - top fun a => x a l)) (∑ a, Ideal.exp (x a l - top fun a => x a l))

/-- The forget gate. -/
def gate (L : Fin 512 → EReal) (f : Fin 64 → Fin 512 → EReal) (r : Fin 64) (l : Fin 512) : EReal :=
  L l + (1 - L l) * Ideal.logistic (f r l)

/-- The sum of the gates' logarithms through row `r`. -/
def acc (L : Fin 512 → EReal) (f : Fin 64 → Fin 512 → EReal) (r : Fin 64) (l : Fin 512) : EReal :=
  ∑ t : Fin 64, if t ≤ r then Ideal.log (gate L f t l) else 0

/-- The key: what the gate lets in. -/
def key (L : Fin 512 → EReal) (f : Fin 64 → Fin 512 → EReal) (r : Fin 64) (l : Fin 512) : EReal := 1 - gate L f r l

/-- Row `r` against row `s` of head `h`, both scaled to the chunk's middle. -/
def score (L : Fin 512 → EReal) (f q : Fin 64 → Fin 512 → EReal) (h : Fin 4) (r s : Fin 64) : EReal :=
  ∑ d : Fin 128, (q r (col h d) * Ideal.exp (acc L f r (col h d) - acc L f 31 (col h d)))
    * (key L f s (col h d) * Ideal.exp (acc L f 31 (col h d) - acc L f s (col h d)))

/-- Head `h`'s state after a chunk, from its state `S` before it (value by key). -/
def nxt (L : Fin 512 → EReal) (f i : Fin 64 → Fin 512 → EReal) (S : Fin 4 → Fin 128 → Fin 128 → EReal) (h : Fin 4) (v d : Fin 128) : EReal :=
  Ideal.exp (acc L f 63 (col h d)) * S h v d
    + ∑ r : Fin 64, i r (col h v) * (key L f r (col h d) * Ideal.exp (acc L f 63 (col h d) - acc L f r (col h d)))

/-- Head `h`'s row `r` before the norm. -/
def row (L : Fin 512 → EReal) (f i q : Fin 64 → Fin 512 → EReal) (S : Fin 4 → Fin 128 → Fin 128 → EReal) (h : Fin 4) (r : Fin 64) (v : Fin 128) : EReal :=
  (∑ s : Fin 64, (if s ≤ r then score L f q h r s else 0) * i s (col h v))
    + ∑ d : Fin 128, (q r (col h d) * Ideal.exp (acc L f r (col h d))) * S h v d

/-- The factor that norms a head's row. -/
def nrm (o : Fin 128 → EReal) : EReal :=
  Ideal.rsqrt (Ideal.div (∑ x, o x * o x) (Ideal.ofBits .f32 1124073472#32) + Ideal.ofBits .f32 925353388#32)

/-- Row `r`, head `h`, of the result. -/
def res (L w : Fin 512 → EReal) (f i q g : Fin 64 → Fin 512 → EReal) (S : Fin 4 → Fin 128 → Fin 128 → EReal) (h : Fin 4) (r : Fin 64) (v : Fin 128) : EReal :=
  row L f i q S h r v * nrm (row L f i q S h r) * w (col h v) * (g r (col h v) * Ideal.logistic (g r (col h v)))

/-- The causal choice as a factor. -/
theorem mask_mul (r t : Fin 64) (x : EReal) : (if t ≤ r then (1 : EReal) else 0) * x = if t ≤ r then x else 0 := by
  split_ifs
  · exact one_mul x
  · exact zero_mul x

theorem max_top (x : Fin 2 → EReal) : max (Ideal.ofBits .f32 4286578688#32) (top x) = top x :=
  max_eq_right ((Finset.le_fold_max _).2 (Or.inl le_rfl))

/-- Every head's state before chunk `n`. -/
def st (L : Fin 512 → EReal) (f i : ℕ → Fin 64 → Fin 512 → EReal) : ℕ → Fin 4 → Fin 128 → Fin 128 → EReal
  | 0 => fun _ _ _ => 0
  | n + 1 => nxt L (f n) (i n) (st L f i n)

end Cert.Hgrn

end
-- ==== Proof.KIdeal.lean ====
/-
  The kernel's chunk over the extended reals: what its state's step and its rows are, entry by entry.
-/
module

public import proofs.«01_k».proof.Proof.Sweep
public import proofs.«01_k».proof.Proof.Spec
public import Idealize.ShloMosaic.Lib.Pointwise

@[expose] public section

set_option maxRecDepth 65536
set_option maxErrors 8

noncomputable section

open Idealize.ShloMosaic Idealize.ShloMosaic.TcCoe Idealize.SL.Sem

namespace Cert.KernelIdeal.Chunk

open Cert.KernelIdeal Cert.KernelIdeal.Gen Cert.KernelIdeal.Point Cert.Hgrn

/-- A chunk's entries by row and column. -/
abbrev rw (f : Vec Ideal S1x64x512 .bf16) : Fin 64 → Fin 512 → EReal := fun r l => f (ix3 0 r l)
/-- The lower bounds from the two rows of the array. -/
abbrev lo (lb : Vec Ideal S2x512 .f32) : Fin 512 → EReal := low fun a l => lb (ix2 a l)
/-- A state's entries by head, value and key. -/
abbrev stt (X : Vec Ideal S4x128x128 .f32) : Fin 4 → Fin 128 → Fin 128 → EReal := fun h v d => X (ix3 h v d)

theorem c0 (x : Fin 128) (h : x.val < 512) : (⟨x.val, h⟩ : Fin 512) = col 0 x := Fin.ext (by show x.val = 0 * 128 + x.val; omega)
theorem c1 (x : Fin 128) (h : 128 + x.val < 512) : (⟨128 + x.val, h⟩ : Fin 512) = col 1 x := Fin.ext (by show 128 + x.val = 1 * 128 + x.val; omega)
theorem c2 (x : Fin 128) (h : 256 + x.val < 512) : (⟨256 + x.val, h⟩ : Fin 512) = col 2 x := Fin.ext (by show 256 + x.val = 2 * 128 + x.val; omega)
theorem c3 (x : Fin 128) (h : 384 + x.val < 512) : (⟨384 + x.val, h⟩ : Fin 512) = col 3 x := Fin.ext (by show 384 + x.val = 3 * 128 + x.val; omega)

variable (lb : Vec Ideal S2x512 .f32) (f i q g : Vec Ideal S1x64x512 .bf16)

theorem p3 (l : Fin 512) : k0_pay3 (F := Ideal) lb (ix2 0 l) = lo lb l := by
  unfold k0_pay3
  pointwise
  rw [Fin.sum_univ_one]
  rfl

theorem cmp : ∀ r s : Fin 64, IntOp.cmpi .sge (BitVec.ofNat 32 r.val) (BitVec.ofNat 32 s.val) = if s ≤ r then 1#1 else 0#1 := by
  decide +kernel

theorem p4 (r s : Fin 64) : k0_pay4 (ix2 r s) = if s ≤ r then 1#1 else 0#1 := by
  unfold k0_pay4
  pointwise
  exact cmp r s

theorem p5 (r s : Fin 64) : k0_pay5 (F := Ideal) (ix2 r s) = if s ≤ r then 1 else 0 := by
  unfold k0_pay5
  pointwise
  rw [p4]
  split_ifs
  · show ((((BitVec.setWidth 32 (1#1)).toInt : ℤ) : ℝ) : EReal) = 1
    rw [show (BitVec.setWidth 32 (1#1)).toInt = 1 from by decide]; norm_num
  · show ((((BitVec.setWidth 32 (0#1)).toInt : ℤ) : ℝ) : EReal) = 0
    rw [show (BitVec.setWidth 32 (0#1)).toInt = 0 from by decide]; norm_num

theorem p6 (r : Fin 64) (l : Fin 512) : k0_pay6 (F := Ideal) lb f (ix2 r l) = gate (lo lb) (rw f) r l := by
  unfold k0_pay6
  pointwise
  rw [p3]; rfl

theorem p7 (r : Fin 64) (l : Fin 512) : k0_pay7 (F := Ideal) lb f (ix2 r l) = key (lo lb) (rw f) r l := by
  unfold k0_pay7
  pointwise
  rw [p6]; rfl

theorem p8 (r : Fin 64) (l : Fin 512) : k0_pay8 (F := Ideal) lb f (ix2 r l) = acc (lo lb) (rw f) r l := by
  unfold k0_pay8
  pointwise
  refine Finset.sum_congr rfl fun t _ => ?_
  rw [p5, p6, mask_mul]

theorem p9 (l : Fin 512) : k0_pay9 (F := Ideal) lb f (ix2 0 l) = acc (lo lb) (rw f) 31 l := by
  unfold k0_pay9
  pointwise
  exact p8 lb f 31 l

theorem p10 (l : Fin 512) : k0_pay10 (F := Ideal) lb f (ix2 0 l) = acc (lo lb) (rw f) 63 l := by
  unfold k0_pay10
  pointwise
  exact p8 lb f 63 l

theorem p11 (r : Fin 64) (l : Fin 512) : k0_pay11 (F := Ideal) q (ix2 r l) = rw q r l := by
  unfold k0_pay11
  pointwise

theorem p12 (r : Fin 64) (l : Fin 512) : k0_pay12 (F := Ideal) i (ix2 r l) = rw i r l := by
  unfold k0_pay12
  pointwise

theorem p13 (r : Fin 64) (l : Fin 512) : k0_pay13 (F := Ideal) (k0_pay8 lb f) (k0_pay9 lb f) (k0_pay11 q) (ix2 r l)
    = rw q r l * Ideal.exp (acc (lo lb) (rw f) r l - acc (lo lb) (rw f) 31 l) := by
  unfold k0_pay13
  pointwise [p8, p9, p11]

theorem p14 (r : Fin 64) (l : Fin 512) : k0_pay14 (F := Ideal) (k0_pay7 lb f) (k0_pay8 lb f) (k0_pay9 lb f) (ix2 r l)
    = key (lo lb) (rw f) r l * Ideal.exp (acc (lo lb) (rw f) 31 l - acc (lo lb) (rw f) r l) := by
  unfold k0_pay14
  pointwise [p7, p8, p9]

theorem p15 (r : Fin 64) (l : Fin 512) : k0_pay15 (F := Ideal) (k0_pay8 lb f) (k0_pay11 q) (ix2 r l)
    = rw q r l * Ideal.exp (acc (lo lb) (rw f) r l) := by
  unfold k0_pay15
  pointwise [p8, p11]

theorem p16 (r : Fin 64) (l : Fin 512) : kEnd (F := Ideal) lb f (ix2 r l)
    = key (lo lb) (rw f) r l * Ideal.exp (acc (lo lb) (rw f) 63 l - acc (lo lb) (rw f) r l) := by
  unfold kEnd k0_pay16
  pointwise [p7, p8, p10]

theorem p17 (l : Fin 512) : dec (F := Ideal) lb f (ix2 0 l) = Ideal.exp (acc (lo lb) (rw f) 63 l) := by
  unfold dec k0_pay17
  pointwise [p10]

theorem sel {a : EReal} {r t : Fin 64} {b : EReal} : Scalar.select (if t ≤ r then 1#1 else 0#1) a b = if t ≤ r then a else b := by
  split_ifs <;> rfl

theorem ite_mul' {a c : EReal} {r t : Fin 64} : (if t ≤ r then a else 0) * c = if t ≤ r then a * c else 0 := by
  split_ifs
  · rfl
  · exact zero_mul c

/-- The state after a chunk as one array. -/
def GG (X : Vec Ideal S4x128x128 .f32) (y : S4x128x128.Idx) : EReal := nxt (lo lb) (rw f) (rw i) (stt X) (y 0) (y 1) (y 2)

theorem sc0 (r s : Fin 64) : k0_pay18 (F := Ideal) (k0_pay7 lb f) (k0_pay8 lb f) (k0_pay9 lb f) (k0_pay11 q) (ix2 r s) = score (lo lb) (rw f) (rw q) 0 r s := by
  unfold k0_pay18
  pointwise
  refine Finset.sum_congr rfl fun x _ => ?_
  rw [p13, p14, c0]

theorem ohx0 (X : Vec Ideal S4x128x128 .f32) (r : Fin 64) (v : Fin 128) : oh0 (F := Ideal) lb f i q (View.ld X H0) (ix2 r v) = row (lo lb) (rw f) (rw i) (rw q) (stt X) 0 r v := by
  unfold oh0 k0_pay27 k0_pay22 k0_pay26
  pointwise
  unfold row
  refine congrArg₂ (· + ·) (Finset.sum_congr rfl fun s _ => ?_) (Finset.sum_congr rfl fun d _ => ?_)
  · rw [p4, sc0, p12, sel, c0, ite_mul']
  · rw [p15, c0]

theorem stx0 (X : Vec Ideal S4x128x128 .f32) (x : S1x128x128.Idx) : st0 (F := Ideal) lb f i (View.ld X H0) x = GG lb f i X (H0.emb x) := by
  obtain ⟨a, v, d, rfl⟩ : ∃ (a : Fin 1) (v d : Fin 128), x = ix3 a v d := ⟨x 0, x 1, x 2, by funext a; match a with | ⟨0, _⟩ => rfl | ⟨1, _⟩ => rfl | ⟨2, _⟩ => rfl⟩
  obtain rfl : a = 0 := Subsingleton.elim _ _
  rw [show H0.emb (ix3 0 v d) = ix3 0 v d from funext fun a => Fin.ext (by
    match a with
    | ⟨0, _⟩ => rfl
    | ⟨1, _⟩ => show 0 + 1 * v.val = v.val; omega
    | ⟨2, _⟩ => show 0 + 1 * d.val = d.val; omega)]
  show _ = nxt (lo lb) (rw f) (rw i) (stt X) 0 v d
  unfold st0 k0_pay31 k0_pay22
  pointwise
  unfold nxt
  refine congrArg₂ (· + ·) ?_ (Finset.sum_congr rfl fun r _ => ?_)
  · rw [p17, c0]
  · rw [p12, p16, c0, c0]

theorem sc1 (r s : Fin 64) : k0_pay19 (F := Ideal) (k0_pay7 lb f) (k0_pay8 lb f) (k0_pay9 lb f) (k0_pay11 q) (ix2 r s) = score (lo lb) (rw f) (rw q) 1 r s := by
  unfold k0_pay19
  pointwise
  refine Finset.sum_congr rfl fun x _ => ?_
  rw [p13, p14, c1]

theorem ohx1 (X : Vec Ideal S4x128x128 .f32) (r : Fin 64) (v : Fin 128) : oh1 (F := Ideal) lb f i q (View.ld X H1) (ix2 r v) = row (lo lb) (rw f) (rw i) (rw q) (stt X) 1 r v := by
  unfold oh1 k0_pay28 k0_pay23
  pointwise
  unfold row
  refine congrArg₂ (· + ·) (Finset.sum_congr rfl fun s _ => ?_) (Finset.sum_congr rfl fun d _ => ?_)
  · rw [p4, sc1, p12, sel, c1, ite_mul']
  · rw [p15, c1]

theorem stx1 (X : Vec Ideal S4x128x128 .f32) (x : S1x128x128.Idx) : st1 (F := Ideal) lb f i (View.ld X H1) x = GG lb f i X (H1.emb x) := by
  obtain ⟨a, v, d, rfl⟩ : ∃ (a : Fin 1) (v d : Fin 128), x = ix3 a v d := ⟨x 0, x 1, x 2, by funext a; match a with | ⟨0, _⟩ => rfl | ⟨1, _⟩ => rfl | ⟨2, _⟩ => rfl⟩
  obtain rfl : a = 0 := Subsingleton.elim _ _
  rw [show H1.emb (ix3 0 v d) = ix3 1 v d from funext fun a => Fin.ext (by
    match a with
    | ⟨0, _⟩ => rfl
    | ⟨1, _⟩ => show 0 + 1 * v.val = v.val; omega
    | ⟨2, _⟩ => show 0 + 1 * d.val = d.val; omega)]
  show _ = nxt (lo lb) (rw f) (rw i) (stt X) 1 v d
  unfold st1 k0_pay32 k0_pay23
  pointwise
  unfold nxt
  refine congrArg₂ (· + ·) ?_ (Finset.sum_congr rfl fun r _ => ?_)
  · rw [p17, c1]
  · rw [p12, p16, c1, c1]

theorem sc2 (r s : Fin 64) : k0_pay20 (F := Ideal) (k0_pay7 lb f) (k0_pay8 lb f) (k0_pay9 lb f) (k0_pay11 q) (ix2 r s) = score (lo lb) (rw f) (rw q) 2 r s := by
  unfold k0_pay20
  pointwise
  refine Finset.sum_congr rfl fun x _ => ?_
  rw [p13, p14, c2]

theorem ohx2 (X : Vec Ideal S4x128x128 .f32) (r : Fin 64) (v : Fin 128) : oh2 (F := Ideal) lb f i q (View.ld X H2) (ix2 r v) = row (lo lb) (rw f) (rw i) (rw q) (stt X) 2 r v := by
  unfold oh2 k0_pay29 k0_pay24
  pointwise
  unfold row
  refine congrArg₂ (· + ·) (Finset.sum_congr rfl fun s _ => ?_) (Finset.sum_congr rfl fun d _ => ?_)
  · rw [p4, sc2, p12, sel, c2, ite_mul']
  · rw [p15, c2]

theorem stx2 (X : Vec Ideal S4x128x128 .f32) (x : S1x128x128.Idx) : st2 (F := Ideal) lb f i (View.ld X H2) x = GG lb f i X (H2.emb x) := by
  obtain ⟨a, v, d, rfl⟩ : ∃ (a : Fin 1) (v d : Fin 128), x = ix3 a v d := ⟨x 0, x 1, x 2, by funext a; match a with | ⟨0, _⟩ => rfl | ⟨1, _⟩ => rfl | ⟨2, _⟩ => rfl⟩
  obtain rfl : a = 0 := Subsingleton.elim _ _
  rw [show H2.emb (ix3 0 v d) = ix3 2 v d from funext fun a => Fin.ext (by
    match a with
    | ⟨0, _⟩ => rfl
    | ⟨1, _⟩ => show 0 + 1 * v.val = v.val; omega
    | ⟨2, _⟩ => show 0 + 1 * d.val = d.val; omega)]
  show _ = nxt (lo lb) (rw f) (rw i) (stt X) 2 v d
  unfold st2 k0_pay33 k0_pay24
  pointwise
  unfold nxt
  refine congrArg₂ (· + ·) ?_ (Finset.sum_congr rfl fun r _ => ?_)
  · rw [p17, c2]
  · rw [p12, p16, c2, c2]

theorem sc3 (r s : Fin 64) : k0_pay21 (F := Ideal) (k0_pay7 lb f) (k0_pay8 lb f) (k0_pay9 lb f) (k0_pay11 q) (ix2 r s) = score (lo lb) (rw f) (rw q) 3 r s := by
  unfold k0_pay21
  pointwise
  refine Finset.sum_congr rfl fun x _ => ?_
  rw [p13, p14, c3]

theorem ohx3 (X : Vec Ideal S4x128x128 .f32) (r : Fin 64) (v : Fin 128) : oh3 (F := Ideal) lb f i q (View.ld X H3) (ix2 r v) = row (lo lb) (rw f) (rw i) (rw q) (stt X) 3 r v := by
  unfold oh3 k0_pay30 k0_pay25
  pointwise
  unfold row
  refine congrArg₂ (· + ·) (Finset.sum_congr rfl fun s _ => ?_) (Finset.sum_congr rfl fun d _ => ?_)
  · rw [p4, sc3, p12, sel, c3, ite_mul']
  · rw [p15, c3]

theorem stx3 (X : Vec Ideal S4x128x128 .f32) (x : S1x128x128.Idx) : st3 (F := Ideal) lb f i (View.ld X H3) x = GG lb f i X (H3.emb x) := by
  obtain ⟨a, v, d, rfl⟩ : ∃ (a : Fin 1) (v d : Fin 128), x = ix3 a v d := ⟨x 0, x 1, x 2, by funext a; match a with | ⟨0, _⟩ => rfl | ⟨1, _⟩ => rfl | ⟨2, _⟩ => rfl⟩
  obtain rfl : a = 0 := Subsingleton.elim _ _
  rw [show H3.emb (ix3 0 v d) = ix3 3 v d from funext fun a => Fin.ext (by
    match a with
    | ⟨0, _⟩ => rfl
    | ⟨1, _⟩ => show 0 + 1 * v.val = v.val; omega
    | ⟨2, _⟩ => show 0 + 1 * d.val = d.val; omega)]
  show _ = nxt (lo lb) (rw f) (rw i) (stt X) 3 v d
  unfold st3 k0_pay34 k0_pay25
  pointwise
  unfold nxt
  refine congrArg₂ (· + ·) ?_ (Finset.sum_congr rfl fun r _ => ?_)
  · rw [p17, c3]
  · rw [p12, p16, c3, c3]

/-- Head by head: the state's piece and the rows before the norm. -/
theorem next_eq (X : Vec Ideal S4x128x128 .f32) (h : Fin 4) (v d : Fin 128) :
    next (F := Ideal) lb f i X (ix3 h v d) = nxt (lo lb) (rw f) (rw i) (stt X) h v d := by
  refine View.canon_apply_of_pieces (GG lb f i X) _ ?_ (ix3 h v d)
    (View.cover_of_tiledL (pcs (F := Ideal) lb f i (View.ld X H0) (View.ld X H1) (View.ld X H2) (View.ld X H3)) S1x128x128.size (by sl_kernel_rfl) _)
  refine View.PiecesOf.mem (G := GG lb f i X) (L := ([⟨H3, st3 lb f i (View.ld X H3)⟩, ⟨H2, st2 lb f i (View.ld X H2)⟩, ⟨H1, st1 lb f i (View.ld X H1)⟩, ⟨H0, st0 lb f i (View.ld X H0)⟩] : List (View.Piece (Elt Ideal) S4x128x128 .f32))) ?_
  refine ⟨fun x => ?_, fun x => ?_, fun x => ?_, fun x => ?_, trivial⟩
  · exact (stx3 lb f i X x)
  · exact (stx2 lb f i X x)
  · exact (stx1 lb f i X x)
  · exact (stx0 lb f i X x)

/-- The rows of a chunk of the result. -/
theorem outX_eq (nw : Vec Ideal S1x512 .f32) (X : Vec Ideal S4x128x128 .f32) (r : Fin 64) (h : Fin 4) (v : Fin 128) :
    outX (F := Ideal) lb nw f i q g X (ix3 0 r (col h v)) = res (lo lb) (fun l => nw (ix2 0 l)) (rw f) (rw i) (rw q) (rw g) (stt X) h r v := by
  unfold outX outC k0_pay38
  pointwise
  unfold k0_pay37 k0_pay36 k0_pay35
  pointwise
  have hv : v.val < 128 := v.isLt
  have e0 : (col 0 v).val = 0 * 128 + v.val := rfl
  have e1 : (col 1 v).val = 1 * 128 + v.val := rfl
  have e2 : (col 2 v).val = 2 * 128 + v.val := rfl
  have e3 : (col 3 v).val = 3 * 128 + v.val := rfl
  match h with
  | 0 =>
    rw [dif_pos (by omega)]
    rw [show (⟨(col 0 v).val, by omega⟩ : Fin 128) = v from Fin.ext (by show (col 0 v).val = _; omega)]
    simp only [ohx0]
    rfl
  | 1 =>
    rw [dif_neg (by omega), dif_pos (by omega)]
    rw [show (⟨(col 1 v).val - 128, by omega⟩ : Fin 128) = v from Fin.ext (by show (col 1 v).val - 128 = _; omega)]
    simp only [ohx1]
    rfl
  | 2 =>
    rw [dif_neg (by omega), dif_neg (by omega), dif_pos (by omega)]
    rw [show (⟨(col 2 v).val - 128 - 128, by omega⟩ : Fin 128) = v from Fin.ext (by show (col 2 v).val - 128 - 128 = _; omega)]
    simp only [ohx2]
    rfl
  | 3 =>
    rw [dif_neg (by omega), dif_neg (by omega), dif_neg (by omega)]
    rw [show (⟨(col 3 v).val - 128 - 128 - 128, by omega⟩ : Fin 128) = v from Fin.ext (by show (col 3 v).val - 128 - 128 - 128 = _; omega)]
    simp only [ohx3]
    rfl

end Cert.KernelIdeal.Chunk

end
-- ==== Proof.RefVals.lean ====
/-
  The plain sequential program's values, stretch by stretch: what each stretch of its host operations leaves in the
  arrays that later stretches read, as a function of the arrays it reads.
-/
module

public import proofs.«01_k».proof.Proof.Gen.ReferenceIdeal.Run

@[expose] public section

set_option maxRecDepth 16384

noncomputable section

open Idealize.ShloMosaic Idealize.ShloMosaic.TcCoe Idealize.SL.Sem Idealize.ShloMosaic.StableHlo

namespace Cert.ReferenceIdeal.Vals

open Cert.ReferenceIdeal Cert.ReferenceIdeal.Gen Cert.ReferenceIdeal.Value

variable {F : FTy → Type} [FloatOps F]

def g_v2 (x_arg0 : (⟨S8x8192x7168, .bf16⟩ : BufTy).Contents (Elt F)) : (⟨S8x8192x512, .f32⟩ : BufTy).Contents (Elt F) :=
  (extractStridedSlice S8x8192x512 ![0, 0, 0] (extf .f32 (extractStridedSlice S8x8192x2048 ![0, 0, 1536] x_arg0 slices_S8x8192x7168_S8x8192x2048_0_0_1536) bitsLt_bf16_f32) slices_S8x8192x2048_S8x8192x512_0_0_0)
theorem w_v2 (V : Valuation τ sig (Elt F)) : after hostOps0 V (Proc.devRef .tc main_v2) = g_v2 (V (Proc.devRef .tc main_arg0)) := by
  after_results; rfl

def g_v3 (x_arg0 : (⟨S8x8192x7168, .bf16⟩ : BufTy).Contents (Elt F)) : (⟨S8x8192x512, .f32⟩ : BufTy).Contents (Elt F) :=
  (extractStridedSlice S8x8192x512 ![0, 0, 512] (extf .f32 (extractStridedSlice S8x8192x2048 ![0, 0, 1536] x_arg0 slices_S8x8192x7168_S8x8192x2048_0_0_1536) bitsLt_bf16_f32) slices_S8x8192x2048_S8x8192x512_0_0_512)
theorem w_v3 (V : Valuation τ sig (Elt F)) : after hostOps0 V (Proc.devRef .tc main_v3) = g_v3 (V (Proc.devRef .tc main_arg0)) := by
  after_results; rfl

def g_v4 (x_arg0 : (⟨S8x8192x7168, .bf16⟩ : BufTy).Contents (Elt F)) : (⟨S8x8192x512, .f32⟩ : BufTy).Contents (Elt F) :=
  (extractStridedSlice S8x8192x512 ![0, 0, 1024] (extf .f32 (extractStridedSlice S8x8192x2048 ![0, 0, 1536] x_arg0 slices_S8x8192x7168_S8x8192x2048_0_0_1536) bitsLt_bf16_f32) slices_S8x8192x2048_S8x8192x512_0_0_1024)
theorem w_v4 (V : Valuation τ sig (Elt F)) : after hostOps0 V (Proc.devRef .tc main_v4) = g_v4 (V (Proc.devRef .tc main_arg0)) := by
  after_results; rfl

def g_v5 (x_arg0 : (⟨S8x8192x7168, .bf16⟩ : BufTy).Contents (Elt F)) : (⟨S8x8192x512, .f32⟩ : BufTy).Contents (Elt F) :=
  (extractStridedSlice S8x8192x512 ![0, 0, 1536] (extf .f32 (extractStridedSlice S8x8192x2048 ![0, 0, 1536] x_arg0 slices_S8x8192x7168_S8x8192x2048_0_0_1536) bitsLt_bf16_f32) slices_S8x8192x2048_S8x8192x512_0_0_1536)
theorem w_v5 (V : Valuation τ sig (Elt F)) : after hostOps0 V (Proc.devRef .tc main_v5) = g_v5 (V (Proc.devRef .tc main_arg0)) := by
  after_results; rfl

def g_v16 (x_arg1 : (⟨S2x512, .f32⟩ : BufTy).Contents (Elt F)) : (⟨S2x512, .f32⟩ : BufTy).Contents (Elt F) :=
  (Host.divf (Host.exp (subf x_arg1 (broadcastInDim S2x512 ![0, 1] bcast_S1x512_S2x512_0_1 (broadcastInDim S1x512 ![1] bcast_S512_S1x512_1 (maximumf (broadcastInDim S512 ![] bcast_S_S512 (constant S_ .f32 0xFF800000#32)) (Host.reduce FloatOps.maximumf x_arg1 (constant S_ .f32 0xFF800000#32) reducesTo_S2x512_S512_d0 h_S_)))))) (broadcastInDim S2x512 ![0, 1] bcast_S1x512_S2x512_0_1 (broadcastInDim S1x512 ![1] bcast_S512_S1x512_1 (Host.reduceAdd (Host.exp (subf x_arg1 (broadcastInDim S2x512 ![0, 1] bcast_S1x512_S2x512_0_1 (broadcastInDim S1x512 ![1] bcast_S512_S1x512_1 (maximumf (broadcastInDim S512 ![] bcast_S_S512 (constant S_ .f32 0xFF800000#32)) (Host.reduce FloatOps.maximumf x_arg1 (constant S_ .f32 0xFF800000#32) reducesTo_S2x512_S512_d0 h_S_)))))) (constant S_ .f32 0x00000000#32) reducesTo_S2x512_S512_d0 h_S_))))
theorem w_v16 (V : Valuation τ sig (Elt F)) : after hostOps0 V (Proc.devRef .tc main_v16) = g_v16 (V (Proc.devRef .tc main_arg1)) := by
  after_results; rfl

def g_v17 (x_v16 : (⟨S2x512, .f32⟩ : BufTy).Contents (Elt F)) : (⟨S2x512, .f32⟩ : BufTy).Contents (Elt F) :=
  (Host.reduceWindowAdd ![2, 1] ![1, 1] ![1, 0] ![0, 0] x_v16 (broadcastInDim S_ ![] bcast_S_S_ (constant S_ .f32 0x00000000#32)) reduceWindows_S2x512_S2x512_w2s1p1_0_w1s1p0_0 h_S_)
theorem w_v17 (V : Valuation τ sig (Elt F)) : after hostOps0_1 V (Proc.devRef .tc main_v17) = g_v17 (V (Proc.devRef .tc main_v16)) := by
  after_results; rfl

def g_v20 (x_arg2 : (⟨S1x512, .f32⟩ : BufTy).Contents (Elt F)) : (⟨S512, .f32⟩ : BufTy).Contents (Elt F) :=
  (shapeCast S512 x_arg2 shapeCasts_S1x512_S512)
theorem w_v20 (V : Valuation τ sig (Elt F)) : after hostOps0_2 V (Proc.devRef .tc main_v20) = g_v20 (V (Proc.devRef .tc main_arg2)) := by
  after_results; rfl

def g_v37 (x_v17 : (⟨S2x512, .f32⟩ : BufTy).Contents (Elt F)) (x_v2 : (⟨S8x8192x512, .f32⟩ : BufTy).Contents (Elt F)) : (⟨S8x4x128x64x128, .f32⟩ : BufTy).Contents (Elt F) :=
  (addf (broadcastInDim S8x4x128x64x128 ![0, 1, 2, 3, 4] bcast_S1x4x1x1x128_S8x4x128x64x128_0_1_2_3_4 (broadcastInDim S1x4x1x1x128 ![1, 2, 3, 4] bcast_S4x1x1x128_S1x4x1x1x128_1_2_3_4 (shapeCast S4x1x1x128 (shapeCast S512 (extractStridedSlice S1x512 ![0, 0] x_v17 slices_S2x512_S1x512_0_0) shapeCasts_S1x512_S512) shapeCasts_S512_S4x1x1x128))) (mulf (broadcastInDim S8x4x128x64x128 ![0, 1, 2, 3, 4] bcast_S1x4x1x1x128_S8x4x128x64x128_0_1_2_3_4 (broadcastInDim S1x4x1x1x128 ![1, 2, 3, 4] bcast_S4x1x1x128_S1x4x1x1x128_1_2_3_4 (subf (broadcastInDim S4x1x1x128 ![] bcast_S_S4x1x1x128 (constant S_ .f32 0x3F800000#32)) (shapeCast S4x1x1x128 (shapeCast S512 (extractStridedSlice S1x512 ![0, 0] x_v17 slices_S2x512_S1x512_0_0) shapeCasts_S1x512_S512) shapeCasts_S512_S4x1x1x128)))) (Host.divf (broadcastInDim S8x4x128x64x128 ![] bcast_S_S8x4x128x64x128 (constant S_ .f32 0x3F800000#32)) (addf (broadcastInDim S8x4x128x64x128 ![] bcast_S_S8x4x128x64x128 (constant S_ .f32 0x3F800000#32)) (Host.exp (Host.negf (transpose S8x4x128x64x128 [0, 3, 1, 2, 4] (shapeCast S8x128x64x4x128 x_v2 shapeCasts_S8x8192x512_S8x128x64x4x128) transposes_S8x128x64x4x128_S8x4x128x64x128_0_3_1_2_4)))))))
theorem w_v37 (V : Valuation τ sig (Elt F)) : after hostOps0_2 V (Proc.devRef .tc main_v37) = g_v37 (V (Proc.devRef .tc main_v17)) (V (Proc.devRef .tc main_v2)) := by
  after_results; rfl

def g_v38 (x_v17 : (⟨S2x512, .f32⟩ : BufTy).Contents (Elt F)) (x_v2 : (⟨S8x8192x512, .f32⟩ : BufTy).Contents (Elt F)) : (⟨S8x4x128x64x128, .f32⟩ : BufTy).Contents (Elt F) :=
  (Host.log (addf (broadcastInDim S8x4x128x64x128 ![0, 1, 2, 3, 4] bcast_S1x4x1x1x128_S8x4x128x64x128_0_1_2_3_4 (broadcastInDim S1x4x1x1x128 ![1, 2, 3, 4] bcast_S4x1x1x128_S1x4x1x1x128_1_2_3_4 (shapeCast S4x1x1x128 (shapeCast S512 (extractStridedSlice S1x512 ![0, 0] x_v17 slices_S2x512_S1x512_0_0) shapeCasts_S1x512_S512) shapeCasts_S512_S4x1x1x128))) (mulf (broadcastInDim S8x4x128x64x128 ![0, 1, 2, 3, 4] bcast_S1x4x1x1x128_S8x4x128x64x128_0_1_2_3_4 (broadcastInDim S1x4x1x1x128 ![1, 2, 3, 4] bcast_S4x1x1x128_S1x4x1x1x128_1_2_3_4 (subf (broadcastInDim S4x1x1x128 ![] bcast_S_S4x1x1x128 (constant S_ .f32 0x3F800000#32)) (shapeCast S4x1x1x128 (shapeCast S512 (extractStridedSlice S1x512 ![0, 0] x_v17 slices_S2x512_S1x512_0_0) shapeCasts_S1x512_S512) shapeCasts_S512_S4x1x1x128)))) (Host.divf (broadcastInDim S8x4x128x64x128 ![] bcast_S_S8x4x128x64x128 (constant S_ .f32 0x3F800000#32)) (addf (broadcastInDim S8x4x128x64x128 ![] bcast_S_S8x4x128x64x128 (constant S_ .f32 0x3F800000#32)) (Host.exp (Host.negf (transpose S8x4x128x64x128 [0, 3, 1, 2, 4] (shapeCast S8x128x64x4x128 x_v2 shapeCasts_S8x8192x512_S8x128x64x4x128) transposes_S8x128x64x4x128_S8x4x128x64x128_0_3_1_2_4))))))))
theorem w_v38 (V : Valuation τ sig (Elt F)) : after hostOps0_2 V (Proc.devRef .tc main_v38) = g_v38 (V (Proc.devRef .tc main_v17)) (V (Proc.devRef .tc main_v2)) := by
  after_results; rfl

def g_v40 (x_v17 : (⟨S2x512, .f32⟩ : BufTy).Contents (Elt F)) (x_v2 : (⟨S8x8192x512, .f32⟩ : BufTy).Contents (Elt F)) : (⟨S8x4x128x64x128, .f32⟩ : BufTy).Contents (Elt F) :=
  (subf (broadcastInDim S8x4x128x64x128 ![] bcast_S_S8x4x128x64x128 (constant S_ .f32 0x3F800000#32)) (addf (broadcastInDim S8x4x128x64x128 ![0, 1, 2, 3, 4] bcast_S1x4x1x1x128_S8x4x128x64x128_0_1_2_3_4 (broadcastInDim S1x4x1x1x128 ![1, 2, 3, 4] bcast_S4x1x1x128_S1x4x1x1x128_1_2_3_4 (shapeCast S4x1x1x128 (shapeCast S512 (extractStridedSlice S1x512 ![0, 0] x_v17 slices_S2x512_S1x512_0_0) shapeCasts_S1x512_S512) shapeCasts_S512_S4x1x1x128))) (mulf (broadcastInDim S8x4x128x64x128 ![0, 1, 2, 3, 4] bcast_S1x4x1x1x128_S8x4x128x64x128_0_1_2_3_4 (broadcastInDim S1x4x1x1x128 ![1, 2, 3, 4] bcast_S4x1x1x128_S1x4x1x1x128_1_2_3_4 (subf (broadcastInDim S4x1x1x128 ![] bcast_S_S4x1x1x128 (constant S_ .f32 0x3F800000#32)) (shapeCast S4x1x1x128 (shapeCast S512 (extractStridedSlice S1x512 ![0, 0] x_v17 slices_S2x512_S1x512_0_0) shapeCasts_S1x512_S512) shapeCasts_S512_S4x1x1x128)))) (Host.divf (broadcastInDim S8x4x128x64x128 ![] bcast_S_S8x4x128x64x128 (constant S_ .f32 0x3F800000#32)) (addf (broadcastInDim S8x4x128x64x128 ![] bcast_S_S8x4x128x64x128 (constant S_ .f32 0x3F800000#32)) (Host.exp (Host.negf (transpose S8x4x128x64x128 [0, 3, 1, 2, 4] (shapeCast S8x128x64x4x128 x_v2 shapeCasts_S8x8192x512_S8x128x64x4x128) transposes_S8x128x64x4x128_S8x4x128x64x128_0_3_1_2_4))))))))
theorem w_v40 (V : Valuation τ sig (Elt F)) : after hostOps0_2 V (Proc.devRef .tc main_v40) = g_v40 (V (Proc.devRef .tc main_v17)) (V (Proc.devRef .tc main_v2)) := by
  after_results; rfl

def g_v42 (x_v4 : (⟨S8x8192x512, .f32⟩ : BufTy).Contents (Elt F)) : (⟨S8x4x128x64x128, .f32⟩ : BufTy).Contents (Elt F) :=
  (transpose S8x4x128x64x128 [0, 3, 1, 2, 4] (shapeCast S8x128x64x4x128 x_v4 shapeCasts_S8x8192x512_S8x128x64x4x128) transposes_S8x128x64x4x128_S8x4x128x64x128_0_3_1_2_4)
theorem w_v42 (V : Valuation τ sig (Elt F)) : after hostOps0_2 V (Proc.devRef .tc main_v42) = g_v42 (V (Proc.devRef .tc main_v4)) := by
  after_results; rfl

def g_v44 (x_v3 : (⟨S8x8192x512, .f32⟩ : BufTy).Contents (Elt F)) : (⟨S8x4x128x64x128, .f32⟩ : BufTy).Contents (Elt F) :=
  (transpose S8x4x128x64x128 [0, 3, 1, 2, 4] (shapeCast S8x128x64x4x128 x_v3 shapeCasts_S8x8192x512_S8x128x64x4x128) transposes_S8x128x64x4x128_S8x4x128x64x128_0_3_1_2_4)
theorem w_v44 (V : Valuation τ sig (Elt F)) : after hostOps0_2 V (Proc.devRef .tc main_v44) = g_v44 (V (Proc.devRef .tc main_v3)) := by
  after_results; rfl

def g_v45 (x_v38 : (⟨S8x4x128x64x128, .f32⟩ : BufTy).Contents (Elt F)) : (⟨S8x4x128x64x128, .f32⟩ : BufTy).Contents (Elt F) :=
  (Host.reduceWindowAdd ![1, 1, 1, 64, 1] ![1, 1, 1, 1, 1] ![0, 0, 0, 63, 0] ![0, 0, 0, 0, 0] x_v38 (broadcastInDim S_ ![] bcast_S_S_ (constant S_ .f32 0x00000000#32)) reduceWindows_S8x4x128x64x128_S8x4x128x64x128_w1s1p0_0_w1s1p0_0_w1s1p0_0_w64s1p63_0_w1s1p0_0 h_S_)
theorem w_v45 (V : Valuation τ sig (Elt F)) : after hostOps0_3 V (Proc.devRef .tc main_v45) = g_v45 (V (Proc.devRef .tc main_v38)) := by
  after_results; rfl

def g_v46 (x_v45 : (⟨S8x4x128x64x128, .f32⟩ : BufTy).Contents (Elt F)) : (⟨S8x4x128x1x128, .f32⟩ : BufTy).Contents (Elt F) :=
  (extractStridedSlice S8x4x128x1x128 ![0, 0, 0, 31, 0] x_v45 slices_S8x4x128x64x128_S8x4x128x1x128_0_0_0_31_0)
theorem w_v46 (V : Valuation τ sig (Elt F)) : after hostOps0_4 V (Proc.devRef .tc main_v46) = g_v46 (V (Proc.devRef .tc main_v45)) := by
  after_results; rfl

def g_v47 (x_v45 : (⟨S8x4x128x64x128, .f32⟩ : BufTy).Contents (Elt F)) : (⟨S8x4x128x1x128, .f32⟩ : BufTy).Contents (Elt F) :=
  (extractStridedSlice S8x4x128x1x128 ![0, 0, 0, 63, 0] x_v45 slices_S8x4x128x64x128_S8x4x128x1x128_0_0_0_63_0)
theorem w_v47 (V : Valuation τ sig (Elt F)) : after hostOps0_4 V (Proc.devRef .tc main_v47) = g_v47 (V (Proc.devRef .tc main_v45)) := by
  after_results; rfl

def g_v48  : (⟨S64x64, .i1⟩ : BufTy).Contents (Elt F) :=
  (broadcastInDim S64x64 ![] bcast_S_S64x64 (constantI S_ 1 1#1))
theorem w_v48 (V : Valuation τ sig (Elt F)) : after hostOps0_4 V (Proc.devRef .tc main_v48) = g_v48  := by
  after_results; rfl

def g_v49 (x_v48 : (⟨S64x64, .i1⟩ : BufTy).Contents (Elt F)) : (⟨S64x64, .i1⟩ : BufTy).Contents (Elt F) :=
  (select (cmpi .sge (addi (iotaInDim S64x64 32 0) (broadcastInDim S64x64 ![] bcast_S_S64x64 (constantI S_ 32 0#32))) (iotaInDim S64x64 32 1)) x_v48 (broadcastInDim S64x64 ![] bcast_S_S64x64 (constantI S_ 1 0#1)))
theorem w_v49 (V : Valuation τ sig (Elt F)) : after hostOps0_5 V (Proc.devRef .tc main_v49) = g_v49 (V (Proc.devRef .tc main_v48)) := by
  after_results; rfl

def g_v58 (x_v42 : (⟨S8x4x128x64x128, .f32⟩ : BufTy).Contents (Elt F)) (x_v45 : (⟨S8x4x128x64x128, .f32⟩ : BufTy).Contents (Elt F)) (x_v46 : (⟨S8x4x128x1x128, .f32⟩ : BufTy).Contents (Elt F)) (x_v40 : (⟨S8x4x128x64x128, .f32⟩ : BufTy).Contents (Elt F)) : (⟨S8x4x128x64x64, .f32⟩ : BufTy).Contents (Elt F) :=
  (Host.dotGeneral dot_S8x4x128x64x128_S8x4x128x64x128_S8x4x128x64x64_4_4_3_3_012_012 none (mulf x_v42 (Host.exp (subf x_v45 (broadcastInDim S8x4x128x64x128 ![0, 1, 2, 3, 4] bcast_S8x4x128x1x128_S8x4x128x64x128_0_1_2_3_4 x_v46)))) (mulf x_v40 (Host.exp (subf (broadcastInDim S8x4x128x64x128 ![0, 1, 2, 3, 4] bcast_S8x4x128x1x128_S8x4x128x64x128_0_1_2_3_4 x_v46) x_v45))))
theorem w_v58 (V : Valuation τ sig (Elt F)) : after hostOps0_6 V (Proc.devRef .tc main_v58) = g_v58 (V (Proc.devRef .tc main_v42)) (V (Proc.devRef .tc main_v45)) (V (Proc.devRef .tc main_v46)) (V (Proc.devRef .tc main_v40)) := by
  after_results; rfl

def g_cst_6  : (⟨S_, .f32⟩ : BufTy).Contents (Elt F) :=
  (constant S_ .f32 0x00000000#32)
theorem w_cst_6 (V : Valuation τ sig (Elt F)) : after hostOps0_6 V (Proc.devRef .tc main_cst_6) = g_cst_6  := by
  after_results; rfl

def g_v59 (x_v49 : (⟨S64x64, .i1⟩ : BufTy).Contents (Elt F)) (x_v58 : (⟨S8x4x128x64x64, .f32⟩ : BufTy).Contents (Elt F)) (x_cst_6 : (⟨S_, .f32⟩ : BufTy).Contents (Elt F)) : (⟨S8x4x128x64x64, .f32⟩ : BufTy).Contents (Elt F) :=
  (select (broadcastInDim S8x4x128x64x64 ![3, 4] bcast_S64x64_S8x4x128x64x64_3_4 x_v49) x_v58 (broadcastInDim S8x4x128x64x64 ![] bcast_S_S8x4x128x64x64 x_cst_6))
theorem w_v59 (V : Valuation τ sig (Elt F)) : after hostOps0_7 V (Proc.devRef .tc main_v59) = g_v59 (V (Proc.devRef .tc main_v49)) (V (Proc.devRef .tc main_v58)) (V (Proc.devRef .tc main_cst_6)) := by
  after_results; rfl

def g_v60 (x_v59 : (⟨S8x4x128x64x64, .f32⟩ : BufTy).Contents (Elt F)) (x_v44 : (⟨S8x4x128x64x128, .f32⟩ : BufTy).Contents (Elt F)) : (⟨S8x4x128x64x128, .f32⟩ : BufTy).Contents (Elt F) :=
  (Host.dotGeneral dot_S8x4x128x64x64_S8x4x128x64x128_S8x4x128x64x128_4_3_3_4_012_012 none x_v59 x_v44)
theorem w_v60 (V : Valuation τ sig (Elt F)) : after hostOps0_8 V (Proc.devRef .tc main_v60) = g_v60 (V (Proc.devRef .tc main_v59)) (V (Proc.devRef .tc main_v44)) := by
  after_results; rfl

def g_v72_0 (x_v47 : (⟨S8x4x128x1x128, .f32⟩ : BufTy).Contents (Elt F)) : (⟨S128x8x4x128, .f32⟩ : BufTy).Contents (Elt F) :=
  (transpose S128x8x4x128 [2, 0, 1, 3] (Host.exp (shapeCast S8x4x128x128 x_v47 shapeCasts_S8x4x128x1x128_S8x4x128x128)) transposes_S8x4x128x128_S128x8x4x128_2_0_1_3)
theorem w_v72_0 (V : Valuation τ sig (Elt F)) : after hostOps0_8 V (Proc.devRef .tc main_v72_0) = g_v72_0 (V (Proc.devRef .tc main_v47)) := by
  after_results; rfl

def g_v72_1 (x_v40 : (⟨S8x4x128x64x128, .f32⟩ : BufTy).Contents (Elt F)) (x_v47 : (⟨S8x4x128x1x128, .f32⟩ : BufTy).Contents (Elt F)) (x_v45 : (⟨S8x4x128x64x128, .f32⟩ : BufTy).Contents (Elt F)) (x_v44 : (⟨S8x4x128x64x128, .f32⟩ : BufTy).Contents (Elt F)) : (⟨S128x8x4x128x128, .f32⟩ : BufTy).Contents (Elt F) :=
  (transpose S128x8x4x128x128 [2, 0, 1, 3, 4] (Host.dotGeneral dot_S8x4x128x64x128_S8x4x128x64x128_S8x4x128x128x128_3_3_4_4_012_012 none (mulf x_v40 (Host.exp (subf (broadcastInDim S8x4x128x64x128 ![0, 1, 2, 3, 4] bcast_S8x4x128x1x128_S8x4x128x64x128_0_1_2_3_4 x_v47) x_v45))) x_v44) transposes_S8x4x128x128x128_S128x8x4x128x128_2_0_1_3_4)
theorem w_v72_1 (V : Valuation τ sig (Elt F)) : after hostOps0_8 V (Proc.devRef .tc main_v72_1) = g_v72_1 (V (Proc.devRef .tc main_v40)) (V (Proc.devRef .tc main_v47)) (V (Proc.devRef .tc main_v45)) (V (Proc.devRef .tc main_v44)) := by
  after_results; rfl

def g_v72_3  : (⟨S8x4x128x128, .f32⟩ : BufTy).Contents (Elt F) :=
  (broadcastInDim S8x4x128x128 ![] bcast_S_S8x4x128x128 (constant S_ .f32 0x00000000#32))
theorem w_v72_3 (V : Valuation τ sig (Elt F)) : after hostOps0_8 V (Proc.devRef .tc main_v72_3) = g_v72_3  := by
  after_results; rfl

def g_v72_4  : (⟨S128x8x4x128x128, .f32⟩ : BufTy).Contents (Elt F) :=
  (broadcastInDim S128x8x4x128x128 ![] bcast_S_S128x8x4x128x128 (constant S_ .f32 0x00000000#32))
theorem w_v72_4 (V : Valuation τ sig (Elt F)) : after hostOps0_8 V (Proc.devRef .tc main_v72_4) = g_v72_4  := by
  after_results; rfl

def g_v92 (x_v60 : (⟨S8x4x128x64x128, .f32⟩ : BufTy).Contents (Elt F)) (x_v42 : (⟨S8x4x128x64x128, .f32⟩ : BufTy).Contents (Elt F)) (x_v45 : (⟨S8x4x128x64x128, .f32⟩ : BufTy).Contents (Elt F)) (x_v72_4 : (⟨S128x8x4x128x128, .f32⟩ : BufTy).Contents (Elt F)) (x_v20 : (⟨S512, .f32⟩ : BufTy).Contents (Elt F)) : (⟨S8x8192x512, .f32⟩ : BufTy).Contents (Elt F) :=
  (mulf (shapeCast S8x8192x512 (transpose S8x128x64x4x128 [0, 2, 3, 1, 4] (mulf (addf x_v60 (Host.dotGeneral dot_S8x4x128x64x128_S8x4x128x128x128_S8x4x128x64x128_4_3_3_4_012_012 none (mulf x_v42 (Host.exp x_v45)) (transpose S8x4x128x128x128 [1, 2, 0, 3, 4] x_v72_4 transposes_S128x8x4x128x128_S8x4x128x128x128_1_2_0_3_4))) (broadcastInDim S8x4x128x64x128 ![0, 1, 2, 3, 4] bcast_S8x4x128x64x1_S8x4x128x64x128_0_1_2_3_4 (Host.rsqrt (addf (Host.divf (broadcastInDim S8x4x128x64x1 ![0, 1, 2, 3] bcast_S8x4x128x64_S8x4x128x64x1_0_1_2_3 (Host.reduceAdd (mulf (addf x_v60 (Host.dotGeneral dot_S8x4x128x64x128_S8x4x128x128x128_S8x4x128x64x128_4_3_3_4_012_012 none (mulf x_v42 (Host.exp x_v45)) (transpose S8x4x128x128x128 [1, 2, 0, 3, 4] x_v72_4 transposes_S128x8x4x128x128_S8x4x128x128x128_1_2_0_3_4))) (addf x_v60 (Host.dotGeneral dot_S8x4x128x64x128_S8x4x128x128x128_S8x4x128x64x128_4_3_3_4_012_012 none (mulf x_v42 (Host.exp x_v45)) (transpose S8x4x128x128x128 [1, 2, 0, 3, 4] x_v72_4 transposes_S128x8x4x128x128_S8x4x128x128x128_1_2_0_3_4)))) (constant S_ .f32 0x00000000#32) reducesTo_S8x4x128x64x128_S8x4x128x64_d4 h_S_)) (broadcastInDim S8x4x128x64x1 ![] bcast_S_S8x4x128x64x1 (constant S_ .f32 0x43000000#32))) (broadcastInDim S8x4x128x64x1 ![] bcast_S_S8x4x128x64x1 (constant S_ .f32 0x3727C5AC#32)))))) transposes_S8x4x128x64x128_S8x128x64x4x128_0_2_3_1_4) shapeCasts_S8x128x64x4x128_S8x8192x512) (broadcastInDim S8x8192x512 ![0, 1, 2] bcast_S1x1x512_S8x8192x512_0_1_2 (broadcastInDim S1x1x512 ![2] bcast_S512_S1x1x512_2 x_v20)))
theorem w_v92 (V : Valuation τ sig (Elt F)) : after hostOps0_9 V (Proc.devRef .tc main_v92) = g_v92 (V (Proc.devRef .tc main_v60)) (V (Proc.devRef .tc main_v42)) (V (Proc.devRef .tc main_v45)) (V (Proc.devRef .tc main_v72_4)) (V (Proc.devRef .tc main_v20)) := by
  after_results; rfl

def g_v93 (x_v5 : (⟨S8x8192x512, .f32⟩ : BufTy).Contents (Elt F)) : (⟨S8x8192x512, .f32⟩ : BufTy).Contents (Elt F) :=
  (mulf x_v5 (Host.divf (broadcastInDim S8x8192x512 ![] bcast_S_S8x8192x512 (constant S_ .f32 0x3F800000#32)) (addf (broadcastInDim S8x8192x512 ![] bcast_S_S8x8192x512 (constant S_ .f32 0x3F800000#32)) (Host.exp (Host.negf x_v5)))))
theorem w_v93 (V : Valuation τ sig (Elt F)) : after hostOps0_10 V (Proc.devRef .tc main_v93) = g_v93 (V (Proc.devRef .tc main_v5)) := by
  after_results; rfl

def g_v95 (x_v92 : (⟨S8x8192x512, .f32⟩ : BufTy).Contents (Elt F)) (x_v93 : (⟨S8x8192x512, .f32⟩ : BufTy).Contents (Elt F)) : (⟨S8x8192x512, .bf16⟩ : BufTy).Contents (Elt F) :=
  (truncf .bf16 (mulf x_v92 x_v93) bitsLt_bf16_f32)
theorem w_v95 (V : Valuation τ sig (Elt F)) : after hostOps0_11 V (Proc.devRef .tc main_v95) = g_v95 (V (Proc.devRef .tc main_v92)) (V (Proc.devRef .tc main_v93)) := by
  after_results; rfl

def r_v2 (A : (⟨S8x8192x7168, .bf16⟩ : BufTy).Contents (Elt F)) : (⟨S8x8192x512, .f32⟩ : BufTy).Contents (Elt F) := g_v2 A
def r_v3 (A : (⟨S8x8192x7168, .bf16⟩ : BufTy).Contents (Elt F)) : (⟨S8x8192x512, .f32⟩ : BufTy).Contents (Elt F) := g_v3 A
def r_v4 (A : (⟨S8x8192x7168, .bf16⟩ : BufTy).Contents (Elt F)) : (⟨S8x8192x512, .f32⟩ : BufTy).Contents (Elt F) := g_v4 A
def r_v5 (A : (⟨S8x8192x7168, .bf16⟩ : BufTy).Contents (Elt F)) : (⟨S8x8192x512, .f32⟩ : BufTy).Contents (Elt F) := g_v5 A
def r_v16 (lb : (⟨S2x512, .f32⟩ : BufTy).Contents (Elt F)) : (⟨S2x512, .f32⟩ : BufTy).Contents (Elt F) := g_v16 lb
def r_v17 (lb : (⟨S2x512, .f32⟩ : BufTy).Contents (Elt F)) : (⟨S2x512, .f32⟩ : BufTy).Contents (Elt F) := g_v17 (r_v16 lb)
def r_v20 (nw : (⟨S1x512, .f32⟩ : BufTy).Contents (Elt F)) : (⟨S512, .f32⟩ : BufTy).Contents (Elt F) := g_v20 nw
def r_v37 (A : (⟨S8x8192x7168, .bf16⟩ : BufTy).Contents (Elt F)) (lb : (⟨S2x512, .f32⟩ : BufTy).Contents (Elt F)) : (⟨S8x4x128x64x128, .f32⟩ : BufTy).Contents (Elt F) := g_v37 (r_v17 lb) (r_v2 A)
def r_v38 (A : (⟨S8x8192x7168, .bf16⟩ : BufTy).Contents (Elt F)) (lb : (⟨S2x512, .f32⟩ : BufTy).Contents (Elt F)) : (⟨S8x4x128x64x128, .f32⟩ : BufTy).Contents (Elt F) := g_v38 (r_v17 lb) (r_v2 A)
def r_v40 (A : (⟨S8x8192x7168, .bf16⟩ : BufTy).Contents (Elt F)) (lb : (⟨S2x512, .f32⟩ : BufTy).Contents (Elt F)) : (⟨S8x4x128x64x128, .f32⟩ : BufTy).Contents (Elt F) := g_v40 (r_v17 lb) (r_v2 A)
def r_v42 (A : (⟨S8x8192x7168, .bf16⟩ : BufTy).Contents (Elt F)) : (⟨S8x4x128x64x128, .f32⟩ : BufTy).Contents (Elt F) := g_v42 (r_v4 A)
def r_v44 (A : (⟨S8x8192x7168, .bf16⟩ : BufTy).Contents (Elt F)) : (⟨S8x4x128x64x128, .f32⟩ : BufTy).Contents (Elt F) := g_v44 (r_v3 A)
def r_v45 (A : (⟨S8x8192x7168, .bf16⟩ : BufTy).Contents (Elt F)) (lb : (⟨S2x512, .f32⟩ : BufTy).Contents (Elt F)) : (⟨S8x4x128x64x128, .f32⟩ : BufTy).Contents (Elt F) := g_v45 (r_v38 A lb)
def r_v46 (A : (⟨S8x8192x7168, .bf16⟩ : BufTy).Contents (Elt F)) (lb : (⟨S2x512, .f32⟩ : BufTy).Contents (Elt F)) : (⟨S8x4x128x1x128, .f32⟩ : BufTy).Contents (Elt F) := g_v46 (r_v45 A lb)
def r_v47 (A : (⟨S8x8192x7168, .bf16⟩ : BufTy).Contents (Elt F)) (lb : (⟨S2x512, .f32⟩ : BufTy).Contents (Elt F)) : (⟨S8x4x128x1x128, .f32⟩ : BufTy).Contents (Elt F) := g_v47 (r_v45 A lb)
def r_v48  : (⟨S64x64, .i1⟩ : BufTy).Contents (Elt F) := g_v48
def r_v49  : (⟨S64x64, .i1⟩ : BufTy).Contents (Elt F) := g_v49 r_v48
def r_v58 (A : (⟨S8x8192x7168, .bf16⟩ : BufTy).Contents (Elt F)) (lb : (⟨S2x512, .f32⟩ : BufTy).Contents (Elt F)) : (⟨S8x4x128x64x64, .f32⟩ : BufTy).Contents (Elt F) := g_v58 (r_v42 A) (r_v45 A lb) (r_v46 A lb) (r_v40 A lb)
def r_cst_6  : (⟨S_, .f32⟩ : BufTy).Contents (Elt F) := g_cst_6
def r_v59 (A : (⟨S8x8192x7168, .bf16⟩ : BufTy).Contents (Elt F)) (lb : (⟨S2x512, .f32⟩ : BufTy).Contents (Elt F)) : (⟨S8x4x128x64x64, .f32⟩ : BufTy).Contents (Elt F) := g_v59 r_v49 (r_v58 A lb) r_cst_6
def r_v60 (A : (⟨S8x8192x7168, .bf16⟩ : BufTy).Contents (Elt F)) (lb : (⟨S2x512, .f32⟩ : BufTy).Contents (Elt F)) : (⟨S8x4x128x64x128, .f32⟩ : BufTy).Contents (Elt F) := g_v60 (r_v59 A lb) (r_v44 A)
def r_v72_0 (A : (⟨S8x8192x7168, .bf16⟩ : BufTy).Contents (Elt F)) (lb : (⟨S2x512, .f32⟩ : BufTy).Contents (Elt F)) : (⟨S128x8x4x128, .f32⟩ : BufTy).Contents (Elt F) := g_v72_0 (r_v47 A lb)
def r_v72_1 (A : (⟨S8x8192x7168, .bf16⟩ : BufTy).Contents (Elt F)) (lb : (⟨S2x512, .f32⟩ : BufTy).Contents (Elt F)) : (⟨S128x8x4x128x128, .f32⟩ : BufTy).Contents (Elt F) := g_v72_1 (r_v40 A lb) (r_v47 A lb) (r_v45 A lb) (r_v44 A)
def r_v72_3  : (⟨S8x4x128x128, .f32⟩ : BufTy).Contents (Elt F) := g_v72_3
def r_v72_4  : (⟨S128x8x4x128x128, .f32⟩ : BufTy).Contents (Elt F) := g_v72_4

variable (m : (ℓ : Loc nD τ sig) → Buf (Elt F) ℓ) (c : Dev nD)

/-- The three arguments of `m`. -/
def A0 : (⟨S8x8192x7168, .bf16⟩ : BufTy).Contents (Elt F) := m ((c.tc : Thread nD τ).loc main_arg0)
def A1 : (⟨S2x512, .f32⟩ : BufTy).Contents (Elt F) := m ((c.tc : Thread nD τ).loc main_arg1)
def A2 : (⟨S1x512, .f32⟩ : BufTy).Contents (Elt F) := m ((c.tc : Thread nD τ).loc main_arg2)

def Q0 : Valuation τ sig (Elt F) := fun b => m (c, b)
def Q1 : Valuation τ sig (Elt F) := after hostOps0 (Q0 m c)
def Q2 : Valuation τ sig (Elt F) := after hostOps0_1 (Q1 m c)
def Q3 : Valuation τ sig (Elt F) := after hostOps0_2 (Q2 m c)
def Q4 : Valuation τ sig (Elt F) := after hostOps0_3 (Q3 m c)
def Q5 : Valuation τ sig (Elt F) := after hostOps0_4 (Q4 m c)
def Q6 : Valuation τ sig (Elt F) := after hostOps0_5 (Q5 m c)
def Q7 : Valuation τ sig (Elt F) := after hostOps0_6 (Q6 m c)
def Q8 : Valuation τ sig (Elt F) := after hostOps0_7 (Q7 m c)
def Q9 : Valuation τ sig (Elt F) := after hostOps0_8 (Q8 m c)
theorem Q0_main_arg1 : Q0 m c (Proc.devRef .tc main_arg1) = (A1 m c) := rfl
theorem Q1_main_v16 : Q1 m c (Proc.devRef .tc main_v16) = (r_v16 (A1 m c)) := by
  unfold Q1; rw [w_v16, Q0_main_arg1]; rfl
theorem Q2_main_v17 : Q2 m c (Proc.devRef .tc main_v17) = (r_v17 (A1 m c)) := by
  unfold Q2; rw [w_v17, Q1_main_v16]; rfl
theorem Q0_main_arg0 : Q0 m c (Proc.devRef .tc main_arg0) = (A0 m c) := rfl
theorem Q1_main_v2 : Q1 m c (Proc.devRef .tc main_v2) = (r_v2 (A0 m c)) := by
  unfold Q1; rw [w_v2, Q0_main_arg0]; rfl
theorem Q2_main_v2 : Q2 m c (Proc.devRef .tc main_v2) = (r_v2 (A0 m c)) :=
  (after_of_writes_sub hostOps0_1 _ hostOps0_1_writes (by decide)).trans (Q1_main_v2 m c)
theorem Q3_main_v38 : Q3 m c (Proc.devRef .tc main_v38) = (r_v38 (A0 m c) (A1 m c)) := by
  unfold Q3; rw [w_v38, Q2_main_v17, Q2_main_v2]; rfl
theorem Q4_main_v45 : Q4 m c (Proc.devRef .tc main_v45) = (r_v45 (A0 m c) (A1 m c)) := by
  unfold Q4; rw [w_v45, Q3_main_v38]; rfl
theorem Q5_main_v47 : Q5 m c (Proc.devRef .tc main_v47) = (r_v47 (A0 m c) (A1 m c)) := by
  unfold Q5; rw [w_v47, Q4_main_v45]; rfl
theorem Q6_main_v47 : Q6 m c (Proc.devRef .tc main_v47) = (r_v47 (A0 m c) (A1 m c)) :=
  (after_of_writes_sub hostOps0_5 _ hostOps0_5_writes (by decide)).trans (Q5_main_v47 m c)
theorem Q7_main_v47 : Q7 m c (Proc.devRef .tc main_v47) = (r_v47 (A0 m c) (A1 m c)) :=
  (after_of_writes_sub hostOps0_6 _ hostOps0_6_writes (by decide)).trans (Q6_main_v47 m c)
theorem Q8_main_v47 : Q8 m c (Proc.devRef .tc main_v47) = (r_v47 (A0 m c) (A1 m c)) :=
  (after_of_writes_sub hostOps0_7 _ hostOps0_7_writes (by decide)).trans (Q7_main_v47 m c)
theorem Q9_main_v72_0 : Q9 m c (Proc.devRef .tc main_v72_0) = (r_v72_0 (A0 m c) (A1 m c)) := by
  unfold Q9; rw [w_v72_0, Q8_main_v47]; rfl
theorem Q3_main_v40 : Q3 m c (Proc.devRef .tc main_v40) = (r_v40 (A0 m c) (A1 m c)) := by
  unfold Q3; rw [w_v40, Q2_main_v17, Q2_main_v2]; rfl
theorem Q4_main_v40 : Q4 m c (Proc.devRef .tc main_v40) = (r_v40 (A0 m c) (A1 m c)) :=
  (after_of_writes_sub hostOps0_3 _ hostOps0_3_writes (by decide)).trans (Q3_main_v40 m c)
theorem Q5_main_v40 : Q5 m c (Proc.devRef .tc main_v40) = (r_v40 (A0 m c) (A1 m c)) :=
  (after_of_writes_sub hostOps0_4 _ hostOps0_4_writes (by decide)).trans (Q4_main_v40 m c)
theorem Q6_main_v40 : Q6 m c (Proc.devRef .tc main_v40) = (r_v40 (A0 m c) (A1 m c)) :=
  (after_of_writes_sub hostOps0_5 _ hostOps0_5_writes (by decide)).trans (Q5_main_v40 m c)
theorem Q7_main_v40 : Q7 m c (Proc.devRef .tc main_v40) = (r_v40 (A0 m c) (A1 m c)) :=
  (after_of_writes_sub hostOps0_6 _ hostOps0_6_writes (by decide)).trans (Q6_main_v40 m c)
theorem Q8_main_v40 : Q8 m c (Proc.devRef .tc main_v40) = (r_v40 (A0 m c) (A1 m c)) :=
  (after_of_writes_sub hostOps0_7 _ hostOps0_7_writes (by decide)).trans (Q7_main_v40 m c)
theorem Q5_main_v45 : Q5 m c (Proc.devRef .tc main_v45) = (r_v45 (A0 m c) (A1 m c)) :=
  (after_of_writes_sub hostOps0_4 _ hostOps0_4_writes (by decide)).trans (Q4_main_v45 m c)
theorem Q6_main_v45 : Q6 m c (Proc.devRef .tc main_v45) = (r_v45 (A0 m c) (A1 m c)) :=
  (after_of_writes_sub hostOps0_5 _ hostOps0_5_writes (by decide)).trans (Q5_main_v45 m c)
theorem Q7_main_v45 : Q7 m c (Proc.devRef .tc main_v45) = (r_v45 (A0 m c) (A1 m c)) :=
  (after_of_writes_sub hostOps0_6 _ hostOps0_6_writes (by decide)).trans (Q6_main_v45 m c)
theorem Q8_main_v45 : Q8 m c (Proc.devRef .tc main_v45) = (r_v45 (A0 m c) (A1 m c)) :=
  (after_of_writes_sub hostOps0_7 _ hostOps0_7_writes (by decide)).trans (Q7_main_v45 m c)
theorem Q1_main_v3 : Q1 m c (Proc.devRef .tc main_v3) = (r_v3 (A0 m c)) := by
  unfold Q1; rw [w_v3, Q0_main_arg0]; rfl
theorem Q2_main_v3 : Q2 m c (Proc.devRef .tc main_v3) = (r_v3 (A0 m c)) :=
  (after_of_writes_sub hostOps0_1 _ hostOps0_1_writes (by decide)).trans (Q1_main_v3 m c)
theorem Q3_main_v44 : Q3 m c (Proc.devRef .tc main_v44) = (r_v44 (A0 m c)) := by
  unfold Q3; rw [w_v44, Q2_main_v3]; rfl
theorem Q4_main_v44 : Q4 m c (Proc.devRef .tc main_v44) = (r_v44 (A0 m c)) :=
  (after_of_writes_sub hostOps0_3 _ hostOps0_3_writes (by decide)).trans (Q3_main_v44 m c)
theorem Q5_main_v44 : Q5 m c (Proc.devRef .tc main_v44) = (r_v44 (A0 m c)) :=
  (after_of_writes_sub hostOps0_4 _ hostOps0_4_writes (by decide)).trans (Q4_main_v44 m c)
theorem Q6_main_v44 : Q6 m c (Proc.devRef .tc main_v44) = (r_v44 (A0 m c)) :=
  (after_of_writes_sub hostOps0_5 _ hostOps0_5_writes (by decide)).trans (Q5_main_v44 m c)
theorem Q7_main_v44 : Q7 m c (Proc.devRef .tc main_v44) = (r_v44 (A0 m c)) :=
  (after_of_writes_sub hostOps0_6 _ hostOps0_6_writes (by decide)).trans (Q6_main_v44 m c)
theorem Q8_main_v44 : Q8 m c (Proc.devRef .tc main_v44) = (r_v44 (A0 m c)) :=
  (after_of_writes_sub hostOps0_7 _ hostOps0_7_writes (by decide)).trans (Q7_main_v44 m c)
theorem Q9_main_v72_1 : Q9 m c (Proc.devRef .tc main_v72_1) = (r_v72_1 (A0 m c) (A1 m c)) := by
  unfold Q9; rw [w_v72_1, Q8_main_v40, Q8_main_v47, Q8_main_v45, Q8_main_v44]; rfl
theorem Q9_main_v72_3 : Q9 m c (Proc.devRef .tc main_v72_3) = r_v72_3 := by
  unfold Q9; rw [w_v72_3]; rfl
theorem Q9_main_v72_4 : Q9 m c (Proc.devRef .tc main_v72_4) = r_v72_4 := by
  unfold Q9; rw [w_v72_4]; rfl
theorem Q9_main_v45 : Q9 m c (Proc.devRef .tc main_v45) = (r_v45 (A0 m c) (A1 m c)) :=
  (after_of_writes_sub hostOps0_8 _ hostOps0_8_writes (by decide)).trans (Q8_main_v45 m c)
theorem Q1_main_v4 : Q1 m c (Proc.devRef .tc main_v4) = (r_v4 (A0 m c)) := by
  unfold Q1; rw [w_v4, Q0_main_arg0]; rfl
theorem Q2_main_v4 : Q2 m c (Proc.devRef .tc main_v4) = (r_v4 (A0 m c)) :=
  (after_of_writes_sub hostOps0_1 _ hostOps0_1_writes (by decide)).trans (Q1_main_v4 m c)
theorem Q3_main_v42 : Q3 m c (Proc.devRef .tc main_v42) = (r_v42 (A0 m c)) := by
  unfold Q3; rw [w_v42, Q2_main_v4]; rfl
theorem Q4_main_v42 : Q4 m c (Proc.devRef .tc main_v42) = (r_v42 (A0 m c)) :=
  (after_of_writes_sub hostOps0_3 _ hostOps0_3_writes (by decide)).trans (Q3_main_v42 m c)
theorem Q5_main_v42 : Q5 m c (Proc.devRef .tc main_v42) = (r_v42 (A0 m c)) :=
  (after_of_writes_sub hostOps0_4 _ hostOps0_4_writes (by decide)).trans (Q4_main_v42 m c)
theorem Q6_main_v42 : Q6 m c (Proc.devRef .tc main_v42) = (r_v42 (A0 m c)) :=
  (after_of_writes_sub hostOps0_5 _ hostOps0_5_writes (by decide)).trans (Q5_main_v42 m c)
theorem Q7_main_v42 : Q7 m c (Proc.devRef .tc main_v42) = (r_v42 (A0 m c)) :=
  (after_of_writes_sub hostOps0_6 _ hostOps0_6_writes (by decide)).trans (Q6_main_v42 m c)
theorem Q8_main_v42 : Q8 m c (Proc.devRef .tc main_v42) = (r_v42 (A0 m c)) :=
  (after_of_writes_sub hostOps0_7 _ hostOps0_7_writes (by decide)).trans (Q7_main_v42 m c)
theorem Q9_main_v42 : Q9 m c (Proc.devRef .tc main_v42) = (r_v42 (A0 m c)) :=
  (after_of_writes_sub hostOps0_8 _ hostOps0_8_writes (by decide)).trans (Q8_main_v42 m c)
theorem Q5_main_v48 : Q5 m c (Proc.devRef .tc main_v48) = r_v48 := by
  unfold Q5; rw [w_v48]; rfl
theorem Q6_main_v49 : Q6 m c (Proc.devRef .tc main_v49) = r_v49 := by
  unfold Q6; rw [w_v49, Q5_main_v48]; rfl
theorem Q7_main_v49 : Q7 m c (Proc.devRef .tc main_v49) = r_v49 :=
  (after_of_writes_sub hostOps0_6 _ hostOps0_6_writes (by decide)).trans (Q6_main_v49 m c)
theorem Q5_main_v46 : Q5 m c (Proc.devRef .tc main_v46) = (r_v46 (A0 m c) (A1 m c)) := by
  unfold Q5; rw [w_v46, Q4_main_v45]; rfl
theorem Q6_main_v46 : Q6 m c (Proc.devRef .tc main_v46) = (r_v46 (A0 m c) (A1 m c)) :=
  (after_of_writes_sub hostOps0_5 _ hostOps0_5_writes (by decide)).trans (Q5_main_v46 m c)
theorem Q7_main_v58 : Q7 m c (Proc.devRef .tc main_v58) = (r_v58 (A0 m c) (A1 m c)) := by
  unfold Q7; rw [w_v58, Q6_main_v42, Q6_main_v45, Q6_main_v46, Q6_main_v40]; rfl
theorem Q7_main_cst_6 : Q7 m c (Proc.devRef .tc main_cst_6) = r_cst_6 := by
  unfold Q7; rw [w_cst_6]; rfl
theorem Q8_main_v59 : Q8 m c (Proc.devRef .tc main_v59) = (r_v59 (A0 m c) (A1 m c)) := by
  unfold Q8; rw [w_v59, Q7_main_v49, Q7_main_v58, Q7_main_cst_6]; rfl
theorem Q9_main_v60 : Q9 m c (Proc.devRef .tc main_v60) = (r_v60 (A0 m c) (A1 m c)) := by
  unfold Q9; rw [w_v60, Q8_main_v59, Q8_main_v44]; rfl
theorem Q0_main_arg2 : Q0 m c (Proc.devRef .tc main_arg2) = (A2 m c) := rfl
theorem Q1_main_arg2 : Q1 m c (Proc.devRef .tc main_arg2) = (A2 m c) :=
  (after_of_writes_sub hostOps0 _ hostOps0_writes (by decide)).trans (Q0_main_arg2 m c)
theorem Q2_main_arg2 : Q2 m c (Proc.devRef .tc main_arg2) = (A2 m c) :=
  (after_of_writes_sub hostOps0_1 _ hostOps0_1_writes (by decide)).trans (Q1_main_arg2 m c)
theorem Q3_main_v20 : Q3 m c (Proc.devRef .tc main_v20) = (r_v20 (A2 m c)) := by
  unfold Q3; rw [w_v20, Q2_main_arg2]; rfl
theorem Q4_main_v20 : Q4 m c (Proc.devRef .tc main_v20) = (r_v20 (A2 m c)) :=
  (after_of_writes_sub hostOps0_3 _ hostOps0_3_writes (by decide)).trans (Q3_main_v20 m c)
theorem Q5_main_v20 : Q5 m c (Proc.devRef .tc main_v20) = (r_v20 (A2 m c)) :=
  (after_of_writes_sub hostOps0_4 _ hostOps0_4_writes (by decide)).trans (Q4_main_v20 m c)
theorem Q6_main_v20 : Q6 m c (Proc.devRef .tc main_v20) = (r_v20 (A2 m c)) :=
  (after_of_writes_sub hostOps0_5 _ hostOps0_5_writes (by decide)).trans (Q5_main_v20 m c)
theorem Q7_main_v20 : Q7 m c (Proc.devRef .tc main_v20) = (r_v20 (A2 m c)) :=
  (after_of_writes_sub hostOps0_6 _ hostOps0_6_writes (by decide)).trans (Q6_main_v20 m c)
theorem Q8_main_v20 : Q8 m c (Proc.devRef .tc main_v20) = (r_v20 (A2 m c)) :=
  (after_of_writes_sub hostOps0_7 _ hostOps0_7_writes (by decide)).trans (Q7_main_v20 m c)
theorem Q9_main_v20 : Q9 m c (Proc.devRef .tc main_v20) = (r_v20 (A2 m c)) :=
  (after_of_writes_sub hostOps0_8 _ hostOps0_8_writes (by decide)).trans (Q8_main_v20 m c)
theorem Q1_main_v5 : Q1 m c (Proc.devRef .tc main_v5) = (r_v5 (A0 m c)) := by
  unfold Q1; rw [w_v5, Q0_main_arg0]; rfl
theorem Q2_main_v5 : Q2 m c (Proc.devRef .tc main_v5) = (r_v5 (A0 m c)) :=
  (after_of_writes_sub hostOps0_1 _ hostOps0_1_writes (by decide)).trans (Q1_main_v5 m c)
theorem Q3_main_v5 : Q3 m c (Proc.devRef .tc main_v5) = (r_v5 (A0 m c)) :=
  (after_of_writes_sub hostOps0_2 _ hostOps0_2_writes (by decide)).trans (Q2_main_v5 m c)
theorem Q4_main_v5 : Q4 m c (Proc.devRef .tc main_v5) = (r_v5 (A0 m c)) :=
  (after_of_writes_sub hostOps0_3 _ hostOps0_3_writes (by decide)).trans (Q3_main_v5 m c)
theorem Q5_main_v5 : Q5 m c (Proc.devRef .tc main_v5) = (r_v5 (A0 m c)) :=
  (after_of_writes_sub hostOps0_4 _ hostOps0_4_writes (by decide)).trans (Q4_main_v5 m c)
theorem Q6_main_v5 : Q6 m c (Proc.devRef .tc main_v5) = (r_v5 (A0 m c)) :=
  (after_of_writes_sub hostOps0_5 _ hostOps0_5_writes (by decide)).trans (Q5_main_v5 m c)
theorem Q7_main_v5 : Q7 m c (Proc.devRef .tc main_v5) = (r_v5 (A0 m c)) :=
  (after_of_writes_sub hostOps0_6 _ hostOps0_6_writes (by decide)).trans (Q6_main_v5 m c)
theorem Q8_main_v5 : Q8 m c (Proc.devRef .tc main_v5) = (r_v5 (A0 m c)) :=
  (after_of_writes_sub hostOps0_7 _ hostOps0_7_writes (by decide)).trans (Q7_main_v5 m c)
theorem Q9_main_v5 : Q9 m c (Proc.devRef .tc main_v5) = (r_v5 (A0 m c)) :=
  (after_of_writes_sub hostOps0_8 _ hostOps0_8_writes (by decide)).trans (Q8_main_v5 m c)

theorem entry_eq : entryContents preI m c = Q9 m c := rfl

end Cert.ReferenceIdeal.Vals

end
-- ==== Proof.RIdeal.lean ====
/-
  The reference's values over the extended reals, entry by entry: the gates' lower bounds, the summed logarithms, the
  scores and the chunk's rows.
-/
module

public import proofs.«01_k».proof.Proof.RefVals
public import proofs.«01_k».proof.Proof.Spec
public import Idealize.ShloMosaic.Lib.Pointwise

@[expose] public section

set_option maxRecDepth 65536

noncomputable section

open Idealize.ShloMosaic Idealize.ShloMosaic.TcCoe Idealize.SL.Sem Idealize.ShloMosaic.StableHlo

namespace Cert.ReferenceIdeal.Vals

open Cert.ReferenceIdeal Cert.ReferenceIdeal.Gen Cert.ReferenceIdeal.Value Cert.Hgrn

theorem foldl_sum {α : Type} (g : α → EReal) : ∀ (l : List α) (v : EReal), l.foldl (fun r n => r + g n) v = v + (l.map g).sum
  | [], v => (add_zero v).symm
  | a :: l, v => by rw [List.foldl_cons, foldl_sum g l, List.map_cons, List.sum_cons, add_assoc]

/-- A window sum as a sum over the window's places. -/
theorem win_sum {s t u : Shape} (window strides lo hi : Fin s.rank → Nat) (h : s.ReduceWindows window strides lo hi t) (x : s.Idx → EReal) (init : u.Idx → EReal) (hu : 0 < u.numel) (j : t.Idx) :
    Host.reduceWindow (fun a b : EReal => a + b) window strides lo hi x init h hu j = init (Shape.Idx.first hu)
      + ∑ w : (⟨s.rank, window⟩ : Shape).Idx, if hin : ∀ a, lo a ≤ (j (a.cast h.1.symm)).val * strides a + (w a).val
          ∧ (j (a.cast h.1.symm)).val * strides a + (w a).val - lo a < s.size a then
        x (fun a => ⟨(j (a.cast h.1.symm)).val * strides a + (w a).val - lo a, (hin a).2⟩) else init (Shape.Idx.first hu) := by
  unfold Host.reduceWindow
  dsimp only
  rw [foldl_sum]
  rw [← Fin.sum_univ_def]
  congr 1
  exact Fintype.sum_equiv (⟨s.rank, window⟩ : Shape).rowMajor.symm _ _ fun n => dite_congr rfl (fun _ => rfl) (fun _ => rfl)

/-- The places of a window along the fourth axis. -/
def along : (⟨5, ![1, 1, 1, 64, 1]⟩ : Shape).Idx ≃ Fin 64 where
  toFun w := w 3
  invFun k := ix5 (0 : Fin 1) (0 : Fin 1) (0 : Fin 1) k (0 : Fin 1)
  left_inv w := by
    funext a
    fin_cases a
    · exact Subsingleton.elim (α := Fin 1) _ _
    · exact Subsingleton.elim (α := Fin 1) _ _
    · exact Subsingleton.elim (α := Fin 1) _ _
    · rfl
    · exact Subsingleton.elim (α := Fin 1) _ _
  right_inv k := rfl

theorem zero_bits : Ideal.ofBits .f32 0x00000000#32 = 0 := by simp

/-- The summed logarithms. -/
theorem cum_eq (x : (⟨S8x4x128x64x128, .f32⟩ : BufTy).Contents (Elt Ideal)) (b : Fin 8) (h : Fin 4) (n : Fin 128) (r : Fin 64) (d : Fin 128) :
    g_v45 x (ix5 b h n r d) = ∑ t : Fin 64, if t ≤ r then x (ix5 b h n t d) else 0 := by
  unfold g_v45
  refine (win_sum ![1, 1, 1, 64, 1] ![1, 1, 1, 1, 1] ![0, 0, 0, 63, 0] ![0, 0, 0, 0, 0] reduceWindows_S8x4x128x64x128_S8x4x128x64x128_w1s1p0_0_w1s1p0_0_w1s1p0_0_w64s1p63_0_w1s1p0_0 x (fun _ : S_.Idx => Ideal.ofBits .f32 0x00000000#32) h_S_ (ix5 b h n r d)).trans ?_
  rw [zero_bits, zero_add]
  refine Fintype.sum_equiv (along.trans (Equiv.addRight (r + 1))) _ _ fun w => ?_
  have h0 : (w 0).val = 0 := by have : (w 0).val < 1 := (w 0).isLt; omega
  have h1 : (w 1).val = 0 := by have : (w 1).val < 1 := (w 1).isLt; omega
  have h2 : (w 2).val = 0 := by have : (w 2).val < 1 := (w 2).isLt; omega
  have h4 : (w 4).val = 0 := by have : (w 4).val < 1 := (w 4).isLt; omega
  have h3 : (w 3).val < 64 := (w 3).isLt
  have hv : ((along.trans (Equiv.addRight (r + 1))) w).val = ((w 3).val + (r.val + 1) % 64) % 64 := rfl
  by_cases hk : 63 ≤ r.val + (w 3).val
  · rw [dif_pos, if_pos]
    · congr 1
      funext a
      fin_cases a
      · exact Fin.ext (by show b.val * 1 + (w 0).val - 0 = b.val; omega)
      · exact Fin.ext (by show h.val * 1 + (w 1).val - 0 = h.val; omega)
      · exact Fin.ext (by show n.val * 1 + (w 2).val - 0 = n.val; omega)
      · exact Fin.ext (by show r.val * 1 + (w 3).val - 63 = ((along.trans (Equiv.addRight (r + 1))) w).val; rw [hv]; omega)
      · exact Fin.ext (by show d.val * 1 + (w 4).val - 0 = d.val; omega)
    · exact Fin.le_def.2 (by rw [hv]; omega)
    · intro a
      fin_cases a
      · exact (by show 0 ≤ b.val * 1 + (w 0).val ∧ b.val * 1 + (w 0).val - 0 < 8; omega)
      · exact (by show 0 ≤ h.val * 1 + (w 1).val ∧ h.val * 1 + (w 1).val - 0 < 4; omega)
      · exact (by show 0 ≤ n.val * 1 + (w 2).val ∧ n.val * 1 + (w 2).val - 0 < 128; omega)
      · exact (by show 63 ≤ r.val * 1 + (w 3).val ∧ r.val * 1 + (w 3).val - 63 < 64; omega)
      · exact (by show 0 ≤ d.val * 1 + (w 4).val ∧ d.val * 1 + (w 4).val - 0 < 128; omega)
  · rw [dif_neg, if_neg]
    · intro hle
      have := Fin.le_def.1 hle
      rw [hv] at this
      omega
    · intro hin
      have : 63 ≤ r.val * 1 + (w 3).val := (hin 3).1
      omega

/-- The places of a window of two rows. -/
def along2 : (⟨2, ![2, 1]⟩ : Shape).Idx ≃ Fin 2 where
  toFun w := w 0
  invFun k := ix2 k (0 : Fin 1)
  left_inv w := by
    funext a
    fin_cases a
    · rfl
    · exact Subsingleton.elim (α := Fin 1) _ _
  right_inv k := rfl

/-- The first row's running sum is the row. -/
theorem cum2_eq (x : (⟨S2x512, .f32⟩ : BufTy).Contents (Elt Ideal)) (l : Fin 512) : g_v17 x (ix2 (0 : Fin 2) l) = x (ix2 (0 : Fin 2) l) := by
  unfold g_v17
  refine (win_sum ![2, 1] ![1, 1] ![1, 0] ![0, 0] reduceWindows_S2x512_S2x512_w2s1p1_0_w1s1p0_0 x (fun _ : S_.Idx => Ideal.ofBits .f32 0x00000000#32) h_S_ (ix2 (0 : Fin 2) l)).trans ?_
  rw [zero_bits, zero_add]
  refine (Fintype.sum_equiv along2 _ (fun k : Fin 2 => if k = 1 then x (ix2 (0 : Fin 2) l) else 0) fun w => ?_).trans (by rw [Fin.sum_univ_two]; simp)
  have h1 : (w 1).val = 0 := by have : (w 1).val < 1 := (w 1).isLt; omega
  have h3 : (w 0).val < 2 := (w 0).isLt
  have hv : (along2 w).val = (w 0).val := rfl
  by_cases hk : (w 0).val = 1
  · rw [dif_pos, if_pos]
    · congr 1
      funext a
      fin_cases a
      · exact Fin.ext (by show 0 * 1 + (w 0).val - 1 = 0; omega)
      · exact Fin.ext (by show l.val * 1 + (w 1).val - 0 = l.val; omega)
    · exact Fin.ext (by rw [hv]; exact hk)
    · intro a
      fin_cases a
      · exact (by show 1 ≤ 0 * 1 + (w 0).val ∧ 0 * 1 + (w 0).val - 1 < 2; omega)
      · exact (by show 0 ≤ l.val * 1 + (w 1).val ∧ l.val * 1 + (w 1).val - 0 < 512; omega)
  · rw [dif_neg, if_neg]
    · intro he
      exact hk (by rw [← hv, he]; rfl)
    · intro hin
      have : 1 ≤ 0 * 1 + (w 0).val := (hin 0).1
      omega

variable (A : (⟨S8x8192x7168, .bf16⟩ : BufTy).Contents (Elt Ideal)) (lb : (⟨S2x512, .f32⟩ : BufTy).Contents (Elt Ideal)) (nw : (⟨S1x512, .f32⟩ : BufTy).Contents (Elt Ideal))

/-- The gates' lower bounds. -/
def lo : Fin 512 → EReal := low fun a l => lb (ix2 a l)

/-- Chunk `n` of batch `b`: its rows of column block `k`. -/
def rw (k : Fin 14) (b : Fin 8) (n : ℕ) (r : Fin 64) (l : Fin 512) : EReal :=
  A (ix3 b ⟨(64 * n + r.val) % 8192, Nat.mod_lt _ (by decide)⟩ ⟨512 * k.val + l.val, by omega⟩)

theorem rw_eq (k : Fin 14) (b : Fin 8) (n : Fin 128) (r : Fin 64) (l : Fin 512) (R : Fin 8192) (hR : R.val = n.val * 64 + r.val) (L : Fin 7168) (hL : L.val = 512 * k.val + l.val) :
    A (ix3 b R L) = rw A k b n.val r l := by
  have h1 : R = ⟨(64 * n.val + r.val) % 8192, Nat.mod_lt _ (by decide)⟩ := Fin.ext (by rw [hR]; show _ = (64 * n.val + r.val) % 8192; omega)
  have h2 : L = ⟨512 * k.val + l.val, by omega⟩ := Fin.ext hL
  rw [h1, h2]
  rfl

theorem e17 (l : Fin 512) : r_v17 lb (ix2 0 l) = lo lb l := by
  unfold r_v17
  rw [cum2_eq]
  unfold r_v16 g_v16
  pointwise
  unfold lo low
  simp only [show ∀ a, Finset.fold max (Ideal.ofBits .f32 4286578688#32) (fun x => lb (ix2 x a)) Finset.univ = top fun x => lb (ix2 x a) from fun _ => rfl, max_top]

theorem e37 (b : Fin 8) (h : Fin 4) (n : Fin 128) (r : Fin 64) (d : Fin 128) :
    r_v37 A lb (ix5 b h n r d) = gate (lo lb) (rw A 3 b n.val) r (col h d) := by
  unfold r_v37 g_v37 r_v2 g_v2
  pointwise
  rw [e17, rw_eq A 3 b n r (col h d) _ rfl _ (by show 1536 + (h.val * 128 + d.val) = 512 * 3 + (h.val * 128 + d.val); omega)]
  rfl

theorem e42 (b : Fin 8) (h : Fin 4) (n : Fin 128) (r : Fin 64) (d : Fin 128) :
    r_v42 A (ix5 b h n r d) = rw A 5 b n.val r (col h d) := by
  unfold r_v42 g_v42 r_v4 g_v4
  pointwise
  refine rw_eq A 5 b n r (col h d) _ rfl _ ?_
  show 1536 + (1024 + (h.val * 128 + d.val)) = 512 * 5 + (h.val * 128 + d.val)
  omega

theorem e44 (b : Fin 8) (h : Fin 4) (n : Fin 128) (r : Fin 64) (d : Fin 128) :
    r_v44 A (ix5 b h n r d) = rw A 4 b n.val r (col h d) := by
  unfold r_v44 g_v44 r_v3 g_v3
  pointwise
  refine rw_eq A 4 b n r (col h d) _ rfl _ ?_
  show 1536 + (512 + (h.val * 128 + d.val)) = 512 * 4 + (h.val * 128 + d.val)
  omega

theorem e38 (b : Fin 8) (h : Fin 4) (n : Fin 128) (r : Fin 64) (d : Fin 128) :
    r_v38 A lb (ix5 b h n r d) = Ideal.log (gate (lo lb) (rw A 3 b n.val) r (col h d)) := by
  unfold r_v38 g_v38 r_v2 g_v2
  pointwise
  rw [e17, rw_eq A 3 b n r (col h d) _ rfl _ (by show 1536 + (h.val * 128 + d.val) = 512 * 3 + (h.val * 128 + d.val); omega)]
  rfl

theorem e40 (b : Fin 8) (h : Fin 4) (n : Fin 128) (r : Fin 64) (d : Fin 128) :
    r_v40 A lb (ix5 b h n r d) = key (lo lb) (rw A 3 b n.val) r (col h d) := by
  unfold r_v40 g_v40 r_v2 g_v2
  pointwise
  rw [e17, rw_eq A 3 b n r (col h d) _ rfl _ (by show 1536 + (h.val * 128 + d.val) = 512 * 3 + (h.val * 128 + d.val); omega)]
  rfl

theorem e45 (b : Fin 8) (h : Fin 4) (n : Fin 128) (r : Fin 64) (d : Fin 128) :
    r_v45 A lb (ix5 b h n r d) = acc (lo lb) (rw A 3 b n.val) r (col h d) := by
  unfold r_v45
  rw [cum_eq]
  simp only [e38]
  rfl

theorem e58 (b : Fin 8) (h : Fin 4) (n : Fin 128) (r s : Fin 64) :
    r_v58 A lb (ix5 b h n r s) = score (lo lb) (rw A 3 b n.val) (rw A 5 b n.val) h r s := by
  unfold r_v58 g_v58 r_v46 g_v46
  pointwise [e42, e45, e40]
  rfl

theorem tri (r s : Fin 64) :
    Scalar.select (IntOp.cmpi CmpIPredicate.sge (IntOp.addi (BitVec.ofNat 32 r.val) 0#32) (BitVec.ofNat 32 s.val)) 1#1 0#1 = if s ≤ r then 1#1 else 0#1 := by
  revert r s
  decide +kernel

theorem e59 (b : Fin 8) (h : Fin 4) (n : Fin 128) (r s : Fin 64) :
    r_v59 A lb (ix5 b h n r s) = if s ≤ r then score (lo lb) (rw A 3 b n.val) (rw A 5 b n.val) h r s else 0 := by
  unfold r_v59 g_v59 r_v49 g_v49 r_v48 g_v48 r_cst_6 g_cst_6
  pointwise [e58]
  rw [tri]
  split_ifs <;> rfl

theorem e60 (b : Fin 8) (h : Fin 4) (n : Fin 128) (r : Fin 64) (v : Fin 128) :
    r_v60 A lb (ix5 b h n r v) = ∑ s : Fin 64, (if s ≤ r then score (lo lb) (rw A 3 b n.val) (rw A 5 b n.val) h r s else 0) * rw A 4 b n.val s (col h v) := by
  unfold r_v60 g_v60
  pointwise [e59, e44]

theorem e720 (n : Fin 128) (b : Fin 8) (h : Fin 4) (d : Fin 128) :
    r_v72_0 A lb (ix4 n b h d) = Ideal.exp (acc (lo lb) (rw A 3 b n.val) 63 (col h d)) := by
  unfold r_v72_0 g_v72_0 r_v47 g_v47
  pointwise [e45]

theorem e721 (n : Fin 128) (b : Fin 8) (h : Fin 4) (d v : Fin 128) :
    r_v72_1 A lb (ix5 n b h d v) = ∑ r : Fin 64, rw A 4 b n.val r (col h v)
      * (key (lo lb) (rw A 3 b n.val) r (col h d) * Ideal.exp (acc (lo lb) (rw A 3 b n.val) 63 (col h d) - acc (lo lb) (rw A 3 b n.val) r (col h d))) := by
  unfold r_v72_1 g_v72_1 r_v47 g_v47
  pointwise [e45, e44, e40]
  exact Finset.sum_congr rfl fun r _ => mul_comm _ _

/-- The rows before the norm, by head. -/
def ro (x60 x42 x45 : (⟨S8x4x128x64x128, .f32⟩ : BufTy).Contents (Elt Ideal)) (x4 : (⟨S128x8x4x128x128, .f32⟩ : BufTy).Contents (Elt Ideal)) (b : Fin 8) (h : Fin 4) (n : Fin 128) (r : Fin 64) (v : Fin 128) : EReal :=
  x60 (ix5 b h n r v) + ∑ d : Fin 128, x42 (ix5 b h n r d) * Ideal.exp (x45 (ix5 b h n r d)) * x4 (ix5 n b h d v)

theorem e92 (x60 x42 x45 : (⟨S8x4x128x64x128, .f32⟩ : BufTy).Contents (Elt Ideal)) (x4 : (⟨S128x8x4x128x128, .f32⟩ : BufTy).Contents (Elt Ideal)) (x20 : (⟨S512, .f32⟩ : BufTy).Contents (Elt Ideal)) (b : Fin 8) (R : Fin 8192) (l : Fin 512) (h : Fin 4) (n : Fin 128) (r : Fin 64) (v : Fin 128)
    (hn : (⟨R.val / 64, by omega⟩ : Fin 128) = n) (hr : (⟨R.val % 64, by omega⟩ : Fin 64) = r)
    (hh : (⟨l.val / 128, by omega⟩ : Fin 4) = h) (hv : (⟨l.val % 128, by omega⟩ : Fin 128) = v) :
    g_v92 x60 x42 x45 x4 x20 (ix3 b R l) = ro x60 x42 x45 x4 b h n r v * nrm (ro x60 x42 x45 x4 b h n r) * x20 (ix1 l) := by
  unfold g_v92
  pointwise
  subst hn hr hh hv
  rfl

theorem e93 (x5 : (⟨S8x8192x512, .f32⟩ : BufTy).Contents (Elt Ideal)) (b : Fin 8) (R : Fin 8192) (l : Fin 512) :
    g_v93 x5 (ix3 b R l) = x5 (ix3 b R l) * Ideal.logistic (x5 (ix3 b R l)) := by
  unfold g_v93
  pointwise
  rfl

theorem e95 (x y : (⟨S8x8192x512, .f32⟩ : BufTy).Contents (Elt Ideal)) (b : Fin 8) (R : Fin 8192) (l : Fin 512) :
    g_v95 x y (ix3 b R l) = x (ix3 b R l) * y (ix3 b R l) := by
  unfold g_v95
  pointwise

theorem e20 (l : Fin 512) : r_v20 nw (ix1 l) = nw (ix2 0 l) := by
  unfold r_v20 g_v20
  pointwise

theorem e5 (b : Fin 8) (n : Fin 128) (r : Fin 64) (R : Fin 8192) (hR : R.val = n.val * 64 + r.val) (l : Fin 512) :
    r_v5 A (ix3 b R l) = rw A 6 b n.val r l := by
  unfold r_v5 g_v5
  pointwise
  refine rw_eq A 6 b n r l R hR _ ?_
  show 1536 + (1536 + l.val) = 512 * 6 + l.val
  omega

/-- The rows before the norm, given the states before every chunk. -/
theorem ro_eq (x4 : (⟨S128x8x4x128x128, .f32⟩ : BufTy).Contents (Elt Ideal)) (b : Fin 8) (n : Fin 128) (r : Fin 64) (h : Fin 4) :
    ro (r_v60 A lb) (r_v42 A) (r_v45 A lb) x4 b h n r
      = row (lo lb) (rw A 3 b n.val) (rw A 4 b n.val) (rw A 5 b n.val) (fun h v d => x4 (ix5 n b h d v)) h r := by
  funext v
  unfold ro row
  rw [e60]
  congr 1
  exact Finset.sum_congr rfl fun d _ => by rw [e42, e45]

/-- A row of the result, given the states before every chunk. -/
theorem out_eq (x4 : (⟨S128x8x4x128x128, .f32⟩ : BufTy).Contents (Elt Ideal)) (b : Fin 8) (n : Fin 128) (r : Fin 64) (h : Fin 4) (v : Fin 128) (R : Fin 8192) (hR : R.val = n.val * 64 + r.val) :
    g_v95 (g_v92 (r_v60 A lb) (r_v42 A) (r_v45 A lb) x4 (r_v20 nw)) (g_v93 (r_v5 A)) (ix3 b R (col h v))
      = res (lo lb) (fun l => nw (ix2 0 l)) (rw A 3 b n.val) (rw A 4 b n.val) (rw A 5 b n.val) (rw A 6 b n.val) (fun h v d => x4 (ix5 n b h d v)) h r v := by
  rw [e95, e93, e5 A b n r R hR, e92 _ _ _ _ _ b R (col h v) h n r v (Fin.ext (by show R.val / 64 = n.val; omega)) (Fin.ext (by show R.val % 64 = r.val; omega))
    (Fin.ext (by show (h.val * 128 + v.val) / 128 = h.val; omega)) (Fin.ext (by show (h.val * 128 + v.val) % 128 = v.val; omega)), ro_eq, e20]
  rfl

end Cert.ReferenceIdeal.Vals

end
-- ==== Proof.RefLoop.lean ====
/-
  The reference's loop over the chunks: the state it carries and the stack of states it leaves, then the result.
-/
module

public import proofs.«01_k».proof.Proof.RIdeal

@[expose] public section

set_option maxRecDepth 65536

noncomputable section

open Idealize.ShloMosaic Idealize.ShloMosaic.TcCoe Idealize.SL.Sem Idealize.ShloMosaic.StableHlo

namespace Cert.ReferenceIdeal.Vals

open Cert.ReferenceIdeal Cert.ReferenceIdeal.Gen Cert.ReferenceIdeal.Value Cert.Hgrn

theorem word (k : Fin 128) : (BitVec.ofNat 32 k.val).toInt = k.val := by
  revert k
  decide +kernel

/-- One leading entry of a stack of vectors. -/
theorem pick4 (D : S128x8x4x128.Idx → EReal) (s : Fin 4 → Int) (k : Fin 128) (h0 : s 0 = k.val) (h1 : s 1 = 0) (h2 : s 2 = 0) (h3 : s 3 = 0) (b : Fin 8) (h : Fin 4) (d : Fin 128) :
    Host.dynamicSlice S1x8x4x128 D s sliceFits_S128x8x4x128_S1x8x4x128 (ix4 0 b h d) = D (ix4 k b h d) := by
  unfold Host.dynamicSlice
  refine congrArg D (funext fun a => ?_)
  fin_cases a
  · exact Fin.ext (by show (min (max (s 0) 0) ((128 - 1 : ℕ) : Int)).toNat + 0 = k.val; rw [h0]; omega)
  · exact Fin.ext (by show (min (max (s 1) 0) ((8 - 8 : ℕ) : Int)).toNat + b.val = b.val; rw [h1]; omega)
  · exact Fin.ext (by show (min (max (s 2) 0) ((4 - 4 : ℕ) : Int)).toNat + h.val = h.val; rw [h2]; omega)
  · exact Fin.ext (by show (min (max (s 3) 0) ((128 - 128 : ℕ) : Int)).toNat + d.val = d.val; rw [h3]; omega)

/-- One leading entry of a stack of matrices. -/
theorem pick5 (D : S128x8x4x128x128.Idx → EReal) (s : Fin 5 → Int) (k : Fin 128) (h0 : s 0 = k.val) (h1 : s 1 = 0) (h2 : s 2 = 0) (h3 : s 3 = 0) (h4 : s 4 = 0) (b : Fin 8) (h : Fin 4) (d v : Fin 128) :
    Host.dynamicSlice S1x8x4x128x128 D s sliceFits_S128x8x4x128x128_S1x8x4x128x128 (ix5 0 b h d v) = D (ix5 k b h d v) := by
  unfold Host.dynamicSlice
  refine congrArg D (funext fun a => ?_)
  fin_cases a
  · exact Fin.ext (by show (min (max (s 0) 0) ((128 - 1 : ℕ) : Int)).toNat + 0 = k.val; rw [h0]; omega)
  · exact Fin.ext (by show (min (max (s 1) 0) ((8 - 8 : ℕ) : Int)).toNat + b.val = b.val; rw [h1]; omega)
  · exact Fin.ext (by show (min (max (s 2) 0) ((4 - 4 : ℕ) : Int)).toNat + h.val = h.val; rw [h2]; omega)
  · exact Fin.ext (by show (min (max (s 3) 0) ((128 - 128 : ℕ) : Int)).toNat + d.val = d.val; rw [h3]; omega)
  · exact Fin.ext (by show (min (max (s 4) 0) ((128 - 128 : ℕ) : Int)).toNat + v.val = v.val; rw [h4]; omega)

/-- A stack of matrices with one leading entry written. -/
theorem put5 (D : S128x8x4x128x128.Idx → EReal) (U : S1x8x4x128x128.Idx → EReal) (s : Fin 5 → Int) (k : Fin 128) (h0 : s 0 = k.val) (h1 : s 1 = 0) (h2 : s 2 = 0) (h3 : s 3 = 0) (h4 : s 4 = 0)
    (n : Fin 128) (b : Fin 8) (h : Fin 4) (d v : Fin 128) :
    Host.dynamicUpdateSlice D U s updateFits_S128x8x4x128x128_S1x8x4x128x128 (ix5 n b h d v) = if n = k then U (ix5 0 b h d v) else D (ix5 n b h d v) := by
  have c0 : (min (max (s 0) 0) ((128 - 1 : ℕ) : Int)).toNat = k.val := by rw [h0]; omega
  have c1 : (min (max (s 1) 0) ((8 - 8 : ℕ) : Int)).toNat = 0 := by rw [h1]; omega
  have c2 : (min (max (s 2) 0) ((4 - 4 : ℕ) : Int)).toNat = 0 := by rw [h2]; omega
  have c3 : (min (max (s 3) 0) ((128 - 128 : ℕ) : Int)).toNat = 0 := by rw [h3]; omega
  have c4 : (min (max (s 4) 0) ((128 - 128 : ℕ) : Int)).toNat = 0 := by rw [h4]; omega
  unfold Host.dynamicUpdateSlice updateSlice
  by_cases hn : n = k
  · rw [if_pos hn]
    refine (dif_pos ?_).trans ?_
    rotate_left
    · refine congrArg U (funext fun a => ?_)
      fin_cases a
      · exact Fin.ext (by show n.val - (min (max (s 0) 0) ((128 - 1 : ℕ) : Int)).toNat = 0; rw [c0, hn]; omega)
      · exact Fin.ext (by show b.val - (min (max (s 1) 0) ((8 - 8 : ℕ) : Int)).toNat = b.val; rw [c1]; omega)
      · exact Fin.ext (by show h.val - (min (max (s 2) 0) ((4 - 4 : ℕ) : Int)).toNat = h.val; rw [c2]; omega)
      · exact Fin.ext (by show d.val - (min (max (s 3) 0) ((128 - 128 : ℕ) : Int)).toNat = d.val; rw [c3]; omega)
      · exact Fin.ext (by show v.val - (min (max (s 4) 0) ((128 - 128 : ℕ) : Int)).toNat = v.val; rw [c4]; omega)
    · intro a
      fin_cases a
      · show (min (max (s 0) 0) ((128 - 1 : ℕ) : Int)).toNat ≤ n.val ∧ n.val < (min (max (s 0) 0) ((128 - 1 : ℕ) : Int)).toNat + 1
        rw [c0, hn]; omega
      · show (min (max (s 1) 0) ((8 - 8 : ℕ) : Int)).toNat ≤ b.val ∧ b.val < (min (max (s 1) 0) ((8 - 8 : ℕ) : Int)).toNat + 8
        rw [c1]; omega
      · show (min (max (s 2) 0) ((4 - 4 : ℕ) : Int)).toNat ≤ h.val ∧ h.val < (min (max (s 2) 0) ((4 - 4 : ℕ) : Int)).toNat + 4
        rw [c2]; omega
      · show (min (max (s 3) 0) ((128 - 128 : ℕ) : Int)).toNat ≤ d.val ∧ d.val < (min (max (s 3) 0) ((128 - 128 : ℕ) : Int)).toNat + 128
        rw [c3]; omega
      · show (min (max (s 4) 0) ((128 - 128 : ℕ) : Int)).toNat ≤ v.val ∧ v.val < (min (max (s 4) 0) ((128 - 128 : ℕ) : Int)).toNat + 128
        rw [c4]; omega
  · rw [if_neg hn]
    refine dif_neg ?_
    intro hin
    have h := hin 0
    have h' : (min (max (s 0) 0) ((128 - 1 : ℕ) : Int)).toNat ≤ n.val ∧ n.val < (min (max (s 0) 0) ((128 - 1 : ℕ) : Int)).toNat + 1 := h
    rw [c0] at h'
    exact hn (Fin.ext (by omega))

theorem mix3 (x : (⟨S1x8x4x128, .f32⟩ : BufTy).Contents (Elt Ideal)) (y : (⟨S1x8x4x128x128, .f32⟩ : BufTy).Contents (Elt Ideal)) (S : (⟨S8x4x128x128, .f32⟩ : BufTy).Contents (Elt Ideal))
    (b : Fin 8) (h : Fin 4) (d v : Fin 128) :
    (addf (F := Ideal) (φ := .f32) (mulf (F := Ideal) (φ := .f32) (broadcastInDim S8x4x128x128 ![0, 1, 2, 3] bcast_S8x4x128x1_S8x4x128x128_0_1_2_3 (broadcastInDim S8x4x128x1 ![0, 1, 2] bcast_S8x4x128_S8x4x128x1_0_1_2
      (shapeCast S8x4x128 x shapeCasts_S1x8x4x128_S8x4x128))) S) (shapeCast S8x4x128x128 y shapeCasts_S1x8x4x128x128_S8x4x128x128)) (ix4 b h d v)
      = x (ix4 0 b h d) * S (ix4 b h d v) + y (ix5 0 b h d v) := by
  pointwise

theorem step3_at (V : Valuation τ sig (Elt Ideal)) (k : Fin 128) (hc : V (Proc.devRef .tc main_v72_2) = fun _ => BitVec.ofNat 32 k.val)
    (D : (⟨S128x8x4x128, .f32⟩ : BufTy).Contents (Elt Ideal)) (hD : V (Proc.devRef .tc main_v72_0) = D)
    (U : (⟨S128x8x4x128x128, .f32⟩ : BufTy).Contents (Elt Ideal)) (hU : V (Proc.devRef .tc main_v72_1) = U)
    (S : (⟨S8x4x128x128, .f32⟩ : BufTy).Contents (Elt Ideal)) (hS : V (Proc.devRef .tc main_v72_3) = S)
    (b : Fin 8) (h : Fin 4) (d v : Fin 128) : step_main_v72_3 V (ix4 b h d v) = D (ix4 k b h d) * S (ix4 b h d v) + U (ix5 k b h d v) := by
  unfold step_main_v72_3
  rw [hc, hD, hU, hS, id_eq]
  exact (mix3 _ _ S b h d v).trans (congrArg₂ (fun p q : EReal => p + q) (congrArg (fun p : EReal => p * S (ix4 b h d v))
    (pick4 D (fun k_1 => (((![fun _ => BitVec.ofNat 32 k.val, constantI S_ 32 0#32, constantI S_ 32 0#32, constantI S_ 32 0#32] : Fin 4 → S_.Idx → BitVec 32) k_1) (Shape.Idx.first h_S_)).toInt) k (word k) rfl rfl rfl b h d))
    (pick5 U (fun k_1 => (((![fun _ => BitVec.ofNat 32 k.val, constantI S_ 32 0#32, constantI S_ 32 0#32, constantI S_ 32 0#32, constantI S_ 32 0#32] : Fin 5 → S_.Idx → BitVec 32) k_1) (Shape.Idx.first h_S_)).toInt) k (word k) rfl rfl rfl rfl b h d v))

theorem step4_at (V : Valuation τ sig (Elt Ideal)) (k : Fin 128) (hc : V (Proc.devRef .tc main_v72_2) = fun _ => BitVec.ofNat 32 k.val)
    (K : (⟨S128x8x4x128x128, .f32⟩ : BufTy).Contents (Elt Ideal)) (hK : V (Proc.devRef .tc main_v72_4) = K)
    (S : (⟨S8x4x128x128, .f32⟩ : BufTy).Contents (Elt Ideal)) (hS : V (Proc.devRef .tc main_v72_3) = S)
    (n : Fin 128) (b : Fin 8) (h : Fin 4) (d v : Fin 128) : step_main_v72_4 V (ix5 n b h d v) = if n = k then S (ix4 b h d v) else K (ix5 n b h d v) := by
  unfold step_main_v72_4
  rw [hc, hK, hS, id_eq]
  refine (put5 K _ (fun k_1 => (((![fun _ => BitVec.ofNat 32 k.val, constantI S_ 32 0#32, constantI S_ 32 0#32, constantI S_ 32 0#32, constantI S_ 32 0#32] : Fin 5 → S_.Idx → BitVec 32) k_1) (Shape.Idx.first h_S_)).toInt) k (word k) rfl rfl rfl rfl n b h d v).trans ?_
  pointwise

variable (A : (⟨S8x8192x7168, .bf16⟩ : BufTy).Contents (Elt Ideal)) (lb : (⟨S2x512, .f32⟩ : BufTy).Contents (Elt Ideal))

/-- The state before chunk `n` of batch `b`. -/
abbrev sr (b : Fin 8) (n : ℕ) : Fin 4 → Fin 128 → Fin 128 → EReal := st (lo lb) (rw A 3 b) (rw A 4 b) n

/-- What holds before trip `k`. -/
structure Inv (V : Valuation τ sig (Elt Ideal)) (k : ℕ) : Prop where
  dec : V (Proc.devRef .tc main_v72_0) = r_v72_0 A lb
  upd : V (Proc.devRef .tc main_v72_1) = r_v72_1 A lb
  ctr : V (Proc.devRef .tc main_v72_2) = fun _ => BitVec.ofNat 32 k
  cur : V (Proc.devRef .tc main_v72_3) = fun i : S8x4x128x128.Idx => sr A lb (i 0) k (i 1) (i 3) (i 2)
  stack : ∃ K : (⟨S128x8x4x128x128, .f32⟩ : BufTy).Contents (Elt Ideal), V (Proc.devRef .tc main_v72_4) = K
    ∧ ∀ n : Fin 128, n.val < k → ∀ b h d v, K (ix5 n b h d v) = sr A lb b n.val h v d

theorem idx4 (i : S8x4x128x128.Idx) : ∃ (b : Fin 8) (h : Fin 4) (d v : Fin 128), i = ix4 b h d v :=
  ⟨i 0, i 1, i 2, i 3, by
    funext a
    fin_cases a <;> rfl⟩

theorem inv_step (V : Valuation τ sig (Elt Ideal)) (k : Fin 128) (hV : Inv A lb V k.val) : Inv A lb (STEP V) (k.val + 1) where
  dec := (STEP_main_v72_0 V).trans hV.dec
  upd := (STEP_main_v72_1 V).trans hV.upd
  ctr := by
    rw [STEP_main_v72_2]
    unfold step_main_v72_2
    rw [hV.ctr]
    funext i
    show BitVec.ofNat 32 k.val + 1#32 = BitVec.ofNat 32 (k.val + 1)
    rw [BitVec.ofNat_add]
  cur := by
    rw [STEP_main_v72_3]
    refine funext fun (i : S8x4x128x128.Idx) => ?_
    obtain ⟨b, h, d, v, rfl⟩ := idx4 i
    refine (step3_at V k hV.ctr _ hV.dec _ hV.upd _ hV.cur _ _ _ _).trans ?_
    rw [e720, e721]
    rfl
  stack := by
    obtain ⟨K, hK, hs⟩ := hV.stack
    refine ⟨step_main_v72_4 V, STEP_main_v72_4 V, fun n hn b h d v => ?_⟩
    refine (step4_at V k hV.ctr K hK _ hV.cur n b h d v).trans ?_
    split_ifs with e
    · rw [e]
      rfl
    · exact hs n (by have : n.val ≠ k.val := fun h => e (Fin.ext h); omega) b h d v

theorem inv_iter (V : Valuation τ sig (Elt Ideal)) (hV : Inv A lb V 0) : ∀ k, k ≤ 128 → Inv A lb (STEP^[k] V) k
  | 0, _ => hV
  | k + 1, hk => by
    rw [Function.iterate_succ_apply']
    exact inv_step A lb _ ⟨k, hk⟩ (inv_iter V hV k (by omega))

variable (m : (ℓ : Loc nD τ sig) → Buf (Elt Ideal) ℓ) (c : Dev nD)

theorem inv_zero : Inv (A0 m c) (A1 m c) (entryContents preI m c) 0 where
  dec := Q9_main_v72_0 m c
  upd := Q9_main_v72_1 m c
  ctr := ctr_entry m c
  cur := by
    rw [entry_eq, Q9_main_v72_3]
    unfold r_v72_3 g_v72_3
    refine funext fun (i : S8x4x128x128.Idx) => ?_
    exact zero_bits
  stack := ⟨_, Q9_main_v72_4 m c, fun n hn => absurd hn (Nat.not_lt_zero _)⟩

/-- The buffers a trip writes. -/
abbrev trip_W : List (Ref sig .tc) := trip_w0_W ++ trip_w1_W ++ trip_w2_W ++ trip_w3_W ++ trip_w4_W ++ trip_w5_W
  ++ [main_while0b_c_17, main_while0b_v103, main_v72_2, main_v72_3, main_v72_4] ++ condOps_W

theorem last_writes : (while0Ops0_4 : List (HloOp τ sig (Elt Ideal))).Forall fun op =>
    op.writes ⊆ (([main_while0b_c_17, main_while0b_v103, main_v72_2, main_v72_3, main_v72_4] : List (Ref sig .tc)).map (Proc.devRef (τ := τ) .tc)).toFinset :=
  StableHlo.forall_writes_sub_of_map rfl

/-- A buffer no trip writes keeps its contents through a trip. -/
theorem trip_keep (V : Valuation τ sig (Elt Ideal)) (r : Ref sig .tc) (h : r ∉ trip_W) :
    afterL bodyI (after condOps V) (Proc.devRef .tc r) = V (Proc.devRef .tc r) := by
  simp only [trip_W, List.mem_append, not_or] at h
  obtain ⟨⟨⟨⟨⟨⟨⟨h0, h1⟩, h2⟩, h3⟩, h4⟩, h5⟩, h6⟩, h7⟩ := h
  simp only [bodyI, afterL_cons, afterL_nil, trip_windows]
  rw [after_of_writes_sub while0Ops0_4 _ last_writes h6, val6_keep _ r h5, val5_keep _ r h4, val4_keep _ r h3, val3_keep _ r h2, val2_keep _ r h1, val1_keep _ r h0]
  exact after_of_writes_sub condOps _ condOps_writes h7

theorem atTrip_keep (r : Ref sig .tc) (h : r ∉ trip_W) : ∀ k, atK m k c (Proc.devRef .tc r) = Q9 m c (Proc.devRef .tc r)
  | 0 => rfl
  | k + 1 => (trip_keep (atK m k c) r h).trans (atTrip_keep r h k)

/-- The buffers' contents after the loop. -/
def Z0 : Valuation τ sig (Elt Ideal) := after condOps (atK m 128 c)

theorem Z0_keep (r : Ref sig .tc) (h : r ∉ trip_W) : Z0 m c (Proc.devRef .tc r) = Q9 m c (Proc.devRef .tc r) :=
  (after_of_writes_sub condOps _ condOps_writes fun h' => h (List.mem_append_right _ h')).trans (atTrip_keep m c r h 128)

/-- The stack of states after the loop. -/
theorem Z0_stack : ∃ K : (⟨S128x8x4x128x128, .f32⟩ : BufTy).Contents (Elt Ideal), Z0 m c (Proc.devRef .tc main_v72_4) = K
    ∧ ∀ (n : Fin 128) b h d v, K (ix5 n b h d v) = sr (A0 m c) (A1 m c) b n.val h v d := by
  obtain ⟨K, hK, hs⟩ := (inv_iter (A0 m c) (A1 m c) _ (inv_zero m c) 128 le_rfl).stack
  refine ⟨K, ?_, fun n => hs n n.isLt⟩
  refine (cond_keeps (atK m 128 c) main_v72_4 (by decide)).trans ?_
  exact (atK_agree m c 128 main_v72_4 (by decide)).trans hK

/-- The buffers' contents at the end. -/
theorem fin_eq : finalContents condOps preI bodyI postI 128 m c = after hostOps0_11 (after hostOps0_10 (after hostOps0_9 (Z0 m c))) := rfl

abbrev hostOps0_9_W : List (Ref sig .tc) := [main_v73, main_v74, main_v75, main_v76, main_v77, main_v78, main_cst_10, main_v79, main_v80, main_cst_11, main_v81, main_v82, main_cst_12, main_v83, main_v84, main_v85, main_v86, main_v87, main_v88, main_v89, main_v90, main_v91, main_v92]
theorem hostOps0_9_writes : (hostOps0_9 : List (HloOp τ sig (Elt Ideal))).Forall fun op => op.writes ⊆ (hostOps0_9_W.map (Proc.devRef (τ := τ) .tc)).toFinset :=
  StableHlo.forall_writes_sub_of_map rfl

abbrev hostOps0_10_W : List (Ref sig .tc) := [main_call7_v0, main_call7_v1, main_call7_cst, main_call7_v2, main_call7_v3, main_call7_cst_0, main_call7_v4, main_call7_v5, main_v93]
theorem hostOps0_10_writes : (hostOps0_10 : List (HloOp τ sig (Elt Ideal))).Forall fun op => op.writes ⊆ (hostOps0_10_W.map (Proc.devRef (τ := τ) .tc)).toFinset :=
  StableHlo.forall_writes_sub_of_map rfl

abbrev hostOps0_11_W : List (Ref sig .tc) := [main_v94, main_v95]
theorem hostOps0_11_writes : (hostOps0_11 : List (HloOp τ sig (Elt Ideal))).Forall fun op => op.writes ⊆ (hostOps0_11_W.map (Proc.devRef (τ := τ) .tc)).toFinset :=
  StableHlo.forall_writes_sub_of_map rfl

/-- The result at the end. -/
theorem fin_out (b : Fin 8) (n : Fin 128) (r : Fin 64) (h : Fin 4) (v : Fin 128) (R : Fin 8192) (hR : R.val = n.val * 64 + r.val) :
    (finalContents condOps preI bodyI postI 128 m c (Proc.devRef .tc main_v95) : (⟨S8x8192x512, .bf16⟩ : BufTy).Contents (Elt Ideal)) (ix3 b R (col h v))
      = res (lo (A1 m c)) (fun l => A2 m c (ix2 0 l)) (rw (A0 m c) 3 b n.val) (rw (A0 m c) 4 b n.val) (rw (A0 m c) 5 b n.val) (rw (A0 m c) 6 b n.val) (sr (A0 m c) (A1 m c) b n.val) h r v := by
  obtain ⟨K, hK, hs⟩ := Z0_stack m c
  rw [fin_eq, w_v95, w_v93, after_of_writes_sub hostOps0_10 _ hostOps0_10_writes (by decide : main_v92 ∉ hostOps0_10_W), w_v92,
    after_of_writes_sub hostOps0_9 _ hostOps0_9_writes (by decide : main_v5 ∉ hostOps0_9_W),
    Z0_keep m c main_v60 (by decide), Z0_keep m c main_v42 (by decide), Z0_keep m c main_v45 (by decide), Z0_keep m c main_v20 (by decide), Z0_keep m c main_v5 (by decide), hK,
    Q9_main_v60, Q9_main_v42, Q9_main_v45, Q9_main_v20, Q9_main_v5]
  refine (out_eq (A0 m c) (A1 m c) (A2 m c) K b n r h v R hR).trans ?_
  exact congrArg (fun S => res (lo (A1 m c)) (fun l => A2 m c (ix2 0 l)) (rw (A0 m c) 3 b n.val) (rw (A0 m c) 4 b n.val) (rw (A0 m c) 5 b n.val) (rw (A0 m c) 6 b n.val) S h r v)
    (funext fun h => funext fun v => funext fun d => hs n b h d v)

/-- The arguments at the end. -/
theorem fin_arg0 : finalContents condOps preI bodyI postI 128 m c (Proc.devRef .tc main_arg0) = A0 m c := by
  rw [fin_eq, after_of_writes_sub hostOps0_11 _ hostOps0_11_writes (by decide : main_arg0 ∉ hostOps0_11_W), after_of_writes_sub hostOps0_10 _ hostOps0_10_writes (by decide : main_arg0 ∉ hostOps0_10_W),
    after_of_writes_sub hostOps0_9 _ hostOps0_9_writes (by decide : main_arg0 ∉ hostOps0_9_W), Z0_keep m c main_arg0 (by decide)]
  unfold Q9 Q8 Q7 Q6 Q5 Q4 Q3 Q2 Q1
  rw [after_of_writes_sub hostOps0_8 _ hostOps0_8_writes (by decide : main_arg0 ∉ hostOps0_8_W), after_of_writes_sub hostOps0_7 _ hostOps0_7_writes (by decide : main_arg0 ∉ hostOps0_7_W),
    after_of_writes_sub hostOps0_6 _ hostOps0_6_writes (by decide : main_arg0 ∉ hostOps0_6_W), after_of_writes_sub hostOps0_5 _ hostOps0_5_writes (by decide : main_arg0 ∉ hostOps0_5_W),
    after_of_writes_sub hostOps0_4 _ hostOps0_4_writes (by decide : main_arg0 ∉ hostOps0_4_W), after_of_writes_sub hostOps0_3 _ hostOps0_3_writes (by decide : main_arg0 ∉ hostOps0_3_W),
    after_of_writes_sub hostOps0_2 _ hostOps0_2_writes (by decide : main_arg0 ∉ hostOps0_2_W), after_of_writes_sub hostOps0_1 _ hostOps0_1_writes (by decide : main_arg0 ∉ hostOps0_1_W),
    after_of_writes_sub hostOps0 _ hostOps0_writes (by decide : main_arg0 ∉ hostOps0_W)]
  rfl

theorem fin_arg1 : finalContents condOps preI bodyI postI 128 m c (Proc.devRef .tc main_arg1) = A1 m c := by
  rw [fin_eq, after_of_writes_sub hostOps0_11 _ hostOps0_11_writes (by decide : main_arg1 ∉ hostOps0_11_W), after_of_writes_sub hostOps0_10 _ hostOps0_10_writes (by decide : main_arg1 ∉ hostOps0_10_W),
    after_of_writes_sub hostOps0_9 _ hostOps0_9_writes (by decide : main_arg1 ∉ hostOps0_9_W), Z0_keep m c main_arg1 (by decide)]
  unfold Q9 Q8 Q7 Q6 Q5 Q4 Q3 Q2 Q1
  rw [after_of_writes_sub hostOps0_8 _ hostOps0_8_writes (by decide : main_arg1 ∉ hostOps0_8_W), after_of_writes_sub hostOps0_7 _ hostOps0_7_writes (by decide : main_arg1 ∉ hostOps0_7_W),
    after_of_writes_sub hostOps0_6 _ hostOps0_6_writes (by decide : main_arg1 ∉ hostOps0_6_W), after_of_writes_sub hostOps0_5 _ hostOps0_5_writes (by decide : main_arg1 ∉ hostOps0_5_W),
    after_of_writes_sub hostOps0_4 _ hostOps0_4_writes (by decide : main_arg1 ∉ hostOps0_4_W), after_of_writes_sub hostOps0_3 _ hostOps0_3_writes (by decide : main_arg1 ∉ hostOps0_3_W),
    after_of_writes_sub hostOps0_2 _ hostOps0_2_writes (by decide : main_arg1 ∉ hostOps0_2_W), after_of_writes_sub hostOps0_1 _ hostOps0_1_writes (by decide : main_arg1 ∉ hostOps0_1_W),
    after_of_writes_sub hostOps0 _ hostOps0_writes (by decide : main_arg1 ∉ hostOps0_W)]
  rfl

theorem fin_arg2 : finalContents condOps preI bodyI postI 128 m c (Proc.devRef .tc main_arg2) = A2 m c := by
  rw [fin_eq, after_of_writes_sub hostOps0_11 _ hostOps0_11_writes (by decide : main_arg2 ∉ hostOps0_11_W), after_of_writes_sub hostOps0_10 _ hostOps0_10_writes (by decide : main_arg2 ∉ hostOps0_10_W),
    after_of_writes_sub hostOps0_9 _ hostOps0_9_writes (by decide : main_arg2 ∉ hostOps0_9_W), Z0_keep m c main_arg2 (by decide)]
  unfold Q9 Q8 Q7 Q6 Q5 Q4 Q3 Q2 Q1
  rw [after_of_writes_sub hostOps0_8 _ hostOps0_8_writes (by decide : main_arg2 ∉ hostOps0_8_W), after_of_writes_sub hostOps0_7 _ hostOps0_7_writes (by decide : main_arg2 ∉ hostOps0_7_W),
    after_of_writes_sub hostOps0_6 _ hostOps0_6_writes (by decide : main_arg2 ∉ hostOps0_6_W), after_of_writes_sub hostOps0_5 _ hostOps0_5_writes (by decide : main_arg2 ∉ hostOps0_5_W),
    after_of_writes_sub hostOps0_4 _ hostOps0_4_writes (by decide : main_arg2 ∉ hostOps0_4_W), after_of_writes_sub hostOps0_3 _ hostOps0_3_writes (by decide : main_arg2 ∉ hostOps0_3_W),
    after_of_writes_sub hostOps0_2 _ hostOps0_2_writes (by decide : main_arg2 ∉ hostOps0_2_W), after_of_writes_sub hostOps0_1 _ hostOps0_1_writes (by decide : main_arg2 ∉ hostOps0_1_W),
    after_of_writes_sub hostOps0 _ hostOps0_writes (by decide : main_arg2 ∉ hostOps0_W)]
  rfl

end Cert.ReferenceIdeal.Vals

end
-- ==== Proof.Equal.lean ====
/-
  The kernel's result and the reference's are equal over the extended reals.
-/
module

public import proofs.«01_k».proof.Proof.KIdeal
public import proofs.«01_k».proof.Proof.RefLoop

@[expose] public section

set_option maxRecDepth 65536

noncomputable section

open Idealize.ShloMosaic Idealize.ShloMosaic.TcCoe Idealize.SL.Sem Idealize.ShloMosaic.StableHlo

namespace Cert.Equal

open Cert.Hgrn Cert.KernelIdeal.Point

variable (A : Vec Ideal Cert.KernelIdeal.S8x8192x7168 .bf16) (lb : Vec Ideal Cert.KernelIdeal.S2x512 .f32) (nw : Vec Ideal Cert.KernelIdeal.S1x512 .f32)

/-- The kernel's states are the recurrence's. -/
theorem state_eq (b : Fin 8) : ∀ n, Cert.KernelIdeal.Chunk.stt (SS A lb b n) = Cert.ReferenceIdeal.Vals.sr A lb b n
  | 0 => by
    funext h v d
    show Cert.KernelIdeal.Gen.k0_pay2 (F := Ideal) (ix3 h v d) = 0
    unfold Cert.KernelIdeal.Gen.k0_pay2
    pointwise
  | n + 1 => by
    funext h v d
    refine (Cert.KernelIdeal.Chunk.next_eq lb (chunk A 3 b n) (chunk A 4 b n) (SS A lb b n) h v d).trans ?_
    rw [state_eq b n]
    rfl

/-- A row of the kernel's result. -/
theorem kernel_row (b : Fin 8) (n : ℕ) (r : Fin 64) (h : Fin 4) (v : Fin 128) :
    outS A lb nw b n (ix3 0 r (col h v)) = res (Cert.ReferenceIdeal.Vals.lo lb) (fun l => nw (ix2 0 l)) (Cert.ReferenceIdeal.Vals.rw A 3 b n) (Cert.ReferenceIdeal.Vals.rw A 4 b n)
      (Cert.ReferenceIdeal.Vals.rw A 5 b n) (Cert.ReferenceIdeal.Vals.rw A 6 b n) (Cert.ReferenceIdeal.Vals.sr A lb b n) h r v := by
  refine (Cert.KernelIdeal.Chunk.outX_eq lb (chunk A 3 b n) (chunk A 4 b n) (chunk A 5 b n) (chunk A 6 b n) nw (SS A lb b n) r h v).trans ?_
  rw [state_eq]
  rfl

theorem idx3 (i : Cert.KernelIdeal.S8x8192x512.Idx) : ∃ (b : Fin 8) (R : Fin 8192) (l : Fin 512), i = ix3 b R l :=
  ⟨i 0, i 1, i 2, by
    funext a
    fin_cases a <;> rfl⟩

/-- The two results agree where the arguments do. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : Cert.ReferenceIdeal.Vals.A0 m' c = AA m c) (h1 : Cert.ReferenceIdeal.Vals.A1 m' c = LBv m c) (h2 : Cert.ReferenceIdeal.Vals.A2 m' c = NWv m c) :
    (finalContents Cert.ReferenceIdeal.Value.condOps Cert.ReferenceIdeal.Value.preI Cert.ReferenceIdeal.Value.bodyI Cert.ReferenceIdeal.Value.postI 128 m' c (Proc.devRef .tc Cert.ReferenceIdeal.main_v95) : Cert.KernelIdeal.S8x8192x512.Idx → EReal)
      = Cert.KernelIdeal.Value.G6 m c := by
  refine funext fun (i : Cert.KernelIdeal.S8x8192x512.Idx) => ?_
  obtain ⟨b, R, l, rfl⟩ := idx3 i
  obtain ⟨h, v, rfl⟩ := col_surj l
  refine (Cert.ReferenceIdeal.Vals.fin_out m' c b ⟨R.val / 64, by omega⟩ ⟨R.val % 64, by omega⟩ h v R (by show R.val = R.val / 64 * 64 + R.val % 64; omega)).trans ?_
  rw [h0, h1, h2]
  refine Eq.trans ?_ (G6_eq m c (ix3 b R (col h v))).symm
  exact (kernel_row (AA m c) (LBv m c) (NWv m c) b (R.val / 64) ⟨R.val % 64, by omega⟩ h v).symm

end Cert.Equal

end
-- ==== Proof.ProjBase.lean ====
module

public import proofs.«01_k».proof.Proof.Gen.Kernel2Ideal.Frame
public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

/-- The row block is cast at a point. -/
abbrev c0 (i : grid0.Coords) : Prop := (Scalar.cmpi .ne (Scalar.extui (Scalar.cmpi .eq (BitVec.ofNat 32 (i 1).val) 0#32)) 0#32) = 1#1

theorem hc0 : ∀ t : Fin cfg0.N, c0 (grid0.coords t) ↔ t.val % 20 = 0 :=
  (fun t => by
    have ht : t.val < 640 := Nat.lt_of_lt_of_eq t.isLt N_0
    have e0 : (grid0.coords t 0).val = t.val / 20 % 32 := Pipeline.Grid.coords_val t 0 (by decide) rfl
    have e1 : (grid0.coords t 1).val = t.val / 1 % 20 := Pipeline.Grid.coords_val t 1 (by decide) rfl
    simp only [c0, e0, e1]
    word_cmp
   : ∀ t : Fin grid0.N, c0 (grid0.coords t) ↔ t.val % 20 = 0)

/-- The kept columns are stored at a point. -/
abbrev cO (i : grid0.Coords) : Prop := k0_cond2 i = 1#1

theorem hcO : ∀ t : Fin cfg0.N, cO (grid0.coords t) ↔ (t.val % 20 = 0 ∨ t.val % 20 = 3 ∨ t.val % 20 = 6 ∨ 9 ≤ t.val % 20) :=
  (fun t => by
    have ht : t.val < 640 := Nat.lt_of_lt_of_eq t.isLt N_0
    have e0 : (grid0.coords t 0).val = t.val / 20 % 32 := Pipeline.Grid.coords_val t 0 (by decide) rfl
    have e1 : (grid0.coords t 1).val = t.val / 1 % 20 := Pipeline.Grid.coords_val t 1 (by decide) rfl
    simp only [cO, k0_cond2, e0, e1]
    simp only [Nat.div_one]
    have hn : t.val % 20 < 20 := Nat.mod_lt _ (by omega)
    generalize t.val % 20 = n at hn ⊢
    revert n
    decide +kernel
   : ∀ t : Fin grid0.N, cO (grid0.coords t) ↔ (t.val % 20 = 0 ∨ t.val % 20 = 3 ∨ t.val % 20 = 6 ∨ 9 ≤ t.val % 20))

/-- The columns gathered at stride 4 are stored at a point. -/
abbrev cY4 (i : grid0.Coords) : Prop := k0_cond3 i = 1#1

theorem hcY4 : ∀ t : Fin cfg0.N, cY4 (grid0.coords t) ↔ (t.val % 20 = 1 ∨ t.val % 20 = 4 ∨ t.val % 20 = 7) :=
  (fun t => by
    have ht : t.val < 640 := Nat.lt_of_lt_of_eq t.isLt N_0
    have e0 : (grid0.coords t 0).val = t.val / 20 % 32 := Pipeline.Grid.coords_val t 0 (by decide) rfl
    have e1 : (grid0.coords t 1).val = t.val / 1 % 20 := Pipeline.Grid.coords_val t 1 (by decide) rfl
    simp only [cY4, k0_cond3, e0, e1]
    word_cmp
   : ∀ t : Fin grid0.N, cY4 (grid0.coords t) ↔ (t.val % 20 = 1 ∨ t.val % 20 = 4 ∨ t.val % 20 = 7))

/-- The columns gathered at stride 16 are stored at a point. -/
abbrev cY16 (i : grid0.Coords) : Prop := k0_cond4 i = 1#1

theorem hcY16 : ∀ t : Fin cfg0.N, cY16 (grid0.coords t) ↔ (t.val % 20 = 2 ∨ t.val % 20 = 5 ∨ t.val % 20 = 8) :=
  (fun t => by
    have ht : t.val < 640 := Nat.lt_of_lt_of_eq t.isLt N_0
    have e0 : (grid0.coords t 0).val = t.val / 20 % 32 := Pipeline.Grid.coords_val t 0 (by decide) rfl
    have e1 : (grid0.coords t 1).val = t.val / 1 % 20 := Pipeline.Grid.coords_val t 1 (by decide) rfl
    simp only [cY16, k0_cond4, e0, e1]
    word_cmp
   : ∀ t : Fin grid0.N, cY16 (grid0.coords t) ↔ (t.val % 20 = 2 ∨ t.val % 20 = 5 ∨ t.val % 20 = 8))

/-! ## The staging and scratch buffers -/

abbrev ms0 (t : Fin cfg0.N) : Memref sig .tc .vmem S2048x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x2048 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x8192 .bf16 := win0_4.stage (cfg0.slots t 4)
abbrev hs4 (t : Fin cfg0.N) : (ms4 t).IsWhole := hstage0_4 ((cfg0.slots t 4).cast nbuf0_4)
/-- One staging buffer of output window 2, through which its contents are stated. -/
abbrev VO2 : View sig .tc .vmem S2048x512 .bf16 := (Memref.whole cc0_stg2_0 : Memref sig .tc .vmem S2048x512 .bf16).view
/-- One staging buffer of output window 3, through which its contents are stated. -/
abbrev VO3 : View sig .tc .vmem S512x2048 .bf16 := (Memref.whole cc0_stg3_0 : Memref sig .tc .vmem S512x2048 .bf16).view
/-- One staging buffer of output window 4, through which its contents are stated. -/
abbrev VO4 : View sig .tc .vmem S128x8192 .bf16 := (Memref.whole cc0_stg4_0 : Memref sig .tc .vmem S128x8192 .bf16).view
/-- The rows cast once per row block. -/
abbrev sc0 : Memref sig .tc .vmem S2048x1024 .bf16 := Memref.whole cc0_scratch0
/-- The product before its rows are gathered. -/
abbrev sc1 : Memref sig .tc .vmem S2048x512 .bf16 := Memref.whole cc0_scratch1
abbrev VS0 : View sig .tc .vmem S2048x1024 .bf16 := sc0.view

theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

end Cert.Kernel2Ideal.Proj

end
-- ==== Proof.ProjAB.lean ====
module

public import proofs.«01_k».proof.Proof.ProjBase

@[expose] public section

set_option maxRecDepth 16384

noncomputable section

namespace Cert.Kernel2Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

set_option maxHeartbeats 4000000 in
/-- The body's run where the rows are cast and the kept columns stored: what its stores leave, as pieces, with the triple that says so. -/
noncomputable def runA (c : Dev nD) (i : grid0.Coords) (arg2 : Memref sig .tc .vmem S2048x1024 .f32) (harg2 : arg2.IsWhole) (arg3 : Memref sig .tc .vmem S1024x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S128x8192 .bf16) (harg6 : arg6.IsWhole) (arg7 : Memref sig .tc .vmem S2048x1024 .bf16) (harg7 : arg7.IsWhole) (arg8 : Memref sig .tc .vmem S2048x512 .bf16) (harg8 : arg8.IsWhole) (hc0 : c0 i) (hc1 : cO i) (hc2 : ¬ cY4 i) (hc3 : ¬cY16 i)
    (x0 : Vec F S2048x1024 .f32) (x1 : Vec F S1024x512 .bf16) :
    Σ' (L : List (View.Piece (Elt F) S2048x512 .bf16)), { LS : List (View.Piece (Elt F) S2048x1024 .bf16) //
      ∀ (xi3 : Vec F S512x2048 .bf16) (xi4 : Vec F S128x8192 .bf16) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L) ∗ owns (c : Thread nD τ) arg5 fullShare xi3 ∗ owns (c : Thread nD τ) arg6 fullShare xi4 ∗ (∃ f, arg7.view.loc (c : Thread nD τ) ↦[arg7.view.set]{fullShare} arg7.view.writes (Elt F) f LS) ∗ (∃ d, owns (c : Thread nD τ) arg8 fullShare d)) -∗ K ⟨⟩))
          ⊢ wp frame (wpE (defs₀ (F := F)) Variants.none c none) E (cc0_proj i arg2 harg2 arg3 harg3 arg4 harg4 arg5 harg5 arg6 harg6 arg7 harg7 arg8 harg8) K } := by
  refine ⟨?_, ?_, fun xi3 xi4 E K => ?run⟩
  case run =>
    simp only [cc0_proj_eq_skeleton]; unfold cc0_proj_skel
    unfold owns
    iintro ⟨⟨%f0, %hf0, H0⟩, ⟨%f1, %hf1, H1⟩, ⟨%d2, %f2, -, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg5.eq_unread hf3; obtain rfl := harg6.eq_unread hf4
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _, _; isplitr; swap; · iexact HS1
    ipureintro; rfl

set_option maxHeartbeats 4000000 in
/-- The body's run where kept columns are stored: what its stores leave, as pieces, with the triple that says so. -/
noncomputable def runB (c : Dev nD) (i : grid0.Coords) (arg2 : Memref sig .tc .vmem S2048x1024 .f32) (harg2 : arg2.IsWhole) (arg3 : Memref sig .tc .vmem S1024x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S128x8192 .bf16) (harg6 : arg6.IsWhole) (arg7 : Memref sig .tc .vmem S2048x1024 .bf16) (harg7 : arg7.IsWhole) (arg8 : Memref sig .tc .vmem S2048x512 .bf16) (harg8 : arg8.IsWhole) (hc0 : ¬c0 i) (hc1 : cO i) (hc2 : ¬cY4 i) (hc3 : ¬cY16 i)
    (x0 : Vec F S2048x1024 .f32) (x1 : Vec F S1024x512 .bf16) (xs0 : Vec F S2048x1024 .bf16) :
    { L : List (View.Piece (Elt F) S2048x512 .bf16) //
      ∀ (xi3 : Vec F S512x2048 .bf16) (xi4 : Vec F S128x8192 .bf16) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xi4 ∗ owns (c : Thread nD τ) arg7 fullShare xs0 ∗ (∃ d, owns (c : Thread nD τ) arg8 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L) ∗ owns (c : Thread nD τ) arg5 fullShare xi3 ∗ owns (c : Thread nD τ) arg6 fullShare xi4 ∗ owns (c : Thread nD τ) arg7 fullShare xs0 ∗ (∃ d, owns (c : Thread nD τ) arg8 fullShare d)) -∗ K ⟨⟩))
          ⊢ wp frame (wpE (defs₀ (F := F)) Variants.none c none) E (cc0_proj i arg2 harg2 arg3 harg3 arg4 harg4 arg5 harg5 arg6 harg6 arg7 harg7 arg8 harg8) K } := by
  refine ⟨?_, fun xi3 xi4 E K => ?run⟩
  case run =>
    simp only [cc0_proj_eq_skeleton]; unfold cc0_proj_skel
    unfold owns
    iintro ⟨⟨%f0, %hf0, H0⟩, ⟨%f1, %hf1, H1⟩, ⟨%d2, %f2, -, H2⟩, ⟨%f3, %hf3, H3⟩, ⟨%f4, %hf4, H4⟩, ⟨%fs0, %hfs0, HS0⟩, ⟨%ds1, %fs1, -, HS1⟩, Hk⟩
    obtain rfl := harg2.eq_unread hf0; obtain rfl := harg3.eq_unread hf1; obtain rfl := harg5.eq_unread hf3; obtain rfl := harg6.eq_unread hf4; obtain rfl := harg7.eq_unread hfs0
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    isplitl [H4]
    · iexists _; isplitr; · ipureintro; exact harg6.read_unread _
      iexact H4
    isplitl [HS0]
    · iexists _; isplitr; · ipureintro; exact harg7.read_unread _
      iexact HS0
    iexists _, _; isplitr; swap; · iexact HS1
    ipureintro; rfl

end Cert.Kernel2Ideal.Proj

end
-- ==== Proof.ProjC.lean ====
module

public import proofs.«01_k».proof.Proof.ProjAB

@[expose] public section

set_option maxRecDepth 16384

noncomputable section

namespace Cert.Kernel2Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

set_option maxHeartbeats 4000000 in
/-- The body's run where the columns gathered at stride 4 are stored: what its stores leave, as pieces, with the triple that says so. -/
noncomputable def runC (c : Dev nD) (i : grid0.Coords) (arg2 : Memref sig .tc .vmem S2048x1024 .f32) (harg2 : arg2.IsWhole) (arg3 : Memref sig .tc .vmem S1024x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S128x8192 .bf16) (harg6 : arg6.IsWhole) (arg7 : Memref sig .tc .vmem S2048x1024 .bf16) (harg7 : arg7.IsWhole) (arg8 : Memref sig .tc .vmem S2048x512 .bf16) (harg8 : arg8.IsWhole) (hc0 : ¬c0 i) (hc1 : ¬cO i) (hc2 : cY4 i) (hc3 : ¬cY16 i)
    (x0 : Vec F S2048x1024 .f32) (x1 : Vec F S1024x512 .bf16) (xs0 : Vec F S2048x1024 .bf16) :
    Σ' (L : List (View.Piece (Elt F) S512x2048 .bf16)), { LT : List (View.Piece (Elt F) S2048x512 .bf16) //
      ∀ (xi2 : Vec F S2048x512 .bf16) (xi4 : Vec F S128x8192 .bf16) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ owns (c : Thread nD τ) arg6 fullShare xi4 ∗ owns (c : Thread nD τ) arg7 fullShare xs0 ∗ (∃ d, owns (c : Thread nD τ) arg8 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L) ∗ owns (c : Thread nD τ) arg6 fullShare xi4 ∗ owns (c : Thread nD τ) arg7 fullShare xs0 ∗ (∃ f, arg8.view.loc (c : Thread nD τ) ↦[arg8.view.set]{fullShare} arg8.view.writes (Elt F) f LT)) -∗ K ⟨⟩))
          ⊢ wp frame (wpE (defs₀ (F := F)) Variants.none c none) E (cc0_proj i arg2 harg2 arg3 harg3 arg4 harg4 arg5 harg5 arg6 harg6 arg7 harg7 arg8 harg8) K } := by
  refine ⟨?_, ?_, fun xi2 xi4 E K => ?run⟩
  case run =>
    simp only [cc0_proj_eq_skeleton]; unfold cc0_proj_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg6.eq_unread hf4; obtain rfl := harg7.eq_unread hfs0
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [HS0]
    · iexists _; isplitr; · ipureintro; exact harg7.read_unread _
      iexact HS0
    iexists _; iexact HS1

end Cert.Kernel2Ideal.Proj

end
-- ==== Proof.ProjD.lean ====
module

public import proofs.«01_k».proof.Proof.ProjAB

@[expose] public section

set_option maxRecDepth 16384

noncomputable section

namespace Cert.Kernel2Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

set_option maxHeartbeats 4000000 in
/-- The body's run where the columns gathered at stride 16 are stored: what its stores leave, as pieces, with the triple that says so. -/
noncomputable def runD (c : Dev nD) (i : grid0.Coords) (arg2 : Memref sig .tc .vmem S2048x1024 .f32) (harg2 : arg2.IsWhole) (arg3 : Memref sig .tc .vmem S1024x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S128x8192 .bf16) (harg6 : arg6.IsWhole) (arg7 : Memref sig .tc .vmem S2048x1024 .bf16) (harg7 : arg7.IsWhole) (arg8 : Memref sig .tc .vmem S2048x512 .bf16) (harg8 : arg8.IsWhole) (hc0 : ¬c0 i) (hc1 : ¬cO i) (hc2 : ¬cY4 i) (hc3 : cY16 i)
    (x0 : Vec F S2048x1024 .f32) (x1 : Vec F S1024x512 .bf16) (xs0 : Vec F S2048x1024 .bf16) :
    Σ' (L : List (View.Piece (Elt F) S128x8192 .bf16)), { LT : List (View.Piece (Elt F) S2048x512 .bf16) //
      ∀ (xi2 : Vec F S2048x512 .bf16) (xi3 : Vec F S512x2048 .bf16) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ owns (c : Thread nD τ) arg7 fullShare xs0 ∗ (∃ d, owns (c : Thread nD τ) arg8 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f L) ∗ owns (c : Thread nD τ) arg7 fullShare xs0 ∗ (∃ f, arg8.view.loc (c : Thread nD τ) ↦[arg8.view.set]{fullShare} arg8.view.writes (Elt F) f LT)) -∗ K ⟨⟩))
          ⊢ wp frame (wpE (defs₀ (F := F)) Variants.none c none) E (cc0_proj i arg2 harg2 arg3 harg3 arg4 harg4 arg5 harg5 arg6 harg6 arg7 harg7 arg8 harg8) K } := by
  refine ⟨?_, ?_, fun xi2 xi3 E K => ?run⟩
  case run =>
    simp only [cc0_proj_eq_skeleton]; unfold cc0_proj_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]
    · iexists _; isplitr; · ipureintro; exact harg7.read_unread _
      iexact HS0
    iexists _; iexact HS1

end Cert.Kernel2Ideal.Proj

end
-- ==== Proof.ProjVal.lean ====
module

public import proofs.«01_k».proof.Proof.ProjC
public import proofs.«01_k».proof.Proof.ProjD
public import Idealize.ShloMosaic.Lib.Pipeline.Value
public import Idealize.ShloMosaic.Lib.Pipeline.ReadBack
public import Idealize.ShloMosaic.Lib.Pointwise

@[expose] public section

set_option maxRecDepth 16384

noncomputable section

namespace Cert.Kernel2Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

/-! ## What the body stores, as values -/

/-- The rows of group `g` of a product. -/
def rowsOf (R : Vec F S2048x512 .bf16) (g : Fin 8) : Vec F S256x512 .bf16 :=
  fun x => R (ix2 (n0 := 2048) (n1 := 512) ⟨256 * g.val + (x 0).val, by have h : (x 0).val < 256 := (x 0).isLt; have := g.isLt; omega⟩ (x 1))

/-- The permutation that gathers a group's rows at stride 4. -/
def perm4 : FVec F S256x256 .bf16 :=
  k0_pay24 (iota Kind.tc S256x256 32 [0] iota_S256x256_d0_w32) (iota Kind.tc S256x256 32 [1] iota_S256x256_d1_w32)
    (k0_pay21 (iota Kind.tc S256x256 32 [0] iota_S256x256_d0_w32)) 64#32
    (k0_pay22 (iota Kind.tc S256x256 32 [0] iota_S256x256_d0_w32)) (k0_pay23 (iota Kind.tc S256x256 32 [0] iota_S256x256_d0_w32)) 1#32

/-- The permutation that gathers a group's rows at stride 16. -/
def perm16 : FVec F S256x256 .bf16 :=
  k0_pay61 (iota Kind.tc S256x256 32 [0] iota_S256x256_d0_w32) (iota Kind.tc S256x256 32 [1] iota_S256x256_d1_w32)
    (k0_pay58 (iota Kind.tc S256x256 32 [0] iota_S256x256_d0_w32)) 16#32
    (k0_pay59 (iota Kind.tc S256x256 32 [0] iota_S256x256_d0_w32)) (k0_pay60 (iota Kind.tc S256x256 32 [0] iota_S256x256_d0_w32)) 1#32

/-- The block gathered at stride 4. -/
def y4V (R : Vec F S2048x512 .bf16) : Vec F S512x2048 .bf16 := fun y =>
  k0_pay6 perm4 (rowsOf R ⟨(y 0).val / 64, by have h : (y 0).val < 512 := (y 0).isLt; omega⟩)
    (ix2 (n0 := 256) (n1 := 512) ⟨(y 1).val / 512 * 64 + (y 0).val % 64, by have h : (y 1).val < 2048 := (y 1).isLt; omega⟩ ⟨(y 1).val % 512, by omega⟩)

/-- The block gathered at stride 16. -/
def y16V (R : Vec F S2048x512 .bf16) : Vec F S128x8192 .bf16 := fun y =>
  k0_pay6 perm16 (rowsOf R ⟨(y 0).val / 16, by have h : (y 0).val < 128 := (y 0).isLt; omega⟩)
    (ix2 (n0 := 256) (n1 := 512) ⟨(y 1).val / 512 * 16 + (y 0).val % 16, by have h : (y 1).val < 8192 := (y 1).isLt; omega⟩ ⟨(y 1).val % 512, by omega⟩)

theorem y4V_at (R : Vec F S2048x512 .bf16) (g : Fin 8) (k : Fin 256) (l : Fin 512) (y : S512x2048.Idx) (h0 : (y 0).val / 64 = g.val)
    (h1 : (y 1).val / 512 * 64 + (y 0).val % 64 = k.val) (h2 : (y 1).val % 512 = l.val) :
    y4V R y = k0_pay6 perm4 (rowsOf R g) (ix2 (n0 := 256) (n1 := 512) k l) := by
  obtain ⟨g, hg⟩ := g; obtain ⟨k, hk⟩ := k; obtain ⟨l, hl⟩ := l
  dsimp only at h0 h1 h2
  subst h0 h1 h2
  rfl

theorem y16V_at (R : Vec F S2048x512 .bf16) (g : Fin 8) (k : Fin 256) (l : Fin 512) (y : S128x8192.Idx) (h0 : (y 0).val / 16 = g.val)
    (h1 : (y 1).val / 512 * 16 + (y 0).val % 16 = k.val) (h2 : (y 1).val % 512 = l.val) :
    y16V R y = k0_pay6 perm16 (rowsOf R g) (ix2 (n0 := 256) (n1 := 512) k l) := by
  obtain ⟨g, hg⟩ := g; obtain ⟨k, hk⟩ := k; obtain ⟨l, hl⟩ := l
  dsimp only at h0 h1 h2
  subst h0 h1 h2
  rfl

theorem rd {s : Shape} {e : EltTy} (arg : Memref sig .tc .vmem s e) (h : arg.IsWhole) (x : Vec F s e) (off : Fin s.rank → ℕ) (h0 : off = fun _ => 0)
    (inb : ∀ a, off a + s.size a ≤ s.size a) :
    View.readAt (Elt F) arg.view (Rect.unit off s.size inb).toLoadRect (h.unread x) = x := by
  rw [View.readAt_eq_ld, h.read_unread]
  exact View.ld_unit_zero h0 inb x

theorem off2 : (![0, 0] : Fin 2 → ℕ) = fun _ => 0 := by funext a; fin_cases a <;> rfl

/-- What one store of a whole buffer leaves in it. -/
theorem whole_read {s : Shape} {e : EltTy} (arg : Memref sig .tc .vmem s e) (f : arg.view.ty.Contents (Elt F)) (off : Fin s.rank → ℕ) (h0 : off = fun _ => 0)
    (inb : ∀ a, off a + s.size a ≤ s.size a) (v : Vec F s e) :
    arg.view.read (Elt F) (arg.view.writes (Elt F) f [(⟨Rect.unit off s.size inb, v⟩ : View.Piece (Elt F) s e)]) = v :=
  (View.read_writes_eq_canon arg.view f _ fun y => ⟨_, List.mem_singleton_self _, View.mem_set_unit_zero h0 inb y⟩).trans (View.canon_unit_zero h0 inb v)

/-- The rows of a group, as the body loads them back. -/
theorem rows_read (arg : Memref sig .tc .vmem S2048x512 .bf16) (R : Vec F S2048x512 .bf16) (inb0 : ∀ a, ![0, 0] a + S2048x512.size a ≤ S2048x512.size a)
    (g : Fin 8) (off : Fin 2 → ℕ) (ho : off = ![256 * g.val, 0]) (inb : ∀ a, off a + S256x512.size a ≤ S2048x512.size a) :
    arg.view.readCov [(⟨Rect.unit ![0, 0] S2048x512.size inb0, R⟩ : View.Piece (Elt F) S2048x512 .bf16)] (Rect.unit (s := S2048x512) off S256x512.size inb).toLoadRect = rowsOf R g := by
  subst ho
  rw [View.readCov_eq_canon', View.canon_unit_zero off2]
  funext x
  unfold rowsOf
  refine congrArg R (funext fun a => Fin.ext ?_)
  match a with
  | ⟨0, _⟩ => show 256 * g.val + 1 * (x 0).val = 256 * g.val + (x 0).val; omega
  | ⟨1, _⟩ => show 0 + 1 * (x 1).val = (x 1).val; omega

/-- One store of 64 gathered rows is the block's rows there. -/
theorem piece4 (g r : ℕ) (hg : g < 8) (hr : r < 4) (R : Vec F S2048x512 .bf16) (Q : FVec F S256x512 .bf16) (hQ : Q = k0_pay6 perm4 (rowsOf R ⟨g, hg⟩))
    (hs : S256x512.Slices ![64 * r, 0] S64x512) (inb : ∀ a, ![64 * g, 512 * r] a + ![64, 512] a ≤ S512x2048.size a) (x : S64x512.Idx) :
    extractStridedSlice S64x512 ![64 * r, 0] Q hs x = y4V R ((Rect.unit (s := S512x2048) ![64 * g, 512 * r] ![64, 512] inb).emb x) := by
  subst hQ
  have hx0 : (x 0).val < 64 := (x 0).isLt
  have hx1 : (x 1).val < 512 := (x 1).isLt
  have e0 : ((Rect.unit (s := S512x2048) ![64 * g, 512 * r] ![64, 512] inb).emb x 0).val = 64 * g + 1 * (x 0).val := rfl
  have e1 : ((Rect.unit (s := S512x2048) ![64 * g, 512 * r] ![64, 512] inb).emb x 1).val = 512 * r + 1 * (x 1).val := rfl
  rw [y4V_at R ⟨g, hg⟩ ⟨64 * r + (x 0).val, by omega⟩ ⟨(x 1).val, hx1⟩ _ (by rw [e0]; show _ = g; omega) (by rw [e0, e1]; show _ = 64 * r + (x 0).val; omega) (by rw [e1]; show _ = (x 1).val; omega)]
  refine extractStridedSlice_apply _ _ _ _ _ fun a => ?_
  match a with
  | ⟨0, _⟩ => rfl
  | ⟨1, _⟩ => show (x 1).val = 0 + (x 1).val; omega

/-- One store of 16 gathered rows is the block's rows there. -/
theorem piece16 (g r : ℕ) (hg : g < 8) (hr : r < 16) (R : Vec F S2048x512 .bf16) (Q : FVec F S256x512 .bf16) (hQ : Q = k0_pay6 perm16 (rowsOf R ⟨g, hg⟩))
    (hs : S256x512.Slices ![16 * r, 0] S16x512) (inb : ∀ a, ![16 * g, 512 * r] a + ![16, 512] a ≤ S128x8192.size a) (x : S16x512.Idx) :
    extractStridedSlice S16x512 ![16 * r, 0] Q hs x = y16V R ((Rect.unit (s := S128x8192) ![16 * g, 512 * r] ![16, 512] inb).emb x) := by
  subst hQ
  have hx0 : (x 0).val < 16 := (x 0).isLt
  have hx1 : (x 1).val < 512 := (x 1).isLt
  have e0 : ((Rect.unit (s := S128x8192) ![16 * g, 512 * r] ![16, 512] inb).emb x 0).val = 16 * g + 1 * (x 0).val := rfl
  have e1 : ((Rect.unit (s := S128x8192) ![16 * g, 512 * r] ![16, 512] inb).emb x 1).val = 512 * r + 1 * (x 1).val := rfl
  rw [y16V_at R ⟨g, hg⟩ ⟨16 * r + (x 0).val, by omega⟩ ⟨(x 1).val, hx1⟩ _ (by rw [e0]; show _ = g; omega) (by rw [e0, e1]; show _ = 16 * r + (x 0).val; omega) (by rw [e1]; show _ = (x 1).val; omega)]
  refine extractStridedSlice_apply _ _ _ _ _ fun a => ?_
  match a with
  | ⟨0, _⟩ => rfl
  | ⟨1, _⟩ => show (x 1).val = 0 + (x 1).val; omega

variable (c : Dev nD) (i : grid0.Coords) (arg2 : Memref sig .tc .vmem S2048x1024 .f32) (harg2 : arg2.IsWhole) (arg3 : Memref sig .tc .vmem S1024x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S128x8192 .bf16) (harg6 : arg6.IsWhole) (arg7 : Memref sig .tc .vmem S2048x1024 .bf16) (harg7 : arg7.IsWhole) (arg8 : Memref sig .tc .vmem S2048x512 .bf16) (harg8 : arg8.IsWhole)
  (x0 : Vec F S2048x1024 .f32) (x1 : Vec F S1024x512 .bf16) (xs0 : Vec F S2048x1024 .bf16)

theorem pcsA (hc0 : c0 i) (hc1 : cO i) (hc2 : ¬cY4 i) (hc3 : ¬cY16 i) : (runA c i arg2 harg2 arg3 harg3 arg4 harg4 arg5 harg5 arg6 harg6 arg7 harg7 arg8 harg8 hc0 hc1 hc2 hc3 x0 x1).1 = [⟨Rect.unit ![0, 0] S2048x512.size inb_S2048x512_S2048x512_0_0, k0_pay2 (k0_pay1 x0) x1⟩] := by
  have e : (runA c i arg2 harg2 arg3 harg3 arg4 harg4 arg5 harg5 arg6 harg6 arg7 harg7 arg8 harg8 hc0 hc1 hc2 hc3 x0 x1).1 = [⟨Rect.unit ![0, 0] S2048x512.size inb_S2048x512_S2048x512_0_0, k0_pay2 (arg7.view.readCov [(⟨Rect.unit ![0, 0] S2048x1024.size inb_S2048x1024_S2048x1024_0_0, k0_pay1 (View.readAt (Elt F) arg2.view (Rect.unit ![0, 0] S2048x1024.size inb_S2048x1024_S2048x1024_0_0).toLoadRect (harg2.unread x0))⟩ : View.Piece (Elt F) S2048x1024 .bf16)] (Rect.unit ![0, 0] S2048x1024.size inb_S2048x1024_S2048x1024_0_0).toLoadRect) (View.readAt (Elt F) arg3.view (Rect.unit ![0, 0] S1024x512.size inb_S1024x512_S1024x512_0_0).toLoadRect (harg3.unread x1))⟩] := rfl
  rw [e, rd arg2 harg2 x0 _ off2, rd arg3 harg3 x1 _ off2, View.readCov_unit_zero arg7.view off2]

theorem pcsAS (hc0 : c0 i) (hc1 : cO i) (hc2 : ¬cY4 i) (hc3 : ¬cY16 i) : (runA c i arg2 harg2 arg3 harg3 arg4 harg4 arg5 harg5 arg6 harg6 arg7 harg7 arg8 harg8 hc0 hc1 hc2 hc3 x0 x1).2.1 = [⟨Rect.unit ![0, 0] S2048x1024.size inb_S2048x1024_S2048x1024_0_0, k0_pay1 x0⟩] := by
  have e : (runA c i arg2 harg2 arg3 harg3 arg4 harg4 arg5 harg5 arg6 harg6 arg7 harg7 arg8 harg8 hc0 hc1 hc2 hc3 x0 x1).2.1 = [⟨Rect.unit ![0, 0] S2048x1024.size inb_S2048x1024_S2048x1024_0_0, k0_pay1 (View.readAt (Elt F) arg2.view (Rect.unit ![0, 0] S2048x1024.size inb_S2048x1024_S2048x1024_0_0).toLoadRect (harg2.unread x0))⟩] := rfl
  rw [e, rd arg2 harg2 x0 _ off2]

theorem pcsB (hc0 : ¬c0 i) (hc1 : cO i) (hc2 : ¬cY4 i) (hc3 : ¬cY16 i) : (runB c i arg2 harg2 arg3 harg3 arg4 harg4 arg5 harg5 arg6 harg6 arg7 harg7 arg8 harg8 hc0 hc1 hc2 hc3 x0 x1 xs0).1 = [⟨Rect.unit ![0, 0] S2048x512.size inb_S2048x512_S2048x512_0_0, k0_pay2 xs0 x1⟩] := by
  have e : (runB c i arg2 harg2 arg3 harg3 arg4 harg4 arg5 harg5 arg6 harg6 arg7 harg7 arg8 harg8 hc0 hc1 hc2 hc3 x0 x1 xs0).1 = [⟨Rect.unit ![0, 0] S2048x512.size inb_S2048x512_S2048x512_0_0, k0_pay2 (View.readAt (Elt F) arg7.view (Rect.unit ![0, 0] S2048x1024.size inb_S2048x1024_S2048x1024_0_0).toLoadRect (harg7.unread xs0)) (View.readAt (Elt F) arg3.view (Rect.unit ![0, 0] S1024x512.size inb_S1024x512_S1024x512_0_0).toLoadRect (harg3.unread x1))⟩] := rfl
  rw [e, rd arg7 harg7 xs0 _ off2, rd arg3 harg3 x1 _ off2]

/-- The rows of a group as the body loads them back from what it has just stored. -/
theorem rows_back (g : Fin 8) (off : Fin 2 → ℕ) (ho : off = ![256 * g.val, 0]) (inb : ∀ a, off a + S256x512.size a ≤ S2048x512.size a) :
    arg8.view.readCov [(⟨Rect.unit ![0, 0] S2048x512.size inb_S2048x512_S2048x512_0_0, k0_pay20 (View.readAt (Elt F) arg7.view (Rect.unit ![0, 0] S2048x1024.size inb_S2048x1024_S2048x1024_0_0).toLoadRect (harg7.unread xs0)) (View.readAt (Elt F) arg3.view (Rect.unit ![0, 0] S1024x512.size inb_S1024x512_S1024x512_0_0).toLoadRect (harg3.unread x1))⟩ : View.Piece (Elt F) S2048x512 .bf16)] (Rect.unit (s := S2048x512) off S256x512.size inb).toLoadRect = rowsOf (k0_pay20 xs0 x1) g := by
  rw [rows_read _ _ _ g off ho, rd arg7 harg7 xs0 _ off2, rd arg3 harg3 x1 _ off2]

theorem pcsC (hc0 : ¬c0 i) (hc1 : ¬cO i) (hc2 : cY4 i) (hc3 : ¬cY16 i) : View.PiecesOf (y4V (k0_pay20 xs0 x1)) (runC c i arg2 harg2 arg3 harg3 arg4 harg4 arg5 harg5 arg6 harg6 arg7 harg7 arg8 harg8 hc0 hc1 hc2 hc3 x0 x1 xs0).1 :=
  ⟨fun x => piece4 7 3 (by decide) (by decide) _ _ (congrArg (k0_pay6 perm4) (rows_back arg3 harg3 arg7 harg7 arg8 x1 xs0 ⟨7, by decide⟩ ![1792, 0] rfl inb_S2048x512_S256x512_1792_0)) slices_S256x512_o192_0_S64x512 inb_S512x2048_S64x512_448_1536 x, fun x => piece4 7 2 (by decide) (by decide) _ _ (congrArg (k0_pay6 perm4) (rows_back arg3 harg3 arg7 harg7 arg8 x1 xs0 ⟨7, by decide⟩ ![1792, 0] rfl inb_S2048x512_S256x512_1792_0)) slices_S256x512_o128_0_S64x512 inb_S512x2048_S64x512_448_1024 x, fun x => piece4 7 1 (by decide) (by decide) _ _ (congrArg (k0_pay6 perm4) (rows_back arg3 harg3 arg7 harg7 arg8 x1 xs0 ⟨7, by decide⟩ ![1792, 0] rfl inb_S2048x512_S256x512_1792_0)) slices_S256x512_o64_0_S64x512 inb_S512x2048_S64x512_448_512 x, fun x => piece4 7 0 (by decide) (by decide) _ _ (congrArg (k0_pay6 perm4) (rows_back arg3 harg3 arg7 harg7 arg8 x1 xs0 ⟨7, by decide⟩ ![1792, 0] rfl inb_S2048x512_S256x512_1792_0)) slices_S256x512_o0_0_S64x512 inb_S512x2048_S64x512_448_0 x, fun x => piece4 6 3 (by decide) (by decide) _ _ (congrArg (k0_pay6 perm4) (rows_back arg3 harg3 arg7 harg7 arg8 x1 xs0 ⟨6, by decide⟩ ![1536, 0] rfl inb_S2048x512_S256x512_1536_0)) slices_S256x512_o192_0_S64x512 inb_S512x2048_S64x512_384_1536 x, fun x => piece4 6 2 (by decide) (by decide) _ _ (congrArg (k0_pay6 perm4) (rows_back arg3 harg3 arg7 harg7 arg8 x1 xs0 ⟨6, by decide⟩ ![1536, 0] rfl inb_S2048x512_S256x512_1536_0)) slices_S256x512_o128_0_S64x512 inb_S512x2048_S64x512_384_1024 x, fun x => piece4 6 1 (by decide) (by decide) _ _ (congrArg (k0_pay6 perm4) (rows_back arg3 harg3 arg7 harg7 arg8 x1 xs0 ⟨6, by decide⟩ ![1536, 0] rfl inb_S2048x512_S256x512_1536_0)) slices_S256x512_o64_0_S64x512 inb_S512x2048_S64x512_384_512 x, fun x => piece4 6 0 (by decide) (by decide) _ _ (congrArg (k0_pay6 perm4) (rows_back arg3 harg3 arg7 harg7 arg8 x1 xs0 ⟨6, by decide⟩ ![1536, 0] rfl inb_S2048x512_S256x512_1536_0)) slices_S256x512_o0_0_S64x512 inb_S512x2048_S64x512_384_0 x, fun x => piece4 5 3 (by decide) (by decide) _ _ (congrArg (k0_pay6 perm4) (rows_back arg3 harg3 arg7 harg7 arg8 x1 xs0 ⟨5, by decide⟩ ![1280, 0] rfl inb_S2048x512_S256x512_1280_0)) slices_S256x512_o192_0_S64x512 inb_S512x2048_S64x512_320_1536 x, fun x => piece4 5 2 (by decide) (by decide) _ _ (congrArg (k0_pay6 perm4) (rows_back arg3 harg3 arg7 harg7 arg8 x1 xs0 ⟨5, by decide⟩ ![1280, 0] rfl inb_S2048x512_S256x512_1280_0)) slices_S256x512_o128_0_S64x512 inb_S512x2048_S64x512_320_1024 x, fun x => piece4 5 1 (by decide) (by decide) _ _ (congrArg (k0_pay6 perm4) (rows_back arg3 harg3 arg7 harg7 arg8 x1 xs0 ⟨5, by decide⟩ ![1280, 0] rfl inb_S2048x512_S256x512_1280_0)) slices_S256x512_o64_0_S64x512 inb_S512x2048_S64x512_320_512 x, fun x => piece4 5 0 (by decide) (by decide) _ _ (congrArg (k0_pay6 perm4) (rows_back arg3 harg3 arg7 harg7 arg8 x1 xs0 ⟨5, by decide⟩ ![1280, 0] rfl inb_S2048x512_S256x512_1280_0)) slices_S256x512_o0_0_S64x512 inb_S512x2048_S64x512_320_0 x, fun x => piece4 4 3 (by decide) (by decide) _ _ (congrArg (k0_pay6 perm4) (rows_back arg3 harg3 arg7 harg7 arg8 x1 xs0 ⟨4, by decide⟩ ![1024, 0] rfl inb_S2048x512_S256x512_1024_0)) slices_S256x512_o192_0_S64x512 inb_S512x2048_S64x512_256_1536 x, fun x => piece4 4 2 (by decide) (by decide) _ _ (congrArg (k0_pay6 perm4) (rows_back arg3 harg3 arg7 harg7 arg8 x1 xs0 ⟨4, by decide⟩ ![1024, 0] rfl inb_S2048x512_S256x512_1024_0)) slices_S256x512_o128_0_S64x512 inb_S512x2048_S64x512_256_1024 x, fun x => piece4 4 1 (by decide) (by decide) _ _ (congrArg (k0_pay6 perm4) (rows_back arg3 harg3 arg7 harg7 arg8 x1 xs0 ⟨4, by decide⟩ ![1024, 0] rfl inb_S2048x512_S256x512_1024_0)) slices_S256x512_o64_0_S64x512 inb_S512x2048_S64x512_256_512 x, fun x => piece4 4 0 (by decide) (by decide) _ _ (congrArg (k0_pay6 perm4) (rows_back arg3 harg3 arg7 harg7 arg8 x1 xs0 ⟨4, by decide⟩ ![1024, 0] rfl inb_S2048x512_S256x512_1024_0)) slices_S256x512_o0_0_S64x512 inb_S512x2048_S64x512_256_0 x, fun x => piece4 3 3 (by decide) (by decide) _ _ (congrArg (k0_pay6 perm4) (rows_back arg3 harg3 arg7 harg7 arg8 x1 xs0 ⟨3, by decide⟩ ![768, 0] rfl inb_S2048x512_S256x512_768_0)) slices_S256x512_o192_0_S64x512 inb_S512x2048_S64x512_192_1536 x, fun x => piece4 3 2 (by decide) (by decide) _ _ (congrArg (k0_pay6 perm4) (rows_back arg3 harg3 arg7 harg7 arg8 x1 xs0 ⟨3, by decide⟩ ![768, 0] rfl inb_S2048x512_S256x512_768_0)) slices_S256x512_o128_0_S64x512 inb_S512x2048_S64x512_192_1024 x, fun x => piece4 3 1 (by decide) (by decide) _ _ (congrArg (k0_pay6 perm4) (rows_back arg3 harg3 arg7 harg7 arg8 x1 xs0 ⟨3, by decide⟩ ![768, 0] rfl inb_S2048x512_S256x512_768_0)) slices_S256x512_o64_0_S64x512 inb_S512x2048_S64x512_192_512 x, fun x => piece4 3 0 (by decide) (by decide) _ _ (congrArg (k0_pay6 perm4) (rows_back arg3 harg3 arg7 harg7 arg8 x1 xs0 ⟨3, by decide⟩ ![768, 0] rfl inb_S2048x512_S256x512_768_0)) slices_S256x512_o0_0_S64x512 inb_S512x2048_S64x512_192_0 x, fun x => piece4 2 3 (by decide) (by decide) _ _ (congrArg (k0_pay6 perm4) (rows_back arg3 harg3 arg7 harg7 arg8 x1 xs0 ⟨2, by decide⟩ ![512, 0] rfl inb_S2048x512_S256x512_512_0)) slices_S256x512_o192_0_S64x512 inb_S512x2048_S64x512_128_1536 x, fun x => piece4 2 2 (by decide) (by decide) _ _ (congrArg (k0_pay6 perm4) (rows_back arg3 harg3 arg7 harg7 arg8 x1 xs0 ⟨2, by decide⟩ ![512, 0] rfl inb_S2048x512_S256x512_512_0)) slices_S256x512_o128_0_S64x512 inb_S512x2048_S64x512_128_1024 x, fun x => piece4 2 1 (by decide) (by decide) _ _ (congrArg (k0_pay6 perm4) (rows_back arg3 harg3 arg7 harg7 arg8 x1 xs0 ⟨2, by decide⟩ ![512, 0] rfl inb_S2048x512_S256x512_512_0)) slices_S256x512_o64_0_S64x512 inb_S512x2048_S64x512_128_512 x, fun x => piece4 2 0 (by decide) (by decide) _ _ (congrArg (k0_pay6 perm4) (rows_back arg3 harg3 arg7 harg7 arg8 x1 xs0 ⟨2, by decide⟩ ![512, 0] rfl inb_S2048x512_S256x512_512_0)) slices_S256x512_o0_0_S64x512 inb_S512x2048_S64x512_128_0 x, fun x => piece4 1 3 (by decide) (by decide) _ _ (congrArg (k0_pay6 perm4) (rows_back arg3 harg3 arg7 harg7 arg8 x1 xs0 ⟨1, by decide⟩ ![256, 0] rfl inb_S2048x512_S256x512_256_0)) slices_S256x512_o192_0_S64x512 inb_S512x2048_S64x512_64_1536 x, fun x => piece4 1 2 (by decide) (by decide) _ _ (congrArg (k0_pay6 perm4) (rows_back arg3 harg3 arg7 harg7 arg8 x1 xs0 ⟨1, by decide⟩ ![256, 0] rfl inb_S2048x512_S256x512_256_0)) slices_S256x512_o128_0_S64x512 inb_S512x2048_S64x512_64_1024 x, fun x => piece4 1 1 (by decide) (by decide) _ _ (congrArg (k0_pay6 perm4) (rows_back arg3 harg3 arg7 harg7 arg8 x1 xs0 ⟨1, by decide⟩ ![256, 0] rfl inb_S2048x512_S256x512_256_0)) slices_S256x512_o64_0_S64x512 inb_S512x2048_S64x512_64_512 x, fun x => piece4 1 0 (by decide) (by decide) _ _ (congrArg (k0_pay6 perm4) (rows_back arg3 harg3 arg7 harg7 arg8 x1 xs0 ⟨1, by decide⟩ ![256, 0] rfl inb_S2048x512_S256x512_256_0)) slices_S256x512_o0_0_S64x512 inb_S512x2048_S64x512_64_0 x, fun x => piece4 0 3 (by decide) (by decide) _ _ (congrArg (k0_pay6 perm4) (rows_back arg3 harg3 arg7 harg7 arg8 x1 xs0 ⟨0, by decide⟩ ![0, 0] rfl inb_S2048x512_S256x512_0_0)) slices_S256x512_o192_0_S64x512 inb_S512x2048_S64x512_0_1536 x, fun x => piece4 0 2 (by decide) (by decide) _ _ (congrArg (k0_pay6 perm4) (rows_back arg3 harg3 arg7 harg7 arg8 x1 xs0 ⟨0, by decide⟩ ![0, 0] rfl inb_S2048x512_S256x512_0_0)) slices_S256x512_o128_0_S64x512 inb_S512x2048_S64x512_0_1024 x, fun x => piece4 0 1 (by decide) (by decide) _ _ (congrArg (k0_pay6 perm4) (rows_back arg3 harg3 arg7 harg7 arg8 x1 xs0 ⟨0, by decide⟩ ![0, 0] rfl inb_S2048x512_S256x512_0_0)) slices_S256x512_o64_0_S64x512 inb_S512x2048_S64x512_0_512 x, fun x => piece4 0 0 (by decide) (by decide) _ _ (congrArg (k0_pay6 perm4) (rows_back arg3 harg3 arg7 harg7 arg8 x1 xs0 ⟨0, by decide⟩ ![0, 0] rfl inb_S2048x512_S256x512_0_0)) slices_S256x512_o0_0_S64x512 inb_S512x2048_S64x512_0_0 x, trivial⟩

theorem coverC (hc0 : ¬c0 i) (hc1 : ¬cO i) (hc2 : cY4 i) (hc3 : ¬cY16 i) (y : S512x2048.Idx) : ∃ pc ∈ (runC c i arg2 harg2 arg3 harg3 arg4 harg4 arg5 harg5 arg6 harg6 arg7 harg7 arg8 harg8 hc0 hc1 hc2 hc3 x0 x1 xs0).1, y ∈ pc.1.set :=
  View.cover_of_tiledL (runC c i arg2 harg2 arg3 harg3 arg4 harg4 arg5 harg5 arg6 harg6 arg7 harg7 arg8 harg8 hc0 hc1 hc2 hc3 x0 x1 xs0).1 S64x512.size (by sl_kernel_rfl) y

theorem pcsD (hc0 : ¬c0 i) (hc1 : ¬cO i) (hc2 : ¬cY4 i) (hc3 : cY16 i) : View.PiecesOf (y16V (k0_pay20 xs0 x1)) (runD c i arg2 harg2 arg3 harg3 arg4 harg4 arg5 harg5 arg6 harg6 arg7 harg7 arg8 harg8 hc0 hc1 hc2 hc3 x0 x1 xs0).1 :=
  ⟨fun x => piece16 7 15 (by decide) (by decide) _ _ (congrArg (k0_pay6 perm16) (rows_back arg3 harg3 arg7 harg7 arg8 x1 xs0 ⟨7, by decide⟩ ![1792, 0] rfl inb_S2048x512_S256x512_1792_0)) slices_S256x512_o240_0_S16x512 inb_S128x8192_S16x512_112_7680 x, fun x => piece16 7 14 (by decide) (by decide) _ _ (congrArg (k0_pay6 perm16) (rows_back arg3 harg3 arg7 harg7 arg8 x1 xs0 ⟨7, by decide⟩ ![1792, 0] rfl inb_S2048x512_S256x512_1792_0)) slices_S256x512_o224_0_S16x512 inb_S128x8192_S16x512_112_7168 x, fun x => piece16 7 13 (by decide) (by decide) _ _ (congrArg (k0_pay6 perm16) (rows_back arg3 harg3 arg7 harg7 arg8 x1 xs0 ⟨7, by decide⟩ ![1792, 0] rfl inb_S2048x512_S256x512_1792_0)) slices_S256x512_o208_0_S16x512 inb_S128x8192_S16x512_112_6656 x, fun x => piece16 7 12 (by decide) (by decide) _ _ (congrArg (k0_pay6 perm16) (rows_back arg3 harg3 arg7 harg7 arg8 x1 xs0 ⟨7, by decide⟩ ![1792, 0] rfl inb_S2048x512_S256x512_1792_0)) slices_S256x512_o192_0_S16x512 inb_S128x8192_S16x512_112_6144 x, fun x => piece16 7 11 (by decide) (by decide) _ _ (congrArg (k0_pay6 perm16) (rows_back arg3 harg3 arg7 harg7 arg8 x1 xs0 ⟨7, by decide⟩ ![1792, 0] rfl inb_S2048x512_S256x512_1792_0)) slices_S256x512_o176_0_S16x512 inb_S128x8192_S16x512_112_5632 x, fun x => piece16 7 10 (by decide) (by decide) _ _ (congrArg (k0_pay6 perm16) (rows_back arg3 harg3 arg7 harg7 arg8 x1 xs0 ⟨7, by decide⟩ ![1792, 0] rfl inb_S2048x512_S256x512_1792_0)) slices_S256x512_o160_0_S16x512 inb_S128x8192_S16x512_112_5120 x, fun x => piece16 7 9 (by decide) (by decide) _ _ (congrArg (k0_pay6 perm16) (rows_back arg3 harg3 arg7 harg7 arg8 x1 xs0 ⟨7, by decide⟩ ![1792, 0] rfl inb_S2048x512_S256x512_1792_0)) slices_S256x512_o144_0_S16x512 inb_S128x8192_S16x512_112_4608 x, fun x => piece16 7 8 (by decide) (by decide) _ _ (congrArg (k0_pay6 perm16) (rows_back arg3 harg3 arg7 harg7 arg8 x1 xs0 ⟨7, by decide⟩ ![1792, 0] rfl inb_S2048x512_S256x512_1792_0)) slices_S256x512_o128_0_S16x512 inb_S128x8192_S16x512_112_4096 x, fun x => piece16 7 7 (by decide) (by decide) _ _ (congrArg (k0_pay6 perm16) (rows_back arg3 harg3 arg7 harg7 arg8 x1 xs0 ⟨7, by decide⟩ ![1792, 0] rfl inb_S2048x512_S256x512_1792_0)) slices_S256x512_o112_0_S16x512 inb_S128x8192_S16x512_112_3584 x, fun x => piece16 7 6 (by decide) (by decide) _ _ (congrArg (k0_pay6 perm16) (rows_back arg3 harg3 arg7 harg7 arg8 x1 xs0 ⟨7, by decide⟩ ![1792, 0] rfl inb_S2048x512_S256x512_1792_0)) slices_S256x512_o96_0_S16x512 inb_S128x8192_S16x512_112_3072 x, fun x => piece16 7 5 (by decide) (by decide) _ _ (congrArg (k0_pay6 perm16) (rows_back arg3 harg3 arg7 harg7 arg8 x1 xs0 ⟨7, by decide⟩ ![1792, 0] rfl inb_S2048x512_S256x512_1792_0)) slices_S256x512_o80_0_S16x512 inb_S128x8192_S16x512_112_2560 x, fun x => piece16 7 4 (by decide) (by decide) _ _ (congrArg (k0_pay6 perm16) (rows_back arg3 harg3 arg7 harg7 arg8 x1 xs0 ⟨7, by decide⟩ ![1792, 0] rfl inb_S2048x512_S256x512_1792_0)) slices_S256x512_o64_0_S16x512 inb_S128x8192_S16x512_112_2048 x, fun x => piece16 7 3 (by decide) (by decide) _ _ (congrArg (k0_pay6 perm16) (rows_back arg3 harg3 arg7 harg7 arg8 x1 xs0 ⟨7, by decide⟩ ![1792, 0] rfl inb_S2048x512_S256x512_1792_0)) slices_S256x512_o48_0_S16x512 inb_S128x8192_S16x512_112_1536 x, fun x => piece16 7 2 (by decide) (by decide) _ _ (congrArg (k0_pay6 perm16) (rows_back arg3 harg3 arg7 harg7 arg8 x1 xs0 ⟨7, by decide⟩ ![1792, 0] rfl inb_S2048x512_S256x512_1792_0)) slices_S256x512_o32_0_S16x512 inb_S128x8192_S16x512_112_1024 x, fun x => piece16 7 1 (by decide) (by decide) _ _ (congrArg (k0_pay6 perm16) (rows_back arg3 harg3 arg7 harg7 arg8 x1 xs0 ⟨7, by decide⟩ ![1792, 0] rfl inb_S2048x512_S256x512_1792_0)) slices_S256x512_o16_0_S16x512 inb_S128x8192_S16x512_112_512 x, fun x => piece16 7 0 (by decide) (by decide) _ _ (congrArg (k0_pay6 perm16) (rows_back arg3 harg3 arg7 harg7 arg8 x1 xs0 ⟨7, by decide⟩ ![1792, 0] rfl inb_S2048x512_S256x512_1792_0)) slices_S256x512_o0_0_S16x512 inb_S128x8192_S16x512_112_0 x, fun x => piece16 6 15 (by decide) (by decide) _ _ (congrArg (k0_pay6 perm16) (rows_back arg3 harg3 arg7 harg7 arg8 x1 xs0 ⟨6, by decide⟩ ![1536, 0] rfl inb_S2048x512_S256x512_1536_0)) slices_S256x512_o240_0_S16x512 inb_S128x8192_S16x512_96_7680 x, fun x => piece16 6 14 (by decide) (by decide) _ _ (congrArg (k0_pay6 perm16) (rows_back arg3 harg3 arg7 harg7 arg8 x1 xs0 ⟨6, by decide⟩ ![1536, 0] rfl inb_S2048x512_S256x512_1536_0)) slices_S256x512_o224_0_S16x512 inb_S128x8192_S16x512_96_7168 x, fun x => piece16 6 13 (by decide) (by decide) _ _ (congrArg (k0_pay6 perm16) (rows_back arg3 harg3 arg7 harg7 arg8 x1 xs0 ⟨6, by decide⟩ ![1536, 0] rfl inb_S2048x512_S256x512_1536_0)) slices_S256x512_o208_0_S16x512 inb_S128x8192_S16x512_96_6656 x, fun x => piece16 6 12 (by decide) (by decide) _ _ (congrArg (k0_pay6 perm16) (rows_back arg3 harg3 arg7 harg7 arg8 x1 xs0 ⟨6, by decide⟩ ![1536, 0] rfl inb_S2048x512_S256x512_1536_0)) slices_S256x512_o192_0_S16x512 inb_S128x8192_S16x512_96_6144 x, fun x => piece16 6 11 (by decide) (by decide) _ _ (congrArg (k0_pay6 perm16) (rows_back arg3 harg3 arg7 harg7 arg8 x1 xs0 ⟨6, by decide⟩ ![1536, 0] rfl inb_S2048x512_S256x512_1536_0)) slices_S256x512_o176_0_S16x512 inb_S128x8192_S16x512_96_5632 x, fun x => piece16 6 10 (by decide) (by decide) _ _ (congrArg (k0_pay6 perm16) (rows_back arg3 harg3 arg7 harg7 arg8 x1 xs0 ⟨6, by decide⟩ ![1536, 0] rfl inb_S2048x512_S256x512_1536_0)) slices_S256x512_o160_0_S16x512 inb_S128x8192_S16x512_96_5120 x, fun x => piece16 6 9 (by decide) (by decide) _ _ (congrArg (k0_pay6 perm16) (rows_back arg3 harg3 arg7 harg7 arg8 x1 xs0 ⟨6, by decide⟩ ![1536, 0] rfl inb_S2048x512_S256x512_1536_0)) slices_S256x512_o144_0_S16x512 inb_S128x8192_S16x512_96_4608 x, fun x => piece16 6 8 (by decide) (by decide) _ _ (congrArg (k0_pay6 perm16) (rows_back arg3 harg3 arg7 harg7 arg8 x1 xs0 ⟨6, by decide⟩ ![1536, 0] rfl inb_S2048x512_S256x512_1536_0)) slices_S256x512_o128_0_S16x512 inb_S128x8192_S16x512_96_4096 x, fun x => piece16 6 7 (by decide) (by decide) _ _ (congrArg (k0_pay6 perm16) (rows_back arg3 harg3 arg7 harg7 arg8 x1 xs0 ⟨6, by decide⟩ ![1536, 0] rfl inb_S2048x512_S256x512_1536_0)) slices_S256x512_o112_0_S16x512 inb_S128x8192_S16x512_96_3584 x, fun x => piece16 6 6 (by decide) (by decide) _ _ (congrArg (k0_pay6 perm16) (rows_back arg3 harg3 arg7 harg7 arg8 x1 xs0 ⟨6, by decide⟩ ![1536, 0] rfl inb_S2048x512_S256x512_1536_0)) slices_S256x512_o96_0_S16x512 inb_S128x8192_S16x512_96_3072 x, fun x => piece16 6 5 (by decide) (by decide) _ _ (congrArg (k0_pay6 perm16) (rows_back arg3 harg3 arg7 harg7 arg8 x1 xs0 ⟨6, by decide⟩ ![1536, 0] rfl inb_S2048x512_S256x512_1536_0)) slices_S256x512_o80_0_S16x512 inb_S128x8192_S16x512_96_2560 x, fun x => piece16 6 4 (by decide) (by decide) _ _ (congrArg (k0_pay6 perm16) (rows_back arg3 harg3 arg7 harg7 arg8 x1 xs0 ⟨6, by decide⟩ ![1536, 0] rfl inb_S2048x512_S256x512_1536_0)) slices_S256x512_o64_0_S16x512 inb_S128x8192_S16x512_96_2048 x, fun x => piece16 6 3 (by decide) (by decide) _ _ (congrArg (k0_pay6 perm16) (rows_back arg3 harg3 arg7 harg7 arg8 x1 xs0 ⟨6, by decide⟩ ![1536, 0] rfl inb_S2048x512_S256x512_1536_0)) slices_S256x512_o48_0_S16x512 inb_S128x8192_S16x512_96_1536 x, fun x => piece16 6 2 (by decide) (by decide) _ _ (congrArg (k0_pay6 perm16) (rows_back arg3 harg3 arg7 harg7 arg8 x1 xs0 ⟨6, by decide⟩ ![1536, 0] rfl inb_S2048x512_S256x512_1536_0)) slices_S256x512_o32_0_S16x512 inb_S128x8192_S16x512_96_1024 x, fun x => piece16 6 1 (by decide) (by decide) _ _ (congrArg (k0_pay6 perm16) (rows_back arg3 harg3 arg7 harg7 arg8 x1 xs0 ⟨6, by decide⟩ ![1536, 0] rfl inb_S2048x512_S256x512_1536_0)) slices_S256x512_o16_0_S16x512 inb_S128x8192_S16x512_96_512 x, fun x => piece16 6 0 (by decide) (by decide) _ _ (congrArg (k0_pay6 perm16) (rows_back arg3 harg3 arg7 harg7 arg8 x1 xs0 ⟨6, by decide⟩ ![1536, 0] rfl inb_S2048x512_S256x512_1536_0)) slices_S256x512_o0_0_S16x512 inb_S128x8192_S16x512_96_0 x, fun x => piece16 5 15 (by decide) (by decide) _ _ (congrArg (k0_pay6 perm16) (rows_back arg3 harg3 arg7 harg7 arg8 x1 xs0 ⟨5, by decide⟩ ![1280, 0] rfl inb_S2048x512_S256x512_1280_0)) slices_S256x512_o240_0_S16x512 inb_S128x8192_S16x512_80_7680 x, fun x => piece16 5 14 (by decide) (by decide) _ _ (congrArg (k0_pay6 perm16) (rows_back arg3 harg3 arg7 harg7 arg8 x1 xs0 ⟨5, by decide⟩ ![1280, 0] rfl inb_S2048x512_S256x512_1280_0)) slices_S256x512_o224_0_S16x512 inb_S128x8192_S16x512_80_7168 x, fun x => piece16 5 13 (by decide) (by decide) _ _ (congrArg (k0_pay6 perm16) (rows_back arg3 harg3 arg7 harg7 arg8 x1 xs0 ⟨5, by decide⟩ ![1280, 0] rfl inb_S2048x512_S256x512_1280_0)) slices_S256x512_o208_0_S16x512 inb_S128x8192_S16x512_80_6656 x, fun x => piece16 5 12 (by decide) (by decide) _ _ (congrArg (k0_pay6 perm16) (rows_back arg3 harg3 arg7 harg7 arg8 x1 xs0 ⟨5, by decide⟩ ![1280, 0] rfl inb_S2048x512_S256x512_1280_0)) slices_S256x512_o192_0_S16x512 inb_S128x8192_S16x512_80_6144 x, fun x => piece16 5 11 (by decide) (by decide) _ _ (congrArg (k0_pay6 perm16) (rows_back arg3 harg3 arg7 harg7 arg8 x1 xs0 ⟨5, by decide⟩ ![1280, 0] rfl inb_S2048x512_S256x512_1280_0)) slices_S256x512_o176_0_S16x512 inb_S128x8192_S16x512_80_5632 x, fun x => piece16 5 10 (by decide) (by decide) _ _ (congrArg (k0_pay6 perm16) (rows_back arg3 harg3 arg7 harg7 arg8 x1 xs0 ⟨5, by decide⟩ ![1280, 0] rfl inb_S2048x512_S256x512_1280_0)) slices_S256x512_o160_0_S16x512 inb_S128x8192_S16x512_80_5120 x, fun x => piece16 5 9 (by decide) (by decide) _ _ (congrArg (k0_pay6 perm16) (rows_back arg3 harg3 arg7 harg7 arg8 x1 xs0 ⟨5, by decide⟩ ![1280, 0] rfl inb_S2048x512_S256x512_1280_0)) slices_S256x512_o144_0_S16x512 inb_S128x8192_S16x512_80_4608 x, fun x => piece16 5 8 (by decide) (by decide) _ _ (congrArg (k0_pay6 perm16) (rows_back arg3 harg3 arg7 harg7 arg8 x1 xs0 ⟨5, by decide⟩ ![1280, 0] rfl inb_S2048x512_S256x512_1280_0)) slices_S256x512_o128_0_S16x512 inb_S128x8192_S16x512_80_4096 x, fun x => piece16 5 7 (by decide) (by decide) _ _ (congrArg (k0_pay6 perm16) (rows_back arg3 harg3 arg7 harg7 arg8 x1 xs0 ⟨5, by decide⟩ ![1280, 0] rfl inb_S2048x512_S256x512_1280_0)) slices_S256x512_o112_0_S16x512 inb_S128x8192_S16x512_80_3584 x, fun x => piece16 5 6 (by decide) (by decide) _ _ (congrArg (k0_pay6 perm16) (rows_back arg3 harg3 arg7 harg7 arg8 x1 xs0 ⟨5, by decide⟩ ![1280, 0] rfl inb_S2048x512_S256x512_1280_0)) slices_S256x512_o96_0_S16x512 inb_S128x8192_S16x512_80_3072 x, fun x => piece16 5 5 (by decide) (by decide) _ _ (congrArg (k0_pay6 perm16) (rows_back arg3 harg3 arg7 harg7 arg8 x1 xs0 ⟨5, by decide⟩ ![1280, 0] rfl inb_S2048x512_S256x512_1280_0)) slices_S256x512_o80_0_S16x512 inb_S128x8192_S16x512_80_2560 x, fun x => piece16 5 4 (by decide) (by decide) _ _ (congrArg (k0_pay6 perm16) (rows_back arg3 harg3 arg7 harg7 arg8 x1 xs0 ⟨5, by decide⟩ ![1280, 0] rfl inb_S2048x512_S256x512_1280_0)) slices_S256x512_o64_0_S16x512 inb_S128x8192_S16x512_80_2048 x, fun x => piece16 5 3 (by decide) (by decide) _ _ (congrArg (k0_pay6 perm16) (rows_back arg3 harg3 arg7 harg7 arg8 x1 xs0 ⟨5, by decide⟩ ![1280, 0] rfl inb_S2048x512_S256x512_1280_0)) slices_S256x512_o48_0_S16x512 inb_S128x8192_S16x512_80_1536 x, fun x => piece16 5 2 (by decide) (by decide) _ _ (congrArg (k0_pay6 perm16) (rows_back arg3 harg3 arg7 harg7 arg8 x1 xs0 ⟨5, by decide⟩ ![1280, 0] rfl inb_S2048x512_S256x512_1280_0)) slices_S256x512_o32_0_S16x512 inb_S128x8192_S16x512_80_1024 x, fun x => piece16 5 1 (by decide) (by decide) _ _ (congrArg (k0_pay6 perm16) (rows_back arg3 harg3 arg7 harg7 arg8 x1 xs0 ⟨5, by decide⟩ ![1280, 0] rfl inb_S2048x512_S256x512_1280_0)) slices_S256x512_o16_0_S16x512 inb_S128x8192_S16x512_80_512 x, fun x => piece16 5 0 (by decide) (by decide) _ _ (congrArg (k0_pay6 perm16) (rows_back arg3 harg3 arg7 harg7 arg8 x1 xs0 ⟨5, by decide⟩ ![1280, 0] rfl inb_S2048x512_S256x512_1280_0)) slices_S256x512_o0_0_S16x512 inb_S128x8192_S16x512_80_0 x, fun x => piece16 4 15 (by decide) (by decide) _ _ (congrArg (k0_pay6 perm16) (rows_back arg3 harg3 arg7 harg7 arg8 x1 xs0 ⟨4, by decide⟩ ![1024, 0] rfl inb_S2048x512_S256x512_1024_0)) slices_S256x512_o240_0_S16x512 inb_S128x8192_S16x512_64_7680 x, fun x => piece16 4 14 (by decide) (by decide) _ _ (congrArg (k0_pay6 perm16) (rows_back arg3 harg3 arg7 harg7 arg8 x1 xs0 ⟨4, by decide⟩ ![1024, 0] rfl inb_S2048x512_S256x512_1024_0)) slices_S256x512_o224_0_S16x512 inb_S128x8192_S16x512_64_7168 x, fun x => piece16 4 13 (by decide) (by decide) _ _ (congrArg (k0_pay6 perm16) (rows_back arg3 harg3 arg7 harg7 arg8 x1 xs0 ⟨4, by decide⟩ ![1024, 0] rfl inb_S2048x512_S256x512_1024_0)) slices_S256x512_o208_0_S16x512 inb_S128x8192_S16x512_64_6656 x, fun x => piece16 4 12 (by decide) (by decide) _ _ (congrArg (k0_pay6 perm16) (rows_back arg3 harg3 arg7 harg7 arg8 x1 xs0 ⟨4, by decide⟩ ![1024, 0] rfl inb_S2048x512_S256x512_1024_0)) slices_S256x512_o192_0_S16x512 inb_S128x8192_S16x512_64_6144 x, fun x => piece16 4 11 (by decide) (by decide) _ _ (congrArg (k0_pay6 perm16) (rows_back arg3 harg3 arg7 harg7 arg8 x1 xs0 ⟨4, by decide⟩ ![1024, 0] rfl inb_S2048x512_S256x512_1024_0)) slices_S256x512_o176_0_S16x512 inb_S128x8192_S16x512_64_5632 x, fun x => piece16 4 10 (by decide) (by decide) _ _ (congrArg (k0_pay6 perm16) (rows_back arg3 harg3 arg7 harg7 arg8 x1 xs0 ⟨4, by decide⟩ ![1024, 0] rfl inb_S2048x512_S256x512_1024_0)) slices_S256x512_o160_0_S16x512 inb_S128x8192_S16x512_64_5120 x, fun x => piece16 4 9 (by decide) (by decide) _ _ (congrArg (k0_pay6 perm16) (rows_back arg3 harg3 arg7 harg7 arg8 x1 xs0 ⟨4, by decide⟩ ![1024, 0] rfl inb_S2048x512_S256x512_1024_0)) slices_S256x512_o144_0_S16x512 inb_S128x8192_S16x512_64_4608 x, fun x => piece16 4 8 (by decide) (by decide) _ _ (congrArg (k0_pay6 perm16) (rows_back arg3 harg3 arg7 harg7 arg8 x1 xs0 ⟨4, by decide⟩ ![1024, 0] rfl inb_S2048x512_S256x512_1024_0)) slices_S256x512_o128_0_S16x512 inb_S128x8192_S16x512_64_4096 x, fun x => piece16 4 7 (by decide) (by decide) _ _ (congrArg (k0_pay6 perm16) (rows_back arg3 harg3 arg7 harg7 arg8 x1 xs0 ⟨4, by decide⟩ ![1024, 0] rfl inb_S2048x512_S256x512_1024_0)) slices_S256x512_o112_0_S16x512 inb_S128x8192_S16x512_64_3584 x, fun x => piece16 4 6 (by decide) (by decide) _ _ (congrArg (k0_pay6 perm16) (rows_back arg3 harg3 arg7 harg7 arg8 x1 xs0 ⟨4, by decide⟩ ![1024, 0] rfl inb_S2048x512_S256x512_1024_0)) slices_S256x512_o96_0_S16x512 inb_S128x8192_S16x512_64_3072 x, fun x => piece16 4 5 (by decide) (by decide) _ _ (congrArg (k0_pay6 perm16) (rows_back arg3 harg3 arg7 harg7 arg8 x1 xs0 ⟨4, by decide⟩ ![1024, 0] rfl inb_S2048x512_S256x512_1024_0)) slices_S256x512_o80_0_S16x512 inb_S128x8192_S16x512_64_2560 x, fun x => piece16 4 4 (by decide) (by decide) _ _ (congrArg (k0_pay6 perm16) (rows_back arg3 harg3 arg7 harg7 arg8 x1 xs0 ⟨4, by decide⟩ ![1024, 0] rfl inb_S2048x512_S256x512_1024_0)) slices_S256x512_o64_0_S16x512 inb_S128x8192_S16x512_64_2048 x, fun x => piece16 4 3 (by decide) (by decide) _ _ (congrArg (k0_pay6 perm16) (rows_back arg3 harg3 arg7 harg7 arg8 x1 xs0 ⟨4, by decide⟩ ![1024, 0] rfl inb_S2048x512_S256x512_1024_0)) slices_S256x512_o48_0_S16x512 inb_S128x8192_S16x512_64_1536 x, fun x => piece16 4 2 (by decide) (by decide) _ _ (congrArg (k0_pay6 perm16) (rows_back arg3 harg3 arg7 harg7 arg8 x1 xs0 ⟨4, by decide⟩ ![1024, 0] rfl inb_S2048x512_S256x512_1024_0)) slices_S256x512_o32_0_S16x512 inb_S128x8192_S16x512_64_1024 x, fun x => piece16 4 1 (by decide) (by decide) _ _ (congrArg (k0_pay6 perm16) (rows_back arg3 harg3 arg7 harg7 arg8 x1 xs0 ⟨4, by decide⟩ ![1024, 0] rfl inb_S2048x512_S256x512_1024_0)) slices_S256x512_o16_0_S16x512 inb_S128x8192_S16x512_64_512 x, fun x => piece16 4 0 (by decide) (by decide) _ _ (congrArg (k0_pay6 perm16) (rows_back arg3 harg3 arg7 harg7 arg8 x1 xs0 ⟨4, by decide⟩ ![1024, 0] rfl inb_S2048x512_S256x512_1024_0)) slices_S256x512_o0_0_S16x512 inb_S128x8192_S16x512_64_0 x, fun x => piece16 3 15 (by decide) (by decide) _ _ (congrArg (k0_pay6 perm16) (rows_back arg3 harg3 arg7 harg7 arg8 x1 xs0 ⟨3, by decide⟩ ![768, 0] rfl inb_S2048x512_S256x512_768_0)) slices_S256x512_o240_0_S16x512 inb_S128x8192_S16x512_48_7680 x, fun x => piece16 3 14 (by decide) (by decide) _ _ (congrArg (k0_pay6 perm16) (rows_back arg3 harg3 arg7 harg7 arg8 x1 xs0 ⟨3, by decide⟩ ![768, 0] rfl inb_S2048x512_S256x512_768_0)) slices_S256x512_o224_0_S16x512 inb_S128x8192_S16x512_48_7168 x, fun x => piece16 3 13 (by decide) (by decide) _ _ (congrArg (k0_pay6 perm16) (rows_back arg3 harg3 arg7 harg7 arg8 x1 xs0 ⟨3, by decide⟩ ![768, 0] rfl inb_S2048x512_S256x512_768_0)) slices_S256x512_o208_0_S16x512 inb_S128x8192_S16x512_48_6656 x, fun x => piece16 3 12 (by decide) (by decide) _ _ (congrArg (k0_pay6 perm16) (rows_back arg3 harg3 arg7 harg7 arg8 x1 xs0 ⟨3, by decide⟩ ![768, 0] rfl inb_S2048x512_S256x512_768_0)) slices_S256x512_o192_0_S16x512 inb_S128x8192_S16x512_48_6144 x, fun x => piece16 3 11 (by decide) (by decide) _ _ (congrArg (k0_pay6 perm16) (rows_back arg3 harg3 arg7 harg7 arg8 x1 xs0 ⟨3, by decide⟩ ![768, 0] rfl inb_S2048x512_S256x512_768_0)) slices_S256x512_o176_0_S16x512 inb_S128x8192_S16x512_48_5632 x, fun x => piece16 3 10 (by decide) (by decide) _ _ (congrArg (k0_pay6 perm16) (rows_back arg3 harg3 arg7 harg7 arg8 x1 xs0 ⟨3, by decide⟩ ![768, 0] rfl inb_S2048x512_S256x512_768_0)) slices_S256x512_o160_0_S16x512 inb_S128x8192_S16x512_48_5120 x, fun x => piece16 3 9 (by decide) (by decide) _ _ (congrArg (k0_pay6 perm16) (rows_back arg3 harg3 arg7 harg7 arg8 x1 xs0 ⟨3, by decide⟩ ![768, 0] rfl inb_S2048x512_S256x512_768_0)) slices_S256x512_o144_0_S16x512 inb_S128x8192_S16x512_48_4608 x, fun x => piece16 3 8 (by decide) (by decide) _ _ (congrArg (k0_pay6 perm16) (rows_back arg3 harg3 arg7 harg7 arg8 x1 xs0 ⟨3, by decide⟩ ![768, 0] rfl inb_S2048x512_S256x512_768_0)) slices_S256x512_o128_0_S16x512 inb_S128x8192_S16x512_48_4096 x, fun x => piece16 3 7 (by decide) (by decide) _ _ (congrArg (k0_pay6 perm16) (rows_back arg3 harg3 arg7 harg7 arg8 x1 xs0 ⟨3, by decide⟩ ![768, 0] rfl inb_S2048x512_S256x512_768_0)) slices_S256x512_o112_0_S16x512 inb_S128x8192_S16x512_48_3584 x, fun x => piece16 3 6 (by decide) (by decide) _ _ (congrArg (k0_pay6 perm16) (rows_back arg3 harg3 arg7 harg7 arg8 x1 xs0 ⟨3, by decide⟩ ![768, 0] rfl inb_S2048x512_S256x512_768_0)) slices_S256x512_o96_0_S16x512 inb_S128x8192_S16x512_48_3072 x, fun x => piece16 3 5 (by decide) (by decide) _ _ (congrArg (k0_pay6 perm16) (rows_back arg3 harg3 arg7 harg7 arg8 x1 xs0 ⟨3, by decide⟩ ![768, 0] rfl inb_S2048x512_S256x512_768_0)) slices_S256x512_o80_0_S16x512 inb_S128x8192_S16x512_48_2560 x, fun x => piece16 3 4 (by decide) (by decide) _ _ (congrArg (k0_pay6 perm16) (rows_back arg3 harg3 arg7 harg7 arg8 x1 xs0 ⟨3, by decide⟩ ![768, 0] rfl inb_S2048x512_S256x512_768_0)) slices_S256x512_o64_0_S16x512 inb_S128x8192_S16x512_48_2048 x, fun x => piece16 3 3 (by decide) (by decide) _ _ (congrArg (k0_pay6 perm16) (rows_back arg3 harg3 arg7 harg7 arg8 x1 xs0 ⟨3, by decide⟩ ![768, 0] rfl inb_S2048x512_S256x512_768_0)) slices_S256x512_o48_0_S16x512 inb_S128x8192_S16x512_48_1536 x, fun x => piece16 3 2 (by decide) (by decide) _ _ (congrArg (k0_pay6 perm16) (rows_back arg3 harg3 arg7 harg7 arg8 x1 xs0 ⟨3, by decide⟩ ![768, 0] rfl inb_S2048x512_S256x512_768_0)) slices_S256x512_o32_0_S16x512 inb_S128x8192_S16x512_48_1024 x, fun x => piece16 3 1 (by decide) (by decide) _ _ (congrArg (k0_pay6 perm16) (rows_back arg3 harg3 arg7 harg7 arg8 x1 xs0 ⟨3, by decide⟩ ![768, 0] rfl inb_S2048x512_S256x512_768_0)) slices_S256x512_o16_0_S16x512 inb_S128x8192_S16x512_48_512 x, fun x => piece16 3 0 (by decide) (by decide) _ _ (congrArg (k0_pay6 perm16) (rows_back arg3 harg3 arg7 harg7 arg8 x1 xs0 ⟨3, by decide⟩ ![768, 0] rfl inb_S2048x512_S256x512_768_0)) slices_S256x512_o0_0_S16x512 inb_S128x8192_S16x512_48_0 x, fun x => piece16 2 15 (by decide) (by decide) _ _ (congrArg (k0_pay6 perm16) (rows_back arg3 harg3 arg7 harg7 arg8 x1 xs0 ⟨2, by decide⟩ ![512, 0] rfl inb_S2048x512_S256x512_512_0)) slices_S256x512_o240_0_S16x512 inb_S128x8192_S16x512_32_7680 x, fun x => piece16 2 14 (by decide) (by decide) _ _ (congrArg (k0_pay6 perm16) (rows_back arg3 harg3 arg7 harg7 arg8 x1 xs0 ⟨2, by decide⟩ ![512, 0] rfl inb_S2048x512_S256x512_512_0)) slices_S256x512_o224_0_S16x512 inb_S128x8192_S16x512_32_7168 x, fun x => piece16 2 13 (by decide) (by decide) _ _ (congrArg (k0_pay6 perm16) (rows_back arg3 harg3 arg7 harg7 arg8 x1 xs0 ⟨2, by decide⟩ ![512, 0] rfl inb_S2048x512_S256x512_512_0)) slices_S256x512_o208_0_S16x512 inb_S128x8192_S16x512_32_6656 x, fun x => piece16 2 12 (by decide) (by decide) _ _ (congrArg (k0_pay6 perm16) (rows_back arg3 harg3 arg7 harg7 arg8 x1 xs0 ⟨2, by decide⟩ ![512, 0] rfl inb_S2048x512_S256x512_512_0)) slices_S256x512_o192_0_S16x512 inb_S128x8192_S16x512_32_6144 x, fun x => piece16 2 11 (by decide) (by decide) _ _ (congrArg (k0_pay6 perm16) (rows_back arg3 harg3 arg7 harg7 arg8 x1 xs0 ⟨2, by decide⟩ ![512, 0] rfl inb_S2048x512_S256x512_512_0)) slices_S256x512_o176_0_S16x512 inb_S128x8192_S16x512_32_5632 x, fun x => piece16 2 10 (by decide) (by decide) _ _ (congrArg (k0_pay6 perm16) (rows_back arg3 harg3 arg7 harg7 arg8 x1 xs0 ⟨2, by decide⟩ ![512, 0] rfl inb_S2048x512_S256x512_512_0)) slices_S256x512_o160_0_S16x512 inb_S128x8192_S16x512_32_5120 x, fun x => piece16 2 9 (by decide) (by decide) _ _ (congrArg (k0_pay6 perm16) (rows_back arg3 harg3 arg7 harg7 arg8 x1 xs0 ⟨2, by decide⟩ ![512, 0] rfl inb_S2048x512_S256x512_512_0)) slices_S256x512_o144_0_S16x512 inb_S128x8192_S16x512_32_4608 x, fun x => piece16 2 8 (by decide) (by decide) _ _ (congrArg (k0_pay6 perm16) (rows_back arg3 harg3 arg7 harg7 arg8 x1 xs0 ⟨2, by decide⟩ ![512, 0] rfl inb_S2048x512_S256x512_512_0)) slices_S256x512_o128_0_S16x512 inb_S128x8192_S16x512_32_4096 x, fun x => piece16 2 7 (by decide) (by decide) _ _ (congrArg (k0_pay6 perm16) (rows_back arg3 harg3 arg7 harg7 arg8 x1 xs0 ⟨2, by decide⟩ ![512, 0] rfl inb_S2048x512_S256x512_512_0)) slices_S256x512_o112_0_S16x512 inb_S128x8192_S16x512_32_3584 x, fun x => piece16 2 6 (by decide) (by decide) _ _ (congrArg (k0_pay6 perm16) (rows_back arg3 harg3 arg7 harg7 arg8 x1 xs0 ⟨2, by decide⟩ ![512, 0] rfl inb_S2048x512_S256x512_512_0)) slices_S256x512_o96_0_S16x512 inb_S128x8192_S16x512_32_3072 x, fun x => piece16 2 5 (by decide) (by decide) _ _ (congrArg (k0_pay6 perm16) (rows_back arg3 harg3 arg7 harg7 arg8 x1 xs0 ⟨2, by decide⟩ ![512, 0] rfl inb_S2048x512_S256x512_512_0)) slices_S256x512_o80_0_S16x512 inb_S128x8192_S16x512_32_2560 x, fun x => piece16 2 4 (by decide) (by decide) _ _ (congrArg (k0_pay6 perm16) (rows_back arg3 harg3 arg7 harg7 arg8 x1 xs0 ⟨2, by decide⟩ ![512, 0] rfl inb_S2048x512_S256x512_512_0)) slices_S256x512_o64_0_S16x512 inb_S128x8192_S16x512_32_2048 x, fun x => piece16 2 3 (by decide) (by decide) _ _ (congrArg (k0_pay6 perm16) (rows_back arg3 harg3 arg7 harg7 arg8 x1 xs0 ⟨2, by decide⟩ ![512, 0] rfl inb_S2048x512_S256x512_512_0)) slices_S256x512_o48_0_S16x512 inb_S128x8192_S16x512_32_1536 x, fun x => piece16 2 2 (by decide) (by decide) _ _ (congrArg (k0_pay6 perm16) (rows_back arg3 harg3 arg7 harg7 arg8 x1 xs0 ⟨2, by decide⟩ ![512, 0] rfl inb_S2048x512_S256x512_512_0)) slices_S256x512_o32_0_S16x512 inb_S128x8192_S16x512_32_1024 x, fun x => piece16 2 1 (by decide) (by decide) _ _ (congrArg (k0_pay6 perm16) (rows_back arg3 harg3 arg7 harg7 arg8 x1 xs0 ⟨2, by decide⟩ ![512, 0] rfl inb_S2048x512_S256x512_512_0)) slices_S256x512_o16_0_S16x512 inb_S128x8192_S16x512_32_512 x, fun x => piece16 2 0 (by decide) (by decide) _ _ (congrArg (k0_pay6 perm16) (rows_back arg3 harg3 arg7 harg7 arg8 x1 xs0 ⟨2, by decide⟩ ![512, 0] rfl inb_S2048x512_S256x512_512_0)) slices_S256x512_o0_0_S16x512 inb_S128x8192_S16x512_32_0 x, fun x => piece16 1 15 (by decide) (by decide) _ _ (congrArg (k0_pay6 perm16) (rows_back arg3 harg3 arg7 harg7 arg8 x1 xs0 ⟨1, by decide⟩ ![256, 0] rfl inb_S2048x512_S256x512_256_0)) slices_S256x512_o240_0_S16x512 inb_S128x8192_S16x512_16_7680 x, fun x => piece16 1 14 (by decide) (by decide) _ _ (congrArg (k0_pay6 perm16) (rows_back arg3 harg3 arg7 harg7 arg8 x1 xs0 ⟨1, by decide⟩ ![256, 0] rfl inb_S2048x512_S256x512_256_0)) slices_S256x512_o224_0_S16x512 inb_S128x8192_S16x512_16_7168 x, fun x => piece16 1 13 (by decide) (by decide) _ _ (congrArg (k0_pay6 perm16) (rows_back arg3 harg3 arg7 harg7 arg8 x1 xs0 ⟨1, by decide⟩ ![256, 0] rfl inb_S2048x512_S256x512_256_0)) slices_S256x512_o208_0_S16x512 inb_S128x8192_S16x512_16_6656 x, fun x => piece16 1 12 (by decide) (by decide) _ _ (congrArg (k0_pay6 perm16) (rows_back arg3 harg3 arg7 harg7 arg8 x1 xs0 ⟨1, by decide⟩ ![256, 0] rfl inb_S2048x512_S256x512_256_0)) slices_S256x512_o192_0_S16x512 inb_S128x8192_S16x512_16_6144 x, fun x => piece16 1 11 (by decide) (by decide) _ _ (congrArg (k0_pay6 perm16) (rows_back arg3 harg3 arg7 harg7 arg8 x1 xs0 ⟨1, by decide⟩ ![256, 0] rfl inb_S2048x512_S256x512_256_0)) slices_S256x512_o176_0_S16x512 inb_S128x8192_S16x512_16_5632 x, fun x => piece16 1 10 (by decide) (by decide) _ _ (congrArg (k0_pay6 perm16) (rows_back arg3 harg3 arg7 harg7 arg8 x1 xs0 ⟨1, by decide⟩ ![256, 0] rfl inb_S2048x512_S256x512_256_0)) slices_S256x512_o160_0_S16x512 inb_S128x8192_S16x512_16_5120 x, fun x => piece16 1 9 (by decide) (by decide) _ _ (congrArg (k0_pay6 perm16) (rows_back arg3 harg3 arg7 harg7 arg8 x1 xs0 ⟨1, by decide⟩ ![256, 0] rfl inb_S2048x512_S256x512_256_0)) slices_S256x512_o144_0_S16x512 inb_S128x8192_S16x512_16_4608 x, fun x => piece16 1 8 (by decide) (by decide) _ _ (congrArg (k0_pay6 perm16) (rows_back arg3 harg3 arg7 harg7 arg8 x1 xs0 ⟨1, by decide⟩ ![256, 0] rfl inb_S2048x512_S256x512_256_0)) slices_S256x512_o128_0_S16x512 inb_S128x8192_S16x512_16_4096 x, fun x => piece16 1 7 (by decide) (by decide) _ _ (congrArg (k0_pay6 perm16) (rows_back arg3 harg3 arg7 harg7 arg8 x1 xs0 ⟨1, by decide⟩ ![256, 0] rfl inb_S2048x512_S256x512_256_0)) slices_S256x512_o112_0_S16x512 inb_S128x8192_S16x512_16_3584 x, fun x => piece16 1 6 (by decide) (by decide) _ _ (congrArg (k0_pay6 perm16) (rows_back arg3 harg3 arg7 harg7 arg8 x1 xs0 ⟨1, by decide⟩ ![256, 0] rfl inb_S2048x512_S256x512_256_0)) slices_S256x512_o96_0_S16x512 inb_S128x8192_S16x512_16_3072 x, fun x => piece16 1 5 (by decide) (by decide) _ _ (congrArg (k0_pay6 perm16) (rows_back arg3 harg3 arg7 harg7 arg8 x1 xs0 ⟨1, by decide⟩ ![256, 0] rfl inb_S2048x512_S256x512_256_0)) slices_S256x512_o80_0_S16x512 inb_S128x8192_S16x512_16_2560 x, fun x => piece16 1 4 (by decide) (by decide) _ _ (congrArg (k0_pay6 perm16) (rows_back arg3 harg3 arg7 harg7 arg8 x1 xs0 ⟨1, by decide⟩ ![256, 0] rfl inb_S2048x512_S256x512_256_0)) slices_S256x512_o64_0_S16x512 inb_S128x8192_S16x512_16_2048 x, fun x => piece16 1 3 (by decide) (by decide) _ _ (congrArg (k0_pay6 perm16) (rows_back arg3 harg3 arg7 harg7 arg8 x1 xs0 ⟨1, by decide⟩ ![256, 0] rfl inb_S2048x512_S256x512_256_0)) slices_S256x512_o48_0_S16x512 inb_S128x8192_S16x512_16_1536 x, fun x => piece16 1 2 (by decide) (by decide) _ _ (congrArg (k0_pay6 perm16) (rows_back arg3 harg3 arg7 harg7 arg8 x1 xs0 ⟨1, by decide⟩ ![256, 0] rfl inb_S2048x512_S256x512_256_0)) slices_S256x512_o32_0_S16x512 inb_S128x8192_S16x512_16_1024 x, fun x => piece16 1 1 (by decide) (by decide) _ _ (congrArg (k0_pay6 perm16) (rows_back arg3 harg3 arg7 harg7 arg8 x1 xs0 ⟨1, by decide⟩ ![256, 0] rfl inb_S2048x512_S256x512_256_0)) slices_S256x512_o16_0_S16x512 inb_S128x8192_S16x512_16_512 x, fun x => piece16 1 0 (by decide) (by decide) _ _ (congrArg (k0_pay6 perm16) (rows_back arg3 harg3 arg7 harg7 arg8 x1 xs0 ⟨1, by decide⟩ ![256, 0] rfl inb_S2048x512_S256x512_256_0)) slices_S256x512_o0_0_S16x512 inb_S128x8192_S16x512_16_0 x, fun x => piece16 0 15 (by decide) (by decide) _ _ (congrArg (k0_pay6 perm16) (rows_back arg3 harg3 arg7 harg7 arg8 x1 xs0 ⟨0, by decide⟩ ![0, 0] rfl inb_S2048x512_S256x512_0_0)) slices_S256x512_o240_0_S16x512 inb_S128x8192_S16x512_0_7680 x, fun x => piece16 0 14 (by decide) (by decide) _ _ (congrArg (k0_pay6 perm16) (rows_back arg3 harg3 arg7 harg7 arg8 x1 xs0 ⟨0, by decide⟩ ![0, 0] rfl inb_S2048x512_S256x512_0_0)) slices_S256x512_o224_0_S16x512 inb_S128x8192_S16x512_0_7168 x, fun x => piece16 0 13 (by decide) (by decide) _ _ (congrArg (k0_pay6 perm16) (rows_back arg3 harg3 arg7 harg7 arg8 x1 xs0 ⟨0, by decide⟩ ![0, 0] rfl inb_S2048x512_S256x512_0_0)) slices_S256x512_o208_0_S16x512 inb_S128x8192_S16x512_0_6656 x, fun x => piece16 0 12 (by decide) (by decide) _ _ (congrArg (k0_pay6 perm16) (rows_back arg3 harg3 arg7 harg7 arg8 x1 xs0 ⟨0, by decide⟩ ![0, 0] rfl inb_S2048x512_S256x512_0_0)) slices_S256x512_o192_0_S16x512 inb_S128x8192_S16x512_0_6144 x, fun x => piece16 0 11 (by decide) (by decide) _ _ (congrArg (k0_pay6 perm16) (rows_back arg3 harg3 arg7 harg7 arg8 x1 xs0 ⟨0, by decide⟩ ![0, 0] rfl inb_S2048x512_S256x512_0_0)) slices_S256x512_o176_0_S16x512 inb_S128x8192_S16x512_0_5632 x, fun x => piece16 0 10 (by decide) (by decide) _ _ (congrArg (k0_pay6 perm16) (rows_back arg3 harg3 arg7 harg7 arg8 x1 xs0 ⟨0, by decide⟩ ![0, 0] rfl inb_S2048x512_S256x512_0_0)) slices_S256x512_o160_0_S16x512 inb_S128x8192_S16x512_0_5120 x, fun x => piece16 0 9 (by decide) (by decide) _ _ (congrArg (k0_pay6 perm16) (rows_back arg3 harg3 arg7 harg7 arg8 x1 xs0 ⟨0, by decide⟩ ![0, 0] rfl inb_S2048x512_S256x512_0_0)) slices_S256x512_o144_0_S16x512 inb_S128x8192_S16x512_0_4608 x, fun x => piece16 0 8 (by decide) (by decide) _ _ (congrArg (k0_pay6 perm16) (rows_back arg3 harg3 arg7 harg7 arg8 x1 xs0 ⟨0, by decide⟩ ![0, 0] rfl inb_S2048x512_S256x512_0_0)) slices_S256x512_o128_0_S16x512 inb_S128x8192_S16x512_0_4096 x, fun x => piece16 0 7 (by decide) (by decide) _ _ (congrArg (k0_pay6 perm16) (rows_back arg3 harg3 arg7 harg7 arg8 x1 xs0 ⟨0, by decide⟩ ![0, 0] rfl inb_S2048x512_S256x512_0_0)) slices_S256x512_o112_0_S16x512 inb_S128x8192_S16x512_0_3584 x, fun x => piece16 0 6 (by decide) (by decide) _ _ (congrArg (k0_pay6 perm16) (rows_back arg3 harg3 arg7 harg7 arg8 x1 xs0 ⟨0, by decide⟩ ![0, 0] rfl inb_S2048x512_S256x512_0_0)) slices_S256x512_o96_0_S16x512 inb_S128x8192_S16x512_0_3072 x, fun x => piece16 0 5 (by decide) (by decide) _ _ (congrArg (k0_pay6 perm16) (rows_back arg3 harg3 arg7 harg7 arg8 x1 xs0 ⟨0, by decide⟩ ![0, 0] rfl inb_S2048x512_S256x512_0_0)) slices_S256x512_o80_0_S16x512 inb_S128x8192_S16x512_0_2560 x, fun x => piece16 0 4 (by decide) (by decide) _ _ (congrArg (k0_pay6 perm16) (rows_back arg3 harg3 arg7 harg7 arg8 x1 xs0 ⟨0, by decide⟩ ![0, 0] rfl inb_S2048x512_S256x512_0_0)) slices_S256x512_o64_0_S16x512 inb_S128x8192_S16x512_0_2048 x, fun x => piece16 0 3 (by decide) (by decide) _ _ (congrArg (k0_pay6 perm16) (rows_back arg3 harg3 arg7 harg7 arg8 x1 xs0 ⟨0, by decide⟩ ![0, 0] rfl inb_S2048x512_S256x512_0_0)) slices_S256x512_o48_0_S16x512 inb_S128x8192_S16x512_0_1536 x, fun x => piece16 0 2 (by decide) (by decide) _ _ (congrArg (k0_pay6 perm16) (rows_back arg3 harg3 arg7 harg7 arg8 x1 xs0 ⟨0, by decide⟩ ![0, 0] rfl inb_S2048x512_S256x512_0_0)) slices_S256x512_o32_0_S16x512 inb_S128x8192_S16x512_0_1024 x, fun x => piece16 0 1 (by decide) (by decide) _ _ (congrArg (k0_pay6 perm16) (rows_back arg3 harg3 arg7 harg7 arg8 x1 xs0 ⟨0, by decide⟩ ![0, 0] rfl inb_S2048x512_S256x512_0_0)) slices_S256x512_o16_0_S16x512 inb_S128x8192_S16x512_0_512 x, fun x => piece16 0 0 (by decide) (by decide) _ _ (congrArg (k0_pay6 perm16) (rows_back arg3 harg3 arg7 harg7 arg8 x1 xs0 ⟨0, by decide⟩ ![0, 0] rfl inb_S2048x512_S256x512_0_0)) slices_S256x512_o0_0_S16x512 inb_S128x8192_S16x512_0_0 x, trivial⟩

theorem coverD (hc0 : ¬c0 i) (hc1 : ¬cO i) (hc2 : ¬cY4 i) (hc3 : cY16 i) (y : S128x8192.Idx) : ∃ pc ∈ (runD c i arg2 harg2 arg3 harg3 arg4 harg4 arg5 harg5 arg6 harg6 arg7 harg7 arg8 harg8 hc0 hc1 hc2 hc3 x0 x1 xs0).1, y ∈ pc.1.set :=
  View.cover_of_tiledL (runD c i arg2 harg2 arg3 harg3 arg4 harg4 arg5 harg5 arg6 harg6 arg7 harg7 arg8 harg8 hc0 hc1 hc2 hc3 x0 x1 xs0).1 S16x512.size (by sl_kernel_rfl) y

/-! ## The body's triples over the values -/

theorem wpA (hc0 : c0 i) (hc1 : cO i) (hc2 : ¬cY4 i) (hc3 : ¬cY16 i) (xi3 : Vec F S512x2048 .bf16) (xi4 : Vec F S128x8192 .bf16) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xi4 ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare (k0_pay2 (k0_pay1 x0) x1) ∗ owns (c : Thread nD τ) arg5 fullShare xi3 ∗ owns (c : Thread nD τ) arg6 fullShare xi4 ∗ owns (c : Thread nD τ) arg7 fullShare (k0_pay1 x0) ∗ (∃ d, owns (c : Thread nD τ) arg8 fullShare d)) -∗ K ⟨⟩))
      ⊢ wp frame (wpE (defs₀ (F := F)) Variants.none c none) E (cc0_proj i arg2 harg2 arg3 harg3 arg4 harg4 arg5 harg5 arg6 harg6 arg7 harg7 arg8 harg8) K := by
  iintro ⟨H0, H1, H2, H3, H4, HS0, HS1, Hk⟩
  iapply ((runA c i arg2 harg2 arg3 harg3 arg4 harg4 arg5 harg5 arg6 harg6 arg7 harg7 arg8 harg8 hc0 hc1 hc2 hc3 x0 x1).2.2 xi3 xi4 E K)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, ⟨%e, H2⟩, H3, H4, ⟨%es, HS0⟩, HS1⟩
  iapply Hk
  isplitl [H0]
  · iexact H0
  isplitl [H1]
  · iexact H1
  isplitl [H2]
  · unfold owns; iexists _; isplitr
    swap; · iexact H2
    ipureintro
    rw [pcsA c i arg2 harg2 arg3 harg3 arg4 harg4 arg5 harg5 arg6 harg6 arg7 harg7 arg8 harg8]; exact whole_read _ _ _ off2 _ _
  isplitl [H3]
  · iexact H3
  isplitl [H4]
  · iexact H4
  isplitl [HS0]
  · unfold owns; iexists _; isplitr
    swap; · iexact HS0
    ipureintro
    rw [pcsAS c i arg2 harg2 arg3 harg3 arg4 harg4 arg5 harg5 arg6 harg6 arg7 harg7 arg8 harg8]; exact whole_read _ _ _ off2 _ _
  iexact HS1

theorem wpB (hc0 : ¬c0 i) (hc1 : cO i) (hc2 : ¬cY4 i) (hc3 : ¬cY16 i) (xi3 : Vec F S512x2048 .bf16) (xi4 : Vec F S128x8192 .bf16) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xi4 ∗ owns (c : Thread nD τ) arg7 fullShare xs0 ∗ (∃ d, owns (c : Thread nD τ) arg8 fullShare d)
        ∗ (iprop(owns (c : Thread nD τ) arg2 fullShare x0 ∗ owns (c : Thread nD τ) arg3 fullShare x1 ∗ owns (c : Thread nD τ) arg4 fullShare (k0_pay2 xs0 x1) ∗ owns (c : Thread nD τ) arg5 fullShare xi3 ∗ owns (c : Thread nD τ) arg6 fullShare xi4 ∗ owns (c : Thread nD τ) arg7 fullShare xs0 ∗ (∃ d, owns (c : Thread nD τ) arg8 fullShare d)) -∗ K ⟨⟩))
      ⊢ wp frame (wpE (defs₀ (F := F)) Variants.none c none) E (cc0_proj i arg2 harg2 arg3 harg3 arg4 harg4 arg5 harg5 arg6 harg6 arg7 harg7 arg8 harg8) K := by
  iintro ⟨H0, H1, H2, H3, H4, HS0, HS1, Hk⟩
  iapply ((runB c i arg2 harg2 arg3 harg3 arg4 harg4 arg5 harg5 arg6 harg6 arg7 harg7 arg8 harg8 hc0 hc1 hc2 hc3 x0 x1 xs0).2 xi3 xi4 E K)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, ⟨%e, H2⟩, H3, H4, HS0, HS1⟩
  iapply Hk
  isplitl [H0]
  · iexact H0
  isplitl [H1]
  · iexact H1
  isplitl [H2]
  · unfold owns; iexists _; isplitr
    swap; · iexact H2
    ipureintro
    rw [pcsB c i arg2 harg2 arg3 harg3 arg4 harg4 arg5 harg5 arg6 harg6 arg7 harg7 arg8 harg8]; exact whole_read _ _ _ off2 _ _
  isplitl [H3]
  · iexact H3
  isplitl [H4]
  · iexact H4
  isplitl [HS0]
  · iexact HS0
  iexact HS1

theorem wpC (hc0 : ¬c0 i) (hc1 : ¬cO i) (hc2 : cY4 i) (hc3 : ¬cY16 i) (xi2 : Vec F S2048x512 .bf16) (xi4 : Vec F S128x8192 .bf16) (E : Set ℕ) (K : PUnit → sProp 𝕄) :
    iprop(owns (c : Thread nD τ) arg2 fullShare x0 ∗ owns (c : Thread nD τ) arg3 fullShare x1 ∗ owns (c : Thread nD τ) arg4 fullShare xi2 ∗ (∃ d, owns (c : Thread nD τ) arg5 fullShare d) ∗ owns (c : Thread nD τ) arg6 fullShare xi4 ∗ owns (c : Thread nD τ) arg7 fullShare xs0 ∗ (∃ d, owns (c : Thread nD τ) arg8 fullShare d)
        ∗ (iprop(owns (c : Thread nD τ) arg2 fullShare x0 ∗ owns (c : Thread nD τ) arg3 fullShare x1 ∗ owns (c : Thread nD τ) arg4 fullShare xi2 ∗ owns (c : Thread nD τ) arg5 fullShare (y4V (k0_pay20 xs0 x1)) ∗ owns (c : Thread nD τ) arg6 fullShare xi4 ∗ owns (c : Thread nD τ) arg7 fullShare xs0 ∗ (∃ d, owns (c : Thread nD τ) arg8 fullShare d)) -∗ K ⟨⟩))
      ⊢ wp frame (wpE (defs₀ (F := F)) Variants.none c none) E (cc0_proj i arg2 harg2 arg3 harg3 arg4 harg4 arg5 harg5 arg6 harg6 arg7 harg7 arg8 harg8) K := by
  iintro ⟨H0, H1, H2, H3, H4, HS0, HS1, Hk⟩
  iapply ((runC c i arg2 harg2 arg3 harg3 arg4 harg4 arg5 harg5 arg6 harg6 arg7 harg7 arg8 harg8 hc0 hc1 hc2 hc3 x0 x1 xs0).2.2 xi2 xi4 E K)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, ⟨%e, H3⟩, H4, HS0, ⟨%et, HS1⟩⟩
  iapply Hk
  isplitl [H0]
  · iexact H0
  isplitl [H1]
  · iexact H1
  isplitl [H2]
  · iexact H2
  isplitl [H3]
  · unfold owns; iexists _; isplitr
    swap; · iexact H3
    ipureintro
    exact (View.read_writes_eq_canon _ _ _ (coverC c i arg2 harg2 arg3 harg3 arg4 harg4 arg5 harg5 arg6 harg6 arg7 harg7 arg8 harg8 x0 x1 xs0 hc0 hc1 hc2 hc3)).trans (funext fun y => View.canon_apply_of_pieces _ _ (View.PiecesOf.mem (pcsC c i arg2 harg2 arg3 harg3 arg4 harg4 arg5 harg5 arg6 harg6 arg7 harg7 arg8 harg8 x0 x1 xs0 hc0 hc1 hc2 hc3)) y (coverC c i arg2 harg2 arg3 harg3 arg4 harg4 arg5 harg5 arg6 harg6 arg7 harg7 arg8 harg8 x0 x1 xs0 hc0 hc1 hc2 hc3 y))
  isplitl [H4]
  · iexact H4
  isplitl [HS0]
  · iexact HS0
  iexists _; unfold owns; iexists _; isplitr
  swap; · iexact HS1
  ipureintro; rfl

theorem wpD (hc0 : ¬c0 i) (hc1 : ¬cO i) (hc2 : ¬cY4 i) (hc3 : cY16 i) (xi2 : Vec F S2048x512 .bf16) (xi3 : Vec F S512x2048 .bf16) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ owns (c : Thread nD τ) arg7 fullShare xs0 ∗ (∃ d, owns (c : Thread nD τ) arg8 fullShare d)
        ∗ (iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare (y16V (k0_pay20 xs0 x1)) ∗ owns (c : Thread nD τ) arg7 fullShare xs0 ∗ (∃ d, owns (c : Thread nD τ) arg8 fullShare d)) -∗ K ⟨⟩))
      ⊢ wp frame (wpE (defs₀ (F := F)) Variants.none c none) E (cc0_proj i arg2 harg2 arg3 harg3 arg4 harg4 arg5 harg5 arg6 harg6 arg7 harg7 arg8 harg8) K := by
  iintro ⟨H0, H1, H2, H3, H4, HS0, HS1, Hk⟩
  iapply ((runD c i arg2 harg2 arg3 harg3 arg4 harg4 arg5 harg5 arg6 harg6 arg7 harg7 arg8 harg8 hc0 hc1 hc2 hc3 x0 x1 xs0).2.2 xi2 xi3 E K)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, H3, ⟨%e, H4⟩, HS0, ⟨%et, HS1⟩⟩
  iapply Hk
  isplitl [H0]
  · iexact H0
  isplitl [H1]
  · iexact H1
  isplitl [H2]
  · iexact H2
  isplitl [H3]
  · iexact H3
  isplitl [H4]
  · unfold owns; iexists _; isplitr
    swap; · iexact H4
    ipureintro
    exact (View.read_writes_eq_canon _ _ _ (coverD c i arg2 harg2 arg3 harg3 arg4 harg4 arg5 harg5 arg6 harg6 arg7 harg7 arg8 harg8 x0 x1 xs0 hc0 hc1 hc2 hc3)).trans (funext fun y => View.canon_apply_of_pieces _ _ (View.PiecesOf.mem (pcsD c i arg2 harg2 arg3 harg3 arg4 harg4 arg5 harg5 arg6 harg6 arg7 harg7 arg8 harg8 x0 x1 xs0 hc0 hc1 hc2 hc3)) y (coverD c i arg2 harg2 arg3 harg3 arg4 harg4 arg5 harg5 arg6 harg6 arg7 harg7 arg8 harg8 x0 x1 xs0 hc0 hc1 hc2 hc3 y))
  isplitl [HS0]
  · iexact HS0
  iexists _; unfold owns; iexists _; isplitr
  swap; · iexact HS1
  ipureintro; rfl

end Cert.Kernel2Ideal.Proj

end
-- ==== Proof.ProjFrame.lean ====
module

public import proofs.«01_k».proof.Proof.ProjVal
public import Idealize.ShloMosaic.Lib.Pipeline.Frame
public import Idealize.ShloMosaic.Lib.Pipeline.FrameBody
public import Idealize.ShloMosaic.Lib.Claim

@[expose] public section

set_option maxRecDepth 16384

noncomputable section

namespace Cert.Kernel2Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where a block was last stored, and where it is written back -/

/-- The first point of the row block of `t`. -/
def st (t : Fin cfg0.N) : Fin cfg0.N := ⟨t.val - t.val % 20, Nat.lt_of_le_of_lt (Nat.sub_le _ _) t.isLt⟩

/-- How far back of a point the kept columns were last stored, -/
def back2 (j : ℕ) : ℕ := if j = 1 ∨ j = 4 ∨ j = 7 then 1 else if j = 2 ∨ j = 5 ∨ j = 8 then 2 else 0
/-- the columns gathered at stride 4, -/
def back3 (j : ℕ) : ℕ := if j < 4 then j - 1 else if j < 7 then j - 4 else j - 7
/-- and those gathered at stride 16. -/
def back4 (j : ℕ) : ℕ := if j < 5 then j - 2 else if j < 8 then j - 5 else j - 8

def src2 (t : Fin cfg0.N) : Fin cfg0.N := ⟨t.val - back2 (t.val % 20), Nat.lt_of_le_of_lt (Nat.sub_le _ _) t.isLt⟩
def src3 (t : Fin cfg0.N) : Fin cfg0.N := ⟨t.val - back3 (t.val % 20), Nat.lt_of_le_of_lt (Nat.sub_le _ _) t.isLt⟩
def src4 (t : Fin cfg0.N) : Fin cfg0.N := ⟨t.val - back4 (t.val % 20), Nat.lt_of_le_of_lt (Nat.sub_le _ _) t.isLt⟩

theorem flush2 : ∀ t : Fin cfg0.N, (cfg0.win 2).flush t = true ↔ (t.val % 20 = 2 ∨ t.val % 20 = 5 ∨ 8 ≤ t.val % 20) := by decide +kernel
theorem flush3 : ∀ t : Fin cfg0.N, (cfg0.win 3).flush t = true ↔ (t.val % 20 = 3 ∨ t.val % 20 = 6 ∨ t.val % 20 = 19) := by decide +kernel
theorem flush4 : ∀ t : Fin cfg0.N, (cfg0.win 4).flush t = true ↔ (t.val % 20 = 4 ∨ t.val % 20 = 7 ∨ t.val % 20 = 19) := by decide +kernel

theorem idle2 (t : Fin cfg0.N) (h : ¬cO (grid0.coords t)) : cfg0.idle 2 (grid0.coords t) = true := by
  show (!(k0_cond2 (grid0.coords t) == 1#1)) = true
  simp only [Bool.not_eq_true', beq_eq_false_iff_ne]; exact h
theorem idle3 (t : Fin cfg0.N) (h : ¬cY4 (grid0.coords t)) : cfg0.idle 3 (grid0.coords t) = true := by
  show (!(k0_cond3 (grid0.coords t) == 1#1)) = true
  simp only [Bool.not_eq_true', beq_eq_false_iff_ne]; exact h
theorem idle4 (t : Fin cfg0.N) (h : ¬cY16 (grid0.coords t)) : cfg0.idle 4 (grid0.coords t) = true := by
  show (!(k0_cond4 (grid0.coords t) == 1#1)) = true
  simp only [Bool.not_eq_true', beq_eq_false_iff_ne]; exact h
theorem live2 (t : Fin cfg0.N) (h : cO (grid0.coords t)) : cfg0.idle 2 (grid0.coords t) = false := by
  show (!(k0_cond2 (grid0.coords t) == 1#1)) = false
  simp only [Bool.not_eq_false', beq_iff_eq]; exact h
theorem live3 (t : Fin cfg0.N) (h : cY4 (grid0.coords t)) : cfg0.idle 3 (grid0.coords t) = false := by
  show (!(k0_cond3 (grid0.coords t) == 1#1)) = false
  simp only [Bool.not_eq_false', beq_iff_eq]; exact h
theorem live4 (t : Fin cfg0.N) (h : cY16 (grid0.coords t)) : cfg0.idle 4 (grid0.coords t) = false := by
  show (!(k0_cond4 (grid0.coords t) == 1#1)) = false
  simp only [Bool.not_eq_false', beq_iff_eq]; exact h

/-! ## The proof data -/

/-- The rows in use at a point, cast at the first point of the row block. -/
def xbAt (c : Dev nD) (t : Fin cfg0.N) : Vec F S2048x1024 .bf16 := k0_pay1 (iblk m c 0 (st t))

/-- The columns of the weight in use at a point. -/
def blk1 (c : Dev nD) (t : Fin cfg0.N) : Vec F S1024x512 .bf16 := iblk m c 1 t

def at2 (c : Dev nD) (t : Fin cfg0.N) : Vec F S2048x512 .bf16 := k0_pay2 (xbAt m c t) (blk1 m c t)
def at3 (c : Dev nD) (t : Fin cfg0.N) : Vec F S512x2048 .bf16 := y4V (k0_pay20 (xbAt m c t) (blk1 m c t))
def at4 (c : Dev nD) (t : Fin cfg0.N) : Vec F S128x8192 .bf16 := y16V (k0_pay20 (xbAt m c t) (blk1 m c t))

/-- The invariant before a point: the cast rows at what the point before left, the product at anything. -/
def PhiS (c : Dev nD) : (n : ℕ) → n ≤ cfg0.N → sProp 𝕄
  | 0, _ => Pipeline.ΦA spec0 c
  | n + 1, hn => iprop(iprop(owns (c : Thread nD τ) sc0 fullShare (xbAt m c ⟨n, hn⟩) ∗ (∃ d, owns (c : Thread nD τ) sc1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) sc0 fullShare (xbAt m c ⟨n, hn⟩) ∗ (∃ d, owns (c : Thread nD τ) sc1 fullShare d)) ∗ (∃ r, prngReg c r)) := rfl

theorem PhiS_pos (c : Dev nD) (n : ℕ) (h : n ≤ cfg0.N) (hz : n ≠ 0) :
    PhiS m c n h = iprop(iprop(owns (c : Thread nD τ) sc0 fullShare (xbAt m c ⟨n - 1, by omega⟩) ∗ (∃ d, owns (c : Thread nD τ) sc1 fullShare d)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => at2 m c (src2 t)
    | ⟨3, _⟩ => at3 m c (src3 t)
    | ⟨4, _⟩ => at4 m c (src4 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = at2 m c (src2 t) := by dsimp only [dats]
theorem after_3 (c : Dev nD) (t : Fin cfg0.N) : (dats m 0 c).after 3 t = at3 m c (src3 t) := by dsimp only [dats]
theorem after_4 (c : Dev nD) (t : Fin cfg0.N) : (dats m 0 c).after 4 t = at4 m c (src4 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-! ## What an idle point finds -/

/-- A point that follows one which did not write an output's block back finds what that one left. -/
theorem held_step (c : Dev nD) (w : Fin cfg0.W) (hw : (cfg0.win w).isOut = true)
    (hclip : ∀ (i : cfg0.grid.Coords) a, (cfg0.win w).clip i a = none) (t : Fin cfg0.N) (ht : t.val ≠ 0)
    (p : Fin cfg0.N) (hp : p.val = t.val - 1) (hfl : ¬(cfg0.win w).flush p = true)
    (hprev : cfg0.idle w (grid0.coords p) = true → ∀ d, (dats m 0 c).before w p d = (dats m 0 c).after w p)
    (hsame : (dats m 0 c).after w t = (dats m 0 c).after w p) (d) :
    (dats m 0 c).before w t d = (dats m 0 c).after w t := by
  obtain rfl : p = ⟨t.val - 1, Nat.lt_of_le_of_lt (Nat.sub_le _ _) t.isLt⟩ := Fin.ext hp
  rw [(dats m 0 c).before_of_pos w t ht ((cfg0.win w).fetch_out hw t), if_neg hfl, hsame]
  unfold Dat.left
  cases hi : cfg0.idle w (grid0.coords ⟨t.val - 1, Nat.lt_of_le_of_lt (Nat.sub_le _ _) t.isLt⟩) with
  | true => exact hprev hi d
  | false =>
    show (dats m 0 c).kept w _ d = _
    unfold Dat.kept
    rw [Pipeline.fill_of_clip_none w _ (hclip _) d ((dats m 0 c).after w _), Window.fill_cut]

theorem held2a (c : Dev nD) (t : Fin cfg0.N) (h : t.val % 20 = 1 ∨ t.val % 20 = 4 ∨ t.val % 20 = 7) (d) :
    (dats m 0 c).before 2 t d = (dats m 0 c).after 2 t := by
  have hp : (t.val - 1) % 20 = t.val % 20 - 1 := by omega
  refine held_step m c 2 rfl (fun _ _ => rfl) t (by omega) ⟨t.val - 1, by omega⟩ rfl (fun hf => ?_) (fun hi => ?_) ?_ d
  · have := (flush2 _).mp hf; dsimp only at this; omega
  · rw [live2 _ ((hcO _).mpr (by dsimp only; omega))] at hi; exact absurd hi Bool.false_ne_true
  · rw [after_2, after_2]; congr 1; apply Fin.ext; show t.val - back2 (t.val % 20) = t.val - 1 - back2 ((t.val - 1) % 20)
    rw [hp]; unfold back2; split_ifs <;> omega

theorem held2 (c : Dev nD) (t : Fin cfg0.N) (h : ¬cO (grid0.coords t)) (d) :
    (dats m 0 c).before 2 t d = (dats m 0 c).after 2 t := by
  rw [hcO] at h
  by_cases h' : t.val % 20 = 1 ∨ t.val % 20 = 4 ∨ t.val % 20 = 7
  · exact held2a m c t h' d
  have hp : (t.val - 1) % 20 = t.val % 20 - 1 := by omega
  refine held_step m c 2 rfl (fun _ _ => rfl) t (by omega) ⟨t.val - 1, by omega⟩ rfl (fun hf => ?_) (fun hi => held2a m c _ (by dsimp only; omega)) ?_ d
  · have := (flush2 _).mp hf; dsimp only at this; omega
  · rw [after_2, after_2]; congr 1; apply Fin.ext; show t.val - back2 (t.val % 20) = t.val - 1 - back2 ((t.val - 1) % 20)
    rw [hp]; unfold back2; split_ifs <;> omega

theorem held3n (c : Dev nD) : ∀ (n : ℕ) (hn : n < cfg0.N) (h : 1 < n % 20 ∧ n % 20 ≠ 4 ∧ n % 20 ≠ 7) (d),
    (dats m 0 c).before 3 ⟨n, hn⟩ d = (dats m 0 c).after 3 ⟨n, hn⟩
  | 0, _, h, _ => absurd h.1 (by decide)
  | n + 1, hn, h, d => by
    have hp : n % 20 = (n + 1) % 20 - 1 := by omega
    refine held_step m c 3 rfl (fun _ _ => rfl) ⟨n + 1, hn⟩ (Nat.succ_ne_zero n) ⟨n, by omega⟩ rfl (fun hf => ?_) (fun hi => ?_) ?_ d
    · have := (flush3 _).mp hf; dsimp only at this; omega
    · refine held3n c n _ ?_
      by_contra hc
      rw [live3 _ ((hcY4 _).mpr (by dsimp only; omega))] at hi; exact absurd hi Bool.false_ne_true
    · rw [after_3, after_3]; congr 1; apply Fin.ext; show n + 1 - back3 ((n + 1) % 20) = n - back3 (n % 20)
      rw [hp]; unfold back3; split_ifs <;> omega

theorem held3 (c : Dev nD) (t : Fin cfg0.N) (h : ¬cY4 (grid0.coords t)) (hf : (cfg0.win 3).flush t = true) (d) :
    (dats m 0 c).before 3 t d = (dats m 0 c).after 3 t := by
  have := (flush3 t).mp hf
  rw [hcY4] at h
  exact held3n m c t.val t.isLt (by omega) d

theorem held4n (c : Dev nD) : ∀ (n : ℕ) (hn : n < cfg0.N) (h : 2 < n % 20 ∧ n % 20 ≠ 5 ∧ n % 20 ≠ 8) (d),
    (dats m 0 c).before 4 ⟨n, hn⟩ d = (dats m 0 c).after 4 ⟨n, hn⟩
  | 0, _, h, _ => absurd h.1 (by decide)
  | n + 1, hn, h, d => by
    have hp : n % 20 = (n + 1) % 20 - 1 := by omega
    refine held_step m c 4 rfl (fun _ _ => rfl) ⟨n + 1, hn⟩ (Nat.succ_ne_zero n) ⟨n, by omega⟩ rfl (fun hf => ?_) (fun hi => ?_) ?_ d
    · have := (flush4 _).mp hf; dsimp only at this; omega
    · refine held4n c n _ ?_
      by_contra hc
      rw [live4 _ ((hcY16 _).mpr (by dsimp only; omega))] at hi; exact absurd hi Bool.false_ne_true
    · rw [after_4, after_4]; congr 1; apply Fin.ext; show n + 1 - back4 ((n + 1) % 20) = n - back4 (n % 20)
      rw [hp]; unfold back4; split_ifs <;> omega

theorem held4 (c : Dev nD) (t : Fin cfg0.N) (h : ¬cY16 (grid0.coords t)) (hf : (cfg0.win 4).flush t = true) (d) :
    (dats m 0 c).before 4 t d = (dats m 0 c).after 4 t := by
  have := (flush4 t).mp hf
  rw [hcY16] at h
  exact held4n m c t.val t.isLt (by omega) d

/-- What an idle point hands back: its buffer as it found it, which is the block where the point writes it back. -/
theorem idle_leaves (c : Dev nD) (w : Fin cfg0.W) (hl : cfg0.loose w = false) (t : Fin cfg0.N) (hi : cfg0.idle w (grid0.coords t) = true)
    (hh : (cfg0.win w).flush t = true → ∀ d, (dats m 0 c).before w t d = (dats m 0 c).after w t) (d) :
    owns (c : Thread nD τ) ((cfg0.win w).stage (cfg0.slots t w)) fullShare ((dats m 0 c).before w t d) ⊢ (dats m 0 c).leavesExact w t := by
  cases hf : (cfg0.win w).flush t with
  | false =>
    rw [Dat.leavesExact_idle (dats m 0 c) w t hi hf]
    iintro H; iexists d; iexact H
  | true =>
    rw [show (dats m 0 c).leavesExact w t = owns (c : Thread nD τ) ((cfg0.win w).stage (cfg0.slots t w)) fullShare ((dats m 0 c).after w t) from by
      unfold Dat.leavesExact; rw [hi, hf], hh hf d]

theorem live_leaves (c : Dev nD) (w : Fin cfg0.W) (t : Fin cfg0.N) (hi : cfg0.idle w (grid0.coords t) = false) :
    (dats m 0 c).leavesExact w t = owns (c : Thread nD τ) ((cfg0.win w).stage (cfg0.slots t w)) fullShare ((dats m 0 c).after w t) := by
  unfold Dat.leavesExact; rw [hi]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem st_first (t : Fin cfg0.N) (h : t.val % 20 = 0) : st t = t := Fin.ext (by show t.val - t.val % 20 = t.val; omega)
theorem st_prev (t : Fin cfg0.N) (h : t.val % 20 ≠ 0) (hp : t.val - 1 < cfg0.N) : st ⟨t.val - 1, hp⟩ = st t :=
  Fin.ext (by show t.val - 1 - (t.val - 1) % 20 = t.val - t.val % 20; omega)
theorem src2_live (t : Fin cfg0.N) (h : cO (grid0.coords t)) : src2 t = t := by
  have h := (hcO t).mp h
  exact Fin.ext (by show t.val - back2 (t.val % 20) = t.val; unfold back2; split_ifs <;> omega)
theorem src3_live (t : Fin cfg0.N) (h : cY4 (grid0.coords t)) : src3 t = t := by
  have h := (hcY4 t).mp h
  exact Fin.ext (by show t.val - back3 (t.val % 20) = t.val; unfold back3; split_ifs <;> omega)
theorem src4_live (t : Fin cfg0.N) (h : cY16 (grid0.coords t)) : src4 t = t := by
  have h := (hcY16 t).mp h
  exact Fin.ext (by show t.val - back4 (t.val % 20) = t.val; unfold back4; split_ifs <;> omega)

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from live_leaves m c 0 t rfl, after_0]
  rw [show (dats m 0 c).leavesExact 1 t = owns (c : Thread nD τ) (ms1 t) fullShare ((dats m 0 c).after 1 t) from live_leaves m c 1 t rfl, after_1]
  have hN : t.val < 640 := lt_of_lt_of_eq t.isLt (show cfg0.N = 640 from N_0)
  rw [PhiS_castSucc m c t]
  by_cases h0 : t.val % 20 = 0
  · have k0 : c0 (grid0.coords t) := (hc0 t).mpr h0
    have k1 : cO (grid0.coords t) := (hcO t).mpr (by omega)
    have k2 : ¬cY4 (grid0.coords t) := fun h => absurd ((hcY4 t).mp h) (by omega)
    have k3 : ¬cY16 (grid0.coords t) := fun h => absurd ((hcY16 t).mp h) (by omega)
    rw [show (dats m 0 c).leavesExact 2 t = owns (c : Thread nD τ) (ms2 t) fullShare ((dats m 0 c).after 2 t) from live_leaves m c 2 t (live2 t k1), after_2, src2_live t k1, at2]
    have hx : xbAt m c t = k0_pay1 (iblk m c 0 t) := by unfold xbAt; rw [st_first t h0]
    rw [hx]
    by_cases hz : t.val = 0
    · rw [PhiS_zero m c _ _ hz, PhiA_eq]
      iintro ⟨⟨⟨HS0, HS1⟩, Hg⟩, Ho, ⟨%d0, H0⟩, ⟨%d1, H1⟩, ⟨%d2, H2⟩, ⟨%d3, H3⟩, ⟨%d4, H4⟩⟩
      iapply (wpA c (grid0.coords t) (ms0 t) (hs0 t) (ms1 t) (hs1 t) (ms2 t) (hs2 t) (ms3 t) (hs3 t) (ms4 t) (hs4 t) sc0 (Memref.isWhole_whole _) sc1 (Memref.isWhole_whole _) (iblk m c 0 t) (blk1 m c t) k0 k1 k2 k3 _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iapply (idle_leaves m c 3 rfl t (idle3 t k2) (fun hf => held3 m c t k2 hf) d3); iexact H3
      iapply (idle_leaves m c 4 rfl t (idle4 t k3) (fun hf => held4 m c t k3 hf) d4); iexact H4
    · rw [PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply (wpA c (grid0.coords t) (ms0 t) (hs0 t) (ms1 t) (hs1 t) (ms2 t) (hs2 t) (ms3 t) (hs3 t) (ms4 t) (hs4 t) sc0 (Memref.isWhole_whole _) sc1 (Memref.isWhole_whole _) (iblk m c 0 t) (blk1 m c t) k0 k1 k2 k3 _ _ Set.univ _)
      isplitl [H0]; · iexact H0
      isplitl [H1]; · iexact H1
      isplitl [H2]; · iexists _; iexact H2
      isplitl [H3]; · iexact H3
      isplitl [H4]; · iexact H4
      isplitl [HS0]; · iexists _; iexact HS0
      isplitl [HS1]; · iexact HS1
      iintro ⟨H0, H1, H2, H3, H4, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iapply (idle_leaves m c 3 rfl t (idle3 t k2) (fun hf => held3 m c t k2 hf) d3); iexact H3
      iapply (idle_leaves m c 4 rfl t (idle4 t k3) (fun hf => held4 m c t k3 hf) d4); iexact H4
  have k0 : ¬c0 (grid0.coords t) := fun h => h0 ((hc0 t).mp h)
  by_cases k2 : cY4 (grid0.coords t)
  · have h2 := (hcY4 t).mp k2
    have k1 : ¬cO (grid0.coords t) := fun h => absurd ((hcO t).mp h) (by omega)
    have k3 : ¬cY16 (grid0.coords t) := fun h => absurd ((hcY16 t).mp h) (by omega)
    rw [show (dats m 0 c).leavesExact 3 t = owns (c : Thread nD τ) (ms3 t) fullShare ((dats m 0 c).after 3 t) from live_leaves m c 3 t (live3 t k2), after_3, src3_live t k2, at3]
    rw [PhiS_pos m c _ _ (by omega)]
    have hx : xbAt m c ⟨t.val - 1, by omega⟩ = xbAt m c t := by unfold xbAt; rw [st_prev t h0]
    rw [hx]
    iintro ⟨⟨⟨HS0, HS1⟩, Hg⟩, Ho, ⟨%d0, H0⟩, ⟨%d1, H1⟩, ⟨%d2, H2⟩, ⟨%d3, H3⟩, ⟨%d4, H4⟩⟩
    iapply (wpC c (grid0.coords t) (ms0 t) (hs0 t) (ms1 t) (hs1 t) (ms2 t) (hs2 t) (ms3 t) (hs3 t) (ms4 t) (hs4 t) sc0 (Memref.isWhole_whole _) sc1 (Memref.isWhole_whole _) (iblk m c 0 t) (blk1 m c t) (xbAt m c t) k0 k1 k2 k3 _ _ Set.univ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    iintro ⟨H0, H1, H2, H3, H4, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iapply (idle_leaves m c 2 rfl t (idle2 t k1) (fun hf => held2 m c t k1) d2); iexact H2
    isplitl [H3]; · iexact H3
    iapply (idle_leaves m c 4 rfl t (idle4 t k3) (fun hf => held4 m c t k3 hf) d4); iexact H4
  by_cases k3 : cY16 (grid0.coords t)
  · have h3 := (hcY16 t).mp k3
    have k1 : ¬cO (grid0.coords t) := fun h => absurd ((hcO t).mp h) (by omega)
    rw [show (dats m 0 c).leavesExact 4 t = owns (c : Thread nD τ) (ms4 t) fullShare ((dats m 0 c).after 4 t) from live_leaves m c 4 t (live4 t k3), after_4, src4_live t k3, at4]
    rw [PhiS_pos m c _ _ (by omega)]
    have hx : xbAt m c ⟨t.val - 1, by omega⟩ = xbAt m c t := by unfold xbAt; rw [st_prev t h0]
    rw [hx]
    iintro ⟨⟨⟨HS0, HS1⟩, Hg⟩, Ho, ⟨%d0, H0⟩, ⟨%d1, H1⟩, ⟨%d2, H2⟩, ⟨%d3, H3⟩, ⟨%d4, H4⟩⟩
    iapply (wpD c (grid0.coords t) (ms0 t) (hs0 t) (ms1 t) (hs1 t) (ms2 t) (hs2 t) (ms3 t) (hs3 t) (ms4 t) (hs4 t) sc0 (Memref.isWhole_whole _) sc1 (Memref.isWhole_whole _) (iblk m c 0 t) (blk1 m c t) (xbAt m c t) k0 k1 k2 k3 _ _ Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, H4, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iapply (idle_leaves m c 2 rfl t (idle2 t k1) (fun hf => held2 m c t k1) d2); iexact H2
    isplitl [H3]; · iapply (idle_leaves m c 3 rfl t (idle3 t k2) (fun hf => held3 m c t k2 hf) d3); iexact H3
    iexact H4
  have k1 : cO (grid0.coords t) := (hcO t).mpr (by rw [hcY4] at k2; rw [hcY16] at k3; omega)
  rw [show (dats m 0 c).leavesExact 2 t = owns (c : Thread nD τ) (ms2 t) fullShare ((dats m 0 c).after 2 t) from live_leaves m c 2 t (live2 t k1), after_2, src2_live t k1, at2]
  rw [PhiS_pos m c _ _ (by omega)]
  have hx : xbAt m c ⟨t.val - 1, by omega⟩ = xbAt m c t := by unfold xbAt; rw [st_prev t h0]
  rw [hx]
  iintro ⟨⟨⟨HS0, HS1⟩, Hg⟩, Ho, ⟨%d0, H0⟩, ⟨%d1, H1⟩, ⟨%d2, H2⟩, ⟨%d3, H3⟩, ⟨%d4, H4⟩⟩
  iapply (wpB c (grid0.coords t) (ms0 t) (hs0 t) (ms1 t) (hs1 t) (ms2 t) (hs2 t) (ms3 t) (hs3 t) (ms4 t) (hs4 t) sc0 (Memref.isWhole_whole _) sc1 (Memref.isWhole_whole _) (iblk m c 0 t) (blk1 m c t) (xbAt m c t) k0 k1 k2 k3 _ _ Set.univ _)
  isplitl [H0]; · iexact H0
  isplitl [H1]; · iexact H1
  isplitl [H2]; · iexists _; iexact H2
  isplitl [H3]; · iexact H3
  isplitl [H4]; · iexact H4
  isplitl [HS0]; · iexact HS0
  isplitl [HS1]; · iexact HS1
  iintro ⟨H0, H1, H2, H3, H4, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iapply (idle_leaves m c 3 rfl t (idle3 t k2) (fun hf => held3 m c t k2 hf) d3); iexact H3
  iapply (idle_leaves m c 4 rfl t (idle4 t k3) (fun hf => held4 m c t k3 hf) d4); iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  have ht : (Fin.last cfg0.N).val ≠ 0 := by rw [Fin.val_last]; have : cfg0.N = 640 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨⟨HS0, HS1⟩, Hg⟩
  isplitl [HS0 HS1]
  · isplitl [HS0]
    · iexists _; iexact HS0
    iexact HS1
  iexact Hg

/-! ## The run -/

set_option backward.isDefEq.respectTransparency.types false in
/-- Every run ends with every array at what the points left in it and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_quiescent m ρ))

end Cert.Kernel2Ideal.Proj

end
-- ==== Proof.ProjIdeal.lean ====
/-
  The projection's product and its two permutations over the extended reals, entry by entry.
-/
module

public import proofs.«01_k».proof.Proof.ProjVal
public import Idealize.ShloMosaic.Lib.Pointwise

@[expose] public section

set_option maxRecDepth 65536
set_option maxErrors 8

noncomputable section

namespace Cert.Kernel2Ideal.Proj

open Idealize.ShloMosaic Idealize.ShloMosaic.TcCoe Idealize.SL.Sem
open Cert.Kernel2Ideal.Gen

theorem zero_bits : Ideal.ofBits .f32 0 = 0 := by simp

/-- An entry of the product of a block of rows and a block of the weight. -/
theorem pay2_at (X : Vec Ideal S2048x1024 .f32) (W : Vec Ideal S1024x512 .bf16) (r : Fin 2048) (l : Fin 512) :
    k0_pay2 (k0_pay1 X) W (ix2 r l) = ∑ k : Fin 1024, X (ix2 r k) * W (ix2 k l) := by
  pointwise [k0_pay2, k0_pay1]

theorem pay20_at (X : Vec Ideal S2048x1024 .f32) (W : Vec Ideal S1024x512 .bf16) (r : Fin 2048) (l : Fin 512) :
    k0_pay20 (k0_pay1 X) W (ix2 r l) = ∑ k : Fin 1024, X (ix2 r k) * W (ix2 k l) := by
  pointwise [k0_pay20, k0_pay1]

theorem pay6_at (P : FVec Ideal S256x256 .bf16) (R : Vec Ideal S256x512 .bf16) (k : Fin 256) (l : Fin 512) :
    k0_pay6 P R (ix2 k l) = ∑ j : Fin 256, P (ix2 k j) * R (ix2 j l) := by
  pointwise [k0_pay6]

/-- The column that row `k` of a permutation picks, as the kernel computes it: the remainder by `d` times `s`, plus the quotient
    by `d`, both rounded downwards. -/
def pick (k d s : BitVec 32) : BitVec 32 :=
  IntOp.addi
    (IntOp.muli
      (Scalar.select
        (IntOp.andi
          (IntOp.xori
            (IntOp.cmpi CmpIPredicate.slt (IntOp.remsi ArithUnit.vector k (Scalar.select (Scalar.cmpi CmpIPredicate.eq d 0#32) 1#32 d)) 0#32)
            (Scalar.cmpi CmpIPredicate.slt (Scalar.select (Scalar.cmpi CmpIPredicate.eq d 0#32) 1#32 d) 0#32))
          (IntOp.cmpi CmpIPredicate.ne (IntOp.remsi ArithUnit.vector k (Scalar.select (Scalar.cmpi CmpIPredicate.eq d 0#32) 1#32 d)) 0#32))
        (IntOp.addi (IntOp.remsi ArithUnit.vector k (Scalar.select (Scalar.cmpi CmpIPredicate.eq d 0#32) 1#32 d))
          (Scalar.select (Scalar.cmpi CmpIPredicate.eq d 0#32) 1#32 d))
        (IntOp.remsi ArithUnit.vector k (Scalar.select (Scalar.cmpi CmpIPredicate.eq d 0#32) 1#32 d)))
      s)
    (Scalar.select
      (IntOp.andi
        (IntOp.cmpi CmpIPredicate.ne
          (IntOp.subi (BitVec.setWidth 32 (IntOp.cmpi CmpIPredicate.sgt k 0#32)) (BitVec.setWidth 32 (IntOp.cmpi CmpIPredicate.slt k 0#32)))
          1#32)
        (IntOp.cmpi CmpIPredicate.ne (IntOp.remsi ArithUnit.vector k d) 0#32))
      (IntOp.subi (IntOp.divsi ArithUnit.vector k d) 1#32)
      (IntOp.divsi ArithUnit.vector k d))

theorem pick4 : ∀ k : Fin 256, pick (BitVec.ofNat 32 k.val) 64#32 4#32 = BitVec.ofNat 32 (k.val % 64 * 4 + k.val / 64) := by
  decide +kernel

theorem pick16 : ∀ k : Fin 256, pick (BitVec.ofNat 32 k.val) 16#32 16#32 = BitVec.ofNat 32 (k.val % 16 * 16 + k.val / 16) := by
  decide +kernel

/-- An entry of a permutation from its comparison. -/
theorem entry (j n : ℕ) (hj : j < 256) (hn : n < 256) :
    (FloatOps.sitofp .f32 (BitVec.setWidth 32 (IntOp.cmpi CmpIPredicate.eq (BitVec.ofNat 32 j) (BitVec.ofNat 32 n))) : Ideal .f32)
      = (if j = n then 1 else 0 : EReal) := by
  by_cases h : j = n
  · subst h
    rw [if_pos rfl, show IntOp.cmpi CmpIPredicate.eq (BitVec.ofNat 32 j) (BitVec.ofNat 32 j) = 1#1 from by simp [IntOp.cmpi]]
    show ((((BitVec.setWidth 32 (1#1)).toInt : ℤ) : ℝ) : EReal) = 1
    rw [show (BitVec.setWidth 32 (1#1)).toInt = 1 from by decide]
    norm_num
  · have hne : BitVec.ofNat 32 j ≠ BitVec.ofNat 32 n := by
      intro e
      have e' := congrArg BitVec.toNat e
      rw [BitVec.toNat_ofNat, BitVec.toNat_ofNat] at e'
      omega
    rw [if_neg h, show IntOp.cmpi CmpIPredicate.eq (BitVec.ofNat 32 j) (BitVec.ofNat 32 n) = 0#1 from by
      show BitVec.ofBool (BitVec.ofNat 32 j == BitVec.ofNat 32 n) = 0#1
      rw [beq_eq_false_iff_ne.mpr hne]; rfl]
    show ((((BitVec.setWidth 32 (0#1)).toInt : ℤ) : ℝ) : EReal) = 0
    rw [show (BitVec.setWidth 32 (0#1)).toInt = 0 from by decide]
    norm_num

theorem perm4_at (k j : Fin 256) : (perm4 (F := Ideal)) (ix2 k j) = (if j.val = k.val % 64 * 4 + k.val / 64 then 1 else 0 : EReal) := by
  pointwise [perm4, k0_pay21, k0_pay22, k0_pay23, k0_pay24]
  have h := entry j.val (k.val % 64 * 4 + k.val / 64) j.isLt (by have := k.isLt; omega)
  rw [← pick4 k] at h
  exact h

theorem perm16_at (k j : Fin 256) : (perm16 (F := Ideal)) (ix2 k j) = (if j.val = k.val % 16 * 16 + k.val / 16 then 1 else 0 : EReal) := by
  pointwise [perm16, k0_pay58, k0_pay59, k0_pay60, k0_pay61]
  have h := entry j.val (k.val % 16 * 16 + k.val / 16) j.isLt (by have := k.isLt; omega)
  rw [← pick16 k] at h
  exact h

/-- A permutation's row picks one row. -/
theorem gather_at (P : FVec Ideal S256x256 .bf16) (R : Vec Ideal S256x512 .bf16) (k p : Fin 256) (l : Fin 512)
    (hP : ∀ j : Fin 256, P (ix2 k j) = (if j.val = p.val then 1 else 0 : EReal)) : k0_pay6 P R (ix2 k l) = R (ix2 p l) := by
  rw [pay6_at, Finset.sum_eq_single p]
  · rw [hP p, if_pos rfl]; exact one_mul _
  · intro j _ hj
    rw [hP j, if_neg (fun e => hj (Fin.ext e))]; exact zero_mul _
  · intro h; exact absurd (Finset.mem_univ p) h

/-- An entry of the block gathered at stride 4: token `4 (y 0) + (y 1) / 512` of the block, column `(y 1) % 512`. -/
theorem y4V_entry (R : Vec Ideal S2048x512 .bf16) (y : S512x2048.Idx) (a : Fin 2048) (l : Fin 512) (ha : a.val = 4 * (y 0).val + (y 1).val / 512)
    (hl : l.val = (y 1).val % 512) : y4V R y = R (ix2 a l) := by
  have h0 : (y 0).val < 512 := (y 0).isLt
  have h1 : (y 1).val < 2048 := (y 1).isLt
  rw [y4V_at R ⟨(y 0).val / 64, by omega⟩ ⟨(y 1).val / 512 * 64 + (y 0).val % 64, by omega⟩ l y rfl rfl hl.symm]
  rw [gather_at _ _ _ ⟨(y 0).val % 64 * 4 + (y 1).val / 512, by omega⟩ l (fun j => by
    rw [perm4_at]
    congr 2
    dsimp only
    omega)]
  unfold rowsOf
  congr 1
  funext x
  apply Fin.ext
  match x with
  | ⟨0, _⟩ => show 256 * ((y 0).val / 64) + ((y 0).val % 64 * 4 + (y 1).val / 512) = a.val; omega
  | ⟨1, _⟩ => rfl

/-- An entry of the block gathered at stride 16. -/
theorem y16V_entry (R : Vec Ideal S2048x512 .bf16) (y : S128x8192.Idx) (a : Fin 2048) (l : Fin 512) (ha : a.val = 16 * (y 0).val + (y 1).val / 512)
    (hl : l.val = (y 1).val % 512) : y16V R y = R (ix2 a l) := by
  have h0 : (y 0).val < 128 := (y 0).isLt
  have h1 : (y 1).val < 8192 := (y 1).isLt
  rw [y16V_at R ⟨(y 0).val / 16, by omega⟩ ⟨(y 1).val / 512 * 16 + (y 0).val % 16, by omega⟩ l y rfl rfl hl.symm]
  rw [gather_at _ _ _ ⟨(y 0).val % 16 * 16 + (y 1).val / 512, by omega⟩ l (fun j => by
    rw [perm16_at]
    congr 2
    dsimp only
    omega)]
  unfold rowsOf
  congr 1
  funext x
  apply Fin.ext
  match x with
  | ⟨0, _⟩ => show 256 * ((y 0).val / 16) + ((y 0).val % 16 * 16 + (y 1).val / 512) = a.val; omega
  | ⟨1, _⟩ => rfl

end Cert.Kernel2Ideal.Proj

end
-- ==== Proof.ProjSpec.lean ====
/-
  The input projection, entry by entry: what each of the three results holds in terms of the tokens and the weight.
-/
module

public import Idealize.ShloMosaic.Lib.Pointwise

@[expose] public section

noncomputable section

namespace Cert.Projection

/-- The projection's entry of token `r` (of all batches in a row) and column `k`. -/
def prj (x : Fin 8 → Fin 8192 → Fin 1024 → EReal) (w : Fin 1024 → Fin 10240 → EReal) (r : Fin 65536) (k : Fin 10240) : EReal :=
  ∑ d : Fin 1024, x ⟨r.val / 8192, by have := r.isLt; omega⟩ ⟨r.val % 8192, by omega⟩ d * w d k

/-- The projection's column that the kept array's column `q` holds: the first section of each of the three branches, then
    all columns from 4608 on. -/
def keptCol (q : ℕ) : ℕ := if q < 1536 then 1536 * (q / 512) + q % 512 else q + 3072

theorem keptCol_lt {q : ℕ} (h : q < 7168) : keptCol q < 10240 := by unfold keptCol; split <;> omega

variable (x : Fin 8 → Fin 8192 → Fin 1024 → EReal) (w : Fin 1024 → Fin 10240 → EReal)

/-- The kept columns. -/
def kept (r : Fin 65536) (q : Fin 7168) : EReal := prj x w r ⟨keptCol q.val, keptCol_lt q.isLt⟩

/-- The second section of each branch, four tokens to a row. -/
def strided4 (r : Fin 16384) (q : Fin 6144) : EReal :=
  prj x w ⟨4 * r.val + q.val % 2048 / 512, by have := r.isLt; omega⟩ ⟨1536 * (q.val / 2048) + 512 + q.val % 512, by have := q.isLt; omega⟩

/-- The third section of each branch, sixteen tokens to a row. -/
def strided16 (r : Fin 4096) (q : Fin 24576) : EReal :=
  prj x w ⟨16 * r.val + q.val % 8192 / 512, by have := r.isLt; omega⟩ ⟨1536 * (q.val / 8192) + 1024 + q.val % 512, by have := q.isLt; omega⟩

theorem prj_congr {r r' : Fin 65536} {k k' : Fin 10240} (hr : r.val = r'.val) (hk : k.val = k'.val) : prj x w r k = prj x w r' k' := by
  rw [Fin.ext hr, Fin.ext hk]

/-- An entry of the projection from its sum. -/
theorem prj_of (b : Fin 8) (s : Fin 8192) (r : Fin 65536) (k : Fin 10240) (hb : b.val = r.val / 8192) (hs : s.val = r.val % 8192) :
    ∑ d : Fin 1024, x b s d * w d k = prj x w r k := by
  obtain ⟨b, hb'⟩ := b; obtain ⟨s, hs'⟩ := s
  dsimp only at hb hs
  subst hb hs
  rfl

end Cert.Projection

end
-- ==== Proof.ProjOut.lean ====
/-
  The three arrays that the projection leaves, entry by entry.
-/
module

public import proofs.«01_k».proof.Proof.ProjFrame
public import proofs.«01_k».proof.Proof.ProjIdeal
public import proofs.«01_k».proof.Proof.ProjSpec
public import Idealize.ShloMosaic.Lib.Pipeline.Value

@[expose] public section

set_option maxRecDepth 65536
set_option maxErrors 8

noncomputable section

namespace Cert.Kernel2Ideal.Proj

open Idealize.ShloMosaic Idealize.ShloMosaic.TcCoe Idealize.ShloMosaic.Tactic Idealize.SL.Sem
open Idealize.ShloMosaic.Pipeline (Dat Cfg Window)
open Cert.Kernel2Ideal.Gen Cert.Projection

variable (m : (ℓ : Loc nD τ sig) → Buf (Elt Ideal) ℓ) (ρ : Dev nD → PrngReg) (c : Dev nD)

/-- The tokens and the weight, as launched. -/
abbrev XX : Fin 8 → Fin 8192 → Fin 1024 → EReal := fun b s d => (m (c.tc.loc main_arg0) : Vec Ideal S8x8192x1024 .f32) (ix3 b s d)
abbrev WW : Fin 1024 → Fin 10240 → EReal := fun d k => (m (c.tc.loc main_arg1) : Vec Ideal S1x1024x10240 .f32) (ix3 0 d k)

theorem V0 : (V m c main_v0 : Vec Ideal S65536x1024 .f32)
    = shapeCast S65536x1024 (m (c.tc.loc main_arg0) : Vec Ideal S8x8192x1024 .f32) shapeCasts_S8x8192x1024_S65536x1024 := by
  unfold_abbrev_sides
  after_results
  rfl

/-- The weight as the kernel holds it. -/
def wB : FVec Ideal S1024x10240 .bf16 :=
  truncf (F := Ideal) .bf16 (shapeCast S1024x10240 (m (c.tc.loc main_arg1) : Vec Ideal S1x1024x10240 .f32) shapeCasts_S1x1024x10240_S1024x10240) bitsLt_bf16_f32

theorem V2 : (V m c main_v2 : Vec Ideal S1024x10240 .bf16) = wB m c := by
  unfold wB
  unfold_abbrev_sides
  after_results
  rfl

theorem rows_at (X : Vec Ideal S8x8192x1024 .f32) (R : Fin 65536) (k : Fin 1024) (b : Fin 8) (s : Fin 8192) (hb : b.val = R.val / 8192)
    (hs : s.val = R.val % 8192) : shapeCast S65536x1024 X shapeCasts_S8x8192x1024_S65536x1024 (ix2 R k) = X (ix3 b s k) := by
  obtain ⟨b, hb'⟩ := b; obtain ⟨s, hs'⟩ := s
  dsimp only at hb hs
  subst hb hs
  pointwise

theorem weight_at (W : Vec Ideal S1x1024x10240 .f32) (d : Fin 1024) (k : Fin 10240) :
    (truncf (F := Ideal) .bf16 (shapeCast S1024x10240 W shapeCasts_S1x1024x10240_S1024x10240) bitsLt_bf16_f32 : FVec Ideal S1024x10240 .bf16) (ix2 d k)
      = (W (ix3 0 d k) : EReal) := by
  pointwise

theorem wB_at (d : Fin 1024) (k : Fin 10240) : wB m c (ix2 d k) = WW m c d k :=
  weight_at (m (c.tc.loc main_arg1) : Vec Ideal S1x1024x10240 .f32) d k

/-- An entry of a block of rows. -/
theorem blkX (t : Fin cfg0.N) (r : Fin 2048) (k : Fin 1024) (R : Fin 65536) (hR : R.val = 2048 * (t.val / 20) + r.val) :
    (iblk m c 0 t : Vec Ideal S2048x1024 .f32) (ix2 r k) = XX m c ⟨R.val / 8192, by have := R.isLt; omega⟩ ⟨R.val % 8192, by omega⟩ k := by
  have e : ∀ t : Fin cfg0.N, win0_0.index t (0 : Fin 2) = t.val / 20 ∧ win0_0.index t (1 : Fin 2) = 0 := (by decide +kernel : ∀ t : Fin grid0.N, _)
  obtain ⟨e0, e1⟩ := e t
  unfold iblk
  rw [View.read_apply]
  show V m c main_v0 _ = _
  rw [V0]
  refine Eq.trans ?_ (rows_at (m (c.tc.loc main_arg0) : Vec Ideal S8x8192x1024 .f32) R k _ _ rfl rfl)
  congr 1
  funext a
  apply Fin.ext
  match a with
  | ⟨0, _⟩ => show win0_0.index t 0 * 2048 + 1 * r.val = R.val; rw [e0]; omega
  | ⟨1, _⟩ => show win0_0.index t 1 * 1024 + 1 * k.val = k.val; rw [e1]; omega

/-- An entry of a block of the weight. -/
theorem blkW (t : Fin cfg0.N) (d : Fin 1024) (l : Fin 512) (k : Fin 10240) (hk : k.val = 512 * (t.val % 20) + l.val) :
    (iblk m c 1 t : Vec Ideal S1024x512 .bf16) (ix2 d l) = WW m c d k := by
  have e : ∀ t : Fin cfg0.N, win0_1.index t (0 : Fin 2) = 0 ∧ win0_1.index t (1 : Fin 2) = t.val % 20 := (by decide +kernel : ∀ t : Fin grid0.N, _)
  obtain ⟨e0, e1⟩ := e t
  unfold iblk
  rw [View.read_apply]
  show V m c main_v2 _ = _
  rw [V2, ← wB_at]
  congr 1
  funext a
  apply Fin.ext
  match a with
  | ⟨0, _⟩ => show win0_1.index t 0 * 1024 + 1 * d.val = d.val; rw [e0]; omega
  | ⟨1, _⟩ => show win0_1.index t 1 * 512 + 1 * l.val = k.val; rw [e1]; omega

theorem st_div (t : Fin cfg0.N) : (st t).val / 20 = t.val / 20 := by
  show (t.val - t.val % 20) / 20 = _
  omega

/-- An entry of a point's product. -/
theorem at2_at (t : Fin cfg0.N) (r : Fin 2048) (l : Fin 512) (R : Fin 65536) (k : Fin 10240) (hR : R.val = 2048 * (t.val / 20) + r.val)
    (hk : k.val = 512 * (t.val % 20) + l.val) : at2 m c t (ix2 r l) = prj (XX m c) (WW m c) R k := by
  unfold at2 xbAt blk1
  rw [pay2_at]
  unfold prj
  refine Finset.sum_congr rfl fun d _ => ?_
  rw [blkX m c (st t) r d R (by rw [st_div]; exact hR), blkW m c t d l k hk]

theorem prod_at (t : Fin cfg0.N) (r : Fin 2048) (l : Fin 512) (R : Fin 65536) (k : Fin 10240) (hR : R.val = 2048 * (t.val / 20) + r.val)
    (hk : k.val = 512 * (t.val % 20) + l.val) : k0_pay20 (xbAt m c t) (blk1 m c t) (ix2 r l) = prj (XX m c) (WW m c) R k := by
  unfold xbAt blk1
  rw [pay20_at]
  unfold prj
  refine Finset.sum_congr rfl fun d _ => ?_
  rw [blkX m c (st t) r d R (by rw [st_div]; exact hR), blkW m c t d l k hk]

theorem N640 (t : Fin cfg0.N) : t.val < 640 := lt_of_lt_of_eq t.isLt (by decide)

/-! ## The kept columns -/

def G2 : Vec Ideal S65536x7168 .bf16 := fun i => kept (XX m c) (WW m c) (i 0) (i 1)

theorem idx2 : ∀ t : Fin cfg0.N, win0_2.index t (0 : Fin 2) = t.val / 20
    ∧ keptCol (512 * win0_2.index t (1 : Fin 2)) = 512 * ((src2 t).val % 20) ∧ (src2 t).val / 20 = t.val / 20 := by
  decide +kernel

theorem keptCol_add (b l : ℕ) (hl : l < 512) : keptCol (512 * b + l) = keptCol (512 * b) + l := by
  unfold keptCol
  split <;> split <;> omega

theorem flushed2 (t : Fin cfg0.N) : (dats m 0 c).flushed 2 t = ((cfg0.win 2).blk t).view.read (Elt Ideal) (G2 m c) := by
  show (cfg0.win 2).cut (grid0.coords t) ((dats m 0 c).after 2 t) = _
  rw [after_2]
  obtain ⟨e0, e1, e2⟩ := idx2 t
  funext y
  have hy0 : (y 0).val < 2048 := (y 0).isLt
  have hy1 : (y 1).val < 512 := (y 1).isLt
  have hb0 : (((cfg0.win 2).blk t).view.emb y 0).val = win0_2.index t (0 : Fin 2) * 2048 + 1 * (y 0).val := rfl
  have hb1 : (((cfg0.win 2).blk t).view.emb y 1).val = win0_2.index t (1 : Fin 2) * 512 + 1 * (y 1).val := rfl
  show at2 m c (src2 t) y = kept (XX m c) (WW m c) (((cfg0.win 2).blk t).view.emb y 0) (((cfg0.win 2).blk t).view.emb y 1)
  have hy : y = ix2 (n0 := 2048) (n1 := 512) ⟨(y 0).val, hy0⟩ ⟨(y 1).val, hy1⟩ := by
    funext a
    match a with
    | ⟨0, _⟩ => rfl
    | ⟨1, _⟩ => rfl
  refine (congrArg (at2 m c (src2 t)) hy).trans ?_
  unfold kept
  refine at2_at m c (src2 t) _ _ _ _ ?_ ?_
  · dsimp only
    rw [hb0, e0, e2]
    omega
  · dsimp only
    rw [hb1, show win0_2.index t (1 : Fin 2) * 512 + 1 * (y 1).val = 512 * win0_2.index t (1 : Fin 2) + (y 1).val from by omega,
      keptCol_add _ _ hy1, e1]

theorem onto2 : ∀ (q : Fin 32) (b : Fin 14), ∃ t : Fin cfg0.N, (t.val % 20 = 2 ∨ t.val % 20 = 5 ∨ 8 ≤ t.val % 20) ∧ win0_2.index t (0 : Fin 2) = q.val
    ∧ win0_2.index t (1 : Fin 2) = b.val := by
  decide +kernel

theorem cover2 (i : S65536x7168.Idx) : ∃ t : Fin cfg0.N, (cfg0.win 2).flush t = true ∧ i ∈ ((cfg0.win 2).blk t).view.set := by
  have h0 : (i 0).val < 65536 := (i 0).isLt
  have h1 : (i 1).val < 7168 := (i 1).isLt
  obtain ⟨t, ht, e0, e1⟩ := onto2 ⟨(i 0).val / 2048, by omega⟩ ⟨(i 1).val / 512, by omega⟩
  refine ⟨t, (flush2 t).2 ht, ?_⟩
  have h := ((cfg0.win 2).blk t).view.emb_mem_set (ix2 (n0 := 2048) (n1 := 512) ⟨(i 0).val % 2048, by omega⟩ ⟨(i 1).val % 512, by omega⟩)
  have hi : ((cfg0.win 2).blk t).view.emb (ix2 (n0 := 2048) (n1 := 512) ⟨(i 0).val % 2048, by omega⟩ ⟨(i 1).val % 512, by omega⟩) = i := by
    funext a
    apply Fin.ext
    match a with
    | ⟨0, _⟩ => show win0_2.index t 0 * 2048 + 1 * ((i 0).val % 2048) = (i 0).val; rw [e0]; dsimp only; omega
    | ⟨1, _⟩ => show win0_2.index t 1 * 512 + 1 * ((i 1).val % 512) = (i 1).val; rw [e1]; dsimp only; omega
  rw [hi] at h
  exact h

/-- The kept columns after the run. -/
theorem final2 : (dats m 0 c).arrAt 2 cfg0.N = G2 m c :=
  (dats m 0 c).arrAt_eq_of_cover 2 (G2 m c) (fun t _ => flushed2 m c t) cover2

/-! ## The columns gathered at stride 4 -/

def G3 : Vec Ideal S16384x6144 .bf16 := fun i => strided4 (XX m c) (WW m c) (i 0) (i 1)

theorem idx3 : ∀ t : Fin cfg0.N, win0_3.index t (0 : Fin 2) = t.val / 20
    ∧ (t.val % 20 = 3 ∨ t.val % 20 = 6 ∨ t.val % 20 = 19 → (src3 t).val % 20 = 3 * win0_3.index t (1 : Fin 2) + 1 ∧ (src3 t).val / 20 = t.val / 20) := by
  decide +kernel

theorem flushed3 (t : Fin cfg0.N) (hf : (cfg0.win 3).flush t = true) :
    (dats m 0 c).flushed 3 t = ((cfg0.win 3).blk t).view.read (Elt Ideal) (G3 m c) := by
  show (cfg0.win 3).cut (grid0.coords t) ((dats m 0 c).after 3 t) = _
  rw [after_3]
  obtain ⟨e0, e⟩ := idx3 t
  obtain ⟨e1, e2⟩ := e ((flush3 t).1 hf)
  funext y
  have hy0 : (y 0).val < 512 := (y 0).isLt
  have hy1 : (y 1).val < 2048 := (y 1).isLt
  have hb0 : (((cfg0.win 3).blk t).view.emb y 0).val = win0_3.index t (0 : Fin 2) * 512 + 1 * (y 0).val := rfl
  have hb1 : (((cfg0.win 3).blk t).view.emb y 1).val = win0_3.index t (1 : Fin 2) * 2048 + 1 * (y 1).val := rfl
  show at3 m c (src3 t) y = strided4 (XX m c) (WW m c) (((cfg0.win 3).blk t).view.emb y 0) (((cfg0.win 3).blk t).view.emb y 1)
  unfold at3
  rw [y4V_entry _ y ⟨4 * (y 0).val + (y 1).val / 512, by omega⟩ ⟨(y 1).val % 512, by omega⟩ rfl rfl]
  unfold strided4
  refine prod_at m c (src3 t) _ _ _ _ ?_ ?_
  · dsimp only
    rw [hb0, hb1, e0, e2]
    omega
  · dsimp only
    rw [hb1, e1]
    omega

theorem onto3 : ∀ (q : Fin 32) (b : Fin 3), ∃ t : Fin cfg0.N, (t.val % 20 = 3 ∨ t.val % 20 = 6 ∨ t.val % 20 = 19) ∧ win0_3.index t (0 : Fin 2) = q.val
    ∧ win0_3.index t (1 : Fin 2) = b.val := by
  decide +kernel

theorem cover3 (i : S16384x6144.Idx) : ∃ t : Fin cfg0.N, (cfg0.win 3).flush t = true ∧ i ∈ ((cfg0.win 3).blk t).view.set := by
  have h0 : (i 0).val < 16384 := (i 0).isLt
  have h1 : (i 1).val < 6144 := (i 1).isLt
  obtain ⟨t, ht, e0, e1⟩ := onto3 ⟨(i 0).val / 512, by omega⟩ ⟨(i 1).val / 2048, by omega⟩
  refine ⟨t, (flush3 t).2 ht, ?_⟩
  have h := ((cfg0.win 3).blk t).view.emb_mem_set (ix2 (n0 := 512) (n1 := 2048) ⟨(i 0).val % 512, by omega⟩ ⟨(i 1).val % 2048, by omega⟩)
  have hi : ((cfg0.win 3).blk t).view.emb (ix2 (n0 := 512) (n1 := 2048) ⟨(i 0).val % 512, by omega⟩ ⟨(i 1).val % 2048, by omega⟩) = i := by
    funext a
    apply Fin.ext
    match a with
    | ⟨0, _⟩ => show win0_3.index t 0 * 512 + 1 * ((i 0).val % 512) = (i 0).val; rw [e0]; dsimp only; omega
    | ⟨1, _⟩ => show win0_3.index t 1 * 2048 + 1 * ((i 1).val % 2048) = (i 1).val; rw [e1]; dsimp only; omega
  rw [hi] at h
  exact h

/-- The columns gathered at stride 4 after the run. -/
theorem final3 : (dats m 0 c).arrAt 3 cfg0.N = G3 m c :=
  (dats m 0 c).arrAt_eq_of_cover 3 (G3 m c) (fun t hf => flushed3 m c t hf) cover3

/-! ## The columns gathered at stride 16 -/

def G4 : Vec Ideal S4096x24576 .bf16 := fun i => strided16 (XX m c) (WW m c) (i 0) (i 1)

theorem idx4 : ∀ t : Fin cfg0.N, win0_4.index t (0 : Fin 2) = t.val / 20
    ∧ (t.val % 20 = 4 ∨ t.val % 20 = 7 ∨ t.val % 20 = 19 → (src4 t).val % 20 = 3 * win0_4.index t (1 : Fin 2) + 2 ∧ (src4 t).val / 20 = t.val / 20) := by
  decide +kernel

theorem flushed4 (t : Fin cfg0.N) (hf : (cfg0.win 4).flush t = true) :
    (dats m 0 c).flushed 4 t = ((cfg0.win 4).blk t).view.read (Elt Ideal) (G4 m c) := by
  show (cfg0.win 4).cut (grid0.coords t) ((dats m 0 c).after 4 t) = _
  rw [after_4]
  obtain ⟨e0, e⟩ := idx4 t
  obtain ⟨e1, e2⟩ := e ((flush4 t).1 hf)
  funext y
  have hy0 : (y 0).val < 128 := (y 0).isLt
  have hy1 : (y 1).val < 8192 := (y 1).isLt
  have hb0 : (((cfg0.win 4).blk t).view.emb y 0).val = win0_4.index t (0 : Fin 2) * 128 + 1 * (y 0).val := rfl
  have hb1 : (((cfg0.win 4).blk t).view.emb y 1).val = win0_4.index t (1 : Fin 2) * 8192 + 1 * (y 1).val := rfl
  show at4 m c (src4 t) y = strided16 (XX m c) (WW m c) (((cfg0.win 4).blk t).view.emb y 0) (((cfg0.win 4).blk t).view.emb y 1)
  unfold at4
  rw [y16V_entry _ y ⟨16 * (y 0).val + (y 1).val / 512, by omega⟩ ⟨(y 1).val % 512, by omega⟩ rfl rfl]
  unfold strided16
  refine prod_at m c (src4 t) _ _ _ _ ?_ ?_
  · dsimp only
    rw [hb0, hb1, e0, e2]
    omega
  · dsimp only
    rw [hb1, e1]
    omega

theorem onto4 : ∀ (q : Fin 32) (b : Fin 3), ∃ t : Fin cfg0.N, (t.val % 20 = 4 ∨ t.val % 20 = 7 ∨ t.val % 20 = 19) ∧ win0_4.index t (0 : Fin 2) = q.val
    ∧ win0_4.index t (1 : Fin 2) = b.val := by
  decide +kernel

theorem cover4 (i : S4096x24576.Idx) : ∃ t : Fin cfg0.N, (cfg0.win 4).flush t = true ∧ i ∈ ((cfg0.win 4).blk t).view.set := by
  have h0 : (i 0).val < 4096 := (i 0).isLt
  have h1 : (i 1).val < 24576 := (i 1).isLt
  obtain ⟨t, ht, e0, e1⟩ := onto4 ⟨(i 0).val / 128, by omega⟩ ⟨(i 1).val / 8192, by omega⟩
  refine ⟨t, (flush4 t).2 ht, ?_⟩
  have h := ((cfg0.win 4).blk t).view.emb_mem_set (ix2 (n0 := 128) (n1 := 8192) ⟨(i 0).val % 128, by omega⟩ ⟨(i 1).val % 8192, by omega⟩)
  have hi : ((cfg0.win 4).blk t).view.emb (ix2 (n0 := 128) (n1 := 8192) ⟨(i 0).val % 128, by omega⟩ ⟨(i 1).val % 8192, by omega⟩) = i := by
    funext a
    apply Fin.ext
    match a with
    | ⟨0, _⟩ => show win0_4.index t 0 * 128 + 1 * ((i 0).val % 128) = (i 0).val; rw [e0]; dsimp only; omega
    | ⟨1, _⟩ => show win0_4.index t 1 * 8192 + 1 * ((i 1).val % 8192) = (i 1).val; rw [e1]; dsimp only; omega
  rw [hi] at h
  exact h

/-- The columns gathered at stride 16 after the run. -/
theorem final4 : (dats m 0 c).arrAt 4 cfg0.N = G4 m c :=
  (dats m 0 c).arrAt_eq_of_cover 4 (G4 m c) (fun t hf => flushed4 m c t hf) cover4

/-- The run with its three results and its arguments. -/
theorem run_values : θ_run defs (onTc (main (F := Ideal))) (s₀ m ρ) (fun r => ∀ c : Dev nD,
    r.2.mem (c.tc.loc main_v3_0) = G2 m c ∧ r.2.mem (c.tc.loc main_v3_1) = G3 m c ∧ r.2.mem (c.tc.loc main_v3_2) = G4 m c
      ∧ r.2.mem (c.tc.loc main_arg0) = m (c.tc.loc main_arg0) ∧ r.2.mem (c.tc.loc main_arg1) = m (c.tc.loc main_arg1)) :=
  (θ_run defs _ _).mono (fun r h c =>
    ⟨((h c).1 2).trans (final2 m c), ((h c).1 3).trans (final3 m c), ((h c).1 4).trans (final4 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) (run_main m ρ)

end Cert.Kernel2Ideal.Proj

end
-- ==== Proof.ProjBits.lean ====
/-
  The projection's program at bits has the text of the ideal one, so its run is the same run.
-/
module

public import proofs.«01_k».proof.Kernel2
public import proofs.«01_k».proof.Proof.Gen.Kernel2
public import proofs.«01_k».proof.Proof.ProjFrame

@[expose] public section

set_option maxRecDepth 65536

noncomputable section

namespace Cert.Kernel2.Same

open Idealize.ShloMosaic Idealize.ShloMosaic.TcCoe Idealize.SL.Sem

attribute [local instance] Cert.Kernel2.Gen.facts Cert.Kernel2Ideal.Gen.facts

variable {F : FTy → Type} [FloatOps F]

theorem body_eq : (Cert.Kernel2.cc0_proj (F := F)) = Cert.Kernel2Ideal.cc0_proj (F := F) := rfl

theorem bodies_eq : (Cert.Kernel2.defs₀ (F := F)) = Cert.Kernel2Ideal.defs₀ (F := F) := by
  unfold Cert.Kernel2.defs₀ Cert.Kernel2Ideal.defs₀
  refine congrArg Defs.onTc ?_
  funext l x
  match l, x with
  | 0, (t, s) =>
    show Cert.Kernel2.cc0_proj _ _ _ _ _ _ _ _ _ _ _ _ _ _ _ = Cert.Kernel2Ideal.cc0_proj _ _ _ _ _ _ _ _ _ _ _ _ _ _ _
    rw [body_eq]
    rfl

theorem defs_eq : (Cert.Kernel2.defs (F := F)) = Cert.Kernel2Ideal.defs (F := F) := by
  unfold Cert.Kernel2.defs Cert.Kernel2Ideal.defs
  rw [bodies_eq]
  rfl

theorem main_eq : (Cert.Kernel2.main (F := F)) = Cert.Kernel2Ideal.main (F := F) := rfl

theorem frame (m : (ℓ : Loc Cert.Kernel2.nD Cert.Kernel2.τ Cert.Kernel2.sig) → Buf (Elt F) ℓ) (ρ : Dev Cert.Kernel2.nD → PrngReg) :
    θ_run (Cert.Kernel2.defs (F := F)) (onTc (τ := Cert.Kernel2.τ) (Cert.Kernel2.main (F := F))) ⟨m, fun _ => 0, ρ⟩ (fun r =>
      (∀ c : Dev Cert.Kernel2.nD,
        r.2.mem ((c.tc : Thread Cert.Kernel2.nD Cert.Kernel2.τ).loc Cert.Kernel2.main_arg0) = m ((c.tc : Thread Cert.Kernel2.nD Cert.Kernel2.τ).loc Cert.Kernel2.main_arg0)
        ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0) := by
  rw [defs_eq, main_eq]
  exact Cert.Kernel2Ideal.Proj.frame (F := F) m ρ

end Cert.Kernel2.Same

end
-- ==== Proof.ProjRef.lean ====
/-
  The reference's three results, entry by entry.
-/
module

public import proofs.«01_k».proof.Proof.Gen.Reference2Ideal.Run
public import proofs.«01_k».proof.Proof.ProjSpec
public import Idealize.ShloMosaic.Lib.Pointwise
public import Idealize.ShloMosaic.Lib.Pipeline.Value

@[expose] public section

set_option maxRecDepth 65536
set_option maxErrors 8

noncomputable section

namespace Cert.Reference2Ideal.Vals

open Idealize.ShloMosaic Idealize.ShloMosaic.TcCoe Idealize.SL.Sem Idealize.ShloMosaic.StableHlo
open Cert.Reference2Ideal Cert.Reference2Ideal.Gen Cert.Projection

/-- The projection, rounded. -/
def projV (x : FVec Ideal S8x8192x1024 .f32) (w : FVec Ideal S1x1024x10240 .f32) : FVec Ideal S8x8192x10240 .bf16 :=
  truncf (F := Ideal) .bf16 (Host.dotGeneral dot_S8x8192x1024_S1024x10240_S8x8192x10240_2_0_01_1_n_n none x
    (shapeCast S1024x10240 w shapeCasts_S1x1024x10240_S1024x10240)) bitsLt_bf16_f32

theorem projV_at (x : FVec Ideal S8x8192x1024 .f32) (w : FVec Ideal S1x1024x10240 .f32) (b : Fin 8) (s : Fin 8192) (k : Fin 10240) :
    projV x w (ix3 b s k) = ∑ d : Fin 1024, x (ix3 b s d) * w (ix3 0 d k) := by
  unfold projV
  pointwise

variable (P : FVec Ideal S8x8192x10240 .bf16)

/-- The first 4608 columns by branch and section. -/
def dilV : FVec Ideal S8x8192x3x3x512 .bf16 :=
  shapeCast S8x8192x3x3x512 (extractStridedSlice S8x8192x4608 ![0, 0, 0] P slices_S8x8192x10240_S8x8192x4608_0_0_0) shapeCasts_S8x8192x4608_S8x8192x3x3x512

def keptV : FVec Ideal S65536x7168 .bf16 :=
  shapeCast S65536x7168 (concatenate S8x8192x7168 2
    [⟨S8x8192x1536, shapeCast S8x8192x1536 (shapeCast S8x8192x3x512 (extractStridedSlice S8x8192x3x1x512 ![0, 0, 0, 0, 0] (dilV P)
        slices_S8x8192x3x3x512_S8x8192x3x1x512_0_0_0_0_0) shapeCasts_S8x8192x3x1x512_S8x8192x3x512) shapeCasts_S8x8192x3x512_S8x8192x1536⟩,
     ⟨S8x8192x5632, extractStridedSlice S8x8192x5632 ![0, 0, 4608] P slices_S8x8192x10240_S8x8192x5632_0_0_4608⟩]
    concatenates_S8x8192x1536_S8x8192x5632_S8x8192x7168_d2) shapeCasts_S8x8192x7168_S65536x7168

def str4V : FVec Ideal S16384x6144 .bf16 :=
  shapeCast S16384x6144 (transpose S16384x3x4x512 [0, 2, 1, 3] (shapeCast S16384x4x3x512 (shapeCast S8x8192x3x512
    (extractStridedSlice S8x8192x3x1x512 ![0, 0, 0, 1, 0] (dilV P) slices_S8x8192x3x3x512_S8x8192x3x1x512_0_0_0_1_0)
    shapeCasts_S8x8192x3x1x512_S8x8192x3x512) shapeCasts_S8x8192x3x512_S16384x4x3x512) transposes_S16384x4x3x512_S16384x3x4x512_0_2_1_3)
    shapeCasts_S16384x3x4x512_S16384x6144

def str16V : FVec Ideal S4096x24576 .bf16 :=
  shapeCast S4096x24576 (transpose S4096x3x16x512 [0, 2, 1, 3] (shapeCast S4096x16x3x512 (shapeCast S8x8192x3x512
    (extractStridedSlice S8x8192x3x1x512 ![0, 0, 0, 2, 0] (dilV P) slices_S8x8192x3x3x512_S8x8192x3x1x512_0_0_0_2_0)
    shapeCasts_S8x8192x3x1x512_S8x8192x3x512) shapeCasts_S8x8192x3x512_S4096x16x3x512) transposes_S4096x16x3x512_S4096x3x16x512_0_2_1_3)
    shapeCasts_S4096x3x16x512_S4096x24576

theorem at_congr {b b' : Fin 8} {s s' : Fin 8192} {k k' : Fin 10240} (hb : b.val = b'.val) (hs : s.val = s'.val) (hk : k.val = k'.val) :
    P (ix3 b s k) = P (ix3 b' s' k') := by
  rw [Fin.ext hb, Fin.ext hs, Fin.ext hk]

theorem str4V_at (R : Fin 16384) (q : Fin 6144) (b : Fin 8) (s : Fin 8192) (k : Fin 10240) (hb : b.val = (4 * R.val + q.val % 2048 / 512) / 8192)
    (hs : s.val = (4 * R.val + q.val % 2048 / 512) % 8192) (hk : k.val = 1536 * (q.val / 2048) + 512 + q.val % 512) :
    str4V P (ix2 R q) = P (ix3 b s k) := by
  pointwise [str4V, dilV]
  refine at_congr P ?_ ?_ ?_ <;> dsimp only <;> omega

theorem str16V_at (R : Fin 4096) (q : Fin 24576) (b : Fin 8) (s : Fin 8192) (k : Fin 10240) (hb : b.val = (16 * R.val + q.val % 8192 / 512) / 8192)
    (hs : s.val = (16 * R.val + q.val % 8192 / 512) % 8192) (hk : k.val = 1536 * (q.val / 8192) + 1024 + q.val % 512) :
    str16V P (ix2 R q) = P (ix3 b s k) := by
  pointwise [str16V, dilV]
  refine at_congr P ?_ ?_ ?_ <;> dsimp only <;> omega

theorem keptV_at (R : Fin 65536) (q : Fin 7168) (b : Fin 8) (s : Fin 8192) (k : Fin 10240) (hb : b.val = R.val / 8192)
    (hs : s.val = R.val % 8192) (hk : k.val = keptCol q.val) :
    keptV P (ix2 R q) = P (ix3 b s k) := by
  pointwise [keptV, dilV]
  unfold keptCol at hk
  split
  · rename_i h
    rw [if_pos h] at hk
    refine at_congr P ?_ ?_ ?_ <;> dsimp only <;> omega
  · rename_i h
    rw [if_neg h] at hk
    refine at_congr P ?_ ?_ ?_ <;> dsimp only <;> omega

variable (x : FVec Ideal S8x8192x1024 .f32) (w : FVec Ideal S1x1024x10240 .f32)

/-- The tokens and the weight by their entries. -/
abbrev xE : Fin 8 → Fin 8192 → Fin 1024 → EReal := fun b s d => x (ix3 b s d)
abbrev wE : Fin 1024 → Fin 10240 → EReal := fun d k => w (ix3 0 d k)

theorem kept_eq (i : S65536x7168.Idx) : keptV (projV x w) i = kept (xE x) (wE w) (i 0) (i 1) := by
  have hi : i = ix2 (n0 := 65536) (n1 := 7168) (i 0) (i 1) := by
    funext a
    match a with
    | ⟨0, _⟩ => rfl
    | ⟨1, _⟩ => rfl
  have h0 : (i 0).val < 65536 := (i 0).isLt
  have h1 : (i 1).val < 7168 := (i 1).isLt
  refine (congrArg (keptV (projV x w)) hi).trans ?_
  rw [keptV_at (projV x w) (i 0) (i 1) ⟨(i 0).val / 8192, by omega⟩ ⟨(i 0).val % 8192, by omega⟩ ⟨keptCol (i 1).val, keptCol_lt h1⟩ rfl rfl rfl, projV_at]
  exact prj_of (xE x) (wE w) _ _ _ _ rfl rfl

theorem str4_eq (i : S16384x6144.Idx) : str4V (projV x w) i = strided4 (xE x) (wE w) (i 0) (i 1) := by
  have hi : i = ix2 (n0 := 16384) (n1 := 6144) (i 0) (i 1) := by
    funext a
    match a with
    | ⟨0, _⟩ => rfl
    | ⟨1, _⟩ => rfl
  have h0 : (i 0).val < 16384 := (i 0).isLt
  have h1 : (i 1).val < 6144 := (i 1).isLt
  refine (congrArg (str4V (projV x w)) hi).trans ?_
  rw [str4V_at (projV x w) (i 0) (i 1) ⟨(4 * (i 0).val + (i 1).val % 2048 / 512) / 8192, by omega⟩ ⟨(4 * (i 0).val + (i 1).val % 2048 / 512) % 8192, by omega⟩
    ⟨1536 * ((i 1).val / 2048) + 512 + (i 1).val % 512, by omega⟩ rfl rfl rfl, projV_at]
  exact prj_of (xE x) (wE w) _ _ _ _ rfl rfl

theorem str16_eq (i : S4096x24576.Idx) : str16V (projV x w) i = strided16 (xE x) (wE w) (i 0) (i 1) := by
  have hi : i = ix2 (n0 := 4096) (n1 := 24576) (i 0) (i 1) := by
    funext a
    match a with
    | ⟨0, _⟩ => rfl
    | ⟨1, _⟩ => rfl
  have h0 : (i 0).val < 4096 := (i 0).isLt
  have h1 : (i 1).val < 24576 := (i 1).isLt
  refine (congrArg (str16V (projV x w)) hi).trans ?_
  rw [str16V_at (projV x w) (i 0) (i 1) ⟨(16 * (i 0).val + (i 1).val % 8192 / 512) / 8192, by omega⟩ ⟨(16 * (i 0).val + (i 1).val % 8192 / 512) % 8192, by omega⟩
    ⟨1536 * ((i 1).val / 8192) + 1024 + (i 1).val % 512, by omega⟩ rfl rfl rfl, projV_at]
  exact prj_of (xE x) (wE w) _ _ _ _ rfl rfl

variable (m : (ℓ : Loc nD τ sig) → Buf (Elt Ideal) ℓ) (ρ : Dev nD → PrngReg)

/-- The reference's run with its three results and its arguments. -/
theorem run_values : θ_run defs (onTc (τ := τ) (main (F := Ideal))) ⟨m, fun _ => 0, ρ⟩ (fun r => ∀ c : Dev nD,
    r.2.mem ((c.tc : Thread nD τ).loc main_v10) = keptV (projV (m (c.tc.loc main_arg0)) (m (c.tc.loc main_arg1)))
      ∧ r.2.mem ((c.tc : Thread nD τ).loc main_v15) = str4V (projV (m (c.tc.loc main_arg0)) (m (c.tc.loc main_arg1)))
      ∧ r.2.mem ((c.tc : Thread nD τ).loc main_v20) = str16V (projV (m (c.tc.loc main_arg0)) (m (c.tc.loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Cert.Reference2Ideal.Value.run m ρ

end Cert.Reference2Ideal.Vals

end
-- ==== Proof.MixSpec.lean ====
/-
  One token of the mix over the extended reals: the groups' weights, the merged heads, the gated branches, the output
  product, the residual and its norm.
-/
module

public import Idealize.ShloMosaic.Lib.Pointwise

@[expose] public section

noncomputable section

open Idealize.ShloMosaic

namespace Cert.Mix

/-- The largest of the three groups. -/
def top (l : Fin 3 → EReal) : EReal := max (max (l 0) (l 1)) (l 2)

def ex (l : Fin 3 → EReal) (g : Fin 3) : EReal := Ideal.exp (l g - top l)

/-- A group's weight: the softmax over the three groups. -/
def wt (l : Fin 3 → EReal) (g : Fin 3) : EReal := Ideal.div (ex l g) (∑ a, ex l a)

/-- The same with the sum inverted first. -/
def wtInv (l : Fin 3 → EReal) (g : Fin 3) : EReal := ex l g * Ideal.div 1 (ex l 0 + ex l 1 + ex l 2)

/-- Column `w` of the merged heads, from the three groups' outputs and the weights. -/
def heads (W : Fin 4 → Fin 3 → EReal) (o : Fin 3 → Fin 512 → EReal) (w : Fin 512) : EReal :=
  ∑ g, W ⟨w.val / 128, by have := w.isLt; omega⟩ g * o g w

/-- The three gated branches, widened and summed. -/
def merged (br : Fin 3 → Fin 512 → EReal) (p b : Fin 3 → Fin 1024 → EReal) (wb : Fin 3 → Fin 512 → Fin 1024 → EReal) (d : Fin 1024) : EReal :=
  ∑ g, Ideal.logistic (p g d + b g d) * ∑ w, br g w * wb g w d

/-- The residual with the mix. -/
def resid (x : Fin 1024 → EReal) (mg : Fin 1024 → EReal) (wo : Fin 1024 → Fin 1024 → EReal) (e : Fin 1024) : EReal :=
  Ideal.ofBits .f32 1066940400#32 * x e + ∑ d, mg d * wo d e

def mean (t : Fin 1024 → EReal) : EReal := Ideal.div (∑ e, t e) (Ideal.ofBits .f32 1149239296#32)

/-- The layer norm. -/
def norm (t ga be : Fin 1024 → EReal) (e : Fin 1024) : EReal :=
  (t e - mean t) * Ideal.rsqrt (mean (fun e => (t e - mean t) * (t e - mean t)) + Ideal.ofBits .f32 925353388#32) * ga e + be e

/-- A token's row of the result. -/
def out (W : Fin 4 → Fin 3 → EReal) (o : Fin 3 → Fin 512 → EReal) (hg mem : Fin 512 → EReal) (p b : Fin 3 → Fin 1024 → EReal)
    (wb : Fin 3 → Fin 512 → Fin 1024 → EReal) (wo : Fin 1024 → Fin 1024 → EReal) (x ga be : Fin 1024 → EReal) : Fin 1024 → EReal :=
  norm (resid x (merged ![heads W o, hg, mem] p b wb) wo) ga be

theorem exp_coe (r : ℝ) : Ideal.exp (r : EReal) = ((Real.exp r : ℝ) : EReal) := rfl

/-- On finite entries the two forms of the weight agree: the sum isn't zero. -/
theorem wtInv_eq (l : Fin 3 → EReal) (h : ∀ g, ∃ r : ℝ, l g = (r : EReal)) (g : Fin 3) : wtInv l g = wt l g := by
  obtain ⟨a, ha⟩ := h 0
  obtain ⟨b, hb⟩ := h 1
  obtain ⟨c, hc⟩ := h 2
  have ht : top l = ((max (max a b) c : ℝ) : EReal) := by
    unfold top
    rw [ha, hb, hc, ← EReal.coe_strictMono.monotone.map_max, ← EReal.coe_strictMono.monotone.map_max]
  have h0 : ex l 0 = ((Real.exp (a - max (max a b) c) : ℝ) : EReal) := by
    unfold ex
    rw [ht, ha, ← EReal.coe_sub, exp_coe]
  have h1 : ex l 1 = ((Real.exp (b - max (max a b) c) : ℝ) : EReal) := by
    unfold ex
    rw [ht, hb, ← EReal.coe_sub, exp_coe]
  have h2 : ex l 2 = ((Real.exp (c - max (max a b) c) : ℝ) : EReal) := by
    unfold ex
    rw [ht, hc, ← EReal.coe_sub, exp_coe]
  have hs : ex l 0 + ex l 1 + ex l 2 ≠ 0 := by
    rw [h0, h1, h2, ← EReal.coe_add, ← EReal.coe_add]
    intro hz
    have hz' : Real.exp (a - max (max a b) c) + Real.exp (b - max (max a b) c) + Real.exp (c - max (max a b) c) = 0 := by exact_mod_cast hz
    have p0 := Real.exp_pos (a - max (max a b) c)
    have p1 := Real.exp_pos (b - max (max a b) c)
    have p2 := Real.exp_pos (c - max (max a b) c)
    linarith
  unfold wtInv wt
  rw [Fin.sum_univ_three]
  unfold Ideal.div
  rw [if_neg hs, if_neg hs, one_mul]

/-- A value below infinity in size is a real number. -/
theorem real_of_abs_lt {x : EReal} (h0 : x ≠ ⊤) (h1 : x ≠ ⊥) : ∃ r : ℝ, x = (r : EReal) := by
  induction x with
  | bot => exact absurd rfl h1
  | top => exact absurd rfl h0
  | coe r => exact ⟨r, rfl⟩

end Cert.Mix

end
-- ==== Proof.MixKer.lean ====
/-
  What the body leaves in its result block, entry by entry, from its input blocks.
-/
module

public import proofs.«01_k».proof.Proof.Gen.Kernel3Ideal.Value
public import proofs.«01_k».proof.Proof.MixSpec
public import Idealize.ShloMosaic.Lib.Pointwise

@[expose] public section

set_option maxRecDepth 65536
set_option maxErrors 8

noncomputable section

namespace Cert.Kernel3Ideal.Mix

open Idealize.ShloMosaic Idealize.ShloMosaic.TcCoe Idealize.SL.Sem
open Cert.Kernel3Ideal.Gen Cert.Mix

/-- The three groups' entries of a row's lane. -/
abbrev ls (v0 v1 v2 : Vec Ideal S512x128 .f32) (r : Fin 512) (h : Fin 128) : Fin 3 → EReal := ![v0 (ix2 r h), v1 (ix2 r h), v2 (ix2 r h)]

theorem pay6_at (v0 v1 v2 : Vec Ideal S512x128 .f32) (r : Fin 512) (h : Fin 128) : k0_pay6 v0 v1 v2 (ix2 r h) = wtInv (ls v0 v1 v2 r h) 0 := by
  pointwise [k0_pay6, k0_pay5, k0_pay4, k0_pay3, k0_pay2, k0_pay1]
  rfl

theorem pay7_at (v0 v1 v2 : Vec Ideal S512x128 .f32) (r : Fin 512) (h : Fin 128) : k0_pay7 v0 v1 v2 (ix2 r h) = wtInv (ls v0 v1 v2 r h) 1 := by
  pointwise [k0_pay7, k0_pay5, k0_pay4, k0_pay3, k0_pay2, k0_pay1]
  rfl

theorem pay8_at (v0 v1 v2 : Vec Ideal S512x128 .f32) (r : Fin 512) (h : Fin 128) : k0_pay8 v0 v1 v2 (ix2 r h) = wtInv (ls v0 v1 v2 r h) 2 := by
  pointwise [k0_pay8, k0_pay5, k0_pay4, k0_pay3, k0_pay2, k0_pay1]
  rfl

theorem heads_of (W : Fin 128 → Fin 3 → EReal) (x1 x2 x3 : Fin 512 → EReal) (w w' : Fin 512) (h : Fin 128) (hh : h.val = w.val / 128) (hw : w'.val = w.val) :
    W h 0 * x1 w' + W h 1 * x2 w' + W h 2 * x3 w' = heads (fun k => W ⟨k.val, by omega⟩) ![x1, x2, x3] w := by
  obtain rfl : w' = w := Fin.ext hw
  obtain ⟨h, hlt⟩ := h
  dsimp only at hh
  subst hh
  unfold heads
  rw [Fin.sum_univ_three]
  rfl

/-- The merged heads as the body holds them. -/
def headsV (x1 x2 x3 : Vec Ideal S512x512 .bf16) (v0 v1 v2 : Vec Ideal S512x128 .f32) : FVec Ideal S512x512 .bf16 :=
  k0_pay12 (k0_pay6 v0 v1 v2) (k0_pay7 v0 v1 v2) (k0_pay8 v0 v1 v2) (k0_pay9 v0 v1 v2 (View.ld x1 r0_1) (View.ld x2 r0_1) (View.ld x3 r0_1))
    (k0_pay10 v0 v1 v2 (View.ld x1 r0_2)) (k0_pay11 v0 v1 v2) (View.ld x2 r0_2) (View.ld x3 r0_2) (View.ld x1 r0_3) (View.ld x2 r0_3) (View.ld x3 r0_3)
    (View.ld x1 r0_4) (View.ld x2 r0_4) (View.ld x3 r0_4)

theorem headsV_at (x1 x2 x3 : Vec Ideal S512x512 .bf16) (v0 v1 v2 : Vec Ideal S512x128 .f32) (r : Fin 512) (w : Fin 512) :
    headsV x1 x2 x3 v0 v1 v2 (ix2 r w)
      = heads (fun h => wtInv (ls v0 v1 v2 r ⟨h.val, by omega⟩)) ![fun w => x1 (ix2 r w), fun w => x2 (ix2 r w), fun w => x3 (ix2 r w)] w := by
  pointwise [headsV, k0_pay12, k0_pay9, k0_pay10, k0_pay11, pay6_at, pay7_at, pay8_at]
  have hw := w.isLt
  split
  · exact heads_of (fun h => wtInv (ls v0 v1 v2 r h)) (fun w => x1 (ix2 r w)) (fun w => x2 (ix2 r w)) (fun w => x3 (ix2 r w)) w w 0 (by show 0 = _; omega) rfl
  · split
    · exact heads_of (fun h => wtInv (ls v0 v1 v2 r h)) (fun w => x1 (ix2 r w)) (fun w => x2 (ix2 r w)) (fun w => x3 (ix2 r w)) w ⟨128 + (w.val - 128), by omega⟩ 1
        (by show 1 = _; omega) (by dsimp only; omega)
    · split
      · exact heads_of (fun h => wtInv (ls v0 v1 v2 r h)) (fun w => x1 (ix2 r w)) (fun w => x2 (ix2 r w)) (fun w => x3 (ix2 r w)) w ⟨256 + (w.val - 128 - 128), by omega⟩ 2
          (by show 2 = _; omega) (by dsimp only; omega)
      · exact heads_of (fun h => wtInv (ls v0 v1 v2 r h)) (fun w => x1 (ix2 r w)) (fun w => x2 (ix2 r w)) (fun w => x3 (ix2 r w)) w ⟨384 + (w.val - 128 - 128 - 128), by omega⟩ 3
          (by show 3 = _; omega) (by dsimp only; omega)

theorem pay13_at (v87 : FVec Ideal S512x512 .bf16) (v88 : Vec Ideal S512x512 .bf16) (v90 : Vec Ideal S512x1024 .bf16) (v92 : Vec Ideal S1x1024 .f32)
    (v97 : Vec Ideal S1x512x1024 .bf16) (v101 : Vec Ideal S512x1024 .bf16) (v103 : Vec Ideal S1x1024 .f32) (v108 : Vec Ideal S1x512x1024 .bf16) (r : Fin 512) (d : Fin 1024) :
    k0_pay13 v87 v88 v90 v92 v97 v101 v103 v108 (ix2 r d)
      = Ideal.logistic (v90 (ix2 r d) + v92 (ix2 0 d)) * (∑ w : Fin 512, v87 (ix2 r w) * v97 (ix3 0 w d))
        + Ideal.logistic (v101 (ix2 r d) + v103 (ix2 0 d)) * (∑ w : Fin 512, v88 (ix2 r w) * v108 (ix3 0 w d)) := by
  pointwise [k0_pay13]

theorem pay14_at (v113 : Vec Ideal S512x1024 .bf16) (v115 : Vec Ideal S1x1024 .f32) (r : Fin 512) (d : Fin 1024) :
    k0_pay14 v113 v115 (ix2 r d) = Ideal.logistic (v113 (ix2 r d) + v115 (ix2 0 d)) := by
  pointwise [k0_pay14]

theorem pay15_at (v89 : Vec Ideal S512x512 .bf16) (v112 v119 : FVec Ideal S512x1024 .f32) (v120 : Vec Ideal S1x512x1024 .bf16) (v126 : Vec Ideal S1024x1024 .bf16)
    (v129 : Vec Ideal S512x1024 .f32) (v134 v136 : Vec Ideal S1x1024 .f32) (r : Fin 512) (e : Fin 1024) :
    k0_pay15 v89 v112 v119 v120 v126 v129 v134 v136 (ix2 r e)
      = norm (resid (fun e => v129 (ix2 r e)) (fun d => v112 (ix2 r d) + v119 (ix2 r d) * ∑ w : Fin 512, v89 (ix2 r w) * v120 (ix3 0 w d)) (fun d e => v126 (ix2 d e)))
        (fun e => v134 (ix2 0 e)) (fun e => v136 (ix2 0 e)) e := by
  pointwise [k0_pay15]
  rfl

variable (x0 : Vec Ideal S512x1024 .f32) (x1 x2 x3 : Vec Ideal S512x512 .bf16) (x4 x5 x6 : Vec Ideal S512x128 .f32) (x7 x8 : Vec Ideal S512x512 .bf16)
  (x9 x10 x11 : Vec Ideal S512x1024 .bf16) (x12 : Vec Ideal S3x1024 .f32) (x13 : Vec Ideal S3x512x1024 .bf16) (x14 : Vec Ideal S1024x1024 .bf16)
  (x15 x16 : Vec Ideal S1x1024 .f32)

/-- The result block. -/
def bodyV : FVec Ideal S512x1024 .f32 :=
  k0_pay15 x8 (k0_pay13 (headsV x1 x2 x3 x4 x5 x6) x7 x9 (View.ld x12 r0_7) (View.ld x13 r0_8) x10 (View.ld x12 r0_9) (View.ld x13 r0_10))
    (k0_pay14 x11 (View.ld x12 r0_11)) (View.ld x13 r0_12) x14 x0 x15 x16

theorem hz : (![0, 0] : Fin 2 → Nat) = fun _ => 0 := by decide

theorem ld_0 (x : Vec Ideal S512x128 .f32) : View.ld x r0_0 = x := View.ld_unit_zero hz _ x
theorem ld_5 (x : Vec Ideal S512x512 .bf16) : View.ld x r0_5 = x := View.ld_unit_zero hz _ x
theorem ld_6 {e : EltTy} (x : Vec Ideal S512x1024 e) : View.ld x r0_6 = x := View.ld_unit_zero hz _ x
theorem ld_13 (x : Vec Ideal S1024x1024 .bf16) : View.ld x r0_13 = x := View.ld_unit_zero hz _ x
theorem ld_14 (x : Vec Ideal S1x1024 .f32) : View.ld x r0_14 = x := View.ld_unit_zero hz _ x

theorem out_eq : out0_17 x0 x1 x2 x3 x4 x5 x6 x7 x8 x9 x10 x11 x12 x13 x14 x15 x16 = bodyV x0 x1 x2 x3 x4 x5 x6 x7 x8 x9 x10 x11 x12 x13 x14 x15 x16 := by
  unfold out0_17
  rw [View.canon_unit_zero (S := S512x1024) hz]
  unfold bodyV headsV
  simp only [ld_0, ld_5, ld_6, ld_13, ld_14]

theorem bodyV_at (r : Fin 512) (e : Fin 1024) :
    bodyV x0 x1 x2 x3 x4 x5 x6 x7 x8 x9 x10 x11 x12 x13 x14 x15 x16 (ix2 r e)
      = out (fun h => wtInv (ls x4 x5 x6 r ⟨h.val, by omega⟩)) ![fun w => x1 (ix2 r w), fun w => x2 (ix2 r w), fun w => x3 (ix2 r w)]
        (fun w => x7 (ix2 r w)) (fun w => x8 (ix2 r w)) ![fun d => x9 (ix2 r d), fun d => x10 (ix2 r d), fun d => x11 (ix2 r d)]
        (fun g d => x12 (ix2 g d)) (fun g w d => x13 (ix3 g w d)) (fun d e => x14 (ix2 d e)) (fun e => x0 (ix2 r e)) (fun e => x15 (ix2 0 e))
        (fun e => x16 (ix2 0 e)) e := by
  unfold bodyV
  rw [pay15_at]
  unfold out
  congr 2
  funext d
  rw [pay13_at, pay14_at]
  unfold merged
  rw [Fin.sum_univ_three]
  pointwise [headsV_at]

end Cert.Kernel3Ideal.Mix

end
-- ==== Proof.MixOut.lean ====
/-
  The mix's result array, entry by entry.
-/
module

public import proofs.«01_k».proof.Proof.MixKer
public import Idealize.ShloMosaic.Lib.Pipeline.Value

@[expose] public section

set_option maxRecDepth 65536
set_option maxErrors 8

noncomputable section

namespace Cert.Kernel3Ideal.Mix

open Idealize.ShloMosaic Idealize.ShloMosaic.TcCoe Idealize.ShloMosaic.Tactic Idealize.SL.Sem
open Idealize.ShloMosaic.Pipeline (Dat Cfg Window)
open Cert.Kernel3Ideal.Gen Cert.Mix

variable (m : (ℓ : Loc nD τ sig) → Buf (Elt Ideal) ℓ) (ρ : Dev nD → PrngReg) (c : Dev nD)

/-! ## The arrays as launched -/

abbrev A0 : Vec Ideal S8x8192x1024 .f32 := m (c.tc.loc main_arg0)
abbrev A1 : Vec Ideal S65536x512 .bf16 := m (c.tc.loc main_arg1)
abbrev A2 : Vec Ideal S65536x512 .bf16 := m (c.tc.loc main_arg2)
abbrev A3 : Vec Ideal S65536x512 .bf16 := m (c.tc.loc main_arg3)
abbrev A4 : Vec Ideal S65536x128 .f32 := m (c.tc.loc main_arg4)
abbrev A5 : Vec Ideal S65536x128 .f32 := m (c.tc.loc main_arg5)
abbrev A6 : Vec Ideal S65536x128 .f32 := m (c.tc.loc main_arg6)
abbrev A7 : Vec Ideal S65536x512 .bf16 := m (c.tc.loc main_arg7)
abbrev A8 : Vec Ideal S65536x512 .bf16 := m (c.tc.loc main_arg8)
abbrev A9 : Vec Ideal S65536x7168 .bf16 := m (c.tc.loc main_arg9)
abbrev A10 : Vec Ideal S1x3072 .f32 := m (c.tc.loc main_arg10)
abbrev A11 : Vec Ideal S1x3x512x1024 .f32 := m (c.tc.loc main_arg11)
abbrev A12 : Vec Ideal S1x1024x1024 .f32 := m (c.tc.loc main_arg12)
abbrev A13 : Vec Ideal S1x1024 .f32 := m (c.tc.loc main_arg13)
abbrev A14 : Vec Ideal S1x1024 .f32 := m (c.tc.loc main_arg14)

/-! ## The arrays that the call takes, from those -/

def rowsOf (X : Vec Ideal S8x8192x1024 .f32) : Vec Ideal S65536x1024 .f32 := shapeCast S65536x1024 X shapeCasts_S8x8192x1024_S65536x1024

def biasOf (X : Vec Ideal S1x3072 .f32) : Vec Ideal S3x1024 .f32 :=
  shapeCast S3x1024 (shapeCast S3072 X shapeCasts_S1x3072_S3072) shapeCasts_S3072_S3x1024

def widenOf (X : Vec Ideal S1x3x512x1024 .f32) : FVec Ideal S3x512x1024 .bf16 :=
  truncf (F := Ideal) .bf16 (shapeCast S3x512x1024 X shapeCasts_S1x3x512x1024_S3x512x1024) bitsLt_bf16_f32

def woutOf (X : Vec Ideal S1x1024x1024 .f32) : FVec Ideal S1024x1024 .bf16 :=
  truncf (F := Ideal) .bf16 (shapeCast S1024x1024 X shapeCasts_S1x1024x1024_S1024x1024) bitsLt_bf16_f32

def lineOf (X : Vec Ideal S1x1024 .f32) : Vec Ideal S1x1024 .f32 :=
  shapeCast S1x1024 (shapeCast S1024 X shapeCasts_S1x1024_S1024) shapeCasts_S1024_S1x1024

theorem V0 : (V m c main_v0 : Vec Ideal S65536x1024 .f32) = rowsOf (A0 m c) := by
  unfold rowsOf
  unfold_abbrev_sides
  after_results
  rfl

theorem V8 : (V m c main_v8 : Vec Ideal S3x1024 .f32) = biasOf (A10 m c) := by
  unfold biasOf
  unfold_abbrev_sides
  after_results
  rfl

theorem V3 : (V m c main_v3 : Vec Ideal S3x512x1024 .bf16) = widenOf (A11 m c) := by
  unfold widenOf
  unfold_abbrev_sides
  after_results
  rfl

theorem V5 : (V m c main_v5 : Vec Ideal S1024x1024 .bf16) = woutOf (A12 m c) := by
  unfold woutOf
  unfold_abbrev_sides
  after_results
  rfl

theorem V9 : (V m c main_v9 : Vec Ideal S1x1024 .f32) = lineOf (A13 m c) := by
  unfold lineOf
  unfold_abbrev_sides
  after_results
  rfl

theorem V10 : (V m c main_v10 : Vec Ideal S1x1024 .f32) = lineOf (A14 m c) := by
  unfold lineOf
  unfold_abbrev_sides
  after_results
  rfl

theorem rowsOf_at (X : Vec Ideal S8x8192x1024 .f32) (R : Fin 65536) (k : Fin 1024) :
    rowsOf X (ix2 R k) = X (ix3 ⟨R.val / 8192, by omega⟩ ⟨R.val % 8192, by omega⟩ k) := by
  pointwise [rowsOf]

theorem biasOf_at (X : Vec Ideal S1x3072 .f32) (g : Fin 3) (d : Fin 1024) : biasOf X (ix2 g d) = X (ix2 0 ⟨1024 * g.val + d.val, by omega⟩) := by
  pointwise [biasOf]
  refine congrArg (fun k => X (ix2 0 k)) (Fin.ext ?_)
  dsimp only
  omega

theorem widenOf_at (X : Vec Ideal S1x3x512x1024 .f32) (g : Fin 3) (w : Fin 512) (d : Fin 1024) : widenOf X (ix3 g w d) = (X (ix4 0 g w d) : EReal) := by
  pointwise [widenOf]

theorem woutOf_at (X : Vec Ideal S1x1024x1024 .f32) (d e : Fin 1024) : woutOf X (ix2 d e) = (X (ix3 0 d e) : EReal) := by
  pointwise [woutOf]

theorem lineOf_at (X : Vec Ideal S1x1024 .f32) (e : Fin 1024) : lineOf X (ix2 0 e) = X (ix2 0 e) := by
  pointwise [lineOf]

/-! ## The blocks -/

theorem blk0 (t : Fin cfg0.N) (r : Fin 512) (k : Fin 1024) (R : Fin 65536) (hR : R.val = 512 * t.val + r.val) :
    (iblk m c 0 t : Vec Ideal S512x1024 .f32) (ix2 r k) = rowsOf (A0 m c) (ix2 R k) := by
  have e : ∀ t : Fin cfg0.N, win0_0.index t (0 : Fin 2) = t.val ∧ win0_0.index t (1 : Fin 2) = 0 := (by decide +kernel : ∀ t : Fin grid0.N, _)
  obtain ⟨e0, e1⟩ := e t
  unfold iblk
  rw [View.read_apply]
  show V m c main_v0 _ = _
  rw [V0]
  congr 1
  funext a
  apply Fin.ext
  match a with
  | ⟨0, _⟩ => show win0_0.index t 0 * 512 + 1 * r.val = R.val; rw [e0]; omega
  | ⟨1, _⟩ => show win0_0.index t 1 * 1024 + 1 * k.val = k.val; rw [e1]; omega

theorem blk1 (t : Fin cfg0.N) (r : Fin 512) (k : Fin 512) (R : Fin 65536) (hR : R.val = 512 * t.val + r.val) :
    (iblk m c 1 t : Vec Ideal S512x512 .bf16) (ix2 r k) = A1 m c (ix2 R k) := by
  have e : ∀ t : Fin cfg0.N, win0_1.index t (0 : Fin 2) = t.val ∧ win0_1.index t (1 : Fin 2) = 0 := (by decide +kernel : ∀ t : Fin grid0.N, _)
  obtain ⟨e0, e1⟩ := e t
  unfold iblk
  rw [View.read_apply]
  show V m c main_arg1 _ = _
  rw [V_main_arg1]
  congr 1
  funext a
  apply Fin.ext
  match a with
  | ⟨0, _⟩ => show win0_1.index t 0 * 512 + 1 * r.val = R.val; rw [e0]; omega
  | ⟨1, _⟩ => show win0_1.index t 1 * 512 + 1 * k.val = k.val; rw [e1]; omega

theorem blk2 (t : Fin cfg0.N) (r : Fin 512) (k : Fin 512) (R : Fin 65536) (hR : R.val = 512 * t.val + r.val) :
    (iblk m c 2 t : Vec Ideal S512x512 .bf16) (ix2 r k) = A2 m c (ix2 R k) := by
  have e : ∀ t : Fin cfg0.N, win0_2.index t (0 : Fin 2) = t.val ∧ win0_2.index t (1 : Fin 2) = 0 := (by decide +kernel : ∀ t : Fin grid0.N, _)
  obtain ⟨e0, e1⟩ := e t
  unfold iblk
  rw [View.read_apply]
  show V m c main_arg2 _ = _
  rw [V_main_arg2]
  congr 1
  funext a
  apply Fin.ext
  match a with
  | ⟨0, _⟩ => show win0_2.index t 0 * 512 + 1 * r.val = R.val; rw [e0]; omega
  | ⟨1, _⟩ => show win0_2.index t 1 * 512 + 1 * k.val = k.val; rw [e1]; omega

theorem blk3 (t : Fin cfg0.N) (r : Fin 512) (k : Fin 512) (R : Fin 65536) (hR : R.val = 512 * t.val + r.val) :
    (iblk m c 3 t : Vec Ideal S512x512 .bf16) (ix2 r k) = A3 m c (ix2 R k) := by
  have e : ∀ t : Fin cfg0.N, win0_3.index t (0 : Fin 2) = t.val ∧ win0_3.index t (1 : Fin 2) = 0 := (by decide +kernel : ∀ t : Fin grid0.N, _)
  obtain ⟨e0, e1⟩ := e t
  unfold iblk
  rw [View.read_apply]
  show V m c main_arg3 _ = _
  rw [V_main_arg3]
  congr 1
  funext a
  apply Fin.ext
  match a with
  | ⟨0, _⟩ => show win0_3.index t 0 * 512 + 1 * r.val = R.val; rw [e0]; omega
  | ⟨1, _⟩ => show win0_3.index t 1 * 512 + 1 * k.val = k.val; rw [e1]; omega

theorem blk4 (t : Fin cfg0.N) (r : Fin 512) (k : Fin 128) (R : Fin 65536) (hR : R.val = 512 * t.val + r.val) :
    (iblk m c 4 t : Vec Ideal S512x128 .f32) (ix2 r k) = A4 m c (ix2 R k) := by
  have e : ∀ t : Fin cfg0.N, win0_4.index t (0 : Fin 2) = t.val ∧ win0_4.index t (1 : Fin 2) = 0 := (by decide +kernel : ∀ t : Fin grid0.N, _)
  obtain ⟨e0, e1⟩ := e t
  unfold iblk
  rw [View.read_apply]
  show V m c main_arg4 _ = _
  rw [V_main_arg4]
  congr 1
  funext a
  apply Fin.ext
  match a with
  | ⟨0, _⟩ => show win0_4.index t 0 * 512 + 1 * r.val = R.val; rw [e0]; omega
  | ⟨1, _⟩ => show win0_4.index t 1 * 128 + 1 * k.val = k.val; rw [e1]; omega

theorem blk5 (t : Fin cfg0.N) (r : Fin 512) (k : Fin 128) (R : Fin 65536) (hR : R.val = 512 * t.val + r.val) :
    (iblk m c 5 t : Vec Ideal S512x128 .f32) (ix2 r k) = A5 m c (ix2 R k) := by
  have e : ∀ t : Fin cfg0.N, win0_5.index t (0 : Fin 2) = t.val ∧ win0_5.index t (1 : Fin 2) = 0 := (by decide +kernel : ∀ t : Fin grid0.N, _)
  obtain ⟨e0, e1⟩ := e t
  unfold iblk
  rw [View.read_apply]
  show V m c main_arg5 _ = _
  rw [V_main_arg5]
  congr 1
  funext a
  apply Fin.ext
  match a with
  | ⟨0, _⟩ => show win0_5.index t 0 * 512 + 1 * r.val = R.val; rw [e0]; omega
  | ⟨1, _⟩ => show win0_5.index t 1 * 128 + 1 * k.val = k.val; rw [e1]; omega

theorem blk6 (t : Fin cfg0.N) (r : Fin 512) (k : Fin 128) (R : Fin 65536) (hR : R.val = 512 * t.val + r.val) :
    (iblk m c 6 t : Vec Ideal S512x128 .f32) (ix2 r k) = A6 m c (ix2 R k) := by
  have e : ∀ t : Fin cfg0.N, win0_6.index t (0 : Fin 2) = t.val ∧ win0_6.index t (1 : Fin 2) = 0 := (by decide +kernel : ∀ t : Fin grid0.N, _)
  obtain ⟨e0, e1⟩ := e t
  unfold iblk
  rw [View.read_apply]
  show V m c main_arg6 _ = _
  rw [V_main_arg6]
  congr 1
  funext a
  apply Fin.ext
  match a with
  | ⟨0, _⟩ => show win0_6.index t 0 * 512 + 1 * r.val = R.val; rw [e0]; omega
  | ⟨1, _⟩ => show win0_6.index t 1 * 128 + 1 * k.val = k.val; rw [e1]; omega

theorem blk7 (t : Fin cfg0.N) (r : Fin 512) (k : Fin 512) (R : Fin 65536) (hR : R.val = 512 * t.val + r.val) :
    (iblk m c 7 t : Vec Ideal S512x512 .bf16) (ix2 r k) = A7 m c (ix2 R k) := by
  have e : ∀ t : Fin cfg0.N, win0_7.index t (0 : Fin 2) = t.val ∧ win0_7.index t (1 : Fin 2) = 0 := (by decide +kernel : ∀ t : Fin grid0.N, _)
  obtain ⟨e0, e1⟩ := e t
  unfold iblk
  rw [View.read_apply]
  show V m c main_arg7 _ = _
  rw [V_main_arg7]
  congr 1
  funext a
  apply Fin.ext
  match a with
  | ⟨0, _⟩ => show win0_7.index t 0 * 512 + 1 * r.val = R.val; rw [e0]; omega
  | ⟨1, _⟩ => show win0_7.index t 1 * 512 + 1 * k.val = k.val; rw [e1]; omega

theorem blk8 (t : Fin cfg0.N) (r : Fin 512) (k : Fin 512) (R : Fin 65536) (hR : R.val = 512 * t.val + r.val) :
    (iblk m c 8 t : Vec Ideal S512x512 .bf16) (ix2 r k) = A8 m c (ix2 R k) := by
  have e : ∀ t : Fin cfg0.N, win0_8.index t (0 : Fin 2) = t.val ∧ win0_8.index t (1 : Fin 2) = 0 := (by decide +kernel : ∀ t : Fin grid0.N, _)
  obtain ⟨e0, e1⟩ := e t
  unfold iblk
  rw [View.read_apply]
  show V m c main_arg8 _ = _
  rw [V_main_arg8]
  congr 1
  funext a
  apply Fin.ext
  match a with
  | ⟨0, _⟩ => show win0_8.index t 0 * 512 + 1 * r.val = R.val; rw [e0]; omega
  | ⟨1, _⟩ => show win0_8.index t 1 * 512 + 1 * k.val = k.val; rw [e1]; omega

theorem blk9 (t : Fin cfg0.N) (r : Fin 512) (k : Fin 1024) (R : Fin 65536) (hR : R.val = 512 * t.val + r.val) :
    (iblk m c 9 t : Vec Ideal S512x1024 .bf16) (ix2 r k) = A9 m c (ix2 R ⟨4096 + k.val, by omega⟩) := by
  have e : ∀ t : Fin cfg0.N, win0_9.index t (0 : Fin 2) = t.val ∧ win0_9.index t (1 : Fin 2) = 4 := (by decide +kernel : ∀ t : Fin grid0.N, _)
  obtain ⟨e0, e1⟩ := e t
  unfold iblk
  rw [View.read_apply]
  show V m c main_arg9 _ = _
  rw [V_main_arg9]
  congr 1
  funext a
  apply Fin.ext
  match a with
  | ⟨0, _⟩ => show win0_9.index t 0 * 512 + 1 * r.val = R.val; rw [e0]; omega
  | ⟨1, _⟩ => show win0_9.index t 1 * 1024 + 1 * k.val = 4096 + k.val; rw [e1]; omega

theorem blk10 (t : Fin cfg0.N) (r : Fin 512) (k : Fin 1024) (R : Fin 65536) (hR : R.val = 512 * t.val + r.val) :
    (iblk m c 10 t : Vec Ideal S512x1024 .bf16) (ix2 r k) = A9 m c (ix2 R ⟨5120 + k.val, by omega⟩) := by
  have e : ∀ t : Fin cfg0.N, win0_10.index t (0 : Fin 2) = t.val ∧ win0_10.index t (1 : Fin 2) = 5 := (by decide +kernel : ∀ t : Fin grid0.N, _)
  obtain ⟨e0, e1⟩ := e t
  unfold iblk
  rw [View.read_apply]
  show V m c main_arg9 _ = _
  rw [V_main_arg9]
  congr 1
  funext a
  apply Fin.ext
  match a with
  | ⟨0, _⟩ => show win0_10.index t 0 * 512 + 1 * r.val = R.val; rw [e0]; omega
  | ⟨1, _⟩ => show win0_10.index t 1 * 1024 + 1 * k.val = 5120 + k.val; rw [e1]; omega

theorem blk11 (t : Fin cfg0.N) (r : Fin 512) (k : Fin 1024) (R : Fin 65536) (hR : R.val = 512 * t.val + r.val) :
    (iblk m c 11 t : Vec Ideal S512x1024 .bf16) (ix2 r k) = A9 m c (ix2 R ⟨6144 + k.val, by omega⟩) := by
  have e : ∀ t : Fin cfg0.N, win0_11.index t (0 : Fin 2) = t.val ∧ win0_11.index t (1 : Fin 2) = 6 := (by decide +kernel : ∀ t : Fin grid0.N, _)
  obtain ⟨e0, e1⟩ := e t
  unfold iblk
  rw [View.read_apply]
  show V m c main_arg9 _ = _
  rw [V_main_arg9]
  congr 1
  funext a
  apply Fin.ext
  match a with
  | ⟨0, _⟩ => show win0_11.index t 0 * 512 + 1 * r.val = R.val; rw [e0]; omega
  | ⟨1, _⟩ => show win0_11.index t 1 * 1024 + 1 * k.val = 6144 + k.val; rw [e1]; omega

theorem blk12 (t : Fin cfg0.N) (a0 : Fin 3) (a1 : Fin 1024) :
    (iblk m c 12 t : Vec Ideal S3x1024 .f32) (ix2 a0 a1) = biasOf (A10 m c) (ix2 a0 a1) := by
  have e : ∀ t : Fin cfg0.N, win0_12.index t (0 : Fin 2) = 0 ∧ win0_12.index t (1 : Fin 2) = 0 := (by decide +kernel : ∀ t : Fin grid0.N, _)
  obtain ⟨e0, e1⟩ := e t
  unfold iblk
  rw [View.read_apply]
  show V m c main_v8 _ = _
  rw [V8]
  congr 1
  funext a
  apply Fin.ext
  match a with
  | ⟨0, _⟩ => show win0_12.index t 0 * 3 + 1 * a0.val = a0.val; rw [e0]; omega
  | ⟨1, _⟩ => show win0_12.index t 1 * 1024 + 1 * a1.val = a1.val; rw [e1]; omega

theorem blk13 (t : Fin cfg0.N) (a0 : Fin 3) (a1 : Fin 512) (a2 : Fin 1024) :
    (iblk m c 13 t : Vec Ideal S3x512x1024 .bf16) (ix3 a0 a1 a2) = widenOf (A11 m c) (ix3 a0 a1 a2) := by
  have e : ∀ t : Fin cfg0.N, win0_13.index t (0 : Fin 3) = 0 ∧ win0_13.index t (1 : Fin 3) = 0 ∧ win0_13.index t (2 : Fin 3) = 0 := (by decide +kernel : ∀ t : Fin grid0.N, _)
  obtain ⟨e0, e1, e2⟩ := e t
  unfold iblk
  rw [View.read_apply]
  show V m c main_v3 _ = _
  rw [V3]
  congr 1
  funext a
  apply Fin.ext
  match a with
  | ⟨0, _⟩ => show win0_13.index t 0 * 3 + 1 * a0.val = a0.val; rw [e0]; omega
  | ⟨1, _⟩ => show win0_13.index t 1 * 512 + 1 * a1.val = a1.val; rw [e1]; omega
  | ⟨2, _⟩ => show win0_13.index t 2 * 1024 + 1 * a2.val = a2.val; rw [e2]; omega

theorem blk14 (t : Fin cfg0.N) (a0 : Fin 1024) (a1 : Fin 1024) :
    (iblk m c 14 t : Vec Ideal S1024x1024 .bf16) (ix2 a0 a1) = woutOf (A12 m c) (ix2 a0 a1) := by
  have e : ∀ t : Fin cfg0.N, win0_14.index t (0 : Fin 2) = 0 ∧ win0_14.index t (1 : Fin 2) = 0 := (by decide +kernel : ∀ t : Fin grid0.N, _)
  obtain ⟨e0, e1⟩ := e t
  unfold iblk
  rw [View.read_apply]
  show V m c main_v5 _ = _
  rw [V5]
  congr 1
  funext a
  apply Fin.ext
  match a with
  | ⟨0, _⟩ => show win0_14.index t 0 * 1024 + 1 * a0.val = a0.val; rw [e0]; omega
  | ⟨1, _⟩ => show win0_14.index t 1 * 1024 + 1 * a1.val = a1.val; rw [e1]; omega

theorem blk15 (t : Fin cfg0.N) (a0 : Fin 1) (a1 : Fin 1024) :
    (iblk m c 15 t : Vec Ideal S1x1024 .f32) (ix2 a0 a1) = lineOf (A13 m c) (ix2 a0 a1) := by
  have e : ∀ t : Fin cfg0.N, win0_15.index t (0 : Fin 2) = 0 ∧ win0_15.index t (1 : Fin 2) = 0 := (by decide +kernel : ∀ t : Fin grid0.N, _)
  obtain ⟨e0, e1⟩ := e t
  unfold iblk
  rw [View.read_apply]
  show V m c main_v9 _ = _
  rw [V9]
  congr 1
  funext a
  apply Fin.ext
  match a with
  | ⟨0, _⟩ => show win0_15.index t 0 * 1 + 1 * a0.val = a0.val; rw [e0]; omega
  | ⟨1, _⟩ => show win0_15.index t 1 * 1024 + 1 * a1.val = a1.val; rw [e1]; omega

theorem blk16 (t : Fin cfg0.N) (a0 : Fin 1) (a1 : Fin 1024) :
    (iblk m c 16 t : Vec Ideal S1x1024 .f32) (ix2 a0 a1) = lineOf (A14 m c) (ix2 a0 a1) := by
  have e : ∀ t : Fin cfg0.N, win0_16.index t (0 : Fin 2) = 0 ∧ win0_16.index t (1 : Fin 2) = 0 := (by decide +kernel : ∀ t : Fin grid0.N, _)
  obtain ⟨e0, e1⟩ := e t
  unfold iblk
  rw [View.read_apply]
  show V m c main_v10 _ = _
  rw [V10]
  congr 1
  funext a
  apply Fin.ext
  match a with
  | ⟨0, _⟩ => show win0_16.index t 0 * 1 + 1 * a0.val = a0.val; rw [e0]; omega
  | ⟨1, _⟩ => show win0_16.index t 1 * 1024 + 1 * a1.val = a1.val; rw [e1]; omega

/-! ## The result -/

/-- The three groups' entries of a token's head. -/
abbrev lse3 (l1 l2 l3 : Vec Ideal S65536x128 .f32) (R : Fin 65536) (h : Fin 4) : Fin 3 → EReal :=
  ![l1 (ix2 R ⟨h.val, by omega⟩), l2 (ix2 R ⟨h.val, by omega⟩), l3 (ix2 R ⟨h.val, by omega⟩)]

/-- A token's row, for a given form `f` of the groups' weights. -/
def tok (f : (Fin 3 → EReal) → Fin 3 → EReal) (x : Vec Ideal S8x8192x1024 .f32) (o1 o2 o3 : Vec Ideal S65536x512 .bf16) (l1 l2 l3 : Vec Ideal S65536x128 .f32)
    (hg mem : Vec Ideal S65536x512 .bf16) (p : Vec Ideal S65536x7168 .bf16) (b : Vec Ideal S1x3072 .f32) (wb : Vec Ideal S1x3x512x1024 .f32)
    (wo : Vec Ideal S1x1024x1024 .f32) (ga be : Vec Ideal S1x1024 .f32) (R : Fin 65536) (e : Fin 1024) : EReal :=
  out (fun h => f (lse3 l1 l2 l3 R h)) ![fun w => o1 (ix2 R w), fun w => o2 (ix2 R w), fun w => o3 (ix2 R w)]
    (fun w => hg (ix2 R w)) (fun w => mem (ix2 R w))
    ![fun d => p (ix2 R ⟨4096 + d.val, by omega⟩), fun d => p (ix2 R ⟨5120 + d.val, by omega⟩), fun d => p (ix2 R ⟨6144 + d.val, by omega⟩)]
    (fun g d => b (ix2 0 ⟨1024 * g.val + d.val, by omega⟩)) (fun g w d => wb (ix4 0 g w d)) (fun d e => wo (ix3 0 d e))
    (fun e => x (ix3 ⟨R.val / 8192, by omega⟩ ⟨R.val % 8192, by omega⟩ e)) (fun e => ga (ix2 0 e)) (fun e => be (ix2 0 e)) e

def G17 : Vec Ideal S65536x1024 .f32 := fun i =>
  tok wtInv (A0 m c) (A1 m c) (A2 m c) (A3 m c) (A4 m c) (A5 m c) (A6 m c) (A7 m c) (A8 m c) (A9 m c) (A10 m c) (A11 m c) (A12 m c) (A13 m c) (A14 m c) (i 0) (i 1)

/-- What a point computes for its rows. -/
theorem point_at (t : Fin cfg0.N) (r : Fin 512) (e : Fin 1024) (R : Fin 65536) (hR : R.val = 512 * t.val + r.val) :
    out0_17 (iblk m c 0 t) (iblk m c 1 t) (iblk m c 2 t) (iblk m c 3 t) (iblk m c 4 t) (iblk m c 5 t) (iblk m c 6 t) (iblk m c 7 t) (iblk m c 8 t) (iblk m c 9 t)
        (iblk m c 10 t) (iblk m c 11 t) (iblk m c 12 t) (iblk m c 13 t) (iblk m c 14 t) (iblk m c 15 t) (iblk m c 16 t) (ix2 r e)
      = tok wtInv (A0 m c) (A1 m c) (A2 m c) (A3 m c) (A4 m c) (A5 m c) (A6 m c) (A7 m c) (A8 m c) (A9 m c) (A10 m c) (A11 m c) (A12 m c) (A13 m c) (A14 m c) R e := by
  rw [out_eq]
  refine (bodyV_at _ _ _ _ _ _ _ _ _ _ _ _ _ _ _ _ _ r e).trans ?_
  have h0 := fun k => blk0 m c t r k R hR
  have h1 := fun k => blk1 m c t r k R hR
  have h2 := fun k => blk2 m c t r k R hR
  have h3 := fun k => blk3 m c t r k R hR
  have h4 := fun k => blk4 m c t r k R hR
  have h5 := fun k => blk5 m c t r k R hR
  have h6 := fun k => blk6 m c t r k R hR
  have h7 := fun k => blk7 m c t r k R hR
  have h8 := fun k => blk8 m c t r k R hR
  have h9 := fun k => blk9 m c t r k R hR
  have h10 := fun k => blk10 m c t r k R hR
  have h11 := fun k => blk11 m c t r k R hR
  unfold tok
  simp only [ls, lse3, h0, h1, h2, h3, h4, h5, h6, h7, h8, h9, h10, h11, blk12, blk13, blk14, blk15, blk16, rowsOf_at, biasOf_at, widenOf_at, woutOf_at, lineOf_at]

theorem idx17 : ∀ t : Fin cfg0.N, win0_17.index t (0 : Fin 2) = t.val ∧ win0_17.index t (1 : Fin 2) = 0 := by
  decide +kernel

theorem flushed17 (t : Fin cfg0.N) : (dats m 0 c).flushed 17 t = ((cfg0.win 17).blk t).view.read (Elt Ideal) (G17 m c) := by
  rw [Cert.Kernel3Ideal.Value.flushed17]
  obtain ⟨e0, e1⟩ := idx17 t
  funext y
  have hy0 : (y 0).val < 512 := (y 0).isLt
  have hy1 : (y 1).val < 1024 := (y 1).isLt
  have hb0 : (((cfg0.win 17).blk t).view.emb y 0).val = win0_17.index t (0 : Fin 2) * 512 + 1 * (y 0).val := rfl
  have hb1 : (((cfg0.win 17).blk t).view.emb y 1).val = win0_17.index t (1 : Fin 2) * 1024 + 1 * (y 1).val := rfl
  have hy : y = ix2 (n0 := 512) (n1 := 1024) ⟨(y 0).val, hy0⟩ ⟨(y 1).val, hy1⟩ := by
    funext a
    match a with
    | ⟨0, _⟩ => rfl
    | ⟨1, _⟩ => rfl
  show out0_17 (iblk m c 0 t) (iblk m c 1 t) (iblk m c 2 t) (iblk m c 3 t) (iblk m c 4 t) (iblk m c 5 t) (iblk m c 6 t) (iblk m c 7 t) (iblk m c 8 t) (iblk m c 9 t)
        (iblk m c 10 t) (iblk m c 11 t) (iblk m c 12 t) (iblk m c 13 t) (iblk m c 14 t) (iblk m c 15 t) (iblk m c 16 t) y
    = tok wtInv (A0 m c) (A1 m c) (A2 m c) (A3 m c) (A4 m c) (A5 m c) (A6 m c) (A7 m c) (A8 m c) (A9 m c) (A10 m c) (A11 m c) (A12 m c) (A13 m c) (A14 m c)
      (((cfg0.win 17).blk t).view.emb y 0) (((cfg0.win 17).blk t).view.emb y 1)
  refine (congrArg _ hy).trans ?_
  refine (point_at m c t _ _ (((cfg0.win 17).blk t).view.emb y 0) ?_).trans ?_
  · dsimp only
    rw [hb0, e0]
    omega
  · congr 1
    apply Fin.ext
    rw [hb1, e1]
    dsimp only
    omega

theorem flush17 : ∀ t : Fin cfg0.N, (cfg0.win 17).flush t = true := by
  decide +kernel

theorem onto17 : ∀ q : Fin 128, ∃ t : Fin cfg0.N, win0_17.index t (0 : Fin 2) = q.val ∧ win0_17.index t (1 : Fin 2) = 0 := by
  decide +kernel

theorem cover17 (i : S65536x1024.Idx) : ∃ t : Fin cfg0.N, (cfg0.win 17).flush t = true ∧ i ∈ ((cfg0.win 17).blk t).view.set := by
  have h0 : (i 0).val < 65536 := (i 0).isLt
  have h1 : (i 1).val < 1024 := (i 1).isLt
  obtain ⟨t, e0, e1⟩ := onto17 ⟨(i 0).val / 512, by omega⟩
  refine ⟨t, flush17 t, ?_⟩
  have h := ((cfg0.win 17).blk t).view.emb_mem_set (ix2 (n0 := 512) (n1 := 1024) ⟨(i 0).val % 512, by omega⟩ ⟨(i 1).val, h1⟩)
  have hi : ((cfg0.win 17).blk t).view.emb (ix2 (n0 := 512) (n1 := 1024) ⟨(i 0).val % 512, by omega⟩ ⟨(i 1).val, h1⟩) = i := by
    funext a
    apply Fin.ext
    match a with
    | ⟨0, _⟩ => show win0_17.index t 0 * 512 + 1 * ((i 0).val % 512) = (i 0).val; rw [e0]; dsimp only; omega
    | ⟨1, _⟩ => show win0_17.index t 1 * 1024 + 1 * (i 1).val = (i 1).val; rw [e1]; omega
  rw [hi] at h
  exact h

/-- The result after the run. -/
theorem final17 : (dats m 0 c).arrAt 17 cfg0.N = G17 m c :=
  (dats m 0 c).arrAt_eq_of_cover 17 (G17 m c) (fun t _ => flushed17 m c t) cover17

end Cert.Kernel3Ideal.Mix

end
-- ==== Proof.MixRef.lean ====
/-
  The reference's mix, entry by entry.
-/
module

public import proofs.«01_k».proof.Proof.Gen.Reference3Ideal.Run
public import proofs.«01_k».proof.Proof.MixSpec
public import Idealize.ShloMosaic.Lib.Pointwise
public import Idealize.ShloMosaic.Lib.Pipeline.Value

@[expose] public section

set_option maxRecDepth 65536
set_option maxErrors 8

noncomputable section

namespace Cert.Reference3Ideal.Mix

open Idealize.ShloMosaic Idealize.ShloMosaic.TcCoe Idealize.SL.Sem Idealize.ShloMosaic.StableHlo
open Cert.Reference3Ideal Cert.Reference3Ideal.Gen Cert.Mix

/-! ## The groups' weights -/

/-- One group's entries, from its 128 lanes. -/
def lane (l : FVec Ideal S65536x128 .f32) : FVec Ideal S1x8x8192x4 .f32 :=
  broadcastInDim S1x8x8192x4 ![1, 2, 3] bcast_S8x8192x4_S1x8x8192x4_1_2_3
    (extractStridedSlice S8x8192x4 ![0, 0, 0] (shapeCast S8x8192x128 l shapeCasts_S65536x128_S8x8192x128) slices_S8x8192x128_S8x8192x4_0_0_0)

def lsesV (l1 l2 l3 : FVec Ideal S65536x128 .f32) : FVec Ideal S3x8x8192x4 .f32 :=
  concatenate S3x8x8192x4 0 [⟨S1x8x8192x4, lane l1⟩, ⟨S1x8x8192x4, lane l2⟩, ⟨S1x8x8192x4, lane l3⟩]
    concatenates_S1x8x8192x4_S1x8x8192x4_S1x8x8192x4_S3x8x8192x4_d0

/-- A token's row among the rows of all the sequences. -/
abbrev rowOf (b : Fin 8) (s : Fin 8192) : Fin 65536 := ⟨b.val * 8192 + s.val, by omega⟩

theorem lane_at (l : FVec Ideal S65536x128 .f32) (b : Fin 8) (s : Fin 8192) (h : Fin 4) :
    lane l (ix4 0 b s h) = l (ix2 (rowOf b s) ⟨h.val, by omega⟩) := by
  pointwise [lane]

theorem lsesV_at (l1 l2 l3 : FVec Ideal S65536x128 .f32) (g : Fin 3) (b : Fin 8) (s : Fin 8192) (h : Fin 4) :
    lsesV l1 l2 l3 (ix4 g b s h) = (![l1 (ix2 (rowOf b s) ⟨h.val, by omega⟩), l2 (ix2 (rowOf b s) ⟨h.val, by omega⟩), l3 (ix2 (rowOf b s) ⟨h.val, by omega⟩)] : Fin 3 → EReal) g := by
  fin_cases g <;> pointwise [lsesV, lane_at]

variable (L : FVec Ideal S3x8x8192x4 .f32)

def topV : FVec Ideal S8x8192x4 .f32 :=
  maximumf (broadcastInDim S8x8192x4 ![] bcast_S_S8x8192x4 (constant S_ .f32 0xFF800000#32))
    (Host.reduce FloatOps.maximumf L (constant S_ .f32 0xFF800000#32) reducesTo_S3x8x8192x4_S8x8192x4_d0 h_S_)

def expV : FVec Ideal S3x8x8192x4 .f32 :=
  Host.exp (subf L (broadcastInDim S3x8x8192x4 ![0, 1, 2, 3] bcast_S1x8x8192x4_S3x8x8192x4_0_1_2_3
    (broadcastInDim S1x8x8192x4 ![1, 2, 3] bcast_S8x8192x4_S1x8x8192x4_1_2_3 (topV L))))

def wtsV : FVec Ideal S3x8x8192x4 .f32 :=
  Host.divf (expV L) (broadcastInDim S3x8x8192x4 ![0, 1, 2, 3] bcast_S1x8x8192x4_S3x8x8192x4_0_1_2_3
    (broadcastInDim S1x8x8192x4 ![1, 2, 3] bcast_S8x8192x4_S1x8x8192x4_1_2_3
      (Host.reduceAdd (expV L) (constant S_ .f32 0x00000000#32) reducesTo_S3x8x8192x4_S8x8192x4_d0 h_S_)))

theorem fold_top (l : Fin 3 → EReal) :
    max (Ideal.ofBits .f32 4286578688#32) (Finset.univ.fold max (Ideal.ofBits .f32 4286578688#32) l) = top l := by
  have hb : Ideal.ofBits .f32 4286578688#32 = ⊥ := by simp [Ideal.ofBits, Ideal.ieee]
  have h : ∀ g, l g ≤ Finset.univ.fold max (Ideal.ofBits .f32 4286578688#32) l := fun g => (Finset.le_fold_max _).2 (Or.inr ⟨g, Finset.mem_univ g, le_rfl⟩)
  unfold top
  refine le_antisymm (max_le (by rw [hb]; exact bot_le) ((Finset.fold_max_le _).2 ⟨by rw [hb]; exact bot_le, fun g _ => ?_⟩))
    (le_max_of_le_right (max_le (max_le (h 0) (h 1)) (h 2)))
  fin_cases g
  · exact le_max_of_le_left (le_max_left _ _)
  · exact le_max_of_le_left (le_max_right _ _)
  · exact le_max_right _ _

theorem topV_at (b : Fin 8) (s : Fin 8192) (h : Fin 4) : topV L (ix3 b s h) = top fun g => L (ix4 g b s h) := by
  pointwise [topV]
  exact fold_top fun g => L (ix4 g b s h)

theorem expV_at (g : Fin 3) (b : Fin 8) (s : Fin 8192) (h : Fin 4) : expV L (ix4 g b s h) = ex (fun g => L (ix4 g b s h)) g := by
  pointwise [expV, topV_at]
  rfl

theorem wtsV_at (g : Fin 3) (b : Fin 8) (s : Fin 8192) (h : Fin 4) : wtsV L (ix4 g b s h) = wt (fun g => L (ix4 g b s h)) g := by
  pointwise [wtsV, expV_at]
  rfl

/-! ## The merged heads -/

def grp (o : FVec Ideal S65536x512 .bf16) : FVec Ideal S1x8x8192x4x128 .bf16 :=
  broadcastInDim S1x8x8192x4x128 ![1, 2, 3, 4] bcast_S8x8192x4x128_S1x8x8192x4x128_1_2_3_4 (shapeCast S8x8192x4x128 o shapeCasts_S65536x512_S8x8192x4x128)

def outsV (o1 o2 o3 : FVec Ideal S65536x512 .bf16) : FVec Ideal S3x8x8192x4x128 .bf16 :=
  concatenate S3x8x8192x4x128 0 [⟨S1x8x8192x4x128, grp o1⟩, ⟨S1x8x8192x4x128, grp o2⟩, ⟨S1x8x8192x4x128, grp o3⟩]
    concatenates_S1x8x8192x4x128_S1x8x8192x4x128_S1x8x8192x4x128_S3x8x8192x4x128_d0

theorem grp_at (o : FVec Ideal S65536x512 .bf16) (b : Fin 8) (s : Fin 8192) (w : Fin 512) :
    grp o (ix5 0 b s ⟨w.val / 128, by omega⟩ ⟨w.val % 128, by omega⟩) = o (ix2 (rowOf b s) w) := by
  pointwise [grp]

theorem outsV_at (o1 o2 o3 : FVec Ideal S65536x512 .bf16) (g : Fin 3) (b : Fin 8) (s : Fin 8192) (w : Fin 512) :
    outsV o1 o2 o3 (ix5 g b s ⟨w.val / 128, by omega⟩ ⟨w.val % 128, by omega⟩)
      = (![o1 (ix2 (rowOf b s) w), o2 (ix2 (rowOf b s) w), o3 (ix2 (rowOf b s) w)] : Fin 3 → EReal) g := by
  fin_cases g <;> pointwise [outsV, grp_at]

def headsV (W : FVec Ideal S3x8x8192x4 .f32) (O : FVec Ideal S3x8x8192x4x128 .bf16) : FVec Ideal S8x8192x512 .f32 :=
  shapeCast S8x8192x512 (Host.dotGeneral dot_S3x8x8192x4_S3x8x8192x4x128_S8x8192x4x128_0_0_n_4_123_123 none W
    (extf (F := Ideal) .f32 O bitsLt_bf16_f32)) shapeCasts_S8x8192x4x128_S8x8192x512

theorem headsV_at (W : FVec Ideal S3x8x8192x4 .f32) (O : FVec Ideal S3x8x8192x4x128 .bf16) (b : Fin 8) (s : Fin 8192) (w : Fin 512) :
    headsV W O (ix3 b s w) = ∑ g : Fin 3, W (ix4 g b s ⟨w.val / 128, by omega⟩) * O (ix5 g b s ⟨w.val / 128, by omega⟩ ⟨w.val % 128, by omega⟩) := by
  pointwise [headsV]

/-! ## The branches and the gates -/

def oth (o : FVec Ideal S65536x512 .bf16) : FVec Ideal S8x8192x512 .f32 :=
  shapeCast S8x8192x512 (extf (F := Ideal) .f32 o bitsLt_bf16_f32) shapeCasts_S65536x512_S8x8192x512

def slot (H : FVec Ideal S8x8192x512 .f32) : FVec Ideal S8x8192x1x512 .f32 :=
  broadcastInDim S8x8192x1x512 ![0, 1, 3] bcast_S8x8192x512_S8x8192x1x512_0_1_3 H

def branV (H hg mem : FVec Ideal S8x8192x512 .f32) : FVec Ideal S8x8192x3x512 .f32 :=
  concatenate S8x8192x3x512 2 [⟨S8x8192x1x512, slot H⟩, ⟨S8x8192x1x512, slot hg⟩, ⟨S8x8192x1x512, slot mem⟩]
    concatenates_S8x8192x1x512_S8x8192x1x512_S8x8192x1x512_S8x8192x3x512_d2

theorem oth_at (o : FVec Ideal S65536x512 .bf16) (b : Fin 8) (s : Fin 8192) (w : Fin 512) : oth o (ix3 b s w) = (o (ix2 (rowOf b s) w) : EReal) := by
  pointwise [oth]

theorem slot_at (H : FVec Ideal S8x8192x512 .f32) (b : Fin 8) (s : Fin 8192) (w : Fin 512) : slot H (ix4 b s 0 w) = H (ix3 b s w) := by
  pointwise [slot]

theorem branV_at (H hg mem : FVec Ideal S8x8192x512 .f32) (b : Fin 8) (s : Fin 8192) (g : Fin 3) (w : Fin 512) :
    branV H hg mem (ix4 b s g w) = (![H (ix3 b s w), hg (ix3 b s w), mem (ix3 b s w)] : Fin 3 → EReal) g := by
  fin_cases g <;> pointwise [branV, slot_at]

def logitV (p : FVec Ideal S65536x7168 .bf16) (bg : FVec Ideal S1x3072 .f32) : FVec Ideal S8x8192x3x1024 .f32 :=
  shapeCast S8x8192x3x1024 (addf (extf (F := Ideal) .f32 (extractStridedSlice S8x8192x3072 ![0, 0, 4096] (shapeCast S8x8192x7168 p shapeCasts_S65536x7168_S8x8192x7168)
      slices_S8x8192x7168_S8x8192x3072_0_0_4096) bitsLt_bf16_f32)
    (broadcastInDim S8x8192x3072 ![0, 1, 2] bcast_S1x1x3072_S8x8192x3072_0_1_2 (broadcastInDim S1x1x3072 ![2] bcast_S3072_S1x1x3072_2
      (shapeCast S3072 bg shapeCasts_S1x3072_S3072)))) shapeCasts_S8x8192x3072_S8x8192x3x1024

theorem logitV_at (p : FVec Ideal S65536x7168 .bf16) (bg : FVec Ideal S1x3072 .f32) (b : Fin 8) (s : Fin 8192) (g : Fin 3) (d : Fin 1024) :
    logitV p bg (ix4 b s g d) = p (ix2 (rowOf b s) ⟨4096 + (g.val * 1024 + d.val), by omega⟩) + bg (ix2 0 ⟨g.val * 1024 + d.val, by omega⟩) := by
  pointwise [logitV]

def gateV (G : FVec Ideal S8x8192x3x1024 .f32) : FVec Ideal S8x8192x3x1024 .f32 :=
  Host.divf (broadcastInDim S8x8192x3x1024 ![] bcast_S_S8x8192x3x1024 (constant S_ .f32 0x3F800000#32))
    (addf (broadcastInDim S8x8192x3x1024 ![] bcast_S_S8x8192x3x1024 (constant S_ .f32 0x3F800000#32)) (Host.exp (Host.negf G)))

theorem gateV_at (G : FVec Ideal S8x8192x3x1024 .f32) (b : Fin 8) (s : Fin 8192) (g : Fin 3) (d : Fin 1024) :
    gateV G (ix4 b s g d) = Ideal.logistic (G (ix4 b s g d)) := by
  pointwise [gateV]
  rfl

def mergedV (G : FVec Ideal S8x8192x3x1024 .f32) (B : FVec Ideal S8x8192x3x512 .f32) (wb : FVec Ideal S1x3x512x1024 .f32) : FVec Ideal S8x8192x1024 .f32 :=
  Host.reduceAdd (mulf (gateV G) (transpose S8x8192x3x1024 [2, 3, 0, 1] (Host.dotGeneral dot_S3x512x1024_S8x8192x3x512_S3x1024x8x8192_1_3_2_01_0_2 none
      (shapeCast S3x512x1024 wb shapeCasts_S1x3x512x1024_S3x512x1024) B) transposes_S3x1024x8x8192_S8x8192x3x1024_2_3_0_1))
    (constant S_ .f32 0x00000000#32) reducesTo_S8x8192x3x1024_S8x8192x1024_d2 h_S_

theorem mergedV_at (G : FVec Ideal S8x8192x3x1024 .f32) (B : FVec Ideal S8x8192x3x512 .f32) (wb : FVec Ideal S1x3x512x1024 .f32) (b : Fin 8) (s : Fin 8192) (d : Fin 1024) :
    mergedV G B wb (ix3 b s d) = ∑ g : Fin 3, Ideal.logistic (G (ix4 b s g d)) * ∑ w : Fin 512, wb (ix4 0 g w d) * B (ix4 b s g w) := by
  pointwise [mergedV, gateV_at]

/-! ## The residual and its norm -/

def residV (x M : FVec Ideal S8x8192x1024 .f32) (wo : FVec Ideal S1x1024x1024 .f32) : FVec Ideal S8x8192x1024 .f32 :=
  addf (mulf (broadcastInDim S8x8192x1024 ![] bcast_S_S8x8192x1024 (constant S_ .f32 0x3F9837F0#32)) x)
    (Host.dotGeneral dot_S8x8192x1024_S1024x1024_S8x8192x1024_2_0_01_1_n_n none M (shapeCast S1024x1024 wo shapeCasts_S1x1024x1024_S1024x1024))

theorem residV_at (x M : FVec Ideal S8x8192x1024 .f32) (wo : FVec Ideal S1x1024x1024 .f32) (b : Fin 8) (s : Fin 8192) (e : Fin 1024) :
    residV x M wo (ix3 b s e) = resid (fun e => x (ix3 b s e)) (fun d => M (ix3 b s d)) (fun d e => wo (ix3 0 d e)) e := by
  pointwise [residV]
  rfl

def meanV (T : FVec Ideal S8x8192x1024 .f32) : FVec Ideal S8x8192x1 .f32 :=
  Host.divf (broadcastInDim S8x8192x1 ![0, 1] bcast_S8x8192_S8x8192x1_0_1 (Host.reduceAdd T (constant S_ .f32 0x00000000#32) reducesTo_S8x8192x1024_S8x8192_d2 h_S_))
    (broadcastInDim S8x8192x1 ![] bcast_S_S8x8192x1 (constant S_ .f32 0x44800000#32))

theorem meanV_at (T : FVec Ideal S8x8192x1024 .f32) (b : Fin 8) (s : Fin 8192) : meanV T (ix3 b s 0) = mean fun e => T (ix3 b s e) := by
  pointwise [meanV]
  rfl

def centV (T : FVec Ideal S8x8192x1024 .f32) : FVec Ideal S8x8192x1024 .f32 :=
  subf T (broadcastInDim S8x8192x1024 ![0, 1, 2] bcast_S8x8192x1_S8x8192x1024_0_1_2 (meanV T))

theorem centV_at (T : FVec Ideal S8x8192x1024 .f32) (b : Fin 8) (s : Fin 8192) (e : Fin 1024) :
    centV T (ix3 b s e) = T (ix3 b s e) - mean fun e => T (ix3 b s e) := by
  pointwise [centV, meanV_at]

def wideV (g : FVec Ideal S1x1024 .f32) : FVec Ideal S8x8192x1024 .f32 :=
  broadcastInDim S8x8192x1024 ![0, 1, 2] bcast_S1x1x1024_S8x8192x1024_0_1_2 (broadcastInDim S1x1x1024 ![2] bcast_S1024_S1x1x1024_2
    (shapeCast S1024 g shapeCasts_S1x1024_S1024))

theorem wideV_at (g : FVec Ideal S1x1024 .f32) (b : Fin 8) (s : Fin 8192) (e : Fin 1024) : wideV g (ix3 b s e) = g (ix2 0 e) := by
  pointwise [wideV]

def normV (T : FVec Ideal S8x8192x1024 .f32) (ga be : FVec Ideal S1x1024 .f32) : FVec Ideal S8x8192x1024 .f32 :=
  addf (mulf (mulf (centV T) (broadcastInDim S8x8192x1024 ![0, 1, 2] bcast_S8x8192x1_S8x8192x1024_0_1_2
    (Host.rsqrt (addf (meanV (mulf (centV T) (centV T))) (broadcastInDim S8x8192x1 ![] bcast_S_S8x8192x1 (constant S_ .f32 0x3727C5AC#32)))))) (wideV ga)) (wideV be)

theorem normV_at (T : FVec Ideal S8x8192x1024 .f32) (ga be : FVec Ideal S1x1024 .f32) (b : Fin 8) (s : Fin 8192) (e : Fin 1024) :
    normV T ga be (ix3 b s e) = norm (fun e => T (ix3 b s e)) (fun e => ga (ix2 0 e)) (fun e => be (ix2 0 e)) e := by
  pointwise [normV, centV_at, meanV_at, wideV_at]
  rfl

/-! ## The result -/

variable (x : FVec Ideal S8x8192x1024 .f32) (o1 o2 o3 : FVec Ideal S65536x512 .bf16) (l1 l2 l3 : FVec Ideal S65536x128 .f32)
  (hg mem : FVec Ideal S65536x512 .bf16) (p : FVec Ideal S65536x7168 .bf16) (bg : FVec Ideal S1x3072 .f32) (wb : FVec Ideal S1x3x512x1024 .f32)
  (wo : FVec Ideal S1x1024x1024 .f32) (ga be : FVec Ideal S1x1024 .f32)

def resV : FVec Ideal S65536x1024 .f32 :=
  shapeCast S65536x1024 (normV (residV x (mergedV (logitV p bg) (branV (headsV (wtsV (lsesV l1 l2 l3)) (outsV o1 o2 o3)) (oth hg) (oth mem)) wb) wo) ga be)
    shapeCasts_S8x8192x1024_S65536x1024

theorem rows_at (X : FVec Ideal S8x8192x1024 .f32) (R : Fin 65536) (k : Fin 1024) (b : Fin 8) (s : Fin 8192) (hR : R.val = b.val * 8192 + s.val) :
    shapeCast S65536x1024 X shapeCasts_S8x8192x1024_S65536x1024 (ix2 R k) = X (ix3 b s k) := by
  have hb : b = ⟨R.val / 8192, by omega⟩ := Fin.ext (by dsimp only; omega)
  have hs : s = ⟨R.val % 8192, by omega⟩ := Fin.ext (by dsimp only; omega)
  have h : shapeCast S65536x1024 X shapeCasts_S8x8192x1024_S65536x1024 (ix2 R k) = X (ix3 ⟨R.val / 8192, by omega⟩ ⟨R.val % 8192, by omega⟩ k) := by
    pointwise
  rw [h, ← hb, ← hs]

theorem res_eq (m : (ℓ : Loc nD τ sig) → Buf (Elt Ideal) ℓ) (c : Dev nD) : Cert.Reference3Ideal.Value.res_main_v89 m c
    = resV (m (c.tc.loc main_arg0)) (m (c.tc.loc main_arg1)) (m (c.tc.loc main_arg2)) (m (c.tc.loc main_arg3)) (m (c.tc.loc main_arg4)) (m (c.tc.loc main_arg5))
      (m (c.tc.loc main_arg6)) (m (c.tc.loc main_arg7)) (m (c.tc.loc main_arg8)) (m (c.tc.loc main_arg9)) (m (c.tc.loc main_arg10)) (m (c.tc.loc main_arg11))
      (m (c.tc.loc main_arg12)) (m (c.tc.loc main_arg13)) (m (c.tc.loc main_arg14)) := by
  unfold Cert.Reference3Ideal.Value.res_main_v89 resV normV wideV centV meanV residV mergedV gateV logitV branV slot oth headsV outsV grp wtsV expV topV lsesV lane
  rfl

theorem merged_heads (b : Fin 8) (s : Fin 8192) (w : Fin 512) :
    headsV (wtsV (lsesV l1 l2 l3)) (outsV o1 o2 o3) (ix3 b s w)
      = heads (fun h => wt ![l1 (ix2 (rowOf b s) ⟨h.val, by omega⟩), l2 (ix2 (rowOf b s) ⟨h.val, by omega⟩), l3 (ix2 (rowOf b s) ⟨h.val, by omega⟩)])
        ![fun w => o1 (ix2 (rowOf b s) w), fun w => o2 (ix2 (rowOf b s) w), fun w => o3 (ix2 (rowOf b s) w)] w := by
  rw [headsV_at]
  unfold heads
  refine Finset.sum_congr rfl fun a _ => ?_
  rw [wtsV_at, outsV_at]
  refine congrArg₂ (· * ·) (congrArg (fun l => wt l a) ?_) ?_
  · funext g
    rw [lsesV_at]
  · fin_cases a <;> rfl

theorem branches {n : ℕ} (u v w : Fin n → EReal) (g : Fin 3) (k : Fin n) : (![u k, v k, w k] : Fin 3 → EReal) g = (![u, v, w] : Fin 3 → Fin n → EReal) g k := by
  fin_cases g <;> rfl

theorem pick {T : ℕ} (q : Fin T → EReal) (n : Fin 3 → ℕ) (h : ∀ g, n g < T) (n0 n1 n2 : ℕ) (h0 : n0 < T) (h1 : n1 < T) (h2 : n2 < T) (e0 : n 0 = n0) (e1 : n 1 = n1)
    (e2 : n 2 = n2) (g : Fin 3) : q ⟨n g, h g⟩ = (![q ⟨n0, h0⟩, q ⟨n1, h1⟩, q ⟨n2, h2⟩] : Fin 3 → EReal) g := by
  subst e0 e1 e2
  fin_cases g <;> rfl

/-- The three branches' columns of the kept projection. -/
theorem cols (q : Fin 7168 → EReal) (g : Fin 3) (d : Fin 1024) (h : ∀ g : Fin 3, 4096 + (g.val * 1024 + d.val) < 7168) :
    q ⟨4096 + (g.val * 1024 + d.val), h g⟩
      = (![fun d => q ⟨4096 + d.val, by omega⟩, fun d => q ⟨5120 + d.val, by omega⟩, fun d => q ⟨6144 + d.val, by omega⟩] : Fin 3 → Fin 1024 → EReal) g d :=
  (pick q (fun g => 4096 + (g.val * 1024 + d.val)) h (4096 + d.val) (5120 + d.val) (6144 + d.val) (by omega) (by omega) (by omega)
    (by show 4096 + (0 * 1024 + d.val) = _; omega) (by show 4096 + (1 * 1024 + d.val) = _; omega) (by show 4096 + (2 * 1024 + d.val) = _; omega) g).trans
    (branches (fun d : Fin 1024 => q ⟨4096 + d.val, by omega⟩) (fun d : Fin 1024 => q ⟨5120 + d.val, by omega⟩) (fun d : Fin 1024 => q ⟨6144 + d.val, by omega⟩) g d)

theorem bias_at (q : Fin 3072 → EReal) (g : Fin 3) (d : Fin 1024) (h : g.val * 1024 + d.val < 3072) (h' : 1024 * g.val + d.val < 3072) :
    q ⟨g.val * 1024 + d.val, h⟩ = q ⟨1024 * g.val + d.val, h'⟩ :=
  congrArg q (Fin.ext (by dsimp only; omega))

/-- An entry of the merged branches. -/
theorem merged_at (R : Fin 65536) (b : Fin 8) (s : Fin 8192) (hR : rowOf b s = R) (d : Fin 1024) :
    mergedV (logitV p bg) (branV (headsV (wtsV (lsesV l1 l2 l3)) (outsV o1 o2 o3)) (oth hg) (oth mem)) wb (ix3 b s d)
      = merged ![heads (fun h => wt ![l1 (ix2 R ⟨h.val, by omega⟩), l2 (ix2 R ⟨h.val, by omega⟩), l3 (ix2 R ⟨h.val, by omega⟩)])
          ![fun w => o1 (ix2 R w), fun w => o2 (ix2 R w), fun w => o3 (ix2 R w)], fun w => hg (ix2 R w), fun w => mem (ix2 R w)]
        ![fun d => p (ix2 R ⟨4096 + d.val, by omega⟩), fun d => p (ix2 R ⟨5120 + d.val, by omega⟩), fun d => p (ix2 R ⟨6144 + d.val, by omega⟩)]
        (fun g d => bg (ix2 0 ⟨1024 * g.val + d.val, by omega⟩)) (fun g w d => wb (ix4 0 g w d)) d := by
  rw [mergedV_at]
  unfold merged
  refine Finset.sum_congr rfl fun g _ => ?_
  rw [logitV_at, hR, cols (fun k => p (ix2 R k)) g d (by omega), bias_at (fun k => bg (ix2 0 k)) g d _ (by omega)]
  refine congrArg₂ (· * ·) rfl (Finset.sum_congr rfl fun w _ => ?_)
  rw [branV_at, merged_heads, oth_at, oth_at, hR, ← branches, mul_comm]

/-- An entry of the result. -/
theorem resV_at (R : Fin 65536) (b : Fin 8) (s : Fin 8192) (hR : rowOf b s = R) (e : Fin 1024) :
    resV x o1 o2 o3 l1 l2 l3 hg mem p bg wb wo ga be (ix2 R e)
      = out (fun h => wt ![l1 (ix2 R ⟨h.val, by omega⟩), l2 (ix2 R ⟨h.val, by omega⟩), l3 (ix2 R ⟨h.val, by omega⟩)])
        ![fun w => o1 (ix2 R w), fun w => o2 (ix2 R w), fun w => o3 (ix2 R w)] (fun w => hg (ix2 R w)) (fun w => mem (ix2 R w))
        ![fun d => p (ix2 R ⟨4096 + d.val, by omega⟩), fun d => p (ix2 R ⟨5120 + d.val, by omega⟩), fun d => p (ix2 R ⟨6144 + d.val, by omega⟩)]
        (fun g d => bg (ix2 0 ⟨1024 * g.val + d.val, by omega⟩)) (fun g w d => wb (ix4 0 g w d)) (fun d e => wo (ix3 0 d e))
        (fun e => x (ix3 b s e)) (fun e => ga (ix2 0 e)) (fun e => be (ix2 0 e)) e := by
  unfold resV
  rw [rows_at _ R e b s (by rw [← hR]), normV_at]
  unfold out
  refine congrArg (fun T => norm T _ _ e) (funext fun e => ?_)
  rw [residV_at]
  refine congrArg (fun M => resid _ M _ e) (funext fun d => ?_)
  exact merged_at o1 o2 o3 l1 l2 l3 hg mem p bg wb R b s hR d

end Cert.Reference3Ideal.Mix

end
-- ==== Proof.MixPre.lean ====
/-
  What the precondition of the mix says: the three groups' entries of the four heads are real numbers.
-/
module

public import proofs.«01_k».proof.Pre_finite_lses
public import proofs.«01_k».proof.Proof.MixSpec
public import Idealize.ShloMosaic.Lib.Pointwise
public import Idealize.ShloMosaic.Lib.ReduceAll

@[expose] public section

set_option maxRecDepth 65536
set_option maxErrors 8

noncomputable section

namespace Cert.Pre_finite_lses

open Idealize.ShloMosaic Idealize.ShloMosaic.TcCoe Idealize.SL.Sem
open Cert.Mix

theorem facts : Facts where
  slices_S65536x128_S65536x4_0_0 := by decide
  bcast_S65536x4_S1x65536x4_1_2 := by decide
  concatenates_S1x65536x4_S1x65536x4_S1x65536x4_S3x65536x4_d0 := by decide
  bcast_S_S3x65536x4 := by decide
  reducesTo_S3x65536x4_S_d0_1_2 := by decide
  h_S_ := by decide

variable [Facts]
open Facts

/-- The three groups stacked. -/
def stackV (l1 l2 l3 : FVec Ideal S65536x128 .f32) : FVec Ideal S3x65536x4 .f32 :=
  concatenate S3x65536x4 0
    [⟨S1x65536x4, broadcastInDim S1x65536x4 ![1, 2] bcast_S65536x4_S1x65536x4_1_2 (extractStridedSlice S65536x4 ![0, 0] l1 slices_S65536x128_S65536x4_0_0)⟩,
     ⟨S1x65536x4, broadcastInDim S1x65536x4 ![1, 2] bcast_S65536x4_S1x65536x4_1_2 (extractStridedSlice S65536x4 ![0, 0] l2 slices_S65536x128_S65536x4_0_0)⟩,
     ⟨S1x65536x4, broadcastInDim S1x65536x4 ![1, 2] bcast_S65536x4_S1x65536x4_1_2 (extractStridedSlice S65536x4 ![0, 0] l3 slices_S65536x128_S65536x4_0_0)⟩]
    concatenates_S1x65536x4_S1x65536x4_S1x65536x4_S3x65536x4_d0

theorem stackV_at (l1 l2 l3 : FVec Ideal S65536x128 .f32) (g : Fin 3) (R : Fin 65536) (h : Fin 4) :
    stackV l1 l2 l3 (ix3 g R h) = (![l1 (ix2 R ⟨h.val, by omega⟩), l2 (ix2 R ⟨h.val, by omega⟩), l3 (ix2 R ⟨h.val, by omega⟩)] : Fin 3 → EReal) g := by
  fin_cases g <;> pointwise [stackV]

def belowV (X : FVec Ideal S3x65536x4 .f32) : IVec S3x65536x4 1 :=
  cmpf .olt (Host.absf X) (broadcastInDim S3x65536x4 ![] bcast_S_S3x65536x4 (constant S_ .f32 0x7F800000#32))

theorem real_of_below (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  refine real_of_abs_lt (fun e => ?_) (fun e => ?_)
  · subst e
    simp [Ideal.cmp] at h
  · subst e
    simp [Ideal.cmp] at h

theorem below_real (X : FVec Ideal S3x65536x4 .f32) (i : S3x65536x4.Idx) (h : belowV X i = 1#1) : ∃ r : ℝ, (X i : EReal) = (r : EReal) :=
  real_of_below (X i) h

instance : Subsingleton S_.Idx := ⟨fun a b => funext fun k => k.elim0⟩

/-- The entries are real. -/
theorem entries_real (x : FVec Ideal S8x8192x1024 .f32) (o1 o2 o3 : FVec Ideal S65536x512 .bf16) (l1 l2 l3 : FVec Ideal S65536x128 .f32)
    (hg mem : FVec Ideal S65536x512 .bf16) (p : FVec Ideal S65536x7168 .bf16) (bg : FVec Ideal S1x3072 .f32) (wb : FVec Ideal S1x3x512x1024 .f32)
    (wo : FVec Ideal S1x1024x1024 .f32) (ga be : FVec Ideal S1x1024 .f32) (h : fn (F := Ideal) x o1 o2 o3 l1 l2 l3 hg mem p bg wb wo ga be = fun _ => 1#1)
    (R : Fin 65536) (k : Fin 4) (g : Fin 3) :
    ∃ r : ℝ, (![l1 (ix2 R ⟨k.val, by omega⟩), l2 (ix2 R ⟨k.val, by omega⟩), l3 (ix2 R ⟨k.val, by omega⟩)] : Fin 3 → EReal) g = (r : EReal) := by
  have e : Host.reduce IntOp.andi (belowV (stackV l1 l2 l3)) (constantI S_ 1 1#1) reducesTo_S3x65536x4_S_d0_1_2 h_S_ (Shape.Idx.first h_S_) = 1#1 :=
    congrFun h (Shape.Idx.first h_S_)
  rw [← stackV_at l1 l2 l3 g R k]
  exact below_real _ _ (Host.reduce_andi_all _ _ _ _ _ e (ix3 g R k))

end Cert.Pre_finite_lses

end
-- ==== Proof.MixEqual.lean ====
/-
  The mix of the kernel and of the reference are equal, on finite entries of the groups.
-/
module

public import proofs.«01_k».proof.Proof.MixOut
public import proofs.«01_k».proof.Proof.MixRef
public import proofs.«01_k».proof.Proof.MixPre

@[expose] public section

set_option maxRecDepth 65536

noncomputable section

namespace Cert.MixEqual

open Idealize.ShloMosaic Idealize.ShloMosaic.TcCoe Idealize.SL.Sem
open Cert.Mix Cert.Kernel3Ideal.Mix

theorem result_at [Cert.Pre_finite_lses.Facts] (m : (ℓ : Loc Cert.Kernel3Ideal.nD Cert.Kernel3Ideal.τ Cert.Kernel3Ideal.sig) → Buf (Elt Ideal) ℓ) (c : Dev Cert.Kernel3Ideal.nD)
    (h : Cert.Pre_finite_lses.fn (F := Ideal) (A0 m c) (A1 m c) (A2 m c) (A3 m c) (A4 m c) (A5 m c) (A6 m c) (A7 m c) (A8 m c) (A9 m c) (A10 m c) (A11 m c) (A12 m c) (A13 m c) (A14 m c) = fun _ => 1#1) (R : Fin 65536) (e : Fin 1024) :
    Cert.Reference3Ideal.Mix.resV (A0 m c) (A1 m c) (A2 m c) (A3 m c) (A4 m c) (A5 m c) (A6 m c) (A7 m c) (A8 m c) (A9 m c) (A10 m c) (A11 m c) (A12 m c) (A13 m c) (A14 m c) (ix2 R e)
      = tok wtInv (A0 m c) (A1 m c) (A2 m c) (A3 m c) (A4 m c) (A5 m c) (A6 m c) (A7 m c) (A8 m c) (A9 m c) (A10 m c) (A11 m c) (A12 m c) (A13 m c) (A14 m c) R e := by
  refine (Cert.Reference3Ideal.Mix.resV_at (A0 m c) (A1 m c) (A2 m c) (A3 m c) (A4 m c) (A5 m c) (A6 m c) (A7 m c) (A8 m c) (A9 m c) (A10 m c) (A11 m c) (A12 m c) (A13 m c) (A14 m c) R ⟨R.val / 8192, by omega⟩ ⟨R.val % 8192, by omega⟩
    (Fin.ext (by dsimp only [Cert.Reference3Ideal.Mix.rowOf]; omega)) e).trans ?_
  unfold tok
  refine congrArg (fun W => out W _ _ _ _ _ _ _ _ _ _ e) (funext fun k => funext fun g => ?_)
  exact (wtInv_eq _ (fun g => Cert.Pre_finite_lses.entries_real (A0 m c) (A1 m c) (A2 m c) (A3 m c) (A4 m c) (A5 m c) (A6 m c) (A7 m c) (A8 m c) (A9 m c) (A10 m c) (A11 m c) (A12 m c) (A13 m c) (A14 m c) h R k g) g).symm

theorem result_eq [Cert.Pre_finite_lses.Facts] (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h : Cert.Pre_finite_lses.fn (F := Ideal) (A0 m c) (A1 m c) (A2 m c) (A3 m c) (A4 m c) (A5 m c) (A6 m c) (A7 m c) (A8 m c) (A9 m c) (A10 m c) (A11 m c) (A12 m c) (A13 m c) (A14 m c) = fun _ => 1#1)
    (he : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0) ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1) ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2) ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3) ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4) ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5) ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6) ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7) ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8) ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9) ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10) ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11) ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12) ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13) ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) :
    Cert.Reference3Ideal.Value.res_main_v89 m' c = G17 m c := by
  obtain ⟨h0, h1, h2, h3, h4, h5, h6, h7, h8, h9, h10, h11, h12, h13, h14⟩ := he
  rw [Cert.Reference3Ideal.Mix.res_eq, h0, h1, h2, h3, h4, h5, h6, h7, h8, h9, h10, h11, h12, h13, h14]
  funext i
  have hi : i = ix2 (n0 := 65536) (n1 := 1024) (i 0) (i 1) := by
    funext a
    match a with
    | ⟨0, _⟩ => rfl
    | ⟨1, _⟩ => rfl
  refine (congrArg _ hi).trans ?_
  exact result_at m c h (i 0) (i 1)

end Cert.MixEqual

end
-- ==== Proof.MemSpec.lean ====
/-
  One head of the memory attention for one token over the extended reals, with the sum divided out at the end and with
  the weights divided first.
-/
module

public import Idealize.ShloMosaic.Lib.Pointwise
public import proofs.«01_k».proof.Proof.MixSpec

@[expose] public section

noncomputable section

open Idealize.ShloMosaic

namespace Cert.Mem

/-- A column of a memory row's keys and values. -/
def kv (x : Fin 1024 → EReal) (w : Fin 1024 → Fin 1024 → EReal) (n : Fin 1024) : EReal := ∑ d, x d * w d n

/-- A scaled product of a query and a key. -/
def logit (q k : Fin 128 → EReal) : EReal := (∑ d, q d * k d) * Ideal.ofBits .f32 0x3DB504F3#32

def top (l : Fin 256 → EReal) : EReal := Finset.univ.fold max (Ideal.ofBits .f32 4286578688#32) l

def ex (l : Fin 256 → EReal) (j : Fin 256) : EReal := Ideal.exp (l j - top l)

/-- The weighted values, divided by the sum at the end. -/
def headLate (l v : Fin 256 → EReal) : EReal := Ideal.div (∑ j, ex l j * v j) (∑ j, ex l j)

/-- The values weighted by the softmax. -/
def head (l v : Fin 256 → EReal) : EReal := ∑ j, v j * Ideal.div (ex l j) (∑ a, ex l a)

theorem low : Ideal.ofBits .f32 4286578688#32 = ⊥ := by simp [Ideal.ofBits, Ideal.ieee]

theorem top_real (l : Fin 256 → EReal) (h : ∀ j, ∃ r : ℝ, l j = (r : EReal)) : ∃ r : ℝ, top l = (r : EReal) := by
  refine Cert.Mix.real_of_abs_lt (ne_of_lt ?_) (ne_of_gt ?_)
  · unfold top
    rw [low]
    refine (Finset.fold_max_lt _).2 ⟨bot_lt_top, fun j _ => ?_⟩
    obtain ⟨r, hr⟩ := h j
    rw [hr]
    exact EReal.coe_lt_top r
  · obtain ⟨r, hr⟩ := h 0
    refine lt_of_lt_of_le (EReal.bot_lt_coe r) ?_
    rw [← hr]
    exact (Finset.le_fold_max _).2 (Or.inr ⟨0, Finset.mem_univ _, le_rfl⟩)

theorem ex_real (l : Fin 256 → EReal) (h : ∀ j, ∃ r : ℝ, l j = (r : EReal)) : ∃ e : Fin 256 → ℝ, (∀ j, 0 < e j) ∧ ∀ j, ex l j = (e j : EReal) := by
  choose r hr using h
  obtain ⟨t, ht⟩ := top_real l fun j => ⟨r j, hr j⟩
  refine ⟨fun j => Real.exp (r j - t), fun j => Real.exp_pos _, fun j => ?_⟩
  unfold ex
  rw [hr, ht, ← EReal.coe_sub, Cert.Mix.exp_coe]

theorem coe_sum (e : Fin 256 → ℝ) (s : Finset (Fin 256)) : ∑ j ∈ s, (e j : EReal) = ((∑ j ∈ s, e j : ℝ) : EReal) := by
  induction s using Finset.induction_on with
  | empty => simp
  | insert a s ha ih => rw [Finset.sum_insert ha, Finset.sum_insert ha, ih, EReal.coe_add]

/-- A positive real number distributes over a sum. -/
theorem sum_mul_real (x : Fin 256 → EReal) (c : ℝ) (hc : 0 ≤ c) (s : Finset (Fin 256)) : (∑ j ∈ s, x j) * (c : EReal) = ∑ j ∈ s, x j * (c : EReal) := by
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- On finite logits the two forms agree: the sum is a positive real number. -/
theorem headLate_eq (l v : Fin 256 → EReal) (h : ∀ j, ∃ r : ℝ, l j = (r : EReal)) : headLate l v = head l v := by
  obtain ⟨e, hp, he⟩ := ex_real l h
  have hs : ∑ j, ex l j = ((∑ j, e j : ℝ) : EReal) := by
    rw [← coe_sum]
    exact Finset.sum_congr rfl fun j _ => he j
  have hz : 0 < ∑ j, e j := Finset.sum_pos (fun j _ => hp j) ⟨0, Finset.mem_univ _⟩
  have hn : ((∑ j, e j : ℝ) : EReal) ≠ 0 := by exact_mod_cast hz.ne'
  unfold headLate head
  rw [hs]
  unfold Ideal.div
  simp only [if_neg hn]
  rw [← EReal.coe_inv, sum_mul_real _ _ (inv_nonneg.2 hz.le)]
  refine Finset.sum_congr rfl fun j _ => ?_
  rw [mul_comm (ex l j) (v j), mul_assoc]

variable (P : (⟨3, ![8, 8192, 7168]⟩ : Shape).Idx → EReal) (M : (⟨3, ![8, 256, 1024]⟩ : Shape).Idx → EReal) (W : (⟨3, ![1, 1024, 1024]⟩ : Shape).Idx → EReal)

/-- A column of the keys and values of memory row `j` of batch `b`. -/
def kvOf (b : Fin 8) (j : Fin 256) (n : Fin 1024) : EReal := kv (fun e => M (ix3 b j e)) (fun e n => W (ix3 0 e n)) n

/-- The logits of token `s` of batch `b` for head `h`. -/
def logitOf (b : Fin 8) (s : Fin 8192) (h : Fin 4) (j : Fin 256) : EReal :=
  logit (fun d => P (ix3 b s ⟨3584 + (h.val * 128 + d.val), by omega⟩)) (fun d => kvOf M W b j ⟨h.val * 128 + d.val, by omega⟩)

/-- The values of column `w`. -/
def valOf (b : Fin 8) (w : Fin 512) (j : Fin 256) : EReal := kvOf M W b j ⟨512 + w.val, by omega⟩

/-- An entry of the result. -/
def att (f : (Fin 256 → EReal) → (Fin 256 → EReal) → EReal) (b : Fin 8) (s : Fin 8192) (w : Fin 512) : EReal :=
  f (logitOf P M W b s ⟨w.val / 128, by omega⟩) (valOf M W b w)

end Cert.Mem

end
-- ==== Proof.MemKer.lean ====
/-
  The values that the memory attention's body stores, entry by entry.
-/
module

public import proofs.«01_k».proof.Proof.Gen.Kernel4Ideal.Value
public import proofs.«01_k».proof.Proof.MemSpec
public import Idealize.ShloMosaic.Lib.Pointwise

@[expose] public section

set_option maxRecDepth 65536
set_option maxErrors 8

noncomputable section

namespace Cert.Kernel4Ideal.Mem

open Idealize.ShloMosaic Idealize.ShloMosaic.TcCoe Idealize.SL.Sem
open Cert.Kernel4Ideal Cert.Kernel4Ideal.Gen Cert.Mem

/-! ## One head -/

def scoreV (q : FVec Ideal S1x1024x128 .bf16) (k : FVec Ideal S256x128 .bf16) : FVec Ideal S1024x256 .f32 :=
  mulf (matmul dot_S1024x128_S256x128_S1024x256_1_1_0_0_n_n none (shapeCast S1024x128 q shapeCasts_S1x1024x128_S1024x128) k (constant S1024x256 .f32 0x00000000#32))
    (broadcast S1024x256 (Scalar.ofBits (F := Ideal) .f32 0x3DB504F3#32))

theorem scoreV_at (q : FVec Ideal S1x1024x128 .bf16) (k : FVec Ideal S256x128 .bf16) (r : Fin 1024) (j : Fin 256) :
    scoreV q k (ix2 r j) = logit (fun d => q (ix3 0 r d)) (fun d => k (ix2 j d)) := by
  pointwise [scoreV]
  rfl

variable (X : FVec Ideal S1024x256 .f32)

def maxV : FVec Ideal S1024 .f32 := multiReduction (F := Ideal) .maximumf [1] S1024 X 0xFF800000#32 reduces_S1024x256_S1024 (.inl rfl) rfl

theorem maxV_at (r : Fin 1024) : maxV X (ix1 r) = top fun j => X (ix2 r j) := by
  pointwise [maxV]
  rfl

def expV : FVec Ideal S1024x256 .f32 :=
  exp (subf X (broadcastTo S1024x256 (shapeCast S1024x1 (maxV X) shapeCasts_S1024_S1024x1) broadcasts_S1024x1_S1024x256))

theorem expV_at (r : Fin 1024) (j : Fin 256) : expV X (ix2 r j) = ex (fun j => X (ix2 r j)) j := by
  pointwise [expV, maxV_at]
  rfl

def sumV : FVec Ideal S1024 .f32 := multiReduction (F := Ideal) .add [1] S1024 (expV X) 0x00000000#32 reduces_S1024x256_S1024 (.inl rfl) rfl

theorem sumV_at (r : Fin 1024) : sumV X (ix1 r) = ∑ j, ex (fun j => X (ix2 r j)) j := by
  pointwise [sumV, expV_at]

/-- The weighted values over the sum. -/
def mixV (v : FVec Ideal S256x128 .bf16) : FVec Ideal S1024x128 .bf16 :=
  truncf (F := Ideal) .bf16 (divf (matmul dot_S1024x256_S256x128_S1024x128_1_0_0_1_n_n none (truncf (F := Ideal) .bf16 (expV X) bitsLt_bf16_f32) v
      (constant S1024x128 .f32 0x00000000#32))
    (broadcastTo S1024x128 (shapeCast S1024x1 (sumV X) shapeCasts_S1024_S1024x1) broadcasts_S1024x1_S1024x128)) bitsLt_bf16_f32

theorem mixV_at (v : FVec Ideal S256x128 .bf16) (r : Fin 1024) (d : Fin 128) :
    mixV X v (ix2 r d) = headLate (fun j => X (ix2 r j)) (fun j => v (ix2 j d)) := by
  pointwise [mixV, expV_at, sumV_at]
  rfl

def headV (q : FVec Ideal S1x1024x128 .bf16) (k v : FVec Ideal S256x128 .bf16) : FVec Ideal S1x1024x128 .bf16 :=
  shapeCast S1x1024x128 (mixV (scoreV q k) v) shapeCasts_S1024x128_S1x1024x128

theorem headV_at (q : FVec Ideal S1x1024x128 .bf16) (k v : FVec Ideal S256x128 .bf16) (r : Fin 1024) (d : Fin 128) :
    headV q k v (ix3 0 r d) = headLate (fun j => logit (fun d => q (ix3 0 r d)) (fun d => k (ix2 j d))) (fun j => v (ix2 j d)) := by
  have h : headV q k v (ix3 0 r d) = mixV (scoreV q k) v (ix2 r d) := by
    pointwise [headV]
  rw [h, mixV_at]
  exact congrArg (fun l => headLate l _) (funext fun j => scoreV_at q k r j)

theorem pay4_eq (q : Vec Ideal S1x1024x128 .bf16) (k v : Vec Ideal S256x128 .bf16) : k0_pay4 (F := Ideal) q k v = headV q k v := rfl
theorem pay6_eq (q : Vec Ideal S1x1024x128 .bf16) (k v : Vec Ideal S256x128 .bf16) : k0_pay6 (F := Ideal) (k0_pay5 q k) v = headV q k v := rfl
theorem pay1_eq (q : Vec Ideal S1x1024x128 .bf16) (k v : Vec Ideal S256x128 .bf16) : k0_pay1 (F := Ideal) (k0_pay7 q k v) = headV q k v := rfl
theorem pay2_eq (q : Vec Ideal S1x1024x128 .bf16) (k v : Vec Ideal S256x128 .bf16) : k0_pay2 (F := Ideal) q k v = headV q k v := rfl

/-! ## The keys and values -/

theorem pay3_at (x : Vec Ideal S1x256x1024 .f32) (w : Vec Ideal S1024x1024 .bf16) (j : Fin 256) (n : Fin 1024) :
    k0_pay3 (F := Ideal) x w (ix2 j n) = kv (fun e => x (ix3 0 j e)) (fun e n => w (ix2 e n)) n := by
  pointwise [k0_pay3]
  rfl

end Cert.Kernel4Ideal.Mem

end
-- ==== Proof.MemOut.lean ====
/-
  The block and the scratch that each point of the memory attention leaves, and the result array entry by entry.
-/
module

public import proofs.«01_k».proof.Proof.MemKer
public import Idealize.ShloMosaic.Lib.Pipeline.ReadBack

@[expose] public section

set_option maxRecDepth 65536
set_option maxErrors 8

noncomputable section

namespace Cert.Kernel4Ideal.Mem

open Idealize.ShloMosaic Idealize.ShloMosaic.TcCoe Idealize.SL.Sem
open Cert.Kernel4Ideal Cert.Kernel4Ideal.Gen Cert.Kernel4Ideal.Value Cert.Mem

/-! ## The stores of one point -/

abbrev Q0 : Rect S1x1024x512 := Rect.unit (s := S1x1024x512) ![0, 0, 0] S1x1024x128.size inb_S1x1024x512_S1x1024x128_0_0_0
abbrev Q1 : Rect S1x1024x512 := Rect.unit (s := S1x1024x512) ![0, 0, 128] S1x1024x128.size inb_S1x1024x512_S1x1024x128_0_0_128
abbrev Q2 : Rect S1x1024x512 := Rect.unit (s := S1x1024x512) ![0, 0, 256] S1x1024x128.size inb_S1x1024x512_S1x1024x128_0_0_256
abbrev Q3 : Rect S1x1024x512 := Rect.unit (s := S1x1024x512) ![0, 0, 384] S1x1024x128.size inb_S1x1024x512_S1x1024x128_0_0_384
abbrev K0 : Rect S256x1024 := Rect.unit (s := S256x1024) ![0, 0] S256x128.size inb_S256x1024_S256x128_0_0
abbrev K1 : Rect S256x1024 := Rect.unit (s := S256x1024) ![0, 128] S256x128.size inb_S256x1024_S256x128_0_128
abbrev K2 : Rect S256x1024 := Rect.unit (s := S256x1024) ![0, 256] S256x128.size inb_S256x1024_S256x128_0_256
abbrev K3 : Rect S256x1024 := Rect.unit (s := S256x1024) ![0, 384] S256x128.size inb_S256x1024_S256x128_0_384
abbrev W0 : Rect S256x1024 := Rect.unit (s := S256x1024) ![0, 512] S256x128.size inb_S256x1024_S256x128_0_512
abbrev W1 : Rect S256x1024 := Rect.unit (s := S256x1024) ![0, 640] S256x128.size inb_S256x1024_S256x128_0_640
abbrev W2 : Rect S256x1024 := Rect.unit (s := S256x1024) ![0, 768] S256x128.size inb_S256x1024_S256x128_0_768
abbrev W3 : Rect S256x1024 := Rect.unit (s := S256x1024) ![0, 896] S256x128.size inb_S256x1024_S256x128_0_896

variable {F : FTy → Type} [FloatOps F]

/-- The four stores into the output block, from the queries `x` and the keys and values `s`. -/
abbrev pcs (x : Vec F S1x1024x512 .bf16) (s : Vec F S256x1024 .bf16) : List (View.Piece (Elt F) S1x1024x512 .bf16) :=
  [⟨Q3, k0_pay2 (View.ld x Q3) (View.ld s K3) (View.ld s W3)⟩,
    ⟨Q2, k0_pay1 (k0_pay7 (View.ld x Q2) (View.ld s K2) (View.ld s W2))⟩,
    ⟨Q1, k0_pay6 (k0_pay5 (View.ld x Q1) (View.ld s K1)) (View.ld s W1)⟩,
    ⟨Q0, k0_pay4 (View.ld x Q0) (View.ld s K0) (View.ld s W0)⟩]

theorem z2 : (![0, 0] : Fin 2 → ℕ) = fun _ => 0 := by funext a; fin_cases a <;> rfl
theorem z3 : (![0, 0, 0] : Fin 3 → ℕ) = fun _ => 0 := by funext a; fin_cases a <;> rfl

theorem rd {s : Shape} {e : EltTy} (arg : Memref sig .tc .vmem s e) (h : arg.IsWhole) (x : Vec F s e) (r : Rect s) :
    View.readAt (Elt F) arg.view r.toLoadRect (h.unread x) = View.ld x r := by
  rw [View.readAt_eq_ld, h.read_unread]

variable (c : Dev nD) (i : grid0.Coords) (arg2 : Memref sig .tc .vmem S1x1024x512 .bf16) (harg2 : arg2.IsWhole) (arg3 : Memref sig .tc .vmem S1x256x1024 .f32) (harg3 : arg3.IsWhole)
  (arg4 : Memref sig .tc .vmem S1024x1024 .bf16) (harg4 : arg4.IsWhole) (arg5 : Memref sig .tc .vmem S1x1024x512 .bf16) (harg5 : arg5.IsWhole) (arg6 : Memref sig .tc .vmem S256x1024 .bf16) (harg6 : arg6.IsWhole)
  (x0 : Vec F S1x1024x512 .bf16) (x1 : Vec F S1x256x1024 .f32) (x2 : Vec F S1024x1024 .bf16) (xs0 : Vec F S256x1024 .bf16)

/-- The store into the scratch at a batch's first point. -/
abbrev scr : List (View.Piece (Elt F) S256x1024 .bf16) :=
  [⟨Rect.unit (s := S256x1024) ![0, 0] S256x1024.size inb_S256x1024_S256x1024_0_0,
    k0_pay3 (View.readAt (Elt F) arg3.view (Rect.unit (s := S1x256x1024) ![0, 0, 0] S1x256x1024.size inb_S1x256x1024_S1x256x1024_0_0_0).toLoadRect (harg3.unread x1))
      (View.readAt (Elt F) arg4.view (Rect.unit (s := S1024x1024) ![0, 0] S1024x1024.size inb_S1024x1024_S1024x1024_0_0).toLoadRect (harg4.unread x2))⟩]

theorem scrA (hc0 : cond0_0 i) : (kernelRun0_A c i arg2 harg2 arg3 harg3 arg4 harg4 arg5 harg5 arg6 harg6 hc0 x0 x1 x2).2.1 = scr arg3 harg3 arg4 harg4 x1 x2 := rfl

theorem scr_canon : View.canon (scr arg3 harg3 arg4 harg4 x1 x2) = k0_pay3 x1 x2 := by
  rw [scr, View.canon_unit_zero z2, rd arg3 harg3, rd arg4 harg4, View.ld_unit_zero z3, View.ld_unit_zero z2]

theorem rdS (r : Rect S256x1024) : arg6.view.readCov (scr arg3 harg3 arg4 harg4 x1 x2) r.toLoadRect = View.ld (k0_pay3 x1 x2) r := by
  rw [View.readCov_eq_canon', scr_canon]

theorem outsA (hc0 : cond0_0 i) : (kernelRun0_A c i arg2 harg2 arg3 harg3 arg4 harg4 arg5 harg5 arg6 harg6 hc0 x0 x1 x2).1 = pcs x0 (k0_pay3 x1 x2) := by
  have e : (kernelRun0_A c i arg2 harg2 arg3 harg3 arg4 harg4 arg5 harg5 arg6 harg6 hc0 x0 x1 x2).1 =
    [⟨Q3, k0_pay2 (View.readAt (Elt F) arg2.view Q3.toLoadRect (harg2.unread x0)) (arg6.view.readCov (scr arg3 harg3 arg4 harg4 x1 x2) K3.toLoadRect) (arg6.view.readCov (scr arg3 harg3 arg4 harg4 x1 x2) W3.toLoadRect)⟩,
    ⟨Q2, k0_pay1 (k0_pay7 (View.readAt (Elt F) arg2.view Q2.toLoadRect (harg2.unread x0)) (arg6.view.readCov (scr arg3 harg3 arg4 harg4 x1 x2) K2.toLoadRect) (arg6.view.readCov (scr arg3 harg3 arg4 harg4 x1 x2) W2.toLoadRect))⟩,
    ⟨Q1, k0_pay6 (k0_pay5 (View.readAt (Elt F) arg2.view Q1.toLoadRect (harg2.unread x0)) (arg6.view.readCov (scr arg3 harg3 arg4 harg4 x1 x2) K1.toLoadRect)) (arg6.view.readCov (scr arg3 harg3 arg4 harg4 x1 x2) W1.toLoadRect)⟩,
    ⟨Q0, k0_pay4 (View.readAt (Elt F) arg2.view Q0.toLoadRect (harg2.unread x0)) (arg6.view.readCov (scr arg3 harg3 arg4 harg4 x1 x2) K0.toLoadRect) (arg6.view.readCov (scr arg3 harg3 arg4 harg4 x1 x2) W0.toLoadRect)⟩] := rfl
  rw [e]
  simp only [rdS, rd]

theorem outsB (hc0 : ¬cond0_0 i) : (kernelRun0_B c i arg2 harg2 arg3 harg3 arg4 harg4 arg5 harg5 arg6 harg6 hc0 x0 x1 x2 xs0).1 = pcs x0 xs0 := by
  have e : (kernelRun0_B c i arg2 harg2 arg3 harg3 arg4 harg4 arg5 harg5 arg6 harg6 hc0 x0 x1 x2 xs0).1 =
    [⟨Q3, k0_pay2 (View.readAt (Elt F) arg2.view Q3.toLoadRect (harg2.unread x0)) (View.readAt (Elt F) arg6.view K3.toLoadRect (harg6.unread xs0)) (View.readAt (Elt F) arg6.view W3.toLoadRect (harg6.unread xs0))⟩,
    ⟨Q2, k0_pay1 (k0_pay7 (View.readAt (Elt F) arg2.view Q2.toLoadRect (harg2.unread x0)) (View.readAt (Elt F) arg6.view K2.toLoadRect (harg6.unread xs0)) (View.readAt (Elt F) arg6.view W2.toLoadRect (harg6.unread xs0)))⟩,
    ⟨Q1, k0_pay6 (k0_pay5 (View.readAt (Elt F) arg2.view Q1.toLoadRect (harg2.unread x0)) (View.readAt (Elt F) arg6.view K1.toLoadRect (harg6.unread xs0))) (View.readAt (Elt F) arg6.view W1.toLoadRect (harg6.unread xs0))⟩,
    ⟨Q0, k0_pay4 (View.readAt (Elt F) arg2.view Q0.toLoadRect (harg2.unread x0)) (View.readAt (Elt F) arg6.view K0.toLoadRect (harg6.unread xs0)) (View.readAt (Elt F) arg6.view W0.toLoadRect (harg6.unread xs0))⟩] := rfl
  rw [e]
  simp only [rd]

/-- The block from the queries `x` and the keys and values `s`. -/
def blkV (x : Vec Ideal S1x1024x512 .bf16) (s : Vec Ideal S256x1024 .bf16) (r : Fin 1024) (w : Fin 512) : EReal :=
  headLate (fun j => logit (fun d : Fin 128 => x (ix3 0 r ⟨w.val / 128 * 128 + d.val, by omega⟩)) (fun d : Fin 128 => s (ix2 j ⟨w.val / 128 * 128 + d.val, by omega⟩)))
    (fun j => s (ix2 j ⟨512 + w.val, by omega⟩))

theorem blk_head (x : Vec Ideal S1x1024x512 .bf16) (s : Vec Ideal S256x1024 .bf16) (h : Fin 4) (r : Fin 1024) (w : Fin 128) (n : Fin 512) (hn : n.val = 128 * h.val + w.val)
    (q : Vec Ideal S1x1024x128 .bf16) (k v : Vec Ideal S256x128 .bf16)
    (hq : ∀ r d, q (ix3 0 r d) = x (ix3 0 r ⟨128 * h.val + d.val, by omega⟩)) (hk : ∀ j d, k (ix2 j d) = s (ix2 j ⟨128 * h.val + d.val, by omega⟩))
    (hv : ∀ j d, v (ix2 j d) = s (ix2 j ⟨512 + 128 * h.val + d.val, by omega⟩)) : headV q k v (ix3 0 r w) = blkV x s r n := by
  rw [headV_at]
  unfold blkV
  congr 1
  · funext j
    congr 1
    · funext d
      rw [hq]
      exact congrArg (fun a => x (ix3 0 r a)) (Fin.ext (by show 128 * h.val + d.val = n.val / 128 * 128 + d.val; omega))
    · funext d
      rw [hk]
      exact congrArg (fun a => s (ix2 j a)) (Fin.ext (by show 128 * h.val + d.val = n.val / 128 * 128 + d.val; omega))
  · funext j
    rw [hv]
    exact congrArg (fun a => s (ix2 j a)) (Fin.ext (by show 512 + 128 * h.val + w.val = 512 + n.val; omega))

theorem ldQ (x : Vec Ideal S1x1024x512 .bf16) (n : ℕ) (hn : n + 128 ≤ 512) (inb : ∀ a, ![0, 0, n] a + S1x1024x128.size a ≤ S1x1024x512.size a) (r : Fin 1024) (d : Fin 128) :
    View.ld x (Rect.unit (s := S1x1024x512) ![0, 0, n] S1x1024x128.size inb) (ix3 0 r d) = x (ix3 0 r ⟨n + d.val, by omega⟩) := by
  show x _ = x _
  congr 1
  funext a
  apply Fin.ext
  match a with
  | ⟨0, _⟩ => rfl
  | ⟨1, _⟩ => show 0 + 1 * r.val = r.val; omega
  | ⟨2, _⟩ => show n + 1 * d.val = n + d.val; omega

theorem ldS (s : Vec Ideal S256x1024 .bf16) (n : ℕ) (hn : n + 128 ≤ 1024) (inb : ∀ a, ![0, n] a + S256x128.size a ≤ S256x1024.size a) (j : Fin 256) (d : Fin 128) :
    View.ld s (Rect.unit (s := S256x1024) ![0, n] S256x128.size inb) (ix2 j d) = s (ix2 j ⟨n + d.val, by omega⟩) := by
  show s _ = s _
  congr 1
  funext a
  apply Fin.ext
  match a with
  | ⟨0, _⟩ => show 0 + 1 * j.val = j.val; omega
  | ⟨1, _⟩ => show n + 1 * d.val = n + d.val; omega

def blkA (x : Vec Ideal S1x1024x512 .bf16) (s : Vec Ideal S256x1024 .bf16) : Vec Ideal S1x1024x512 .bf16 := fun y => blkV x s (y 1) (y 2)

theorem canonG (x : Vec Ideal S1x1024x512 .bf16) (s : Vec Ideal S256x1024 .bf16) : View.canon (pcs x s) = blkA x s := by
  funext y
  refine View.canon_apply_of_pieces _ (pcs x s) ?_ y (View.cover_of_tiledL (pcs x s) S1x1024x128.size (by sl_kernel_rfl) y)
  refine View.PiecesOf.mem ?_
  unfold View.PiecesOf View.PiecesOf View.PiecesOf View.PiecesOf View.PiecesOf
  refine ⟨?_, ?_, ?_, ?_, trivial⟩
  · intro y
    obtain ⟨a, r, w, rfl⟩ : ∃ a r w, y = ix3 (n0 := 1) (n1 := 1024) (n2 := 128) a r w := ⟨y 0, y 1, y 2, by funext k; match k with | ⟨0, _⟩ => rfl | ⟨1, _⟩ => rfl | ⟨2, _⟩ => rfl⟩
    obtain rfl : a = 0 := Subsingleton.elim _ _
    have e1 : (Q3.emb (ix3 (n0 := 1) (n1 := 1024) (n2 := 128) 0 r w) 1) = r := Fin.ext (by show 0 + 1 * r.val = r.val; omega)
    show _ = blkV x s (Q3.emb (ix3 (n0 := 1) (n1 := 1024) (n2 := 128) 0 r w) 1) (Q3.emb (ix3 (n0 := 1) (n1 := 1024) (n2 := 128) 0 r w) 2)
    rw [e1]
    dsimp only
    rw [pay2_eq]
    exact blk_head x s 3 r w _ (by show 384 + 1 * w.val = 128 * 3 + w.val; omega) _ _ _
      (fun r d => ldQ x 384 (by omega) _ r d) (fun j d => ldS s 384 (by omega) _ j d) (fun j d => ldS s 896 (by omega) _ j d)
  · intro y
    obtain ⟨a, r, w, rfl⟩ : ∃ a r w, y = ix3 (n0 := 1) (n1 := 1024) (n2 := 128) a r w := ⟨y 0, y 1, y 2, by funext k; match k with | ⟨0, _⟩ => rfl | ⟨1, _⟩ => rfl | ⟨2, _⟩ => rfl⟩
    obtain rfl : a = 0 := Subsingleton.elim _ _
    have e1 : (Q2.emb (ix3 (n0 := 1) (n1 := 1024) (n2 := 128) 0 r w) 1) = r := Fin.ext (by show 0 + 1 * r.val = r.val; omega)
    show _ = blkV x s (Q2.emb (ix3 (n0 := 1) (n1 := 1024) (n2 := 128) 0 r w) 1) (Q2.emb (ix3 (n0 := 1) (n1 := 1024) (n2 := 128) 0 r w) 2)
    rw [e1]
    dsimp only
    rw [pay1_eq]
    exact blk_head x s 2 r w _ (by show 256 + 1 * w.val = 128 * 2 + w.val; omega) _ _ _
      (fun r d => ldQ x 256 (by omega) _ r d) (fun j d => ldS s 256 (by omega) _ j d) (fun j d => ldS s 768 (by omega) _ j d)
  · intro y
    obtain ⟨a, r, w, rfl⟩ : ∃ a r w, y = ix3 (n0 := 1) (n1 := 1024) (n2 := 128) a r w := ⟨y 0, y 1, y 2, by funext k; match k with | ⟨0, _⟩ => rfl | ⟨1, _⟩ => rfl | ⟨2, _⟩ => rfl⟩
    obtain rfl : a = 0 := Subsingleton.elim _ _
    have e1 : (Q1.emb (ix3 (n0 := 1) (n1 := 1024) (n2 := 128) 0 r w) 1) = r := Fin.ext (by show 0 + 1 * r.val = r.val; omega)
    show _ = blkV x s (Q1.emb (ix3 (n0 := 1) (n1 := 1024) (n2 := 128) 0 r w) 1) (Q1.emb (ix3 (n0 := 1) (n1 := 1024) (n2 := 128) 0 r w) 2)
    rw [e1]
    dsimp only
    rw [pay6_eq]
    exact blk_head x s 1 r w _ (by show 128 + 1 * w.val = 128 * 1 + w.val; omega) _ _ _
      (fun r d => ldQ x 128 (by omega) _ r d) (fun j d => ldS s 128 (by omega) _ j d) (fun j d => ldS s 640 (by omega) _ j d)
  · intro y
    obtain ⟨a, r, w, rfl⟩ : ∃ a r w, y = ix3 (n0 := 1) (n1 := 1024) (n2 := 128) a r w := ⟨y 0, y 1, y 2, by funext k; match k with | ⟨0, _⟩ => rfl | ⟨1, _⟩ => rfl | ⟨2, _⟩ => rfl⟩
    obtain rfl : a = 0 := Subsingleton.elim _ _
    have e1 : (Q0.emb (ix3 (n0 := 1) (n1 := 1024) (n2 := 128) 0 r w) 1) = r := Fin.ext (by show 0 + 1 * r.val = r.val; omega)
    show _ = blkV x s (Q0.emb (ix3 (n0 := 1) (n1 := 1024) (n2 := 128) 0 r w) 1) (Q0.emb (ix3 (n0 := 1) (n1 := 1024) (n2 := 128) 0 r w) 2)
    rw [e1]
    dsimp only
    rw [pay4_eq]
    exact blk_head x s 0 r w _ (by show 0 + 1 * w.val = 128 * 0 + w.val; omega) _ _ _
      (fun r d => ldQ x 0 (by omega) _ r d) (fun j d => ldS s 0 (by omega) _ j d) (fun j d => ldS s 512 (by omega) _ j d)

/-! ## The blocks -/

variable (m : (ℓ : Loc nD τ sig) → Buf (Elt Ideal) ℓ)

/-- The arguments. -/
abbrev Pv (m : (ℓ : Loc nD τ sig) → Buf (Elt Ideal) ℓ) (c : Dev nD) : FVec Ideal S8x8192x7168 .bf16 := m ((c : Thread nD τ).loc main_arg0)
abbrev Mv (m : (ℓ : Loc nD τ sig) → Buf (Elt Ideal) ℓ) (c : Dev nD) : FVec Ideal S8x256x1024 .f32 := m ((c : Thread nD τ).loc main_arg1)
abbrev Wv (m : (ℓ : Loc nD τ sig) → Buf (Elt Ideal) ℓ) (c : Dev nD) : FVec Ideal S1x1024x1024 .f32 := m ((c : Thread nD τ).loc main_arg2)

theorem V1 : (V m c main_v1 : FVec Ideal S1024x1024 .bf16) = (truncf (F := Ideal) .bf16 (shapeCast S1024x1024 (Wv m c) shapeCasts_S1x1024x1024_S1024x1024) bitsLt_bf16_f32 : FVec Ideal S1024x1024 .bf16) := by
  unfold_abbrev_sides
  after_results
  rfl

theorem V1_at (e n : Fin 1024) : (V m c main_v1 : FVec Ideal S1024x1024 .bf16) (ix2 e n) = Wv m c (ix3 0 e n) := by
  rw [V1]
  pointwise

abbrev bOf (t : Fin cfg0.N) : Fin 8 := ⟨t.val / 8, by have h : t.val < 64 := lt_of_lt_of_eq t.isLt N_0; omega⟩

theorem blk0 (t : Fin cfg0.N) (r : Fin 1024) (w : Fin 512) :
    (iblk m c 0 t : Vec Ideal S1x1024x512 .bf16) (ix3 0 r w) = Pv m c (ix3 (bOf t) ⟨1024 * (t.val % 8) + r.val, by omega⟩ ⟨3584 + w.val, by omega⟩) := by
  have e : ∀ t : Fin cfg0.N, win0_0.index t (0 : Fin 3) = t.val / 8 ∧ win0_0.index t (1 : Fin 3) = t.val % 8 ∧ win0_0.index t (2 : Fin 3) = 7 :=
    (by decide +kernel : ∀ t : Fin grid0.N, _)
  obtain ⟨e0, e1, e2⟩ := e t
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * 0 = t.val / 8; rw [e0]; omega
  | ⟨1, _⟩ => show win0_0.index t 1 * 1024 + 1 * r.val = 1024 * (t.val % 8) + r.val; rw [e1]; omega
  | ⟨2, _⟩ => show win0_0.index t 2 * 512 + 1 * w.val = 3584 + w.val; rw [e2]; omega

theorem blk1 (t : Fin cfg0.N) (j : Fin 256) (n : Fin 1024) : (iblk m c 1 t : Vec Ideal S1x256x1024 .f32) (ix3 0 j n) = Mv m c (ix3 (bOf t) j n) := by
  have e : ∀ t : Fin cfg0.N, win0_1.index t (0 : Fin 3) = t.val / 8 ∧ win0_1.index t (1 : Fin 3) = 0 ∧ win0_1.index t (2 : Fin 3) = 0 :=
    (by decide +kernel : ∀ t : Fin grid0.N, _)
  obtain ⟨e0, e1, e2⟩ := e t
  unfold iblk
  rw [View.read_apply]
  show V m c main_arg1 _ = m (c.tc.loc main_arg1) _
  rw [V_main_arg1]
  congr 1
  funext a
  apply Fin.ext
  match a with
  | ⟨0, _⟩ => show win0_1.index t 0 * 1 + 1 * 0 = t.val / 8; rw [e0]; omega
  | ⟨1, _⟩ => show win0_1.index t 1 * 256 + 1 * j.val = j.val; rw [e1]; omega
  | ⟨2, _⟩ => show win0_1.index t 2 * 1024 + 1 * n.val = n.val; rw [e2]; omega

theorem blk2 (t : Fin cfg0.N) (k n : Fin 1024) : (iblk m c 2 t : Vec Ideal S1024x1024 .bf16) (ix2 k n) = Wv m c (ix3 0 k n) := by
  have e : ∀ t : Fin cfg0.N, win0_2.index t (0 : Fin 2) = 0 ∧ win0_2.index t (1 : Fin 2) = 0 := (by decide +kernel : ∀ t : Fin grid0.N, _)
  obtain ⟨e0, e1⟩ := e t
  unfold iblk
  rw [View.read_apply, ← V1_at c m k n]
  show V m c main_v1 _ = V m c main_v1 _
  congr 1
  funext a
  apply Fin.ext
  match a with
  | ⟨0, _⟩ => show win0_2.index t 0 * 1024 + 1 * k.val = k.val; rw [e0]; omega
  | ⟨1, _⟩ => show win0_2.index t 1 * 1024 + 1 * n.val = n.val; rw [e1]; omega

/-! ## What each point leaves -/

/-- The keys and values of batch `b`. -/
def KV (b : Fin 8) : Vec Ideal S256x1024 .bf16 := fun y => kvOf (Mv m c) (Wv m c) b (y 0) (y 1)

theorem pay3_blk (t : Fin cfg0.N) : k0_pay3 (F := Ideal) (iblk m c 1 t) (iblk m c 2 t) = KV c m (bOf t) := by
  funext y
  obtain ⟨j, n, rfl⟩ : ∃ j n, y = ix2 (n0 := 256) (n1 := 1024) j n := ⟨y 0, y 1, by funext k; match k with | ⟨0, _⟩ => rfl | ⟨1, _⟩ => rfl⟩
  rw [pay3_at]
  show kv _ _ n = kv (fun e => Mv m c (ix3 (bOf t) j e)) (fun e n => Wv m c (ix3 0 e n)) n
  congr 1
  · funext e
    exact blk1 c m t j e
  · funext e n
    exact blk2 c m t e n

/-- The scratch after each point. -/
theorem st_eq : ∀ (n : ℕ) (hn : n < cfg0.N), (outsAt0 m c n hn).2 = KV c m (bOf ⟨n, hn⟩) := by
  intro n
  induction n with
  | zero =>
    intro hn
    have h0 : ((⟨0, hn⟩ : Fin cfg0.N)).val % 8 = 0 := rfl
    have e := outsAt0_A m c ⟨0, hn⟩ h0
    rw [show outsAt0 m c 0 hn = _ from e]
    dsimp only
    unfold sout0_A_0
    rw [View.read_writes_junk_eq_canon, scrA, scr_canon, pay3_blk]
  | succ n ih =>
    intro hn
    by_cases h0 : (n + 1) % 8 = 0
    · have e := outsAt0_A m c ⟨n + 1, hn⟩ h0
      rw [show outsAt0 m c (n + 1) hn = _ from e]
      dsimp only
      unfold sout0_A_0
      rw [View.read_writes_junk_eq_canon, scrA, scr_canon, pay3_blk]
    · have e := outsAt0_B m c ⟨n + 1, hn⟩ h0
      rw [show outsAt0 m c (n + 1) hn = _ from e]
      dsimp only
      unfold sout0_B_0
      have hb : bOf ⟨n, Nat.lt_of_succ_lt hn⟩ = bOf ⟨n + 1, hn⟩ := Fin.ext (by show n / 8 = (n + 1) / 8; omega)
      exact (ih (Nat.lt_of_succ_lt hn)).trans (by rw [hb])

/-- The output block after each point. -/
theorem out_eq (t : Fin cfg0.N) : (outsAt0 m c t.val t.isLt).1 = blkA (iblk m c 0 t) (KV c m (bOf t)) := by
  by_cases h0 : t.val % 8 = 0
  · rw [outsAt0_A m c t h0]
    dsimp only
    unfold out0_A_3
    rw [View.read_writes_junk_eq_canon, outsA, pay3_blk, canonG]
  · rw [outsAt0_B m c t h0]
    dsimp only
    unfold out0_B_3
    have hb : bOf ⟨t.val - 1, Nat.lt_of_le_of_lt (Nat.sub_le _ _) t.isLt⟩ = bOf t := Fin.ext (by show (t.val - 1) / 8 = t.val / 8; omega)
    rw [View.read_writes_junk_eq_canon, outsB, st_eq, hb, canonG]

/-- An entry of a point's block. -/
theorem blkV_eq (t : Fin cfg0.N) (r : Fin 1024) (w : Fin 512) (s : Fin 8192) (hs : s.val = 1024 * (t.val % 8) + r.val) :
    blkV (iblk m c 0 t) (KV c m (bOf t)) r w = att (Pv m c) (Mv m c) (Wv m c) headLate (bOf t) s w := by
  obtain ⟨s, hl⟩ := s
  dsimp only at hs
  subst hs
  unfold blkV att
  congr 1
  funext j
  unfold logitOf
  congr 1
  funext d
  exact blk0 c m t r _

/-- What the result array holds. -/
theorem G3_eq (b : Fin 8) (s : Fin 8192) (w : Fin 512) : G3 m c (ix3 b s w) = att (Pv m c) (Mv m c) (Wv m c) headLate b s w := by
  have hp : pt3Of (ix3 b s w) = 8 * b.val + s.val / 1024 := by
    show 8 * (b.val / 1 - 0) + 1 * (s.val / 1024 - 0) + 1 * (w.val / 512 - 0) = _
    omega
  have hN : pt3Of (ix3 b s w) < cfg0.N := by rw [hp]; exact lt_of_lt_of_eq (by omega) N_0.symm
  unfold G3
  rw [dif_pos hN, ← outsAt0_sweep m c (pt3Of (ix3 b s w)) hN, out_eq c m ⟨pt3Of (ix3 b s w), hN⟩]
  have hb : bOf ⟨pt3Of (ix3 b s w), hN⟩ = b := Fin.ext (by show pt3Of (ix3 b s w) / 8 = b.val; rw [hp]; omega)
  refine (blkV_eq c m ⟨pt3Of (ix3 b s w), hN⟩ _ _ s (by show s.val = 1024 * (pt3Of (ix3 b s w) % 8) + s.val % 1024; rw [hp]; omega)).trans ?_
  rw [hb]
  exact congrArg _ (Fin.ext (by show w.val % 512 = w.val; omega))

end Cert.Kernel4Ideal.Mem

end
-- ==== Proof.MemRef.lean ====
/-
  The reference's memory attention, entry by entry.
-/
module

public import proofs.«01_k».proof.Proof.Gen.Reference4Ideal.Run
public import proofs.«01_k».proof.Proof.MemSpec
public import Idealize.ShloMosaic.Lib.Pointwise
public import Idealize.ShloMosaic.Lib.Pipeline.Value

@[expose] public section

set_option maxRecDepth 65536
set_option maxErrors 8

noncomputable section

namespace Cert.Reference4Ideal.Mem

open Idealize.ShloMosaic Idealize.ShloMosaic.TcCoe Idealize.SL.Sem Idealize.ShloMosaic.StableHlo
open Cert.Reference4Ideal Cert.Reference4Ideal.Gen Cert.Mem

def kvV (mem : FVec Ideal S8x256x1024 .f32) (w : FVec Ideal S1x1024x1024 .f32) : FVec Ideal S8x256x1024 .f32 :=
  Host.dotGeneral dot_S8x256x1024_S1024x1024_S8x256x1024_2_0_01_1_n_n none mem (shapeCast S1024x1024 w shapeCasts_S1x1024x1024_S1024x1024)

theorem kvV_at (mem : FVec Ideal S8x256x1024 .f32) (w : FVec Ideal S1x1024x1024 .f32) (b : Fin 8) (j : Fin 256) (n : Fin 1024) :
    kvV mem w (ix3 b j n) = kvOf mem w b j n := by
  pointwise [kvV]
  rfl

def logitV (p : FVec Ideal S8x8192x7168 .bf16) (X : FVec Ideal S8x256x1024 .f32) : FVec Ideal S8x4x8192x256 .f32 :=
  mulf (Host.dotGeneral dot_S8x8192x4x128_S8x256x4x128_S8x4x8192x256_3_3_1_1_02_02 none
      (shapeCast S8x8192x4x128 (extf (F := Ideal) .f32 (extractStridedSlice S8x8192x512 ![0, 0, 3584] p slices_S8x8192x7168_S8x8192x512_0_0_3584) bitsLt_bf16_f32)
        shapeCasts_S8x8192x512_S8x8192x4x128)
      (shapeCast S8x256x4x128 (extractStridedSlice S8x256x512 ![0, 0, 0] X slices_S8x256x1024_S8x256x512_0_0_0) shapeCasts_S8x256x512_S8x256x4x128))
    (broadcastInDim S8x4x8192x256 ![] bcast_S_S8x4x8192x256 (constant S_ .f32 0x3DB504F3#32))

theorem logitV_at (p : FVec Ideal S8x8192x7168 .bf16) (X : FVec Ideal S8x256x1024 .f32) (b : Fin 8) (h : Fin 4) (s : Fin 8192) (j : Fin 256) :
    logitV p X (ix4 b h s j) = logit (fun d => p (ix3 b s ⟨3584 + (h.val * 128 + d.val), by omega⟩)) (fun d => X (ix3 b j ⟨h.val * 128 + d.val, by omega⟩)) := by
  pointwise [logitV]
  rfl

variable (L : FVec Ideal S8x4x8192x256 .f32)

def topV : FVec Ideal S8x4x8192 .f32 :=
  maximumf (broadcastInDim S8x4x8192 ![] bcast_S_S8x4x8192 (constant S_ .f32 0xFF800000#32))
    (Host.reduce FloatOps.maximumf L (constant S_ .f32 0xFF800000#32) reducesTo_S8x4x8192x256_S8x4x8192_d3 h_S_)

def expV : FVec Ideal S8x4x8192x256 .f32 :=
  Host.exp (subf L (broadcastInDim S8x4x8192x256 ![0, 1, 2, 3] bcast_S8x4x8192x1_S8x4x8192x256_0_1_2_3
    (broadcastInDim S8x4x8192x1 ![0, 1, 2] bcast_S8x4x8192_S8x4x8192x1_0_1_2 (topV L))))

def wtV : FVec Ideal S8x4x8192x256 .f32 :=
  Host.divf (expV L) (broadcastInDim S8x4x8192x256 ![0, 1, 2, 3] bcast_S8x4x8192x1_S8x4x8192x256_0_1_2_3
    (broadcastInDim S8x4x8192x1 ![0, 1, 2] bcast_S8x4x8192_S8x4x8192x1_0_1_2
      (Host.reduceAdd (expV L) (constant S_ .f32 0x00000000#32) reducesTo_S8x4x8192x256_S8x4x8192_d3 h_S_)))

theorem fold_top (l : Fin 256 → EReal) :
    max (Ideal.ofBits .f32 4286578688#32) (Finset.univ.fold max (Ideal.ofBits .f32 4286578688#32) l) = top l := by
  unfold top
  exact max_eq_right (by rw [low]; exact bot_le)

/-- The largest element along the last axis, for any sizes. -/
theorem max_last {n0 n1 n2 n3 : ℕ} (x : FVec Ideal ⟨4, ![n0, n1, n2, n3]⟩ .f32) (v : FVec Ideal S_ .f32) (hr : (⟨4, ![n0, n1, n2, n3]⟩ : Shape).ReducesTo [3] ⟨3, ![n0, n1, n2]⟩)
    (hu : 0 < S_.numel) (a : Fin n0) (b : Fin n1) (c : Fin n2) :
    Host.reduce (FloatOps.maximumf (F := Ideal) (φ := .f32)) x v hr hu (ix3 a b c) = Finset.univ.fold max (v (Shape.Idx.first hu)) fun k : Fin n3 => x (ix4 a b c k) := by
  pointwise

theorem red_at (b : Fin 8) (h : Fin 4) (s : Fin 8192) :
    Host.reduce (FloatOps.maximumf (F := Ideal) (φ := .f32)) L (constant S_ .f32 0xFF800000#32) reducesTo_S8x4x8192x256_S8x4x8192_d3 h_S_ (ix3 b h s)
      = Finset.univ.fold max ((constant (F := Ideal) S_ .f32 0xFF800000#32) (Shape.Idx.first h_S_)) (fun k => L (ix4 b h s k)) :=
  max_last L _ _ _ b h s

theorem start_at (b : Fin 8) (h : Fin 4) (s : Fin 8192) :
    broadcastInDim S8x4x8192 ![] bcast_S_S8x4x8192 (constant (F := Ideal) S_ .f32 0xFF800000#32) (ix3 b h s) = Ideal.ofBits .f32 4286578688#32 := by
  pointwise

theorem topV_at (b : Fin 8) (h : Fin 4) (s : Fin 8192) : topV L (ix3 b h s) = top fun j => L (ix4 b h s j) := by
  unfold topV
  rw [maximumf_apply, red_at, start_at]
  exact fold_top fun j => L (ix4 b h s j)

theorem expV_at (b : Fin 8) (h : Fin 4) (s : Fin 8192) (j : Fin 256) : expV L (ix4 b h s j) = ex (fun j => L (ix4 b h s j)) j := by
  pointwise [expV, topV_at]
  rfl

theorem wtV_at (b : Fin 8) (h : Fin 4) (s : Fin 8192) (j : Fin 256) :
    wtV L (ix4 b h s j) = Ideal.div (ex (fun j => L (ix4 b h s j)) j) (∑ a, ex (fun j => L (ix4 b h s j)) a) := by
  pointwise [wtV, expV_at]

def mixV (X : FVec Ideal S8x256x1024 .f32) (W : FVec Ideal S8x4x8192x256 .f32) : FVec Ideal S8x8192x512 .bf16 :=
  truncf (F := Ideal) .bf16 (shapeCast S8x8192x512 (transpose S8x8192x4x128 [0, 3, 1, 2]
    (Host.dotGeneral dot_S8x256x4x128_S8x4x8192x256_S8x4x128x8192_1_3_3_2_02_01 none
      (shapeCast S8x256x4x128 (extractStridedSlice S8x256x512 ![0, 0, 512] X slices_S8x256x1024_S8x256x512_0_0_512) shapeCasts_S8x256x512_S8x256x4x128) W)
    transposes_S8x4x128x8192_S8x8192x4x128_0_3_1_2) shapeCasts_S8x8192x4x128_S8x8192x512) bitsLt_bf16_f32

theorem mixV_at (X : FVec Ideal S8x256x1024 .f32) (W : FVec Ideal S8x4x8192x256 .f32) (b : Fin 8) (s : Fin 8192) (w : Fin 512) :
    mixV X W (ix3 b s w) = ∑ j : Fin 256, X (ix3 b j ⟨512 + w.val, by omega⟩) * W (ix4 b ⟨w.val / 128, by omega⟩ s j) := by
  pointwise [mixV]

variable (p : FVec Ideal S8x8192x7168 .bf16) (mem : FVec Ideal S8x256x1024 .f32) (w : FVec Ideal S1x1024x1024 .f32)

def resV : FVec Ideal S8x8192x512 .bf16 := mixV (kvV mem w) (wtV (logitV p (kvV mem w)))

theorem res_eq (m : (ℓ : Loc nD τ sig) → Buf (Elt Ideal) ℓ) (c : Dev nD) : Cert.Reference4Ideal.Value.res_main_v30 m c
    = resV (m (c.tc.loc main_arg0)) (m (c.tc.loc main_arg1)) (m (c.tc.loc main_arg2)) := by
  unfold Cert.Reference4Ideal.Value.res_main_v30 resV mixV wtV expV topV logitV kvV
  rfl

theorem logitV_eq (b : Fin 8) (h : Fin 4) (s : Fin 8192) (j : Fin 256) : logitV p (kvV mem w) (ix4 b h s j) = logitOf p mem w b s h j := by
  rw [logitV_at]
  unfold logitOf
  refine congrArg (logit _) (funext fun d => ?_)
  rw [kvV_at]

/-- An entry of the result. -/
theorem resV_at (b : Fin 8) (s : Fin 8192) (e : Fin 512) : resV p mem w (ix3 b s e) = att p mem w head b s e := by
  unfold resV
  rw [mixV_at]
  unfold att head
  refine Finset.sum_congr rfl fun j _ => ?_
  rw [wtV_at, kvV_at]
  have hl : (fun j => logitV p (kvV mem w) (ix4 b ⟨e.val / 128, by omega⟩ s j)) = logitOf p mem w b s ⟨e.val / 128, by omega⟩ :=
    funext fun j => logitV_eq p mem w b _ s j
  rw [hl]
  rfl

end Cert.Reference4Ideal.Mem

end
-- ==== Proof.MemPre.lean ====
/-
  What the precondition of the memory attention says: the logits are real numbers.
-/
module

public import proofs.«01_k».proof.Pre_finite_logits
public import proofs.«01_k».proof.Proof.MemSpec
public import Idealize.ShloMosaic.Lib.Pointwise
public import Idealize.ShloMosaic.Lib.ReduceAll

@[expose] public section

set_option maxRecDepth 65536
set_option maxErrors 8

noncomputable section

namespace Cert.Pre_finite_logits

open Idealize.ShloMosaic Idealize.ShloMosaic.TcCoe Idealize.SL.Sem
open Cert.Mem

theorem facts : Facts where
  slices_S8x8192x7168_S8x8192x512_0_0_3584 := by decide
  bitsLt_bf16_f32 := by decide
  shapeCasts_S8x8192x512_S8x8192x4x128 := by decide
  shapeCasts_S1x1024x1024_S1024x1024 := by decide
  slices_S8x256x1024_S8x256x512_0_0_0 := by decide
  slices_S8x256x1024_S8x256x512_0_0_512 := by decide
  shapeCasts_S8x256x512_S8x256x4x128 := by decide
  bcast_S_S8x4x8192x256 := by decide
  reducesTo_S8x4x8192x256_S_d0_1_2_3 := by decide
  h_S_ := by decide
  dot_S8x256x1024_S1024x1024_S8x256x1024_2_0_01_1_n_n_wf := by decide
  dot_S8x8192x4x128_S8x256x4x128_S8x4x8192x256_3_3_1_1_02_02_wf := by decide

variable [Facts]
open Facts

def kvV (mem : FVec Ideal S8x256x1024 .f32) (w : FVec Ideal S1x1024x1024 .f32) : FVec Ideal S8x256x1024 .f32 :=
  Host.dotGeneral dot_S8x256x1024_S1024x1024_S8x256x1024_2_0_01_1_n_n none mem (shapeCast S1024x1024 w shapeCasts_S1x1024x1024_S1024x1024)

theorem kvV_at (mem : FVec Ideal S8x256x1024 .f32) (w : FVec Ideal S1x1024x1024 .f32) (b : Fin 8) (j : Fin 256) (n : Fin 1024) :
    kvV mem w (ix3 b j n) = kvOf mem w b j n := by
  pointwise [kvV]
  rfl

def logitV (p : FVec Ideal S8x8192x7168 .bf16) (X : FVec Ideal S8x256x1024 .f32) : FVec Ideal S8x4x8192x256 .f32 :=
  mulf (Host.dotGeneral dot_S8x8192x4x128_S8x256x4x128_S8x4x8192x256_3_3_1_1_02_02 none
      (shapeCast S8x8192x4x128 (extf (F := Ideal) .f32 (extractStridedSlice S8x8192x512 ![0, 0, 3584] p slices_S8x8192x7168_S8x8192x512_0_0_3584) bitsLt_bf16_f32)
        shapeCasts_S8x8192x512_S8x8192x4x128)
      (shapeCast S8x256x4x128 (extractStridedSlice S8x256x512 ![0, 0, 0] X slices_S8x256x1024_S8x256x512_0_0_0) shapeCasts_S8x256x512_S8x256x4x128))
    (broadcastInDim S8x4x8192x256 ![] bcast_S_S8x4x8192x256 (constant S_ .f32 0x3DB504F3#32))

theorem logitV_at (p : FVec Ideal S8x8192x7168 .bf16) (X : FVec Ideal S8x256x1024 .f32) (b : Fin 8) (h : Fin 4) (s : Fin 8192) (j : Fin 256) :
    logitV p X (ix4 b h s j) = logit (fun d => p (ix3 b s ⟨3584 + (h.val * 128 + d.val), by omega⟩)) (fun d => X (ix3 b j ⟨h.val * 128 + d.val, by omega⟩)) := by
  pointwise [logitV]
  rfl

def belowV (X : FVec Ideal S8x4x8192x256 .f32) : IVec S8x4x8192x256 1 :=
  cmpf .olt (Host.absf X) (broadcastInDim S8x4x8192x256 ![] bcast_S_S8x4x8192x256 (constant S_ .f32 0x7F800000#32))

theorem real_of_below (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  refine Cert.Mix.real_of_abs_lt (fun e => ?_) (fun e => ?_)
  · subst e
    simp [Ideal.cmp] at h
  · subst e
    simp [Ideal.cmp] at h

theorem below_real (X : FVec Ideal S8x4x8192x256 .f32) (i : S8x4x8192x256.Idx) (h : belowV X i = 1#1) : ∃ r : ℝ, (X i : EReal) = (r : EReal) :=
  real_of_below (X i) h

instance : Subsingleton S_.Idx := ⟨fun a b => funext fun k => k.elim0⟩

/-- The logits are real. -/
theorem logits_real (p : FVec Ideal S8x8192x7168 .bf16) (mem : FVec Ideal S8x256x1024 .f32) (w : FVec Ideal S1x1024x1024 .f32)
    (h : fn (F := Ideal) p mem w = fun _ => 1#1) (b : Fin 8) (s : Fin 8192) (k : Fin 4) (j : Fin 256) : ∃ r : ℝ, logitOf p mem w b s k j = (r : EReal) := by
  have e : Host.reduce IntOp.andi (belowV (logitV p (kvV mem w))) (constantI S_ 1 1#1) reducesTo_S8x4x8192x256_S_d0_1_2_3 h_S_ (Shape.Idx.first h_S_) = 1#1 :=
    congrFun h (Shape.Idx.first h_S_)
  have hl : logitV p (kvV mem w) (ix4 b k s j) = logitOf p mem w b s k j := by
    rw [logitV_at]
    unfold logitOf
    refine congrArg (logit _) (funext fun d => ?_)
    rw [kvV_at]
  rw [← hl]
  exact below_real _ _ (Host.reduce_andi_all _ _ _ _ _ e (ix4 b k s j))

end Cert.Pre_finite_logits

end
-- ==== Proof.MemEqual.lean ====
/-
  The memory attention's two results are equal.
-/
module

public import proofs.«01_k».proof.Proof.MemOut
public import proofs.«01_k».proof.Proof.MemRef
public import proofs.«01_k».proof.Proof.MemPre

@[expose] public section

set_option maxRecDepth 65536

noncomputable section

namespace Cert.MemEqual

open Idealize.ShloMosaic Idealize.ShloMosaic.TcCoe Idealize.SL.Sem
open Cert.Mem

/-- On finite logits the reference's array is the kernel's. -/
theorem result_eq (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    [Cert.Pre_finite_logits.Facts]
    (h : Cert.Pre_finite_logits.fn (F := Ideal) (Cert.Kernel4Ideal.Mem.Pv m c) (Cert.Kernel4Ideal.Mem.Mv m c) (Cert.Kernel4Ideal.Mem.Wv m c) = fun _ => 1#1)
    (e0 : m' ((c.tc : Thread Cert.Reference4Ideal.nD Cert.Reference4Ideal.τ).loc Cert.Reference4Ideal.main_arg0) = Cert.Kernel4Ideal.Mem.Pv m c)
    (e1 : m' ((c.tc : Thread Cert.Reference4Ideal.nD Cert.Reference4Ideal.τ).loc Cert.Reference4Ideal.main_arg1) = Cert.Kernel4Ideal.Mem.Mv m c)
    (e2 : m' ((c.tc : Thread Cert.Reference4Ideal.nD Cert.Reference4Ideal.τ).loc Cert.Reference4Ideal.main_arg2) = Cert.Kernel4Ideal.Mem.Wv m c) :
    Cert.Reference4Ideal.Value.res_main_v30 m' c = Cert.Kernel4Ideal.Value.G3 m c := by
  rw [Cert.Reference4Ideal.Mem.res_eq, e0, e1, e2]
  funext i
  obtain ⟨b, s, w, rfl⟩ : ∃ b s w, i = ix3 (n0 := 8) (n1 := 8192) (n2 := 512) b s w := ⟨i 0, i 1, i 2, by funext k; match k with | ⟨0, _⟩ => rfl | ⟨1, _⟩ => rfl | ⟨2, _⟩ => rfl⟩
  refine (Cert.Reference4Ideal.Mem.resV_at _ _ _ b s w).trans (Eq.trans ?_ (Cert.Kernel4Ideal.Mem.G3_eq c m b s w).symm)
  exact (headLate_eq _ _ fun j => Cert.Pre_finite_logits.logits_real _ _ _ h b s _ j).symm

end Cert.MemEqual

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Kernel2.Frame
public import proofs.«01_k».proof.Proof.Gen.Kernel2Ideal.Frame
public import proofs.«01_k».proof.Proof.Gen.Kernel2Ideal.Skeleton
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Equal
public import proofs.«01_k».proof.Proof.ProjOut
public import proofs.«01_k».proof.Proof.ProjBits
public import proofs.«01_k».proof.Proof.ProjRef
public import proofs.«01_k».proof.Proof.MixEqual
public import proofs.«01_k».proof.Proof.MemEqual
public import Idealize.ShloMosaic.Adequacy
public import Idealize.ShloMosaic.Init

@[expose] public section

noncomputable section

namespace Cert.Proof

open Idealize.ShloMosaic Idealize.SL.Sem Cert.Kernel

/-- The reference's run: its result, its arguments, no counter left. -/
theorem reference_run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_v95)
          = StableHlo.finalContents Cert.ReferenceIdeal.Value.condOps Cert.ReferenceIdeal.Value.preI Cert.ReferenceIdeal.Value.bodyI Cert.ReferenceIdeal.Value.postI 128 m c (Proc.devRef .tc Cert.ReferenceIdeal.main_v95)
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => ⟨h c Cert.ReferenceIdeal.main_v95 (by decide),
      (h c Cert.ReferenceIdeal.main_arg0 (by decide)).trans (Cert.ReferenceIdeal.Vals.fin_arg0 m c),
      (h c Cert.ReferenceIdeal.main_arg1 (by decide)).trans (Cert.ReferenceIdeal.Vals.fin_arg1 m c),
      (h c Cert.ReferenceIdeal.main_arg2 (by decide)).trans (Cert.ReferenceIdeal.Vals.fin_arg2 m c)⟩,
      sem_eq_zero_of_no_sems (by decide) _⟩)
    (Cert.ReferenceIdeal.Value.run_fold m g)

theorem algebraic : Cert.algebraic_KernelIdeal_ReferenceIdeal (hKernelIdeal := Cert.KernelIdeal.Gen.facts) (hReferenceIdeal := Cert.ReferenceIdeal.Gen.facts) := by
  intro m g m' g' _ he
  refine ⟨fun c => Cert.KernelIdeal.Value.G6 m c, Cert.KernelIdeal.Value.run m g, ?_⟩
  refine (θ_run Cert.ReferenceIdeal.defs _ _).mono (fun r h c => ⟨(h.1 c).1.trans ?_, (h.1 c).2⟩) (reference_run m' g')
  exact Cert.Equal.result_eq m m' c (he c).1 (he c).2.1 (he c).2.2

/-- The projection runs at bits as over the extended reals: the same text. -/
theorem frame_kernel2 : Cert.quiescent_Kernel2 (hKernel2 := Cert.Kernel2.Gen.facts) := fun m ρ _ =>
  Cert.Kernel2.Same.frame (F := Bits) m ρ

theorem frame_kernel2_ideal : Cert.quiescent_Kernel2Ideal (hKernel2Ideal := Cert.Kernel2Ideal.Gen.facts) := fun m ρ _ =>
  Cert.Kernel2Ideal.Proj.frame (F := Ideal) m ρ

theorem frame_reference2 : Cert.quiescent_Reference2Ideal (hReference2Ideal := Cert.Reference2Ideal.Gen.facts) := fun m ρ _ =>
  (θ_run Cert.Reference2Ideal.defs _ _).mono (fun _ h => ⟨fun c => (h c).2.2.2, sem_eq_zero_of_no_sems (by decide) _⟩)
    (Cert.Reference2Ideal.Vals.run_values m ρ)

theorem algebraic2 : Cert.algebraic_Kernel2Ideal_Reference2Ideal (hKernel2Ideal := Cert.Kernel2Ideal.Gen.facts)
    (hReference2Ideal := Cert.Reference2Ideal.Gen.facts) := by
  intro m g m' g' _ he
  refine ⟨fun c => Cert.Kernel2Ideal.Proj.G2 m c, fun c => Cert.Kernel2Ideal.Proj.G3 m c, fun c => Cert.Kernel2Ideal.Proj.G4 m c,
    Cert.Kernel2Ideal.Proj.run_values m g, ?_⟩
  refine (θ_run Cert.Reference2Ideal.defs _ _).mono (fun r h c => ⟨(h c).1.trans ?_, (h c).2.1.trans ?_, (h c).2.2.1.trans ?_, (h c).2.2.2⟩)
    (Cert.Reference2Ideal.Vals.run_values m' g')
  · rw [(he c).1, (he c).2]
    funext i
    exact Cert.Reference2Ideal.Vals.kept_eq _ _ i
  · rw [(he c).1, (he c).2]
    funext i
    exact Cert.Reference2Ideal.Vals.str4_eq _ _ i
  · rw [(he c).1, (he c).2]
    funext i
    exact Cert.Reference2Ideal.Vals.str16_eq _ _ i

theorem frame_reference3 : Cert.quiescent_Reference3Ideal (hReference3Ideal := Cert.Reference3Ideal.Gen.facts) := fun m ρ _ =>
  (θ_run Cert.Reference3Ideal.defs _ _).mono (fun _ h => ⟨fun c => (h c).2, sem_eq_zero_of_no_sems (by decide) _⟩)
    (Cert.Reference3Ideal.Value.run (F := Ideal) m ρ)

theorem algebraic3 : Cert.algebraic_Kernel3Ideal_Reference3Ideal_pre_finite_lses (hKernel3Ideal := Cert.Kernel3Ideal.Gen.facts)
    (hReference3Ideal := Cert.Reference3Ideal.Gen.facts) (hPre_finite_lses := Cert.Pre_finite_lses.facts) := by
  haveI := Cert.Pre_finite_lses.facts
  intro m g m' g' hp he
  refine ⟨fun c => Cert.Kernel3Ideal.Mix.G17 m c, ?_, ?_⟩
  · exact (θ_run Cert.Kernel3Ideal.defs _ _).mono (fun r h c => ⟨(h c).1.trans (Cert.Kernel3Ideal.Mix.final17 m c), (h c).2⟩) (Cert.Kernel3Ideal.Value.run_blocks m g)
  · refine (θ_run Cert.Reference3Ideal.defs _ _).mono (fun r h c => ⟨(h c).1.trans ?_, (h c).2⟩) (Cert.Reference3Ideal.Value.run (F := Ideal) m' g')
    exact Cert.MixEqual.result_eq (h := hp c) (he := he c)

theorem frame_reference4 : Cert.quiescent_Reference4Ideal (hReference4Ideal := Cert.Reference4Ideal.Gen.facts) := fun m ρ _ =>
  (θ_run Cert.Reference4Ideal.defs _ _).mono (fun _ h => ⟨fun c => (h c).2, sem_eq_zero_of_no_sems (by decide) _⟩)
    (Cert.Reference4Ideal.Value.run (F := Ideal) m ρ)

theorem algebraic4 : Cert.algebraic_Kernel4Ideal_Reference4Ideal_pre_finite_logits (hKernel4Ideal := Cert.Kernel4Ideal.Gen.facts)
    (hReference4Ideal := Cert.Reference4Ideal.Gen.facts) (hPre_finite_logits := Cert.Pre_finite_logits.facts) := by
  haveI := Cert.Pre_finite_logits.facts
  intro m g m' g' hp he
  refine ⟨fun c => Cert.Kernel4Ideal.Value.G3 m c, Cert.Kernel4Ideal.Value.run m g, ?_⟩
  refine (θ_run Cert.Reference4Ideal.defs _ _).mono (fun r h c => ⟨(h c).1.trans ?_, (h c).2⟩) (Cert.Reference4Ideal.Value.run (F := Ideal) m' g')
  exact Cert.MemEqual.result_eq m m' c (hp c) (he c).1 (he c).2.1 (he c).2.2

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite_lses.facts, Cert.Pre_finite_logits.facts,
  fun m ρ _ => Cert.Kernel.Gen.frame m ρ, fun m ρ _ => Cert.KernelIdeal.Gen.frame m ρ,
  fun m g _ => (θ_run Cert.ReferenceIdeal.defs _ _).mono (fun _ h => ⟨fun c => (h.1 c).2, h.2⟩) (reference_run m g),
  frame_kernel2, frame_kernel2_ideal, frame_reference2,
  fun m ρ _ => Cert.Kernel3.Gen.frame m ρ, fun m ρ _ => Cert.Kernel3Ideal.Gen.frame m ρ, fun m ρ _ => Cert.Kernel3Ideal.Gen.frame m ρ,
  frame_reference3, fun m ρ _ => frame_reference3 m ρ trivial,
  fun m ρ _ => Cert.Kernel4.Gen.frame m ρ, fun m ρ _ => Cert.Kernel4Ideal.Gen.frame m ρ, fun m ρ _ => Cert.Kernel4Ideal.Gen.frame m ρ,
  frame_reference4, fun m ρ _ => frame_reference4 m ρ trivial,
  trivial, algebraic, trivial, algebraic2, trivial, algebraic3, trivial, algebraic4⟩

end Cert.Proof

end
